-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8))).1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8))).2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8))).2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8))).2.2.2 = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.2 = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_diff [hPre_finite_diff : Cert.Pre_finite_diff.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_diff.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).1 = (fun _ => 1#1)
    ∧ (Cert.Pre_finite_diff.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.1 = (fun _ => 1#1)
    ∧ (Cert.Pre_finite_diff.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.2.1 = (fun _ => 1#1)
    ∧ (Cert.Pre_finite_diff.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.2.2 = (fun _ => 1#1)

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Views (m : (ℓ : Loc Cert.Views.nD Cert.Views.τ Cert.Views.sig) → Buf (Elt Bits) ℓ) : Prop :=
  True

def Pre_ViewsIdeal (m : (ℓ : Loc Cert.ViewsIdeal.nD Cert.ViewsIdeal.τ Cert.ViewsIdeal.sig) → Buf (Elt Ideal) ℓ) : Prop :=
  True

def Pre_ViewsReferenceIdeal (m : (ℓ : Loc Cert.ViewsReferenceIdeal.nD Cert.ViewsReferenceIdeal.τ Cert.ViewsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4))
      ∧ r.2.sem = fun _ => 0)

def quiescent_DiffReferenceIdeal_pre_finite_diff [hDiffReferenceIdeal : Cert.DiffReferenceIdeal.Facts] [hPre_finite_diff : Cert.Pre_finite_diff.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_diff m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_Views [hViews : Cert.Views.Facts] : Prop :=
  ∀ (m : (ℓ : Loc Cert.Views.nD Cert.Views.τ Cert.Views.sig) → Buf (Elt Bits) ℓ) (g : Dev Cert.Views.nD → PrngReg), Pre_Views m →
    θ_run (Cert.Views.defs (F := Bits)) (onTc (τ := Cert.Views.τ) (Cert.Views.main (F := Bits))) ⟨m, fun _ => 0, g⟩ (fun r => (∀ c : Dev Cert.Views.nD,
      r.2.mem ((c.tc : Thread Cert.Views.nD Cert.Views.τ).loc Cert.Views.main_arg0) = m ((c.tc : Thread Cert.Views.nD Cert.Views.τ).loc Cert.Views.main_arg0)
      ∧ r.2.mem ((c.tc : Thread Cert.Views.nD Cert.Views.τ).loc Cert.Views.main_arg1) = m ((c.tc : Thread Cert.Views.nD Cert.Views.τ).loc Cert.Views.main_arg1)
      ∧ r.2.mem ((c.tc : Thread Cert.Views.nD Cert.Views.τ).loc Cert.Views.main_arg2) = m ((c.tc : Thread Cert.Views.nD Cert.Views.τ).loc Cert.Views.main_arg2)
      ∧ r.2.mem ((c.tc : Thread Cert.Views.nD Cert.Views.τ).loc Cert.Views.main_arg3) = m ((c.tc : Thread Cert.Views.nD Cert.Views.τ).loc Cert.Views.main_arg3)
      ∧ r.2.mem ((c.tc : Thread Cert.Views.nD Cert.Views.τ).loc Cert.Views.main_arg4) = m ((c.tc : Thread Cert.Views.nD Cert.Views.τ).loc Cert.Views.main_arg4)
      ∧ r.2.mem ((c.tc : Thread Cert.Views.nD Cert.Views.τ).loc Cert.Views.main_arg5) = m ((c.tc : Thread Cert.Views.nD Cert.Views.τ).loc Cert.Views.main_arg5)
      ∧ r.2.mem ((c.tc : Thread Cert.Views.nD Cert.Views.τ).loc Cert.Views.main_arg6) = m ((c.tc : Thread Cert.Views.nD Cert.Views.τ).loc Cert.Views.main_arg6)
      ∧ r.2.mem ((c.tc : Thread Cert.Views.nD Cert.Views.τ).loc Cert.Views.main_arg7) = m ((c.tc : Thread Cert.Views.nD Cert.Views.τ).loc Cert.Views.main_arg7))
      ∧ r.2.sem = fun _ => 0)

def quiescent_ViewsIdeal [hViewsIdeal : Cert.ViewsIdeal.Facts] : Prop :=
  ∀ (m : (ℓ : Loc Cert.ViewsIdeal.nD Cert.ViewsIdeal.τ Cert.ViewsIdeal.sig) → Buf (Elt Ideal) ℓ) (g : Dev Cert.ViewsIdeal.nD → PrngReg), Pre_ViewsIdeal m →
    θ_run (Cert.ViewsIdeal.defs (F := Ideal)) (onTc (τ := Cert.ViewsIdeal.τ) (Cert.ViewsIdeal.main (F := Ideal))) ⟨m, fun _ => 0, g⟩ (fun r => (∀ c : Dev Cert.ViewsIdeal.nD,
      r.2.mem ((c.tc : Thread Cert.ViewsIdeal.nD Cert.ViewsIdeal.τ).loc Cert.ViewsIdeal.main_arg0) = m ((c.tc : Thread Cert.ViewsIdeal.nD Cert.ViewsIdeal.τ).loc Cert.ViewsIdeal.main_arg0)
      ∧ r.2.mem ((c.tc : Thread Cert.ViewsIdeal.nD Cert.ViewsIdeal.τ).loc Cert.ViewsIdeal.main_arg1) = m ((c.tc : Thread Cert.ViewsIdeal.nD Cert.ViewsIdeal.τ).loc Cert.ViewsIdeal.main_arg1)
      ∧ r.2.mem ((c.tc : Thread Cert.ViewsIdeal.nD Cert.ViewsIdeal.τ).loc Cert.ViewsIdeal.main_arg2) = m ((c.tc : Thread Cert.ViewsIdeal.nD Cert.ViewsIdeal.τ).loc Cert.ViewsIdeal.main_arg2)
      ∧ r.2.mem ((c.tc : Thread Cert.ViewsIdeal.nD Cert.ViewsIdeal.τ).loc Cert.ViewsIdeal.main_arg3) = m ((c.tc : Thread Cert.ViewsIdeal.nD Cert.ViewsIdeal.τ).loc Cert.ViewsIdeal.main_arg3)
      ∧ r.2.mem ((c.tc : Thread Cert.ViewsIdeal.nD Cert.ViewsIdeal.τ).loc Cert.ViewsIdeal.main_arg4) = m ((c.tc : Thread Cert.ViewsIdeal.nD Cert.ViewsIdeal.τ).loc Cert.ViewsIdeal.main_arg4)
      ∧ r.2.mem ((c.tc : Thread Cert.ViewsIdeal.nD Cert.ViewsIdeal.τ).loc Cert.ViewsIdeal.main_arg5) = m ((c.tc : Thread Cert.ViewsIdeal.nD Cert.ViewsIdeal.τ).loc Cert.ViewsIdeal.main_arg5)
      ∧ r.2.mem ((c.tc : Thread Cert.ViewsIdeal.nD Cert.ViewsIdeal.τ).loc Cert.ViewsIdeal.main_arg6) = m ((c.tc : Thread Cert.ViewsIdeal.nD Cert.ViewsIdeal.τ).loc Cert.ViewsIdeal.main_arg6)
      ∧ r.2.mem ((c.tc : Thread Cert.ViewsIdeal.nD Cert.ViewsIdeal.τ).loc Cert.ViewsIdeal.main_arg7) = m ((c.tc : Thread Cert.ViewsIdeal.nD Cert.ViewsIdeal.τ).loc Cert.ViewsIdeal.main_arg7))
      ∧ r.2.sem = fun _ => 0)

def quiescent_ViewsReferenceIdeal [hViewsReferenceIdeal : Cert.ViewsReferenceIdeal.Facts] : Prop :=
  ∀ (m : (ℓ : Loc Cert.ViewsReferenceIdeal.nD Cert.ViewsReferenceIdeal.τ Cert.ViewsReferenceIdeal.sig) → Buf (Elt Ideal) ℓ) (g : Dev Cert.ViewsReferenceIdeal.nD → PrngReg), Pre_ViewsReferenceIdeal m →
    θ_run (Cert.ViewsReferenceIdeal.defs (F := Ideal)) (onTc (τ := Cert.ViewsReferenceIdeal.τ) (Cert.ViewsReferenceIdeal.main (F := Ideal))) ⟨m, fun _ => 0, g⟩ (fun r => (∀ c : Dev Cert.ViewsReferenceIdeal.nD,
      r.2.mem ((c.tc : Thread Cert.ViewsReferenceIdeal.nD Cert.ViewsReferenceIdeal.τ).loc Cert.ViewsReferenceIdeal.main_arg0) = m ((c.tc : Thread Cert.ViewsReferenceIdeal.nD Cert.ViewsReferenceIdeal.τ).loc Cert.ViewsReferenceIdeal.main_arg0)
      ∧ r.2.mem ((c.tc : Thread Cert.ViewsReferenceIdeal.nD Cert.ViewsReferenceIdeal.τ).loc Cert.ViewsReferenceIdeal.main_arg1) = m ((c.tc : Thread Cert.ViewsReferenceIdeal.nD Cert.ViewsReferenceIdeal.τ).loc Cert.ViewsReferenceIdeal.main_arg1)
      ∧ r.2.mem ((c.tc : Thread Cert.ViewsReferenceIdeal.nD Cert.ViewsReferenceIdeal.τ).loc Cert.ViewsReferenceIdeal.main_arg2) = m ((c.tc : Thread Cert.ViewsReferenceIdeal.nD Cert.ViewsReferenceIdeal.τ).loc Cert.ViewsReferenceIdeal.main_arg2)
      ∧ r.2.mem ((c.tc : Thread Cert.ViewsReferenceIdeal.nD Cert.ViewsReferenceIdeal.τ).loc Cert.ViewsReferenceIdeal.main_arg3) = m ((c.tc : Thread Cert.ViewsReferenceIdeal.nD Cert.ViewsReferenceIdeal.τ).loc Cert.ViewsReferenceIdeal.main_arg3)
      ∧ r.2.mem ((c.tc : Thread Cert.ViewsReferenceIdeal.nD Cert.ViewsReferenceIdeal.τ).loc Cert.ViewsReferenceIdeal.main_arg4) = m ((c.tc : Thread Cert.ViewsReferenceIdeal.nD Cert.ViewsReferenceIdeal.τ).loc Cert.ViewsReferenceIdeal.main_arg4)
      ∧ r.2.mem ((c.tc : Thread Cert.ViewsReferenceIdeal.nD Cert.ViewsReferenceIdeal.τ).loc Cert.ViewsReferenceIdeal.main_arg5) = m ((c.tc : Thread Cert.ViewsReferenceIdeal.nD Cert.ViewsReferenceIdeal.τ).loc Cert.ViewsReferenceIdeal.main_arg5)
      ∧ r.2.mem ((c.tc : Thread Cert.ViewsReferenceIdeal.nD Cert.ViewsReferenceIdeal.τ).loc Cert.ViewsReferenceIdeal.main_arg6) = m ((c.tc : Thread Cert.ViewsReferenceIdeal.nD Cert.ViewsReferenceIdeal.τ).loc Cert.ViewsReferenceIdeal.main_arg6)
      ∧ r.2.mem ((c.tc : Thread Cert.ViewsReferenceIdeal.nD Cert.ViewsReferenceIdeal.τ).loc Cert.ViewsReferenceIdeal.main_arg7) = m ((c.tc : Thread Cert.ViewsReferenceIdeal.nD Cert.ViewsReferenceIdeal.τ).loc Cert.ViewsReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v20) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Proj_ProjIdeal : Prop :=
  True

def algebraic_ProjIdeal_ProjReferenceIdeal_pre_finite_proj [hProjIdeal : Cert.ProjIdeal.Facts] [hProjReferenceIdeal : Cert.ProjReferenceIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_proj m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)) (v2 : (c : Dev Cert.ProjIdeal.nD) → Buf (Elt Ideal) ((c.tc : Thread Cert.ProjIdeal.nD Cert.ProjIdeal.τ).loc Cert.ProjIdeal.main_v8_2)) (v3 : (c : Dev Cert.ProjIdeal.nD) → Buf (Elt Ideal) ((c.tc : Thread Cert.ProjIdeal.nD Cert.ProjIdeal.τ).loc Cert.ProjIdeal.main_v8_3)) (v4 : (c : Dev Cert.ProjIdeal.nD) → Buf (Elt Ideal) ((c.tc : Thread Cert.ProjIdeal.nD Cert.ProjIdeal.τ).loc Cert.ProjIdeal.main_v8_4)) (v5 : (c : Dev Cert.ProjIdeal.nD) → Buf (Elt Ideal) ((c.tc : Thread Cert.ProjIdeal.nD Cert.ProjIdeal.τ).loc Cert.ProjIdeal.main_v8_5)) (v6 : (c : Dev Cert.ProjIdeal.nD) → Buf (Elt Ideal) ((c.tc : Thread Cert.ProjIdeal.nD Cert.ProjIdeal.τ).loc Cert.ProjIdeal.main_v8_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_v8_2) = v2 c
          ∧ r.2.mem ((c.tc : Thread Cert.ProjIdeal.nD Cert.ProjIdeal.τ).loc Cert.ProjIdeal.main_v8_3) = v3 c
          ∧ r.2.mem ((c.tc : Thread Cert.ProjIdeal.nD Cert.ProjIdeal.τ).loc Cert.ProjIdeal.main_v8_4) = v4 c
          ∧ r.2.mem ((c.tc : Thread Cert.ProjIdeal.nD Cert.ProjIdeal.τ).loc Cert.ProjIdeal.main_v8_5) = v5 c
          ∧ r.2.mem ((c.tc : Thread Cert.ProjIdeal.nD Cert.ProjIdeal.τ).loc Cert.ProjIdeal.main_v8_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v13) = v0 c
          ∧ r.2.mem ((c.tc : Thread Cert.ProjReferenceIdeal.nD Cert.ProjReferenceIdeal.τ).loc Cert.ProjReferenceIdeal.main_v14) = v1 c
          ∧ r.2.mem ((c.tc : Thread Cert.ProjReferenceIdeal.nD Cert.ProjReferenceIdeal.τ).loc Cert.ProjReferenceIdeal.main_v16) = v2 c
          ∧ r.2.mem ((c.tc : Thread Cert.ProjReferenceIdeal.nD Cert.ProjReferenceIdeal.τ).loc Cert.ProjReferenceIdeal.main_v19) = v3 c
          ∧ r.2.mem ((c.tc : Thread Cert.ProjReferenceIdeal.nD Cert.ProjReferenceIdeal.τ).loc Cert.ProjReferenceIdeal.main_v22) = v4 c
          ∧ r.2.mem ((c.tc : Thread Cert.ProjReferenceIdeal.nD Cert.ProjReferenceIdeal.τ).loc Cert.ProjReferenceIdeal.main_v23) = v5 c
          ∧ r.2.mem ((c.tc : Thread Cert.ProjReferenceIdeal.nD Cert.ProjReferenceIdeal.τ).loc Cert.ProjReferenceIdeal.main_v24) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def preserves_Diff_DiffIdeal : Prop :=
  IdealRules.named_const.Statement Cert.DiffIdeal.κ "mask" .f32 0xF149F2CA#32 ⊥
  ∧ IdealRules.named_const.Statement Cert.DiffIdeal.κ "log2e" .f32 0x3FB8AA3B#32 (((Real.log 2)⁻¹ : ℝ) : EReal)

def algebraic_DiffIdeal_DiffReferenceIdeal_pre_finite_diff [hDiffIdeal : Cert.DiffIdeal.Facts] [hDiffReferenceIdeal : Cert.DiffReferenceIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_finite_diff m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)
      ∧ m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v1)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v1) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v69) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)) →
    ∃ (v0 : (c : Dev Cert.MemIdeal.nD) → Buf (Elt Ideal) ((c.tc : Thread Cert.MemIdeal.nD Cert.MemIdeal.τ).loc Cert.MemIdeal.main_v3_0)) (v1 : (c : Dev Cert.MemIdeal.nD) → Buf (Elt Ideal) ((c.tc : Thread Cert.MemIdeal.nD Cert.MemIdeal.τ).loc Cert.MemIdeal.main_v3_1)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v3_0) = v0 c
          ∧ r.2.mem ((c.tc : Thread Cert.MemIdeal.nD Cert.MemIdeal.τ).loc Cert.MemIdeal.main_v3_1) = v1 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v14) = v0 c
          ∧ r.2.mem ((c.tc : Thread Cert.MemReferenceIdeal.nD Cert.MemReferenceIdeal.τ).loc Cert.MemReferenceIdeal.main_v16) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_Views_ViewsIdeal : Prop :=
  True

def algebraic_ViewsIdeal_ViewsReferenceIdeal [hViewsIdeal : Cert.ViewsIdeal.Facts] [hViewsReferenceIdeal : Cert.ViewsReferenceIdeal.Facts] : Prop :=
  ∀ (m : (ℓ : Loc Cert.ViewsIdeal.nD Cert.ViewsIdeal.τ Cert.ViewsIdeal.sig) → Buf (Elt Ideal) ℓ) (g : Dev Cert.ViewsIdeal.nD → PrngReg)
    (m' : (ℓ : Loc Cert.ViewsReferenceIdeal.nD Cert.ViewsReferenceIdeal.τ Cert.ViewsReferenceIdeal.sig) → Buf (Elt Ideal) ℓ) (g' : Dev Cert.ViewsReferenceIdeal.nD → PrngReg), Pre_ViewsIdeal m →
    (∀ c : Dev Cert.ViewsIdeal.nD,
      m' ((c.tc : Thread Cert.ViewsReferenceIdeal.nD Cert.ViewsReferenceIdeal.τ).loc Cert.ViewsReferenceIdeal.main_arg0) = m ((c.tc : Thread Cert.ViewsIdeal.nD Cert.ViewsIdeal.τ).loc Cert.ViewsIdeal.main_arg0)
      ∧ m' ((c.tc : Thread Cert.ViewsReferenceIdeal.nD Cert.ViewsReferenceIdeal.τ).loc Cert.ViewsReferenceIdeal.main_arg1) = m ((c.tc : Thread Cert.ViewsIdeal.nD Cert.ViewsIdeal.τ).loc Cert.ViewsIdeal.main_arg1)
      ∧ m' ((c.tc : Thread Cert.ViewsReferenceIdeal.nD Cert.ViewsReferenceIdeal.τ).loc Cert.ViewsReferenceIdeal.main_arg2) = m ((c.tc : Thread Cert.ViewsIdeal.nD Cert.ViewsIdeal.τ).loc Cert.ViewsIdeal.main_arg2)
      ∧ m' ((c.tc : Thread Cert.ViewsReferenceIdeal.nD Cert.ViewsReferenceIdeal.τ).loc Cert.ViewsReferenceIdeal.main_arg3) = m ((c.tc : Thread Cert.ViewsIdeal.nD Cert.ViewsIdeal.τ).loc Cert.ViewsIdeal.main_arg3)
      ∧ m' ((c.tc : Thread Cert.ViewsReferenceIdeal.nD Cert.ViewsReferenceIdeal.τ).loc Cert.ViewsReferenceIdeal.main_arg4) = m ((c.tc : Thread Cert.ViewsIdeal.nD Cert.ViewsIdeal.τ).loc Cert.ViewsIdeal.main_arg4)
      ∧ m' ((c.tc : Thread Cert.ViewsReferenceIdeal.nD Cert.ViewsReferenceIdeal.τ).loc Cert.ViewsReferenceIdeal.main_arg5) = m ((c.tc : Thread Cert.ViewsIdeal.nD Cert.ViewsIdeal.τ).loc Cert.ViewsIdeal.main_arg5)
      ∧ m' ((c.tc : Thread Cert.ViewsReferenceIdeal.nD Cert.ViewsReferenceIdeal.τ).loc Cert.ViewsReferenceIdeal.main_arg6) = m ((c.tc : Thread Cert.ViewsIdeal.nD Cert.ViewsIdeal.τ).loc Cert.ViewsIdeal.main_arg6)
      ∧ m' ((c.tc : Thread Cert.ViewsReferenceIdeal.nD Cert.ViewsReferenceIdeal.τ).loc Cert.ViewsReferenceIdeal.main_arg7) = m ((c.tc : Thread Cert.ViewsIdeal.nD Cert.ViewsIdeal.τ).loc Cert.ViewsIdeal.main_arg7)) →
    ∃ (v0 : (c : Dev Cert.ViewsIdeal.nD) → Buf (Elt Ideal) ((c.tc : Thread Cert.ViewsIdeal.nD Cert.ViewsIdeal.τ).loc Cert.ViewsIdeal.main_v7_0)) (v1 : (c : Dev Cert.ViewsIdeal.nD) → Buf (Elt Ideal) ((c.tc : Thread Cert.ViewsIdeal.nD Cert.ViewsIdeal.τ).loc Cert.ViewsIdeal.main_v7_1)) (v2 : (c : Dev Cert.ViewsIdeal.nD) → Buf (Elt Ideal) ((c.tc : Thread Cert.ViewsIdeal.nD Cert.ViewsIdeal.τ).loc Cert.ViewsIdeal.main_v7_2)) (v3 : (c : Dev Cert.ViewsIdeal.nD) → Buf (Elt Ideal) ((c.tc : Thread Cert.ViewsIdeal.nD Cert.ViewsIdeal.τ).loc Cert.ViewsIdeal.main_v7_3)) (v4 : (c : Dev Cert.ViewsIdeal.nD) → Buf (Elt Ideal) ((c.tc : Thread Cert.ViewsIdeal.nD Cert.ViewsIdeal.τ).loc Cert.ViewsIdeal.main_v7_4)) (v5 : (c : Dev Cert.ViewsIdeal.nD) → Buf (Elt Ideal) ((c.tc : Thread Cert.ViewsIdeal.nD Cert.ViewsIdeal.τ).loc Cert.ViewsIdeal.main_v7_5)) (v6 : (c : Dev Cert.ViewsIdeal.nD) → Buf (Elt Ideal) ((c.tc : Thread Cert.ViewsIdeal.nD Cert.ViewsIdeal.τ).loc Cert.ViewsIdeal.main_v7_6)) (v7 : (c : Dev Cert.ViewsIdeal.nD) → Buf (Elt Ideal) ((c.tc : Thread Cert.ViewsIdeal.nD Cert.ViewsIdeal.τ).loc Cert.ViewsIdeal.main_v7_7)) (v8 : (c : Dev Cert.ViewsIdeal.nD) → Buf (Elt Ideal) ((c.tc : Thread Cert.ViewsIdeal.nD Cert.ViewsIdeal.τ).loc Cert.ViewsIdeal.main_v7_8)) (v9 : (c : Dev Cert.ViewsIdeal.nD) → Buf (Elt Ideal) ((c.tc : Thread Cert.ViewsIdeal.nD Cert.ViewsIdeal.τ).loc Cert.ViewsIdeal.main_v7_9)) (v10 : (c : Dev Cert.ViewsIdeal.nD) → Buf (Elt Ideal) ((c.tc : Thread Cert.ViewsIdeal.nD Cert.ViewsIdeal.τ).loc Cert.ViewsIdeal.main_v7_10)) (v11 : (c : Dev Cert.ViewsIdeal.nD) → Buf (Elt Ideal) ((c.tc : Thread Cert.ViewsIdeal.nD Cert.ViewsIdeal.τ).loc Cert.ViewsIdeal.main_v7_11)),
      θ_run (Cert.ViewsIdeal.defs (F := Ideal)) (onTc (τ := Cert.ViewsIdeal.τ) (Cert.ViewsIdeal.main (F := Ideal))) ⟨m, fun _ => 0, g⟩ (fun r => ∀ c : Dev Cert.ViewsIdeal.nD,
          r.2.mem ((c.tc : Thread Cert.ViewsIdeal.nD Cert.ViewsIdeal.τ).loc Cert.ViewsIdeal.main_v7_0) = v0 c
          ∧ r.2.mem ((c.tc : Thread Cert.ViewsIdeal.nD Cert.ViewsIdeal.τ).loc Cert.ViewsIdeal.main_v7_1) = v1 c
          ∧ r.2.mem ((c.tc : Thread Cert.ViewsIdeal.nD Cert.ViewsIdeal.τ).loc Cert.ViewsIdeal.main_v7_2) = v2 c
          ∧ r.2.mem ((c.tc : Thread Cert.ViewsIdeal.nD Cert.ViewsIdeal.τ).loc Cert.ViewsIdeal.main_v7_3) = v3 c
          ∧ r.2.mem ((c.tc : Thread Cert.ViewsIdeal.nD Cert.ViewsIdeal.τ).loc Cert.ViewsIdeal.main_v7_4) = v4 c
          ∧ r.2.mem ((c.tc : Thread Cert.ViewsIdeal.nD Cert.ViewsIdeal.τ).loc Cert.ViewsIdeal.main_v7_5) = v5 c
          ∧ r.2.mem ((c.tc : Thread Cert.ViewsIdeal.nD Cert.ViewsIdeal.τ).loc Cert.ViewsIdeal.main_v7_6) = v6 c
          ∧ r.2.mem ((c.tc : Thread Cert.ViewsIdeal.nD Cert.ViewsIdeal.τ).loc Cert.ViewsIdeal.main_v7_7) = v7 c
          ∧ r.2.mem ((c.tc : Thread Cert.ViewsIdeal.nD Cert.ViewsIdeal.τ).loc Cert.ViewsIdeal.main_v7_8) = v8 c
          ∧ r.2.mem ((c.tc : Thread Cert.ViewsIdeal.nD Cert.ViewsIdeal.τ).loc Cert.ViewsIdeal.main_v7_9) = v9 c
          ∧ r.2.mem ((c.tc : Thread Cert.ViewsIdeal.nD Cert.ViewsIdeal.τ).loc Cert.ViewsIdeal.main_v7_10) = v10 c
          ∧ r.2.mem ((c.tc : Thread Cert.ViewsIdeal.nD Cert.ViewsIdeal.τ).loc Cert.ViewsIdeal.main_v7_11) = v11 c
          ∧ r.2.mem ((c.tc : Thread Cert.ViewsIdeal.nD Cert.ViewsIdeal.τ).loc Cert.ViewsIdeal.main_arg0) = m ((c.tc : Thread Cert.ViewsIdeal.nD Cert.ViewsIdeal.τ).loc Cert.ViewsIdeal.main_arg0)
          ∧ r.2.mem ((c.tc : Thread Cert.ViewsIdeal.nD Cert.ViewsIdeal.τ).loc Cert.ViewsIdeal.main_arg1) = m ((c.tc : Thread Cert.ViewsIdeal.nD Cert.ViewsIdeal.τ).loc Cert.ViewsIdeal.main_arg1)
          ∧ r.2.mem ((c.tc : Thread Cert.ViewsIdeal.nD Cert.ViewsIdeal.τ).loc Cert.ViewsIdeal.main_arg2) = m ((c.tc : Thread Cert.ViewsIdeal.nD Cert.ViewsIdeal.τ).loc Cert.ViewsIdeal.main_arg2)
          ∧ r.2.mem ((c.tc : Thread Cert.ViewsIdeal.nD Cert.ViewsIdeal.τ).loc Cert.ViewsIdeal.main_arg3) = m ((c.tc : Thread Cert.ViewsIdeal.nD Cert.ViewsIdeal.τ).loc Cert.ViewsIdeal.main_arg3)
          ∧ r.2.mem ((c.tc : Thread Cert.ViewsIdeal.nD Cert.ViewsIdeal.τ).loc Cert.ViewsIdeal.main_arg4) = m ((c.tc : Thread Cert.ViewsIdeal.nD Cert.ViewsIdeal.τ).loc Cert.ViewsIdeal.main_arg4)
          ∧ r.2.mem ((c.tc : Thread Cert.ViewsIdeal.nD Cert.ViewsIdeal.τ).loc Cert.ViewsIdeal.main_arg5) = m ((c.tc : Thread Cert.ViewsIdeal.nD Cert.ViewsIdeal.τ).loc Cert.ViewsIdeal.main_arg5)
          ∧ r.2.mem ((c.tc : Thread Cert.ViewsIdeal.nD Cert.ViewsIdeal.τ).loc Cert.ViewsIdeal.main_arg6) = m ((c.tc : Thread Cert.ViewsIdeal.nD Cert.ViewsIdeal.τ).loc Cert.ViewsIdeal.main_arg6)
          ∧ r.2.mem ((c.tc : Thread Cert.ViewsIdeal.nD Cert.ViewsIdeal.τ).loc Cert.ViewsIdeal.main_arg7) = m ((c.tc : Thread Cert.ViewsIdeal.nD Cert.ViewsIdeal.τ).loc Cert.ViewsIdeal.main_arg7))
      ∧ θ_run (Cert.ViewsReferenceIdeal.defs (F := Ideal)) (onTc (τ := Cert.ViewsReferenceIdeal.τ) (Cert.ViewsReferenceIdeal.main (F := Ideal))) ⟨m', fun _ => 0, g'⟩ (fun r => ∀ c : Dev Cert.ViewsReferenceIdeal.nD,
          r.2.mem ((c.tc : Thread Cert.ViewsReferenceIdeal.nD Cert.ViewsReferenceIdeal.τ).loc Cert.ViewsReferenceIdeal.main_v23) = v0 c
          ∧ r.2.mem ((c.tc : Thread Cert.ViewsReferenceIdeal.nD Cert.ViewsReferenceIdeal.τ).loc Cert.ViewsReferenceIdeal.main_v25) = v1 c
          ∧ r.2.mem ((c.tc : Thread Cert.ViewsReferenceIdeal.nD Cert.ViewsReferenceIdeal.τ).loc Cert.ViewsReferenceIdeal.main_v27) = v2 c
          ∧ r.2.mem ((c.tc : Thread Cert.ViewsReferenceIdeal.nD Cert.ViewsReferenceIdeal.τ).loc Cert.ViewsReferenceIdeal.main_v28) = v3 c
          ∧ r.2.mem ((c.tc : Thread Cert.ViewsReferenceIdeal.nD Cert.ViewsReferenceIdeal.τ).loc Cert.ViewsReferenceIdeal.main_v30) = v4 c
          ∧ r.2.mem ((c.tc : Thread Cert.ViewsReferenceIdeal.nD Cert.ViewsReferenceIdeal.τ).loc Cert.ViewsReferenceIdeal.main_v32) = v5 c
          ∧ r.2.mem ((c.tc : Thread Cert.ViewsReferenceIdeal.nD Cert.ViewsReferenceIdeal.τ).loc Cert.ViewsReferenceIdeal.main_v33) = v6 c
          ∧ r.2.mem ((c.tc : Thread Cert.ViewsReferenceIdeal.nD Cert.ViewsReferenceIdeal.τ).loc Cert.ViewsReferenceIdeal.main_v35) = v7 c
          ∧ r.2.mem ((c.tc : Thread Cert.ViewsReferenceIdeal.nD Cert.ViewsReferenceIdeal.τ).loc Cert.ViewsReferenceIdeal.main_v37) = v8 c
          ∧ r.2.mem ((c.tc : Thread Cert.ViewsReferenceIdeal.nD Cert.ViewsReferenceIdeal.τ).loc Cert.ViewsReferenceIdeal.main_v38) = v9 c
          ∧ r.2.mem ((c.tc : Thread Cert.ViewsReferenceIdeal.nD Cert.ViewsReferenceIdeal.τ).loc Cert.ViewsReferenceIdeal.main_v39) = v10 c
          ∧ r.2.mem ((c.tc : Thread Cert.ViewsReferenceIdeal.nD Cert.ViewsReferenceIdeal.τ).loc Cert.ViewsReferenceIdeal.main_v40) = v11 c
          ∧ r.2.mem ((c.tc : Thread Cert.ViewsReferenceIdeal.nD Cert.ViewsReferenceIdeal.τ).loc Cert.ViewsReferenceIdeal.main_arg0) = m' ((c.tc : Thread Cert.ViewsReferenceIdeal.nD Cert.ViewsReferenceIdeal.τ).loc Cert.ViewsReferenceIdeal.main_arg0)
          ∧ r.2.mem ((c.tc : Thread Cert.ViewsReferenceIdeal.nD Cert.ViewsReferenceIdeal.τ).loc Cert.ViewsReferenceIdeal.main_arg1) = m' ((c.tc : Thread Cert.ViewsReferenceIdeal.nD Cert.ViewsReferenceIdeal.τ).loc Cert.ViewsReferenceIdeal.main_arg1)
          ∧ r.2.mem ((c.tc : Thread Cert.ViewsReferenceIdeal.nD Cert.ViewsReferenceIdeal.τ).loc Cert.ViewsReferenceIdeal.main_arg2) = m' ((c.tc : Thread Cert.ViewsReferenceIdeal.nD Cert.ViewsReferenceIdeal.τ).loc Cert.ViewsReferenceIdeal.main_arg2)
          ∧ r.2.mem ((c.tc : Thread Cert.ViewsReferenceIdeal.nD Cert.ViewsReferenceIdeal.τ).loc Cert.ViewsReferenceIdeal.main_arg3) = m' ((c.tc : Thread Cert.ViewsReferenceIdeal.nD Cert.ViewsReferenceIdeal.τ).loc Cert.ViewsReferenceIdeal.main_arg3)
          ∧ r.2.mem ((c.tc : Thread Cert.ViewsReferenceIdeal.nD Cert.ViewsReferenceIdeal.τ).loc Cert.ViewsReferenceIdeal.main_arg4) = m' ((c.tc : Thread Cert.ViewsReferenceIdeal.nD Cert.ViewsReferenceIdeal.τ).loc Cert.ViewsReferenceIdeal.main_arg4)
          ∧ r.2.mem ((c.tc : Thread Cert.ViewsReferenceIdeal.nD Cert.ViewsReferenceIdeal.τ).loc Cert.ViewsReferenceIdeal.main_arg5) = m' ((c.tc : Thread Cert.ViewsReferenceIdeal.nD Cert.ViewsReferenceIdeal.τ).loc Cert.ViewsReferenceIdeal.main_arg5)
          ∧ r.2.mem ((c.tc : Thread Cert.ViewsReferenceIdeal.nD Cert.ViewsReferenceIdeal.τ).loc Cert.ViewsReferenceIdeal.main_arg6) = m' ((c.tc : Thread Cert.ViewsReferenceIdeal.nD Cert.ViewsReferenceIdeal.τ).loc Cert.ViewsReferenceIdeal.main_arg6)
          ∧ r.2.mem ((c.tc : Thread Cert.ViewsReferenceIdeal.nD Cert.ViewsReferenceIdeal.τ).loc Cert.ViewsReferenceIdeal.main_arg7) = m' ((c.tc : Thread Cert.ViewsReferenceIdeal.nD Cert.ViewsReferenceIdeal.τ).loc Cert.ViewsReferenceIdeal.main_arg7))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesReferenceIdeal : Cert.GatesReferenceIdeal.Facts) (hProj : Cert.Proj.Facts) (hProjIdeal : Cert.ProjIdeal.Facts) (hProjReferenceIdeal : Cert.ProjReferenceIdeal.Facts) (hDiff : Cert.Diff.Facts) (hDiffIdeal : Cert.DiffIdeal.Facts) (hDiffReferenceIdeal : Cert.DiffReferenceIdeal.Facts) (hMem : Cert.Mem.Facts) (hMemIdeal : Cert.MemIdeal.Facts) (hMemReferenceIdeal : Cert.MemReferenceIdeal.Facts) (hViews : Cert.Views.Facts) (hViewsIdeal : Cert.ViewsIdeal.Facts) (hViewsReferenceIdeal : Cert.ViewsReferenceIdeal.Facts) (hPre_finite : Cert.Pre_finite.Facts) (hPre_finite_proj : Cert.Pre_finite_proj.Facts) (hPre_finite_diff : Cert.Pre_finite_diff.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gates (hGates := hGates)
    ∧ quiescent_GatesIdeal (hGatesIdeal := hGatesIdeal)
    ∧ quiescent_GatesReferenceIdeal (hGatesReferenceIdeal := hGatesReferenceIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffReferenceIdeal (hDiffReferenceIdeal := hDiffReferenceIdeal)
    ∧ quiescent_DiffReferenceIdeal_pre_finite_diff (hDiffReferenceIdeal := hDiffReferenceIdeal) (hPre_finite_diff := hPre_finite_diff)
    ∧ quiescent_Mem (hMem := hMem)
    ∧ quiescent_MemIdeal (hMemIdeal := hMemIdeal)
    ∧ quiescent_MemReferenceIdeal (hMemReferenceIdeal := hMemReferenceIdeal)
    ∧ quiescent_Views (hViews := hViews)
    ∧ quiescent_ViewsIdeal (hViewsIdeal := hViewsIdeal)
    ∧ quiescent_ViewsReferenceIdeal (hViewsReferenceIdeal := hViewsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gates_GatesIdeal
    ∧ algebraic_GatesIdeal_GatesReferenceIdeal (hGatesIdeal := hGatesIdeal) (hGatesReferenceIdeal := hGatesReferenceIdeal)
    ∧ preserves_Proj_ProjIdeal
    ∧ algebraic_ProjIdeal_ProjReferenceIdeal_pre_finite_proj (hProjIdeal := hProjIdeal) (hProjReferenceIdeal := hProjReferenceIdeal) (hPre_finite_proj := hPre_finite_proj)
    ∧ preserves_Diff_DiffIdeal
    ∧ algebraic_DiffIdeal_DiffReferenceIdeal_pre_finite_diff (hDiffIdeal := hDiffIdeal) (hDiffReferenceIdeal := hDiffReferenceIdeal) (hPre_finite_diff := hPre_finite_diff)
    ∧ preserves_Mem_MemIdeal
    ∧ algebraic_MemIdeal_MemReferenceIdeal (hMemIdeal := hMemIdeal) (hMemReferenceIdeal := hMemReferenceIdeal)
    ∧ preserves_Views_ViewsIdeal
    ∧ algebraic_ViewsIdeal_ViewsReferenceIdeal (hViewsIdeal := hViewsIdeal) (hViewsReferenceIdeal := hViewsReferenceIdeal)
-- ==== Pre_finite.lean ====
abbrev S4x4096x1024 : Shape := ⟨3, ![4, 4096, 1024]⟩
abbrev S1024 : Shape := ⟨1, ![1024]⟩
abbrev S1024x512 : Shape := ⟨2, ![1024, 512]⟩
abbrev S4x256x512 : Shape := ⟨3, ![4, 256, 512]⟩
abbrev S512x1024 : Shape := ⟨2, ![512, 1024]⟩
abbrev S1024x5632 : Shape := ⟨2, ![1024, 5632]⟩
abbrev S2816x1024 : Shape := ⟨2, ![2816, 1024]⟩
abbrev S_ : Shape := ⟨0, ![]⟩

class Facts : Prop where
  bcast_S_S4x4096x1024 : S_.BroadcastsInDim S4x4096x1024 (![] : Fin 0 → Fin S4x4096x1024.rank)
  bcast_S_S1024 : S_.BroadcastsInDim S1024 (![] : Fin 0 → Fin S1024.rank)
  bcast_S_S1024x512 : S_.BroadcastsInDim S1024x512 (![] : Fin 0 → Fin S1024x512.rank)
  bitsLt_bf16_f32 : FTy.bits .bf16 < FTy.bits .f32
  bcast_S_S4x256x512 : S_.BroadcastsInDim S4x256x512 (![] : Fin 0 → Fin S4x256x512.rank)
  bcast_S_S512x1024 : S_.BroadcastsInDim S512x1024 (![] : Fin 0 → Fin S512x1024.rank)
  bcast_S_S1024x5632 : S_.BroadcastsInDim S1024x5632 (![] : Fin 0 → Fin S1024x5632.rank)

variable [Facts]

def fn_part1 {F : FTy → Type} [FloatOps F] (main_arg6 : FVec F S1024 .f32) (main_arg7 : FVec F S1024x5632 .f32) (main_v2 : IVec S4x4096x1024 1) (main_v5 : IVec S1024 1) (main_v8 : IVec S1024x512 1) (main_v12 : IVec S4x256x512 1) (main_v16 : IVec S4x256x512 1) (main_v17 : FVec F S512x1024 .f32) (main_cst_4 : FVec F S_ .f32) : IVec S4x4096x1024 1 × IVec S1024 1 × IVec S1024x512 1 × IVec S4x256x512 1 × IVec S4x256x512 1 × IVec S512x1024 1 × IVec S1024 1 × IVec S1024x5632 1 :=
  let main_v18 : FVec F S512x1024 .f32 := broadcastInDim S512x1024 ![] bcast_S_S512x1024 main_cst_4
  let main_v19 : IVec S512x1024 1 := cmpf .olt main_v17 main_v18
  let main_v20 : FVec F S1024 .f32 := Host.absf main_arg6
  let main_cst_5 : FVec F S_ .f32 := constant S_ .f32 0x7F800000#32
  let main_v21 : FVec F S1024 .f32 := broadcastInDim S1024 ![] bcast_S_S1024 main_cst_5
  let main_v22 : IVec S1024 1 := cmpf .olt main_v20 main_v21
  let main_v23 : FVec F S1024x5632 .f32 := Host.absf main_arg7
  let main_cst_6 : FVec F S_ .f32 := constant S_ .f32 0x7F800000#32
  let main_v24 : FVec F S1024x5632 .f32 := broadcastInDim S1024x5632 ![] bcast_S_S1024x5632 main_cst_6
  let main_v25 : IVec S1024x5632 1 := cmpf .olt main_v23 main_v24
  (main_v2, main_v5, main_v8, main_v12, main_v16, main_v19, main_v22, main_v25)

def fn {F : FTy → Type} [FloatOps F] (main_arg0 : FVec F S4x4096x1024 .f32) (main_arg1 : FVec F S1024 .f32) (main_arg2 : FVec F S1024x512 .f32) (main_arg3 : FVec F S4x256x512 .bf16) (main_arg4 : FVec F S4x256x512 .bf16) (main_arg5 : FVec F S512x1024 .f32) (main_arg6 : FVec F S1024 .f32) (main_arg7 : FVec F S1024x5632 .f32) (main_arg8 : FVec F S2816x1024 .f32) (main_arg9 : FVec F S1024 .f32) : IVec S4x4096x1024 1 × IVec S1024 1 × IVec S1024x512 1 × IVec S4x256x512 1 × IVec S4x256x512 1 × IVec S512x1024 1 × IVec S1024 1 × IVec S1024x5632 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x512 .f32 := Host.absf main_arg2
  let main_cst_1 : FVec F S_ .f32 := constant S_ .f32 0x7F800000#32
  let main_v7 : FVec F S1024x512 .f32 := broadcastInDim S1024x512 ![] bcast_S_S1024x512 main_cst_1
  let main_v8 : IVec S1024x512 1 := cmpf .olt main_v6 main_v7
  let main_v9 : FVec F S4x256x512 .f32 := (extf .f32 · bitsLt_bf16_f32) main_arg3
  let main_v10 : FVec F S4x256x512 .f32 := Host.absf main_v9
  let main_cst_2 : FVec F S_ .f32 := constant S_ .f32 0x7F800000#32
  let main_v11 : FVec F S4x256x512 .f32 := broadcastInDim S4x256x512 ![] bcast_S_S4x256x512 main_cst_2
  let main_v12 : IVec S4x256x512 1 := cmpf .olt main_v10 main_v11
  let main_v13 : FVec F S4x256x512 .f32 := (extf .f32 · bitsLt_bf16_f32) main_arg4
  let main_v14 : FVec F S4x256x512 .f32 := Host.absf main_v13
  let main_cst_3 : FVec F S_ .f32 := constant S_ .f32 0x7F800000#32
  let main_v15 : FVec F S4x256x512 .f32 := broadcastInDim S4x256x512 ![] bcast_S_S4x256x512 main_cst_3
  let main_v16 : IVec S4x256x512 1 := cmpf .olt main_v14 main_v15
  let main_v17 : FVec F S512x1024 .f32 := Host.absf main_arg5
  let main_cst_4 : FVec F S_ .f32 := constant S_ .f32 0x7F800000#32
  fn_part1 (F := F) main_arg6 main_arg7 main_v2 main_v5 main_v8 main_v12 main_v16 main_v17 main_cst_4
-- ==== Pre_finite_diff.lean ====
abbrev S4x64 : Shape := ⟨2, ![4, 64]⟩
abbrev S128 : Shape := ⟨1, ![128]⟩
abbrev S4x4096x512 : Shape := ⟨3, ![4, 4096, 512]⟩
abbrev S_ : Shape := ⟨0, ![]⟩

class Facts : Prop where
  bcast_S_S4x64 : S_.BroadcastsInDim S4x64 (![] : Fin 0 → Fin S4x64.rank)
  bcast_S_S4x4096x512 : S_.BroadcastsInDim S4x4096x512 (![] : Fin 0 → Fin S4x4096x512.rank)

variable [Facts]

def fn {F : FTy → Type} [FloatOps F] (main_arg0 : FVec F S4x64 .f32) (main_arg1 : FVec F S128 .f32) (main_arg2 : FVec F S4x4096x512 .bf16) (main_arg3 : FVec F S4x4096x512 .bf16) (main_arg4 : FVec F S4x4096x512 .bf16) : IVec S4x64 1 × IVec S4x4096x512 1 × IVec S4x4096x512 1 × IVec S4x4096x512 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S4x4096x512 .bf16 := Host.absf main_arg2
  let main_cst_0 : FVec F S_ .bf16 := constant S_ .bf16 0x7F80#16
  let main_v4 : FVec F S4x4096x512 .bf16 := broadcastInDim S4x4096x512 ![] bcast_S_S4x4096x512 main_cst_0
  let main_v5 : IVec S4x4096x512 1 := cmpf .olt main_v3 main_v4
  let main_v6 : FVec F S4x4096x512 .bf16 := Host.absf main_arg3
  let main_cst_1 : FVec F S_ .bf16 := constant S_ .bf16 0x7F80#16
  let main_v7 : FVec F S4x4096x512 .bf16 := broadcastInDim S4x4096x512 ![] bcast_S_S4x4096x512 main_cst_1
  let main_v8 : IVec S4x4096x512 1 := cmpf .olt main_v6 main_v7
  let main_v9 : FVec F S4x4096x512 .bf16 := Host.absf main_arg4
  let main_cst_2 : FVec F S_ .bf16 := constant S_ .bf16 0x7F80#16
  let main_v10 : FVec F S4x4096x512 .bf16 := broadcastInDim S4x4096x512 ![] bcast_S_S4x4096x512 main_cst_2
  let main_v11 : IVec S4x4096x512 1 := cmpf .olt main_v9 main_v10
  (main_v2, main_v5, main_v8, main_v11)
-- ==== Pre_finite_proj.lean ====
abbrev S16384x1024 : Shape := ⟨2, ![16384, 1024]⟩
abbrev S1024 : Shape := ⟨1, ![1024]⟩
abbrev S1024x256 : Shape := ⟨2, ![1024, 256]⟩
abbrev S1024x512 : Shape := ⟨2, ![1024, 512]⟩
abbrev S1024x1024 : Shape := ⟨2, ![1024, 1024]⟩
abbrev S1024x128 : Shape := ⟨2, ![1024, 128]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x512 : S_.BroadcastsInDim S1024x512 (![] : Fin 0 → Fin S1024x512.rank)

variable [Facts]

def fn {F : FTy → Type} [FloatOps F] (main_arg0 : FVec F S16384x1024 .f32) (main_arg1 : FVec F S1024 .f32) (main_arg2 : FVec F S1024x256 .f32) (main_arg3 : FVec F S1024x256 .f32) (main_arg4 : FVec F S1024x512 .f32) (main_arg5 : FVec F S1024x512 .f32) (main_arg6 : FVec F S1024x512 .f32) (main_arg7 : FVec F S1024x1024 .f32) (main_arg8 : FVec F S1024x128 .f32) : IVec S16384x1024 1 × IVec S1024 1 × IVec S1024x512 1 × IVec S1024x512 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x512 .f32 := Host.absf main_arg5
  let main_cst_1 : FVec F S_ .f32 := constant S_ .f32 0x7F800000#32
  let main_v7 : FVec F S1024x512 .f32 := broadcastInDim S1024x512 ![] bcast_S_S1024x512 main_cst_1
  let main_v8 : IVec S1024x512 1 := cmpf .olt main_v6 main_v7
  let main_v9 : FVec F S1024x512 .f32 := Host.absf main_arg6
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  (main_v2, main_v5, main_v8, main_v11)
-- ==== Kernel.lean ====
abbrev S4x4096x1024 : Shape := ⟨3, ![4, 4096, 1024]⟩
abbrev S1024 : Shape := ⟨1, ![1024]⟩
abbrev S1024x512 : Shape := ⟨2, ![1024, 512]⟩
abbrev S4x256x512 : Shape := ⟨3, ![4, 256, 512]⟩
abbrev S512x1024 : Shape := ⟨2, ![512, 1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S1x512x1024 : Shape := ⟨3, ![1, 512, 1024]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512x2816 : Shape := ⟨2, ![512, 2816]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x512, .f32⟩
  | .hbm, ⟨3, _⟩ => ⟨S4x256x512, .bf16⟩
  | .hbm, ⟨4, _⟩ => ⟨S4x256x512, .bf16⟩
  | .hbm, ⟨5, _⟩ => ⟨S512x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1024x512, .bf16⟩
  | .hbm, ⟨11, _⟩ => ⟨S512x1024, .bf16⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S512x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x1024 : Shape := ⟨3, ![4, 4096, 1024]⟩
abbrev S1024 : Shape := ⟨1, ![1024]⟩
abbrev S1024x512 : Shape := ⟨2, ![1024, 512]⟩
abbrev S4x256x512 : Shape := ⟨3, ![4, 256, 512]⟩
abbrev S512x1024 : Shape := ⟨2, ![512, 1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x512 : Shape := ⟨3, ![4, 4096, 512]⟩
abbrev S4x4096x4x128 : Shape := ⟨4, ![4, 4096, 4, 128]⟩
abbrev S4x256x4x128 : Shape := ⟨4, ![4, 256, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096x5632 : Shape := ⟨3, ![4, 4096, 5632]⟩
abbrev S4x4096x2816 : Shape := ⟨3, ![4, 4096, 2816]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x512, .f32⟩
  | .hbm, ⟨3, _⟩ => ⟨S4x256x512, .bf16⟩
  | .hbm, ⟨4, _⟩ => ⟨S4x256x512, .bf16⟩
  | .hbm, ⟨5, _⟩ => ⟨S512x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x512, .f32⟩
  | .hbm, ⟨27, _⟩ => ⟨S4x4096x4x128, .f32⟩
  | .hbm, ⟨28, _⟩ => ⟨S4x256x512, .f32⟩
  | .hbm, ⟨29, _⟩ => ⟨S4x256x4x128, .f32⟩
  | .hbm, ⟨30, _⟩ => ⟨S4x256x512, .f32⟩
  | .hbm, ⟨31, _⟩ => ⟨S4x256x4x128, .f32⟩
  | .hbm, ⟨32, _⟩ => ⟨S4x4x4096x256, .f32⟩
  | .hbm, ⟨33, _⟩ => ⟨S_, .f32⟩
  | .hbm, ⟨34, _⟩ => ⟨S4x4x4096x256, .f32⟩
  | .hbm, ⟨35, _⟩ => ⟨S4x4x4096x256, .f32⟩
  | .hbm, ⟨36, _⟩ => ⟨S_, .f32⟩
  | .hbm, ⟨37, _⟩ => ⟨S4x4x4096, .f32⟩
  | .hbm, ⟨38, _⟩ => ⟨S_, .f32⟩
  | .hbm, ⟨39, _⟩ => ⟨S4x4x4096, .f32⟩
  | .hbm, ⟨40, _⟩ => ⟨S4x4x4096, .f32⟩
  | .hbm, ⟨41, _⟩ => ⟨S4x4x4096x1, .f32⟩
  | .hbm, ⟨42, _⟩ => ⟨S4x4x4096x256, .f32⟩
  | .hbm, ⟨43, _⟩ => ⟨S4x4x4096x256, .f32⟩
  | .hbm, ⟨44, _⟩ => ⟨S4x4x4096x256, .f32⟩
  | .hbm, ⟨45, _⟩ => ⟨S_, .f32⟩
  | .hbm, ⟨46, _⟩ => ⟨S4x4x4096, .f32⟩
  | .hbm, ⟨47, _⟩ => ⟨S4x4x4096x1, .f32⟩
  | .hbm, ⟨48, _⟩ => ⟨S4x4x4096x256, .f32⟩
  | .hbm, ⟨49, _⟩ => ⟨S4x4x4096x256, .f32⟩
  | .hbm, ⟨50, _⟩ => ⟨S4x4x128x4096, .f32⟩
  | .hbm, ⟨51, _⟩ => ⟨S4x4096x4x128, .f32⟩
  | .hbm, ⟨52, _⟩ => ⟨S4x4096x512, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S1x1x1024, .f32⟩
  | .hbm, ⟨69, _⟩ => ⟨S4x4096x1024, .f32⟩
  | .hbm, ⟨70, _⟩ => ⟨S4x4096x1024, .f32⟩
  | .hbm, ⟨71, _⟩ => ⟨S4x4096x5632, .f32⟩
  | .hbm, ⟨72, _⟩ => ⟨S4x4096x2816, .f32⟩
  | .hbm, ⟨73, _⟩ => ⟨S4x4096x2816, .f32⟩
  | .hbm, ⟨74, _⟩ => ⟨S4x4096x2816, .f32⟩
  | .hbm, ⟨75, _⟩ => ⟨S4x4096x2816, .f32⟩
  | .hbm, ⟨76, _⟩ => ⟨S_, .f32⟩
  | .hbm, ⟨77, _⟩ => ⟨S4x4096x2816, .f32⟩
  | .hbm, ⟨78, _⟩ => ⟨S4x4096x2816, .f32⟩
  | .hbm, ⟨79, _⟩ => ⟨S_, .f32⟩
  | .hbm, ⟨80, _⟩ => ⟨S4x4096x2816, .f32⟩
  | .hbm, ⟨81, _⟩ => ⟨S4x4096x2816, .f32⟩
  | .hbm, ⟨82, _⟩ => ⟨S4x4096x2816, .f32⟩
  | .hbm, ⟨83, _⟩ => ⟨S4x4096x2816, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S_, .f32⟩
  | .hbm, ⟨91, _⟩ => ⟨S4x4096x1, .f32⟩
  | .hbm, ⟨92, _⟩ => ⟨S4x4096x1, .f32⟩
  | .hbm, ⟨93, _⟩ => ⟨S_, .f32⟩
  | .hbm, ⟨94, _⟩ => ⟨S4x4096x1, .f32⟩
  | .hbm, ⟨95, _⟩ => ⟨S4x4096x1, .f32⟩
  | .hbm, ⟨96, _⟩ => ⟨S4x4096x1, .f32⟩
  | .hbm, ⟨97, _⟩ => ⟨S4x4096x1024, .f32⟩
  | .hbm, ⟨98, _⟩ => ⟨S4x4096x1024, .f32⟩
  | .hbm, ⟨99, _⟩ => ⟨S1x1x1024, .f32⟩
  | .hbm, ⟨100, _⟩ => ⟨S4x4096x1024, .f32⟩
  | .hbm, ⟨101, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Gates.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S16384x4096 : Shape := ⟨2, ![16384, 4096]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesReferenceIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x256 : Shape := ⟨2, ![1024, 256]⟩
abbrev S1024x512 : Shape := ⟨2, ![1024, 512]⟩
abbrev S1024x1024 : Shape := ⟨2, ![1024, 1024]⟩
abbrev S1024x128 : Shape := ⟨2, ![1024, 128]⟩
abbrev S1x1024 : Shape := ⟨2, ![1, 1024]⟩
abbrev S16384x256 : Shape := ⟨2, ![16384, 256]⟩
abbrev S16384x512 : Shape := ⟨2, ![16384, 512]⟩
abbrev S16384x128 : Shape := ⟨2, ![16384, 128]⟩
abbrev S1024x1 : Shape := ⟨2, ![1024, 1]⟩

abbrev nBuf : Space → Nat
  | .hbm => 24
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1024, .f32⟩
  | .hbm, ⟨8, _⟩ => ⟨S1024x128, .f32⟩
  | .hbm, ⟨9, _⟩ => ⟨S1024x256, .bf16⟩
  | .hbm, ⟨10, _⟩ => ⟨S1024x256, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1024x1024, .bf16⟩
  | .hbm, ⟨15, _⟩ => ⟨S1024x128, .bf16⟩
  | .hbm, ⟨16, _⟩ => ⟨S1x1024, .f32⟩
  | .hbm, ⟨17, _⟩ => ⟨S16384x256, .f32⟩
  | .hbm, ⟨18, _⟩ => ⟨S16384x256, .f32⟩
  | .hbm, ⟨19, _⟩ => ⟨S16384x512, .bf16⟩
  | .hbm, ⟨20, _⟩ => ⟨S16384x512, .bf16⟩
  | .hbm, ⟨21, _⟩ => ⟨S16384x512, .bf16⟩
  | .hbm, ⟨22, _⟩ => ⟨S16384x1024, .f32⟩
  | .hbm, ⟨23, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x128, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x1024, .f32⟩
  | .local _ .vmem, ⟨21, _⟩ => ⟨S1024x1024, .f32⟩
  | .local _ .vmem, ⟨22, _⟩ => ⟨S1024x128, .f32⟩
  | .local _ .vmem, ⟨23, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjReferenceIdeal.lean ====
abbrev S16384x1024 : Shape := ⟨2, ![16384, 1024]⟩
abbrev S1024 : Shape := ⟨1, ![1024]⟩
abbrev S1024x256 : Shape := ⟨2, ![1024, 256]⟩
abbrev S1024x512 : Shape := ⟨2, ![1024, 512]⟩
abbrev S1024x1024 : Shape := ⟨2, ![1024, 1024]⟩
abbrev S1024x128 : Shape := ⟨2, ![1024, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩
abbrev S16384x512 : Shape := ⟨2, ![16384, 512]⟩
abbrev S16384x128 : Shape := ⟨2, ![16384, 128]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1024, .f32⟩
  | .hbm, ⟨8, _⟩ => ⟨S1024x128, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S16384x512, .bf16⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .bf16⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .bf16⟩
  | .hbm, ⟨51, _⟩ => ⟨S16384x1024, .f32⟩
  | .hbm, ⟨52, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩

abbrev nD : Nat := 1
abbrev τ : Topo := Topo.v7x

variable {F : FTy → Type} [FloatOps F]
-- ==== Diff.lean ====
abbrev S4x64 : Shape := ⟨2, ![4, 64]⟩
abbrev S128 : Shape := ⟨1, ![128]⟩
abbrev S4x4096x512 : Shape := ⟨3, ![4, 4096, 512]⟩
abbrev S1x128 : Shape := ⟨2, ![1, 128]⟩
abbrev S1x512x128 : Shape := ⟨3, ![1, 512, 128]⟩
abbrev S1x4096x128 : Shape := ⟨3, ![1, 4096, 128]⟩
abbrev S2x8x512x512 : Shape := ⟨4, ![2, 8, 512, 512]⟩
abbrev S2x512x128 : Shape := ⟨3, ![2, 512, 128]⟩
abbrev S4096x256 : Shape := ⟨2, ![4096, 256]⟩
abbrev S2x512x256 : Shape := ⟨3, ![2, 512, 256]⟩
abbrev S512x128 : Shape := ⟨2, ![512, 128]⟩
abbrev S512x64 : Shape := ⟨2, ![512, 64]⟩
abbrev S4096x128 : Shape := ⟨2, ![4096, 128]⟩
abbrev S512x512 : Shape := ⟨2, ![512, 512]⟩
abbrev S1x1x512x512 : Shape := ⟨4, ![1, 1, 512, 512]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S1x128, .f32⟩
  | .hbm, ⟨6, _⟩ => ⟨S4x4096x512, .bf16⟩
  | .local _ .vmem, ⟨0, _⟩ => ⟨S4x64, .f32⟩
  | .local _ .vmem, ⟨1, _⟩ => ⟨S1x128, .f32⟩
  | .local _ .vmem, ⟨2, _⟩ => ⟨S1x512x128, .bf16⟩
  | .local _ .vmem, ⟨3, _⟩ => ⟨S1x512x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x512x128, .bf16⟩
  | .local _ .vmem, ⟨9, _⟩ => ⟨S1x512x128, .bf16⟩
  | .local _ .vmem, ⟨10, _⟩ => ⟨S2x8x512x512, .f32⟩
  | .local _ .vmem, ⟨11, _⟩ => ⟨S2x512x128, .f32⟩
  | .local _ .vmem, ⟨12, _⟩ => ⟨S4096x256, .bf16⟩
  | .local _ .vmem, ⟨13, _⟩ => ⟨S2x512x256, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_8 : BitVec 32 := 1#32
  ⟨c0_i32_7, v16, c1_i32_8⟩
def k0_mult1 (i : grid0.Coords) (k0_t1 : Fin (k0_t1_loop i).trips) : BitVec 32 :=
  let c4_i32 : BitVec 32 := 4#32
  let c0_i32_7 : BitVec 32 := 0#32
  let c1_i32_8 : BitVec 32 := 1#32
  let arg13 : BitVec 32 := Scf.iv c0_i32_7 c1_i32_8 k0_t1
  let v176 : BitVec 32 := Scalar.muli c4_i32 arg13
  let c0_i32_98 : BitVec 32 := 0#32
  let v177 : BitVec 32 := Scalar.addi v176 c0_i32_98
  let c512_i32_99 : BitVec 32 := 512#32
  let v178 : BitVec 32 := Scalar.muli v177 c512_i32_99
  v178
def k0_off1 (i : grid0.Coords) (k0_t1 : Fin (k0_t1_loop i).trips) (c0_i32_98 : BitVec 32) : Fin 3 → Nat :=
  let c0_100 : Index := 0#32
  let c4_i32 : BitVec 32 := 4#32
  let c0_i32_7 : BitVec 32 := 0#32
  let c1_i32_8 : BitVec 32 := 1#32
  let arg13 : BitVec 32 := Scf.iv c0_i32_7 c1_i32_8 k0_t1
  let v176 : BitVec 32 := Scalar.muli c4_i32 arg13
  let v177 : BitVec 32 := Scalar.addi v176 c0_i32_98
  let c512_i32_99 : BitVec 32 := 512#32
  let v178 : BitVec 32 := Scalar.muli v177 c512_i32_99
  let v179 : BitVec 32 := v178
  let v180 : Index := Scalar.indexCast v179
  let c0_101 : Index := 0#32
  ![0, v180.toNat, 0]
def k0_off2 (i : grid0.Coords) (k0_t1 : Fin (k0_t1_loop i).trips) (c0_i32_98 : BitVec 32) : Fin 4 → Nat :=
  let c0_104 : Index := 0#32
  let c4_i32 : BitVec 32 := 4#32
  let c0_i32_7 : BitVec 32 := 0#32
  let c1_i32_8 : BitVec 32 := 1#32
  let arg13 : BitVec 32 := Scf.iv c0_i32_7 c1_i32_8 k0_t1
  let v176 : BitVec 32 := Scalar.muli c4_i32 arg13
  let v177 : BitVec 32 := Scalar.addi v176 c0_i32_98
  let v187 : Index := Scalar.indexCast v177
  let c0_105 : Index := 0#32
  let c0_106 : Index := 0#32
  ![0, v187.toNat, 0, 0]
def k0_off3 (i : grid0.Coords) (k0_t1 : Fin (k0_t1_loop i).trips) (c0_i32_98 : BitVec 32) : Fin 4 → Nat :=
  let c1_115 : Index := 1#32
  let c4_i32 : BitVec 32 := 4#32
  let c0_i32_7 : BitVec 32 := 0#32
  let c1_i32_8 : BitVec 32 := 1#32
  let arg13 : BitVec 32 := Scf.iv c0_i32_7 c1_i32_8 k0_t1
  let v176 : BitVec 32 := Scalar.muli c4_i32 arg13
  let v177 : BitVec 32 := Scalar.addi v176 c0_i32_98
  let v208 : Index := Scalar.indexCast v177
  let c0_116 : Index := 0#32
  let c0_117 : Index := 0#32
  ![1, v208.toNat, 0, 0]
def k0_mult2 (i : grid0.Coords) (k0_t1 : Fin (k0_t1_loop i).trips) : BitVec 32 :=
  let c4_i32_124 : BitVec 32 := 4#32
  let c0_i32_7 : BitVec 32 := 0#32
  let c1_i32_8 : BitVec 32 := 1#32
  let arg13 : BitVec 32 := Scf.iv c0_i32_7 c1_i32_8 k0_t1
  let v225 : BitVec 32 := Scalar.muli c4_i32_124 arg13
  let c1_i32_125 : BitVec 32 := 1#32
  let v226 : BitVec 32 := Scalar.addi v225 c1_i32_125
  let c512_i32_126 : BitVec 32 := 512#32
  let v227 : BitVec 32 := Scalar.muli v226 c512_i32_126
  v227
def k0_mult3 (i : grid0.Coords) (k0_t1 : Fin (k0_t1_loop i).trips) : BitVec 32 :=
  let c4_i32_151 : BitVec 32 := 4#32
  let c0_i32_7 : BitVec 32 := 0#32
  let c1_i32_8 : BitVec 32 := 1#32
  let arg13 : BitVec 32 := Scf.iv c0_i32_7 c1_i32_8 k0_t1
  let v274 : BitVec 32 := Scalar.muli c4_i32_151 arg13
  let c2_i32_152 : BitVec 32 := 2#32
  let v275 : BitVec 32 := Scalar.addi v274 c2_i32_152
  let c512_i32_153 : BitVec 32 := 512#32
  let v276 : BitVec 32 := Scalar.muli v275 c512_i32_153
  v276
def k0_mult4 (i : grid0.Coords) (k0_t1 : Fin (k0_t1_loop i).trips) : BitVec 32 :=
  let c4_i32_178 : BitVec 32 := 4#32
  let c0_i32_7 : BitVec 32 := 0#32
  let c1_i32_8 : BitVec 32 := 1#32
  let arg13 : BitVec 32 := Scf.iv c0_i32_7 c1_i32_8 k0_t1
  let v323 : BitVec 32 := Scalar.muli c4_i32_178 arg13
  let c3_i32 : BitVec 32 := 3#32
  let v324 : BitVec 32 := Scalar.addi v323 c3_i32
  let c512_i32_179 : BitVec 32 := 512#32
  let v325 : BitVec 32 := Scalar.muli v324 c512_i32_179
  v325
@[reducible] def k0_t2_loop (i : grid0.Coords) : Scf.Loop 32 :=
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let v13 : BitVec 32 := Scalar.addi c0_i32_7 v12
  let c1_i32_9 : BitVec 32 := 1#32
  ⟨v16, v13, c1_i32_9⟩
def k0_mult5 (i : grid0.Coords) (k0_t2 : Fin (k0_t2_loop i).trips) : BitVec 32 :=
  let c4_i32 : BitVec 32 := 4#32
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg13 : BitVec 32 := Scf.iv v16 c1_i32_9 k0_t2
  let v176 : BitVec 32 := Scalar.muli c4_i32 arg13
  let c0_i32_98 : BitVec 32 := 0#32
  let v177 : BitVec 32 := Scalar.addi v176 c0_i32_98
  let c512_i32_99 : BitVec 32 := 512#32
  let v178 : BitVec 32 := Scalar.muli v177 c512_i32_99
  v178
def k0_off4 (i : grid0.Coords) (k0_t2 : Fin (k0_t2_loop i).trips) (c0_i32_98 : BitVec 32) : Fin 3 → Nat :=
  let c0_100 : Index := 0#32
  let c4_i32 : BitVec 32 := 4#32
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg13 : BitVec 32 := Scf.iv v16 c1_i32_9 k0_t2
  let v176 : BitVec 32 := Scalar.muli c4_i32 arg13
  let v177 : BitVec 32 := Scalar.addi v176 c0_i32_98
  let c512_i32_99 : BitVec 32 := 512#32
  let v178 : BitVec 32 := Scalar.muli v177 c512_i32_99
  let v179 : BitVec 32 := v178
  let v180 : Index := Scalar.indexCast v179
  let c0_101 : Index := 0#32
  ![0, v180.toNat, 0]
def k0_off5 (i : grid0.Coords) (k0_t2 : Fin (k0_t2_loop i).trips) (c0_i32_98 : BitVec 32) : Fin 4 → Nat :=
  let c0_104 : Index := 0#32
  let c4_i32 : BitVec 32 := 4#32
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg13 : BitVec 32 := Scf.iv v16 c1_i32_9 k0_t2
  let v176 : BitVec 32 := Scalar.muli c4_i32 arg13
  let v177 : BitVec 32 := Scalar.addi v176 c0_i32_98
  let v187 : Index := Scalar.indexCast v177
  let c0_105 : Index := 0#32
  let c0_106 : Index := 0#32
  ![0, v187.toNat, 0, 0]
def k0_off6 (i : grid0.Coords) (k0_t2 : Fin (k0_t2_loop i).trips) (c0_i32_98 : BitVec 32) : Fin 4 → Nat :=
  let c1_115 : Index := 1#32
  let c4_i32 : BitVec 32 := 4#32
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg13 : BitVec 32 := Scf.iv v16 c1_i32_9 k0_t2
  let v176 : BitVec 32 := Scalar.muli c4_i32 arg13
  let v177 : BitVec 32 := Scalar.addi v176 c0_i32_98
  let v208 : Index := Scalar.indexCast v177
  let c0_116 : Index := 0#32
  let c0_117 : Index := 0#32
  ![1, v208.toNat, 0, 0]
def k0_mult6 (i : grid0.Coords) (k0_t2 : Fin (k0_t2_loop i).trips) : BitVec 32 :=
  let c4_i32_124 : BitVec 32 := 4#32
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg13 : BitVec 32 := Scf.iv v16 c1_i32_9 k0_t2
  let v225 : BitVec 32 := Scalar.muli c4_i32_124 arg13
  let c1_i32_125 : BitVec 32 := 1#32
  let v226 : BitVec 32 := Scalar.addi v225 c1_i32_125
  let c512_i32_126 : BitVec 32 := 512#32
  let v227 : BitVec 32 := Scalar.muli v226 c512_i32_126
  v227
def k0_mult7 (i : grid0.Coords) (k0_t2 : Fin (k0_t2_loop i).trips) : BitVec 32 :=
  let c4_i32_151 : BitVec 32 := 4#32
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg13 : BitVec 32 := Scf.iv v16 c1_i32_9 k0_t2
  let v274 : BitVec 32 := Scalar.muli c4_i32_151 arg13
  let c2_i32_152 : BitVec 32 := 2#32
  let v275 : BitVec 32 := Scalar.addi v274 c2_i32_152
  let c512_i32_153 : BitVec 32 := 512#32
  let v276 : BitVec 32 := Scalar.muli v275 c512_i32_153
  v276
def k0_mult8 (i : grid0.Coords) (k0_t2 : Fin (k0_t2_loop i).trips) : BitVec 32 :=
  let c4_i32_178 : BitVec 32 := 4#32
  let c0_i32_7 : BitVec 32 := 0#32
  let arg2 : BitVec 32 := BitVec.ofNat 32 (i 2).val
  let c2_i32 : BitVec 32 := 2#32
  let v11 : BitVec 32 := Scalar.shrui arg2 c2_i32
  let v12 : BitVec 32 := Scalar.subi v11 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg13 : BitVec 32 := Scf.iv v16 c1_i32_9 k0_t2
  let v323 : BitVec 32 := Scalar.muli c4_i32_178 arg13
  let c3_i32 : BitVec 32 := 3#32
  let v324 : BitVec 32 := Scalar.addi v323 c3_i32
  let c512_i32_179 : BitVec 32 := 512#32
  let v325 : BitVec 32 := Scalar.muli v324 c512_i32_179
  v325
def k0_cond2 (i : grid0.Coords) : BitVec 1 :=
  let arg2 : BitVec 32 := BitVec.ofNat 32 (i 2).val
  let c2_i32_10 : BitVec 32 := 2#32
  let v18 : BitVec 32 := Scalar.andi arg2 c2_i32_10
  let c2_i32_11 : BitVec 32 := 2#32
  let v19 : BitVec 1 := Scalar.cmpi .eq v18 c2_i32_11
  let v20 : BitVec 32 := Scalar.extui v19
  let c0_i32_12 : BitVec 32 := 0#32
  let v21 : BitVec 1 := Scalar.cmpi .ne v20 c0_i32_12
  v21

def k0_mult9 (i : grid0.Coords) : BitVec 32 :=
  let arg2 : BitVec 32 := BitVec.ofNat 32 (i 2).val
  let c_m4_i32 : BitVec 32 := 4294967292#32
  let v17 : BitVec 32 := Scalar.andi arg2 c_m4_i32
  let c512_i32_98 : BitVec 32 := 512#32
  let v176 : BitVec 32 := Scalar.muli v17 c512_i32_98
  v176
def k0_off7 (i : grid0.Coords) : Fin 3 → Nat :=
  let c0_99 : Index := 0#32
  let arg2 : BitVec 32 := BitVec.ofNat 32 (i 2).val
  let c_m4_i32 : BitVec 32 := 4294967292#32
  let v17 : BitVec 32 := Scalar.andi arg2 c_m4_i32
  let c512_i32_98 : BitVec 32 := 512#32
  let v176 : BitVec 32 := Scalar.muli v17 c512_i32_98
  let v177 : BitVec 32 := v176
  let v178 : Index := Scalar.indexCast v177
  let c0_100 : Index := 0#32
  ![0, v178.toNat, 0]
def k0_off8 (i : grid0.Coords) : Fin 4 → Nat :=
  let c0_103 : Index := 0#32
  let arg2 : BitVec 32 := BitVec.ofNat 32 (i 2).val
  let c_m4_i32 : BitVec 32 := 4294967292#32
  let v17 : BitVec 32 := Scalar.andi arg2 c_m4_i32
  let v185 : Index := Scalar.indexCast v17
  let c0_104 : Index := 0#32
  let c0_105 : Index := 0#32
  ![0, v185.toNat, 0, 0]
def k0_off9 (i : grid0.Coords) : Fin 4 → Nat :=
  let c1_114 : Index := 1#32
  let arg2 : BitVec 32 := BitVec.ofNat 32 (i 2).val
  let c_m4_i32 : BitVec 32 := 4294967292#32
  let v17 : BitVec 32 := Scalar.andi arg2 c_m4_i32
  let v206 : Index := Scalar.indexCast v17
  let c0_115 : Index := 0#32
  let c0_116 : Index := 0#32
  ![1, v206.toNat, 0, 0]
def k0_mult10 (i : grid0.Coords) : BitVec 32 :=
  let arg2 : BitVec 32 := BitVec.ofNat 32 (i 2).val
  let c_m4_i32 : BitVec 32 := 4294967292#32
  let v17 : BitVec 32 := Scalar.andi arg2 c_m4_i32
  let c1_i32_123 : BitVec 32 := 1#32
  let v223 : BitVec 32 := Scalar.addi v17 c1_i32_123
  let c512_i32_124 : BitVec 32 := 512#32
  let v224 : BitVec 32 := Scalar.muli v223 c512_i32_124
  v224
def k0_off10 (i : grid0.Coords) : Fin 3 → Nat :=
  let c0_125 : Index := 0#32
  let arg2 : BitVec 32 := BitVec.ofNat 32 (i 2).val
  let c_m4_i32 : BitVec 32 := 4294967292#32
  let v17 : BitVec 32 := Scalar.andi arg2 c_m4_i32
  let c1_i32_123 : BitVec 32 := 1#32
  let v223 : BitVec 32 := Scalar.addi v17 c1_i32_123
  let c512_i32_124 : BitVec 32 := 512#32
  let v224 : BitVec 32 := Scalar.muli v223 c512_i32_124
  let v225 : BitVec 32 := v224
  let v226 : Index := Scalar.indexCast v225
  let c0_126 : Index := 0#32
  ![0, v226.toNat, 0]
def k0_off11 (i : grid0.Coords) : Fin 4 → Nat :=
  let c0_129 : Index := 0#32
  let arg2 : BitVec 32 := BitVec.ofNat 32 (i 2).val
  let c_m4_i32 : BitVec 32 := 4294967292#32
  let v17 : BitVec 32 := Scalar.andi arg2 c_m4_i32
  let c1_i32_123 : BitVec 32 := 1#32
  let v223 : BitVec 32 := Scalar.addi v17 c1_i32_123
  let v233 : Index := Scalar.indexCast v223
  let c0_130 : Index := 0#32
  let c0_131 : Index := 0#32
  ![0, v233.toNat, 0, 0]
def k0_off12 (i : grid0.Coords) : Fin 4 → Nat :=
  let c1_140 : Index := 1#32
  let arg2 : BitVec 32 := BitVec.ofNat 32 (i 2).val
  let c_m4_i32 : BitVec 32 := 4294967292#32
  let v17 : BitVec 32 := Scalar.andi arg2 c_m4_i32
  let c1_i32_123 : BitVec 32 := 1#32
  let v223 : BitVec 32 := Scalar.addi v17 c1_i32_123
  let v254 : Index := Scalar.indexCast v223
  let c0_141 : Index := 0#32
  let c0_142 : Index := 0#32
  ![1, v254.toNat, 0, 0]
def k0_cond3 (i : grid0.Coords) : BitVec 1 :=
  let arg2 : BitVec 32 := BitVec.ofNat 32 (i 2).val
  let c1_i32_13 : BitVec 32 := 1#32
  let v22 : BitVec 32 := Scalar.andi arg2 c1_i32_13
  let c1_i32_14 : BitVec 32 := 1#32
  let v23 : BitVec 1 := Scalar.cmpi .eq v22 c1_i32_14
  let v24 : BitVec 32 := Scalar.extui v23
  let c0_i32_15 : BitVec 32 := 0#32
  let v25 : BitVec 1 := Scalar.cmpi .ne v24 c0_i32_15
  v25

def k0_mult11 (i : grid0.Coords) : BitVec 32 :=
  let arg2 : BitVec 32 := BitVec.ofNat 32 (i 2).val
  let c1_i32_98 : BitVec 32 := 1#32
  let v176 : BitVec 32 := Scalar.subi arg2 c1_i32_98
  let c512_i32_99 : BitVec 32 := 512#32
  let v177 : BitVec 32 := Scalar.muli v176 c512_i32_99
  v177
def k0_off13 (i : grid0.Coords) : Fin 3 → Nat :=
  let c0_100 : Index := 0#32
  let arg2 : BitVec 32 := BitVec.ofNat 32 (i 2).val
  let c1_i32_98 : BitVec 32 := 1#32
  let v176 : BitVec 32 := Scalar.subi arg2 c1_i32_98
  let c512_i32_99 : BitVec 32 := 512#32
  let v177 : BitVec 32 := Scalar.muli v176 c512_i32_99
  let v178 : BitVec 32 := v177
  let v179 : Index := Scalar.indexCast v178
  let c0_101 : Index := 0#32
  ![0, v179.toNat, 0]
def k0_off14 (i : grid0.Coords) : Fin 4 → Nat :=
  let c0_104 : Index := 0#32
  let arg2 : BitVec 32 := BitVec.ofNat 32 (i 2).val
  let c1_i32_98 : BitVec 32 := 1#32
  let v176 : BitVec 32 := Scalar.subi arg2 c1_i32_98
  let v186 : Index := Scalar.indexCast v176
  let c0_105 : Index := 0#32
  let c0_106 : Index := 0#32
  ![0, v186.toNat, 0, 0]
def k0_off15 (i : grid0.Coords) : Fin 4 → Nat :=
  let c1_115 : Index := 1#32
  let arg2 : BitVec 32 := BitVec.ofNat 32 (i 2).val
  let c1_i32_98 : BitVec 32 := 1#32
  let v176 : BitVec 32 := Scalar.subi arg2 c1_i32_98
  let v207 : Index := Scalar.indexCast v176
  let c0_116 : Index := 0#32
  let c0_117 : Index := 0#32
  ![1, v207.toNat, 0, 0]
def k0_mult12 (i : grid0.Coords) : BitVec 32 :=
  let arg2 : BitVec 32 := BitVec.ofNat 32 (i 2).val
  let c512_i32 : BitVec 32 := 512#32
  let v26 : BitVec 32 := Scalar.muli arg2 c512_i32
  v26
def k0_off16 (i : grid0.Coords) : Fin 3 → Nat :=
  let c0_16 : Index := 0#32
  let arg2 : BitVec 32 := BitVec.ofNat 32 (i 2).val
  let c512_i32 : BitVec 32 := 512#32
  let v26 : BitVec 32 := Scalar.muli arg2 c512_i32
  let v27 : BitVec 32 := v26
  let v28 : Index := Scalar.indexCast v27
  let c0_17 : Index := 0#32
  ![0, v28.toNat, 0]
def k0_off17 (i : grid0.Coords) : Fin 4 → Nat :=
  let c0_21 : Index := 0#32
  let arg2 : BitVec 32 := BitVec.ofNat 32 (i 2).val
  let v40 : Index := Scalar.indexCast arg2
  let c0_22 : Index := 0#32
  let c0_23 : Index := 0#32
  ![0, v40.toNat, 0, 0]
def k0_off18 (i : grid0.Coords) : Fin 4 → Nat :=
  let c1 : Index := 1#32
  let arg2 : BitVec 32 := BitVec.ofNat 32 (i 2).val
  let v66 : Index := Scalar.indexCast arg2
  let c0_33 : Index := 0#32
  let c0_34 : Index := 0#32
  ![1, v66.toNat, 0, 0]
@[reducible] def k0_t3_loop (i : grid0.Coords) : Scf.Loop 32 :=
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_64 : BitVec 32 := 1#32
  ⟨c0_i32_62, v111, c1_i32_64⟩
def k0_mult13 (i : grid0.Coords) (k0_t3 : Fin (k0_t3_loop i).trips) : BitVec 32 :=
  let c4_i32 : BitVec 32 := 4#32
  let c0_i32_62 : BitVec 32 := 0#32
  let c1_i32_64 : BitVec 32 := 1#32
  let arg13 : BitVec 32 := Scf.iv c0_i32_62 c1_i32_64 k0_t3
  let v176 : BitVec 32 := Scalar.muli c4_i32 arg13
  let c0_i32_98 : BitVec 32 := 0#32
  let v177 : BitVec 32 := Scalar.addi v176 c0_i32_98
  let c512_i32_99 : BitVec 32 := 512#32
  let v178 : BitVec 32 := Scalar.muli v177 c512_i32_99
  v178
def k0_off19 (i : grid0.Coords) (k0_t3 : Fin (k0_t3_loop i).trips) (c0_i32_98 : BitVec 32) : Fin 2 → Nat :=
  let c4_i32 : BitVec 32 := 4#32
  let c0_i32_62 : BitVec 32 := 0#32
  let c1_i32_64 : BitVec 32 := 1#32
  let arg13 : BitVec 32 := Scf.iv c0_i32_62 c1_i32_64 k0_t3
  let v176 : BitVec 32 := Scalar.muli c4_i32 arg13
  let v177 : BitVec 32 := Scalar.addi v176 c0_i32_98
  let c512_i32_99 : BitVec 32 := 512#32
  let v178 : BitVec 32 := Scalar.muli v177 c512_i32_99
  let v179 : BitVec 32 := v178
  let v180 : Index := Scalar.indexCast v179
  let c0_100 : Index := 0#32
  ![v180.toNat, 0]
def k0_off20 (i : grid0.Coords) (k0_t3 : Fin (k0_t3_loop i).trips) (c0_i32_98 : BitVec 32) : Fin 4 → Nat :=
  let c0_104 : Index := 0#32
  let c4_i32 : BitVec 32 := 4#32
  let c0_i32_62 : BitVec 32 := 0#32
  let c1_i32_64 : BitVec 32 := 1#32
  let arg13 : BitVec 32 := Scf.iv c0_i32_62 c1_i32_64 k0_t3
  let v176 : BitVec 32 := Scalar.muli c4_i32 arg13
  let v177 : BitVec 32 := Scalar.addi v176 c0_i32_98
  let v184 : Index := Scalar.indexCast v177
  let c0_105 : Index := 0#32
  let c0_106 : Index := 0#32
  ![0, v184.toNat, 0, 0]
def k0_off21 (i : grid0.Coords) (k0_t3 : Fin (k0_t3_loop i).trips) (c0_i32_98 : BitVec 32) : Fin 4 → Nat :=
  let c1_117 : Index := 1#32
  let c4_i32 : BitVec 32 := 4#32
  let c0_i32_62 : BitVec 32 := 0#32
  let c1_i32_64 : BitVec 32 := 1#32
  let arg13 : BitVec 32 := Scf.iv c0_i32_62 c1_i32_64 k0_t3
  let v176 : BitVec 32 := Scalar.muli c4_i32 arg13
  let v177 : BitVec 32 := Scalar.addi v176 c0_i32_98
  let v210 : Index := Scalar.indexCast v177
  let c0_118 : Index := 0#32
  let c0_119 : Index := 0#32
  ![1, v210.toNat, 0, 0]
def k0_mult14 (i : grid0.Coords) (k0_t3 : Fin (k0_t3_loop i).trips) : BitVec 32 :=
  let c4_i32_127 : BitVec 32 := 4#32
  let c0_i32_62 : BitVec 32 := 0#32
  let c1_i32_64 : BitVec 32 := 1#32
  let arg13 : BitVec 32 := Scf.iv c0_i32_62 c1_i32_64 k0_t3
  let v234 : BitVec 32 := Scalar.muli c4_i32_127 arg13
  let c1_i32_128 : BitVec 32 := 1#32
  let v235 : BitVec 32 := Scalar.addi v234 c1_i32_128
  let c512_i32_129 : BitVec 32 := 512#32
  let v236 : BitVec 32 := Scalar.muli v235 c512_i32_129
  v236
def k0_mult15 (i : grid0.Coords) (k0_t3 : Fin (k0_t3_loop i).trips) : BitVec 32 :=
  let c4_i32_157 : BitVec 32 := 4#32
  let c0_i32_62 : BitVec 32 := 0#32
  let c1_i32_64 : BitVec 32 := 1#32
  let arg13 : BitVec 32 := Scf.iv c0_i32_62 c1_i32_64 k0_t3
  let v292 : BitVec 32 := Scalar.muli c4_i32_157 arg13
  let c2_i32_158 : BitVec 32 := 2#32
  let v293 : BitVec 32 := Scalar.addi v292 c2_i32_158
  let c512_i32_159 : BitVec 32 := 512#32
  let v294 : BitVec 32 := Scalar.muli v293 c512_i32_159
  v294
def k0_mult16 (i : grid0.Coords) (k0_t3 : Fin (k0_t3_loop i).trips) : BitVec 32 :=
  let c4_i32_187 : BitVec 32 := 4#32
  let c0_i32_62 : BitVec 32 := 0#32
  let c1_i32_64 : BitVec 32 := 1#32
  let arg13 : BitVec 32 := Scf.iv c0_i32_62 c1_i32_64 k0_t3
  let v350 : BitVec 32 := Scalar.muli c4_i32_187 arg13
  let c3_i32 : BitVec 32 := 3#32
  let v351 : BitVec 32 := Scalar.addi v350 c3_i32
  let c512_i32_188 : BitVec 32 := 512#32
  let v352 : BitVec 32 := Scalar.muli v351 c512_i32_188
  v352
@[reducible] def k0_t4_loop (i : grid0.Coords) : Scf.Loop 32 :=
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let v108 : BitVec 32 := Scalar.addi c0_i32_62 v107
  let c1_i32_65 : BitVec 32 := 1#32
  ⟨v111, v108, c1_i32_65⟩
def k0_mult17 (i : grid0.Coords) (k0_t4 : Fin (k0_t4_loop i).trips) : BitVec 32 :=
  let c4_i32 : BitVec 32 := 4#32
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_65 : BitVec 32 := 1#32
  let arg13 : BitVec 32 := Scf.iv v111 c1_i32_65 k0_t4
  let v176 : BitVec 32 := Scalar.muli c4_i32 arg13
  let c0_i32_98 : BitVec 32 := 0#32
  let v177 : BitVec 32 := Scalar.addi v176 c0_i32_98
  let c512_i32_99 : BitVec 32 := 512#32
  let v178 : BitVec 32 := Scalar.muli v177 c512_i32_99
  v178
def k0_off22 (i : grid0.Coords) (k0_t4 : Fin (k0_t4_loop i).trips) (c0_i32_98 : BitVec 32) : Fin 2 → Nat :=
  let c4_i32 : BitVec 32 := 4#32
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_65 : BitVec 32 := 1#32
  let arg13 : BitVec 32 := Scf.iv v111 c1_i32_65 k0_t4
  let v176 : BitVec 32 := Scalar.muli c4_i32 arg13
  let v177 : BitVec 32 := Scalar.addi v176 c0_i32_98
  let c512_i32_99 : BitVec 32 := 512#32
  let v178 : BitVec 32 := Scalar.muli v177 c512_i32_99
  let v179 : BitVec 32 := v178
  let v180 : Index := Scalar.indexCast v179
  let c0_100 : Index := 0#32
  ![v180.toNat, 0]
def k0_off23 (i : grid0.Coords) (k0_t4 : Fin (k0_t4_loop i).trips) (c0_i32_98 : BitVec 32) : Fin 4 → Nat :=
  let c0_104 : Index := 0#32
  let c4_i32 : BitVec 32 := 4#32
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_65 : BitVec 32 := 1#32
  let arg13 : BitVec 32 := Scf.iv v111 c1_i32_65 k0_t4
  let v176 : BitVec 32 := Scalar.muli c4_i32 arg13
  let v177 : BitVec 32 := Scalar.addi v176 c0_i32_98
  let v184 : Index := Scalar.indexCast v177
  let c0_105 : Index := 0#32
  let c0_106 : Index := 0#32
  ![0, v184.toNat, 0, 0]
def k0_off24 (i : grid0.Coords) (k0_t4 : Fin (k0_t4_loop i).trips) (c0_i32_98 : BitVec 32) : Fin 4 → Nat :=
  let c1_117 : Index := 1#32
  let c4_i32 : BitVec 32 := 4#32
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_65 : BitVec 32 := 1#32
  let arg13 : BitVec 32 := Scf.iv v111 c1_i32_65 k0_t4
  let v176 : BitVec 32 := Scalar.muli c4_i32 arg13
  let v177 : BitVec 32 := Scalar.addi v176 c0_i32_98
  let v210 : Index := Scalar.indexCast v177
  let c0_118 : Index := 0#32
  let c0_119 : Index := 0#32
  ![1, v210.toNat, 0, 0]
def k0_mult18 (i : grid0.Coords) (k0_t4 : Fin (k0_t4_loop i).trips) : BitVec 32 :=
  let c4_i32_127 : BitVec 32 := 4#32
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_65 : BitVec 32 := 1#32
  let arg13 : BitVec 32 := Scf.iv v111 c1_i32_65 k0_t4
  let v234 : BitVec 32 := Scalar.muli c4_i32_127 arg13
  let c1_i32_128 : BitVec 32 := 1#32
  let v235 : BitVec 32 := Scalar.addi v234 c1_i32_128
  let c512_i32_129 : BitVec 32 := 512#32
  let v236 : BitVec 32 := Scalar.muli v235 c512_i32_129
  v236
def k0_mult19 (i : grid0.Coords) (k0_t4 : Fin (k0_t4_loop i).trips) : BitVec 32 :=
  let c4_i32_157 : BitVec 32 := 4#32
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_65 : BitVec 32 := 1#32
  let arg13 : BitVec 32 := Scf.iv v111 c1_i32_65 k0_t4
  let v292 : BitVec 32 := Scalar.muli c4_i32_157 arg13
  let c2_i32_158 : BitVec 32 := 2#32
  let v293 : BitVec 32 := Scalar.addi v292 c2_i32_158
  let c512_i32_159 : BitVec 32 := 512#32
  let v294 : BitVec 32 := Scalar.muli v293 c512_i32_159
  v294
def k0_mult20 (i : grid0.Coords) (k0_t4 : Fin (k0_t4_loop i).trips) : BitVec 32 :=
  let c4_i32_187 : BitVec 32 := 4#32
  let c0_i32_62 : BitVec 32 := 0#32
  let arg2 : BitVec 32 := BitVec.ofNat 32 (i 2).val
  let c1_i32_59 : BitVec 32 := 1#32
  let v105 : BitVec 32 := Scalar.addi arg2 c1_i32_59
  let c2_i32_60 : BitVec 32 := 2#32
  let v106 : BitVec 32 := Scalar.shrui v105 c2_i32_60
  let v107 : BitVec 32 := Scalar.subi v106 c0_i32_62
  let c1_i32_63 : BitVec 32 := 1#32
  let v109 : BitVec 32 := Scalar.divsi v107 c1_i32_63
  let v110 : BitVec 32 := Scalar.muli v109 c1_i32_63
  let v111 : BitVec 32 := Scalar.addi c0_i32_62 v110
  let c1_i32_65 : BitVec 32 := 1#32
  let arg13 : BitVec 32 := Scf.iv v111 c1_i32_65 k0_t4
  let v350 : BitVec 32 := Scalar.muli c4_i32_187 arg13
  let c3_i32 : BitVec 32 := 3#32
  let v351 : BitVec 32 := Scalar.addi v350 c3_i32
  let c512_i32_188 : BitVec 32 := 512#32
  let v352 : BitVec 32 := Scalar.muli v351 c512_i32_188
  v352
def k0_cond4 (i : grid0.Coords) : BitVec 1 :=
  let arg2 : BitVec 32 := BitVec.ofNat 32 (i 2).val
  let c1_i32_59 : BitVec 32 := 1#32
  let v105 : BitVec 32 := Scalar.addi arg2 c1_i32_59
  let c2_i32_67 : BitVec 32 := 2#32
  let v113 : BitVec 32 := Scalar.andi v105 c2_i32_67
  let c2_i32_68 : BitVec 32 := 2#32
  let v114 : BitVec 1 := Scalar.cmpi .eq v113 c2_i32_68
  let v115 : BitVec 32 := Scalar.extui v114
  let c0_i32_69 : BitVec 32 := 0#32
  let v116 : BitVec 1 := Scalar.cmpi .ne v115 c0_i32_69
  v116

def k0_mult21 (i : grid0.Coords) : BitVec 32 :=
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let c512_i32_98 : BitVec 32 := 512#32
  let v176 : BitVec 32 := Scalar.muli v112 c512_i32_98
  v176
def k0_off25 (i : grid0.Coords) : Fin 2 → Nat :=
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let c512_i32_98 : BitVec 32 := 512#32
  let v176 : BitVec 32 := Scalar.muli v112 c512_i32_98
  let v177 : BitVec 32 := v176
  let v178 : Index := Scalar.indexCast v177
  let c0_99 : Index := 0#32
  ![v178.toNat, 0]
def k0_off26 (i : grid0.Coords) : Fin 4 → Nat :=
  let c0_103 : Index := 0#32
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let v182 : Index := Scalar.indexCast v112
  let c0_104 : Index := 0#32
  let c0_105 : Index := 0#32
  ![0, v182.toNat, 0, 0]
def k0_off27 (i : grid0.Coords) : Fin 4 → Nat :=
  let c1_116 : Index := 1#32
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let v208 : Index := Scalar.indexCast v112
  let c0_117 : Index := 0#32
  let c0_118 : Index := 0#32
  ![1, v208.toNat, 0, 0]
def k0_mult22 (i : grid0.Coords) : BitVec 32 :=
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let c1_i32_126 : BitVec 32 := 1#32
  let v232 : BitVec 32 := Scalar.addi v112 c1_i32_126
  let c512_i32_127 : BitVec 32 := 512#32
  let v233 : BitVec 32 := Scalar.muli v232 c512_i32_127
  v233
def k0_off28 (i : grid0.Coords) : Fin 2 → Nat :=
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let c1_i32_126 : BitVec 32 := 1#32
  let v232 : BitVec 32 := Scalar.addi v112 c1_i32_126
  let c512_i32_127 : BitVec 32 := 512#32
  let v233 : BitVec 32 := Scalar.muli v232 c512_i32_127
  let v234 : BitVec 32 := v233
  let v235 : Index := Scalar.indexCast v234
  let c0_128 : Index := 0#32
  ![v235.toNat, 0]
def k0_off29 (i : grid0.Coords) : Fin 4 → Nat :=
  let c0_132 : Index := 0#32
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let c1_i32_126 : BitVec 32 := 1#32
  let v232 : BitVec 32 := Scalar.addi v112 c1_i32_126
  let v239 : Index := Scalar.indexCast v232
  let c0_133 : Index := 0#32
  let c0_134 : Index := 0#32
  ![0, v239.toNat, 0, 0]
def k0_off30 (i : grid0.Coords) : Fin 4 → Nat :=
  let c1_145 : Index := 1#32
  let arg2 : BitVec 32 := BitVec.ofNat 32 (i 2).val
  let c1_i32_59 : BitVec 32 := 1#32
  let v105 : BitVec 32 := Scalar.addi arg2 c1_i32_59
  let c_m4_i32_66 : BitVec 32 := 4294967292#32
  let v112 : BitVec 32 := Scalar.andi v105 c_m4_i32_66
  let c1_i32_126 : BitVec 32 := 1#32
  let v232 : BitVec 32 := Scalar.addi v112 c1_i32_126
  let v265 : Index := Scalar.indexCast v232
  let c0_146 : Index := 0#32
  let c0_147 : Index := 0#32
  ![1, v265.toNat, 0, 0]
def k0_cond5 (i : grid0.Coords) : BitVec 1 :=
  let arg2 : BitVec 32 := BitVec.ofNat 32 (i 2).val
  let c1_i32_59 : BitVec 32 := 1#32
  let v105 : BitVec 32 := Scalar.addi arg2 c1_i32_59
  let c1_i32_70 : BitVec 32 := 1#32
  let v117 : BitVec 32 := Scalar.andi v105 c1_i32_70
  let c1_i32_71 : BitVec 32 := 1#32
  let v118 : BitVec 1 := Scalar.cmpi .eq v117 c1_i32_71
  let v119 : BitVec 32 := Scalar.extui v118
  let c0_i32_72 : BitVec 32 := 0#32
  let v120 : BitVec 1 := Scalar.cmpi .ne v119 c0_i32_72
  v120

def k0_mult23 (i : grid0.Coords) : BitVec 32 :=
  let arg2 : BitVec 32 := BitVec.ofNat 32 (i 2).val
  let c1_i32_59 : BitVec 32 := 1#32
  let v105 : BitVec 32 := Scalar.addi arg2 c1_i32_59
  let c1_i32_98 : BitVec 32 := 1#32
  let v176 : BitVec 32 := Scalar.subi v105 c1_i32_98
  let c512_i32_99 : BitVec 32 := 512#32
  let v177 : BitVec 32 := Scalar.muli v176 c512_i32_99
  v177
def k0_off31 (i : grid0.Coords) : Fin 2 → Nat :=
  let arg2 : BitVec 32 := BitVec.ofNat 32 (i 2).val
  let c1_i32_59 : BitVec 32 := 1#32
  let v105 : BitVec 32 := Scalar.addi arg2 c1_i32_59
  let c1_i32_98 : BitVec 32 := 1#32
  let v176 : BitVec 32 := Scalar.subi v105 c1_i32_98
  let c512_i32_99 : BitVec 32 := 512#32
  let v177 : BitVec 32 := Scalar.muli v176 c512_i32_99
  let v178 : BitVec 32 := v177
  let v179 : Index := Scalar.indexCast v178
  let c0_100 : Index := 0#32
  ![v179.toNat, 0]
def k0_off32 (i : grid0.Coords) : Fin 4 → Nat :=
  let c0_104 : Index := 0#32
  let arg2 : BitVec 32 := BitVec.ofNat 32 (i 2).val
  let c1_i32_59 : BitVec 32 := 1#32
  let v105 : BitVec 32 := Scalar.addi arg2 c1_i32_59
  let c1_i32_98 : BitVec 32 := 1#32
  let v176 : BitVec 32 := Scalar.subi v105 c1_i32_98
  let v183 : Index := Scalar.indexCast v176
  let c0_105 : Index := 0#32
  let c0_106 : Index := 0#32
  ![0, v183.toNat, 0, 0]
def k0_off33 (i : grid0.Coords) : Fin 4 → Nat :=
  let c1_117 : Index := 1#32
  let arg2 : BitVec 32 := BitVec.ofNat 32 (i 2).val
  let c1_i32_59 : BitVec 32 := 1#32
  let v105 : BitVec 32 := Scalar.addi arg2 c1_i32_59
  let c1_i32_98 : BitVec 32 := 1#32
  let v176 : BitVec 32 := Scalar.subi v105 c1_i32_98
  let v209 : Index := Scalar.indexCast v176
  let c0_118 : Index := 0#32
  let c0_119 : Index := 0#32
  ![1, v209.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "log2e" => some (((Real.log 2)⁻¹ : ℝ) : EReal)
  | "mask" => some ⊥
  | _ => none
-- ==== DiffReferenceIdeal.lean ====
abbrev S4x64 : Shape := ⟨2, ![4, 64]⟩
abbrev S128 : Shape := ⟨1, ![128]⟩
abbrev S4x4096x512 : Shape := ⟨3, ![4, 4096, 512]⟩
abbrev S4x4096x4x2x64 : Shape := ⟨5, ![4, 4096, 4, 2, 64]⟩
abbrev S4x4x2x4096x64 : Shape := ⟨5, ![4, 4, 2, 4096, 64]⟩
abbrev S4x4096x4x128 : Shape := ⟨4, ![4, 4096, 4, 128]⟩
abbrev S4x4x4096x128 : Shape := ⟨4, ![4, 4, 4096, 128]⟩
abbrev S1x64 : Shape := ⟨2, ![1, 64]⟩
abbrev S64 : Shape := ⟨1, ![64]⟩
abbrev S_ : Shape := ⟨0, ![]⟩
abbrev S4x4x2x4096x4096 : Shape := ⟨5, ![4, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4096x512, .f32⟩
  | .hbm, ⟨6, _⟩ => ⟨S4x4096x4x2x64, .f32⟩
  | .hbm, ⟨7, _⟩ => ⟨S4x4x2x4096x64, .f32⟩
  | .hbm, ⟨8, _⟩ => ⟨S4x4096x512, .f32⟩
  | .hbm, ⟨9, _⟩ => ⟨S4x4096x4x2x64, .f32⟩
  | .hbm, ⟨10, _⟩ => ⟨S4x4x2x4096x64, .f32⟩
  | .hbm, ⟨11, _⟩ => ⟨S4x4096x512, .f32⟩
  | .hbm, ⟨12, _⟩ => ⟨S4x4096x4x128, .f32⟩
  | .hbm, ⟨13, _⟩ => ⟨S4x4x4096x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x4x2x4096x4096, .f32⟩
  | .hbm, ⟨34, _⟩ => ⟨S4096, .i32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S_, .f32⟩
  | .hbm, ⟨42, _⟩ => ⟨S4x4x2x4096x4096, .i1⟩
  | .hbm, ⟨43, _⟩ => ⟨S4x4x2x4096x4096, .f32⟩
  | .hbm, ⟨44, _⟩ => ⟨S4x4x2x4096x4096, .f32⟩
  | .hbm, ⟨45, _⟩ => ⟨S_, .f32⟩
  | .hbm, ⟨46, _⟩ => ⟨S4x4x2x4096, .f32⟩
  | .hbm, ⟨47, _⟩ => ⟨S_, .f32⟩
  | .hbm, ⟨48, _⟩ => ⟨S4x4x2x4096, .f32⟩
  | .hbm, ⟨49, _⟩ => ⟨S4x4x2x4096, .f32⟩
  | .hbm, ⟨50, _⟩ => ⟨S4x4x2x4096x1, .f32⟩
  | .hbm, ⟨51, _⟩ => ⟨S4x4x2x4096x4096, .f32⟩
  | .hbm, ⟨52, _⟩ => ⟨S4x4x2x4096x4096, .f32⟩
  | .hbm, ⟨53, _⟩ => ⟨S4x4x2x4096x4096, .f32⟩
  | .hbm, ⟨54, _⟩ => ⟨S_, .f32⟩
  | .hbm, ⟨55, _⟩ => ⟨S4x4x2x4096, .f32⟩
  | .hbm, ⟨56, _⟩ => ⟨S4x4x2x4096x1, .f32⟩
  | .hbm, ⟨57, _⟩ => ⟨S4x4x2x4096x4096, .f32⟩
  | .hbm, ⟨58, _⟩ => ⟨S4x4x2x4096x4096, .f32⟩
  | .hbm, ⟨59, _⟩ => ⟨S4x4x1x4096x4096, .f32⟩
  | .hbm, ⟨60, _⟩ => ⟨S4x4x4096x4096, .f32⟩
  | .hbm, ⟨61, _⟩ => ⟨S4x4x1x4096x4096, .f32⟩
  | .hbm, ⟨62, _⟩ => ⟨S4x4x4096x4096, .f32⟩
  | .hbm, ⟨63, _⟩ => ⟨S4x4x4096x4096, .f32⟩
  | .hbm, ⟨64, _⟩ => ⟨S4x4x4096x4096, .f32⟩
  | .hbm, ⟨65, _⟩ => ⟨S4x4x4096x4096, .f32⟩
  | .hbm, ⟨66, _⟩ => ⟨S4x4x4096x128, .f32⟩
  | .hbm, ⟨67, _⟩ => ⟨S4x4096x4x128, .f32⟩
  | .hbm, ⟨68, _⟩ => ⟨S4x4096x4x128, .f32⟩
  | .hbm, ⟨69, _⟩ => ⟨S_, .f32⟩
  | .hbm, ⟨70, _⟩ => ⟨S4x4096x4, .f32⟩
  | .hbm, ⟨71, _⟩ => ⟨S4x4096x4x1, .f32⟩
  | .hbm, ⟨72, _⟩ => ⟨S_, .f32⟩
  | .hbm, ⟨73, _⟩ => ⟨S4x4096x4x1, .f32⟩
  | .hbm, ⟨74, _⟩ => ⟨S4x4096x4x1, .f32⟩
  | .hbm, ⟨75, _⟩ => ⟨S_, .f32⟩
  | .hbm, ⟨76, _⟩ => ⟨S4x4096x4x1, .f32⟩
  | .hbm, ⟨77, _⟩ => ⟨S4x4096x4x1, .f32⟩
  | .hbm, ⟨78, _⟩ => ⟨S4x4096x4x1, .f32⟩
  | .hbm, ⟨79, _⟩ => ⟨S4x4096x4x128, .f32⟩
  | .hbm, ⟨80, _⟩ => ⟨S4x4096x4x128, .f32⟩
  | .hbm, ⟨81, _⟩ => ⟨S1x1x1x128, .f32⟩
  | .hbm, ⟨82, _⟩ => ⟨S4x4096x4x128, .f32⟩
  | .hbm, ⟨83, _⟩ => ⟨S4x4096x4x128, .f32⟩
  | .hbm, ⟨84, _⟩ => ⟨S_, .f32⟩
  | .hbm, ⟨85, _⟩ => ⟨S4x4096x4x128, .f32⟩
  | .hbm, ⟨86, _⟩ => ⟨S4x4096x4x128, .f32⟩
  | .hbm, ⟨87, _⟩ => ⟨S4x4096x512, .f32⟩
  | .hbm, ⟨88, _⟩ => ⟨S4x4096x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Mem.lean ====
abbrev S1024x1024 : Shape := ⟨2, ![1024, 1024]⟩
abbrev S1024 : Shape := ⟨1, ![1024]⟩
abbrev S1024x512 : Shape := ⟨2, ![1024, 512]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S1024x512, .bf16⟩
  | .hbm, ⟨5, _⟩ => ⟨S1024x512, .bf16⟩
  | .hbm, ⟨6, _⟩ => ⟨S1x1024, .f32⟩
  | .hbm, ⟨7, _⟩ => ⟨S1024x512, .bf16⟩
  | .hbm, ⟨8, _⟩ => ⟨S1024x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemReferenceIdeal.lean ====
abbrev S1024x1024 : Shape := ⟨2, ![1024, 1024]⟩
abbrev S1024 : Shape := ⟨1, ![1024]⟩
abbrev S1024x512 : Shape := ⟨2, ![1024, 512]⟩
abbrev S_ : Shape := ⟨0, ![]⟩
abbrev S1024x1 : Shape := ⟨2, ![1024, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x512, .f32⟩
  | .hbm, ⟨21, _⟩ => ⟨S1024x512, .bf16⟩
  | .hbm, ⟨22, _⟩ => ⟨S1024x512, .f32⟩
  | .hbm, ⟨23, _⟩ => ⟨S1024x512, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Views.lean ====
abbrev S16384x1024 : Shape := ⟨2, ![16384, 1024]⟩
abbrev S1024 : Shape := ⟨1, ![1024]⟩
abbrev S1024x512 : Shape := ⟨2, ![1024, 512]⟩
abbrev S1x1024 : Shape := ⟨2, ![1, 1024]⟩
abbrev S16384x512 : Shape := ⟨2, ![16384, 512]⟩
abbrev S4096x2048 : Shape := ⟨2, ![4096, 2048]⟩
abbrev S1024x8192 : Shape := ⟨2, ![1024, 8192]⟩
abbrev S1024x1024 : Shape := ⟨2, ![1024, 1024]⟩
abbrev S256x2048 : Shape := ⟨2, ![256, 2048]⟩
abbrev S64x8192 : Shape := ⟨2, ![64, 8192]⟩
abbrev S4x1024x128 : Shape := ⟨3, ![4, 1024, 128]⟩
abbrev S16x256x128 : Shape := ⟨3, ![16, 256, 128]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 27
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1x1024, .f32⟩
  | .hbm, ⟨15, _⟩ => ⟨S16384x512, .bf16⟩
  | .hbm, ⟨16, _⟩ => ⟨S4096x2048, .bf16⟩
  | .hbm, ⟨17, _⟩ => ⟨S1024x8192, .bf16⟩
  | .hbm, ⟨18, _⟩ => ⟨S16384x512, .bf16⟩
  | .hbm, ⟨19, _⟩ => ⟨S4096x2048, .bf16⟩
  | .hbm, ⟨20, _⟩ => ⟨S1024x8192, .bf16⟩
  | .hbm, ⟨21, _⟩ => ⟨S16384x512, .bf16⟩
  | .hbm, ⟨22, _⟩ => ⟨S4096x2048, .bf16⟩
  | .hbm, ⟨23, _⟩ => ⟨S1024x8192, .bf16⟩
  | .hbm, ⟨24, _⟩ => ⟨S16384x512, .bf16⟩
  | .hbm, ⟨25, _⟩ => ⟨S16384x512, .bf16⟩
  | .hbm, ⟨26, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S256x2048, .bf16⟩
  | .local _ .vmem, ⟨12, _⟩ => ⟨S256x2048, .bf16⟩
  | .local _ .vmem, ⟨13, _⟩ => ⟨S64x8192, .bf16⟩
  | .local _ .vmem, ⟨14, _⟩ => ⟨S64x8192, .bf16⟩
  | .local _ .vmem, ⟨15, _⟩ => ⟨S1024x512, .bf16⟩
  | .local _ .vmem, ⟨16, _⟩ => ⟨S1024x512, .bf16⟩
  | .local _ .vmem, ⟨17, _⟩ => ⟨S256x2048, .bf16⟩
  | .local _ .vmem, ⟨18, _⟩ => ⟨S256x2048, .bf16⟩
  | .local _ .vmem, ⟨19, _⟩ => ⟨S64x8192, .bf16⟩
  | .local _ .vmem, ⟨20, _⟩ => ⟨S64x8192, .bf16⟩
  | .local _ .vmem, ⟨21, _⟩ => ⟨S1024x512, .bf16⟩
  | .local _ .vmem, ⟨22, _⟩ => ⟨S1024x512, .bf16⟩
  | .local _ .vmem, ⟨23, _⟩ => ⟨S256x2048, .bf16⟩
  | .local _ .vmem, ⟨24, _⟩ => ⟨S256x2048, .bf16⟩
  | .local _ .vmem, ⟨25, _⟩ => ⟨S64x8192, .bf16⟩
  | .local _ .vmem, ⟨26, _⟩ => ⟨S64x8192, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S4x1024x128, .f32⟩
  | .local _ .vmem, ⟨34, _⟩ => ⟨S16x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev main_v7_8 : Ref sig .tc := ⟨.hbm, 23, rfl⟩
abbrev main_v7_9 : Ref sig .tc := ⟨.hbm, 24, rfl⟩
abbrev main_v7_10 : Ref sig .tc := ⟨.hbm, 25, rfl⟩
abbrev main_v7_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ViewsReferenceIdeal.lean ====
abbrev S16384x1024 : Shape := ⟨2, ![16384, 1024]⟩
abbrev S1024 : Shape := ⟨1, ![1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩
abbrev S4096x2048 : Shape := ⟨2, ![4096, 2048]⟩
abbrev S1024x8192 : Shape := ⟨2, ![1024, 8192]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .bf16⟩
  | .hbm, ⟨37, _⟩ => ⟨S4096x2048, .f32⟩
  | .hbm, ⟨38, _⟩ => ⟨S4096x2048, .bf16⟩
  | .hbm, ⟨39, _⟩ => ⟨S1024x8192, .f32⟩
  | .hbm, ⟨40, _⟩ => ⟨S1024x8192, .bf16⟩
  | .hbm, ⟨41, _⟩ => ⟨S16384x512, .bf16⟩
  | .hbm, ⟨42, _⟩ => ⟨S4096x2048, .f32⟩
  | .hbm, ⟨43, _⟩ => ⟨S4096x2048, .bf16⟩
  | .hbm, ⟨44, _⟩ => ⟨S1024x8192, .f32⟩
  | .hbm, ⟨45, _⟩ => ⟨S1024x8192, .bf16⟩
  | .hbm, ⟨46, _⟩ => ⟨S16384x512, .bf16⟩
  | .hbm, ⟨47, _⟩ => ⟨S4096x2048, .f32⟩
  | .hbm, ⟨48, _⟩ => ⟨S4096x2048, .bf16⟩
  | .hbm, ⟨49, _⟩ => ⟨S1024x8192, .f32⟩
  | .hbm, ⟨50, _⟩ => ⟨S1024x8192, .bf16⟩
  | .hbm, ⟨51, _⟩ => ⟨S16384x512, .bf16⟩
  | .hbm, ⟨52, _⟩ => ⟨S16384x512, .bf16⟩
  | .hbm, ⟨53, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.Layer.lean ====
/-
  The layer's arithmetic on extended reals, one row of activations at a time, in plain functions of coordinates:
  the root-mean-square normalisation, a row times a matrix, the softmax weights, an attention context, the gated
  unit — and what stays a real number when the inputs are real numbers.
-/
module

public import Idealize.ShloMosaic.PureOps.Ideal.Laws
public import Idealize.ShloMosaic.Lib.IdealHost
public import Idealize.ShloMosaic.Lib.ValueIdx

@[expose] public section

noncomputable section

open scoped BigOperators

namespace Cert.Layer

open Idealize.ShloMosaic

/-! ## The functions -/

/-- One row normalised by its root mean square (the count `cnt` divides the sum of squares), times the gain. -/
def rms {n : ℕ} (cnt : EReal) (x g : Fin n → EReal) (k : Fin n) : EReal :=
  x k * Ideal.rsqrt (Ideal.div (∑ j, x j * x j) cnt + Ideal.ofBits .f32 0x358637BD#32) * g k

/-- A row times a matrix, at a column. -/
def dot {n p : ℕ} (x : Fin n → EReal) (w : Fin n → Fin p → EReal) (c : Fin p) : EReal := ∑ k, x k * w k c

/-- The greatest of a row of scores. -/
def top {n : ℕ} (s : Fin n → EReal) : EReal := Finset.univ.fold max (Ideal.ofBits .f32 0xFF800000#32) s

/-- The softmax weights of a row of scores. -/
def wt {n : ℕ} (s : Fin n → EReal) (i : Fin n) : EReal :=
  Ideal.div (Ideal.exp (s i - top s)) (∑ j, Ideal.exp (s j - top s))

/-- The scaled linear unit as the reference spells it. -/
def silu (a : EReal) : EReal := a * Ideal.div 1 (1 + Ideal.exp (-a))

/-- The same unit as the kernel spells it, through the hyperbolic tangent of half the argument. -/
def siluT (a : EReal) : EReal :=
  Ideal.ofBits .f32 0x3F000000#32 * a * Ideal.tanh (Ideal.ofBits .f32 0x3F000000#32 * a)
    + Ideal.ofBits .f32 0x3F000000#32 * a

/-! ## One row through the block: cross attention, then the gated feed-forward -/

/-- The count of a row's entries, as the programs' literal. -/
abbrev cnt : EReal := Ideal.ofBits .f32 0x44800000#32

/-- Column `d` of head `h`. -/
def col (h : Fin 4) (d : Fin 128) : Fin 512 := ⟨h.val * 128 + d.val, by have := h.isLt; have := d.isLt; omega⟩

/-- The head a column belongs to. -/
def headOf (c : Fin 512) : Fin 4 := ⟨c.val / 128, by have := c.isLt; omega⟩

/-- Its place within the head. -/
def within (c : Fin 512) : Fin 128 := ⟨c.val % 128, Nat.mod_lt _ (by decide)⟩

theorem col_headOf (c : Fin 512) : col (headOf c) (within c) = c :=
  Fin.ext (by show c.val / 128 * 128 + c.val % 128 = c.val; omega)

/-- A head's scaled scores of one query row against the memory's keys. -/
def score (q : Fin 512 → EReal) (k : Fin 256 → Fin 512 → EReal) (h : Fin 4) (m : Fin 256) : EReal :=
  (∑ d, q (col h d) * k m (col h d)) * Ideal.ofBits .f32 0x3DB504F3#32

/-- The attention context of one query row: per head, the memory's values weighted by the softmax of the scores. -/
def ctx (q : Fin 512 → EReal) (k v : Fin 256 → Fin 512 → EReal) (c : Fin 512) : EReal :=
  ∑ m, wt (score q k (headOf c)) m * v m c

/-- The row after the cross attention and its residual connection. -/
def mid (x gx : Fin 1024 → EReal) (wq : Fin 1024 → Fin 512 → EReal) (k v : Fin 256 → Fin 512 → EReal)
    (wo : Fin 512 → Fin 1024 → EReal) (n : Fin 1024) : EReal :=
  x n + dot (ctx (dot (rms cnt x gx) wq) k v) wo n

/-- The gated hidden row. -/
def gated (act : EReal → EReal) (y gf : Fin 1024 → EReal) (wa wb : Fin 1024 → Fin 2816 → EReal) (j : Fin 2816) : EReal :=
  act (dot (rms cnt y gf) wa j) * dot (rms cnt y gf) wb j

/-- The row after the feed-forward, its residual connection and the final normalisation. -/
def last (act : EReal → EReal) (y gf : Fin 1024 → EReal) (wa wb : Fin 1024 → Fin 2816 → EReal)
    (wout : Fin 2816 → Fin 1024 → EReal) (g : Fin 1024 → EReal) : Fin 1024 → EReal :=
  rms cnt (fun n => y n + dot (gated act y gf wa wb) wout n) g

/-! ## Constants -/

/-- A positive normal single-precision pattern denotes its significand times its power of two. -/
theorem f32_normal (b : BitVec 32) (e f : ℕ) (hn : (b.extractLsb' 31 1 == 1#1) = false)
    (he : (b.extractLsb' 23 8).toNat = e) (hf : (b.extractLsb' 0 23).toNat = f) (h1 : e ≠ 255) (h0 : e ≠ 0) :
    Ideal.ofBits .f32 b = (((2 ^ 23 + f : ℕ) * (2 : ℝ) ^ ((e : ℤ) - 127 - 23) : ℝ) : EReal) := by
  have hn' : (b.extractLsb' (8 + 23) 1 == 1#1) = false := hn
  simp only [Ideal.ofBits, Ideal.ieee]
  rw [hn', he, hf, if_neg (by norm_num; exact h1), if_neg h0]
  norm_num

theorem half_eq : Ideal.ofBits .f32 0x3F000000#32 = ((1 / 2 : ℝ) : EReal) := by
  rw [f32_normal _ 126 0 (by decide) (by decide) (by decide) (by decide) (by decide)]
  congr 1; norm_num [zpow_neg]

theorem cnt_eq : Ideal.ofBits .f32 0x44800000#32 = ((1024 : ℝ) : EReal) := by
  rw [f32_normal _ 137 0 (by decide) (by decide) (by decide) (by decide) (by decide)]
  congr 1; norm_num [zpow_neg]

theorem scale_real : ∃ r : ℝ, Ideal.ofBits .f32 0x3DB504F3#32 = (r : EReal) :=
  ⟨_, f32_normal _ 123 3474675 (by decide) (by decide) (by decide) (by decide) (by decide)⟩

theorem ninf_eq : Ideal.ofBits .f32 0xFF800000#32 = ⊥ := by
  simp [Ideal.ofBits, Ideal.ieee]

theorem pinf_eq : Ideal.ofBits .f32 0x7F800000#32 = ⊤ := by
  simp [Ideal.ofBits, Ideal.ieee]

theorem eps_pos : ∃ e : ℝ, 0 < e ∧ Ideal.ofBits .f32 0x358637BD#32 = (e : EReal) :=
  ⟨_, by positivity, f32_normal _ 107 407485 (by decide) (by decide) (by decide) (by decide) (by decide)⟩

/-! ## Real numbers among the extended reals -/

/-- An extended real that is a real number. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sub {x y : EReal} (hx : Real' x) (hy : Real' y) : Real' (x - y) := by
  obtain ⟨a, rfl⟩ := hx; obtain ⟨b, rfl⟩ := hy; exact ⟨a - b, (EReal.coe_sub a b).symm⟩

/-- A finite sum of real numbers is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem real_sum {ι : Type*} (s : Finset ι) {f : ι → EReal} (h : ∀ i, Real' (f i)) : Real' (∑ i ∈ s, f i) := by
  choose g hg using h
  exact ⟨∑ i ∈ s, g i, by rw [← coe_sum]; exact Finset.sum_congr rfl fun i _ => hg i⟩

theorem real_dot {n p : ℕ} {x : Fin n → EReal} {w : Fin n → Fin p → EReal} (hx : ∀ k, Real' (x k))
    (hw : ∀ k c, Real' (w k c)) (c : Fin p) : Real' (dot x w c) :=
  real_sum _ fun k => (hx k).mul (hw k c)

/-- A normalised real row is real: the mean of squares is not negative and the small constant is positive. -/
theorem real_rms {n : ℕ} {q : ℝ} (hq : 0 < q) {x g : Fin n → EReal} (hx : ∀ k, Real' (x k)) (hg : ∀ k, Real' (g k)) (k : Fin n) :
    Real' (rms (q : EReal) x g k) := by
  obtain ⟨e, he, hee⟩ := eps_pos
  choose a ha using hx
  have hs : ∑ j, x j * x j = ((∑ j, a j * a j : ℝ) : EReal) := by
    rw [← coe_sum]; exact Finset.sum_congr rfl fun j _ => by rw [ha j, EReal.coe_mul]
  have h0 : 0 ≤ ∑ j, a j * a j := Finset.sum_nonneg fun j _ => mul_self_nonneg _
  have hp : 0 < (∑ j, a j * a j) * (1 / q) + e := by positivity
  unfold rms
  rw [hs, Ideal.div_coe hq.ne', hee, ← EReal.coe_mul, ← EReal.coe_add, Ideal.rsqrt_coe, if_neg (not_lt.mpr hp.le), if_neg hp.ne']
  exact (Real'.mul ⟨a k, ha k⟩ ⟨_, rfl⟩).mul (hg k)

/-- The greatest of a nonempty row of real scores is real. -/
theorem real_top {n : ℕ} (hn : 0 < n) {s : Fin n → EReal} (hs : ∀ i, Real' (s i)) : Real' (top s) := by
  have h1 : top s < ⊤ := by
    unfold top
    rw [Finset.fold_max_lt]
    refine ⟨by rw [ninf_eq]; exact bot_lt_top, fun i _ => ?_⟩
    obtain ⟨r, hr⟩ := hs i
    rw [hr]; exact EReal.coe_lt_top r
  have h2 : ⊥ < top s := by
    unfold top
    rw [Finset.lt_fold_max]
    refine .inr ⟨⟨0, hn⟩, Finset.mem_univ _, ?_⟩
    obtain ⟨r, hr⟩ := hs ⟨0, hn⟩
    rw [hr]; exact EReal.bot_lt_coe r
  exact ⟨(top s).toReal, (EReal.coe_toReal h1.ne h2.ne').symm⟩

/-- The softmax weights of real scores are real: the denominator is a positive real. -/
theorem real_wt {n : ℕ} (hn : 0 < n) {s : Fin n → EReal} (hs : ∀ i, Real' (s i)) (i : Fin n) : Real' (wt s i) := by
  have ht := real_top hn hs
  have hd : ∀ i, Real' (s i - top s) := fun i => (hs i).sub ht
  choose a ha using hd
  have hsum : ∑ j, Ideal.exp (s j - top s) = ((∑ j, Real.exp (a j) : ℝ) : EReal) := by
    rw [← coe_sum]; exact Finset.sum_congr rfl fun j _ => by rw [ha j, Ideal.exp_coe]
  have hpos : 0 < ∑ j, Real.exp (a j) := Finset.sum_pos (fun j _ => Real.exp_pos _) ⟨⟨0, hn⟩, Finset.mem_univ _⟩
  unfold wt
  rw [hsum, Ideal.div_coe hpos.ne', ha i, Ideal.exp_coe]
  exact ⟨_, (EReal.coe_mul _ _).symm⟩

/-- On a real argument the two spellings of the unit agree. -/
theorem siluT_eq {a : EReal} (ha : Real' a) : siluT a = silu a := by
  obtain ⟨r, rfl⟩ := ha
  have hl : Ideal.div 1 (1 + Ideal.exp (-(r : EReal))) = Ideal.logistic (r : EReal) := rfl
  unfold siluT silu
  rw [hl, half_eq, ← EReal.coe_mul, Ideal.tanh_coe, Ideal.logistic_coe, ← EReal.coe_mul, ← EReal.coe_mul, ← EReal.coe_add]
  congr 1
  have h1 : Real.exp r = Real.exp (1 / 2 * r) * Real.exp (1 / 2 * r) := by rw [← Real.exp_add]; congr 1; ring
  have h2 : Real.exp (-r) = (Real.exp (1 / 2 * r) * Real.exp (1 / 2 * r))⁻¹ := by rw [← h1, Real.exp_neg]
  have hp := Real.exp_pos (1 / 2 * r)
  rw [Real.tanh_eq_sinh_div_cosh, Real.sinh_eq, Real.cosh_eq, h2, Real.exp_neg]
  field_simp
  ring

/-- On real inputs the row after the attention is real. -/
theorem real_mid {x gx : Fin 1024 → EReal} {wq : Fin 1024 → Fin 512 → EReal} {k v : Fin 256 → Fin 512 → EReal}
    {wo : Fin 512 → Fin 1024 → EReal} (hx : ∀ i, Real' (x i)) (hg : ∀ i, Real' (gx i)) (hq : ∀ i c, Real' (wq i c))
    (hk : ∀ m c, Real' (k m c)) (hv : ∀ m c, Real' (v m c)) (ho : ∀ c n, Real' (wo c n)) (n : Fin 1024) :
    Real' (mid x gx wq k v wo n) := by
  have hr : ∀ i, Real' (rms cnt x gx i) := fun i => by
    unfold cnt; rw [cnt_eq]; exact real_rms (by norm_num) hx hg i
  have hqr : ∀ c, Real' (dot (rms cnt x gx) wq c) := real_dot hr hq
  refine (hx n).add (real_dot (fun c => real_sum _ fun m => ?_) ho n)
  exact (real_wt (by decide) (fun m => (real_sum _ fun d => (hqr _).mul (hk _ _)).mul scale_real) m).mul (hv m c)

/-- So on real inputs the two spellings of the gated unit give the same hidden row. -/
theorem gated_eq {y gf : Fin 1024 → EReal} {wa wb : Fin 1024 → Fin 2816 → EReal} (hy : ∀ i, Real' (y i)) (hg : ∀ i, Real' (gf i))
    (ha : ∀ i j, Real' (wa i j)) : gated siluT y gf wa wb = gated silu y gf wa wb := by
  funext j
  have hr : ∀ i, Real' (rms cnt y gf i) := fun i => by
    unfold cnt; rw [cnt_eq]; exact real_rms (by norm_num) hy hg i
  unfold gated
  rw [siluT_eq (real_dot hr ha j)]

end Cert.Layer

end
-- ==== Proof.Reads.lean ====
/-
  The kernel's vector expressions read at an index, at any number of rows: the normalised block, a product into zeros,
  and one head's attention of a block of queries over the memory.
-/
module

public import proofs.«01_k».proof.Proof.Layer
public import Idealize.ShloMosaic.Lib.MatmulPlain
public import Idealize.ShloMosaic.Lib.Pipeline.Value

@[expose] public section

noncomputable section

open scoped BigOperators

namespace Cert.Reads

open Idealize.ShloMosaic Idealize.ShloMosaic.ValueIdx Cert.Layer

/-- A column of one entry per row, spread over the columns, reads the row's entry. -/
theorem spread_col {M N : ℕ} (x : FVec Ideal ⟨2, ![M, 1]⟩ .f32) (h : (⟨2, ![M, 1]⟩ : Shape).Broadcasts ⟨2, ![M, N]⟩)
    (r : Fin M) (k : Fin N) : broadcastTo ⟨2, ![M, N]⟩ x h (ix2 r k) = x (ix2 r 0) :=
  broadcastTo_apply x h (ix2 r k) (ix2 r 0) fun a => match a with
    | ⟨0, _⟩ => by
      show r.val = if M = 1 then 0 else r.val
      split
      · have := r.isLt; omega
      · rfl
    | ⟨1, _⟩ => by show 0 = if (1 : ℕ) = 1 then 0 else k.val; rw [if_pos rfl]

/-- A row, spread over the rows, reads the column's entry. -/
theorem spread_row {M N : ℕ} (g : FVec Ideal ⟨2, ![1, N]⟩ .f32) (h : (⟨2, ![1, N]⟩ : Shape).Broadcasts ⟨2, ![M, N]⟩)
    (r : Fin M) (k : Fin N) : broadcastTo ⟨2, ![M, N]⟩ g h (ix2 r k) = g (ix2 0 k) :=
  broadcastTo_apply g h (ix2 r k) (ix2 0 k) fun a => match a with
    | ⟨0, _⟩ => by show 0 = if (1 : ℕ) = 1 then 0 else r.val; rw [if_pos rfl]
    | ⟨1, _⟩ => by
      show k.val = if N = 1 then 0 else k.val
      split
      · have := k.isLt; omega
      · rfl

/-- A vector stood up as a column reads its entry. -/
theorem stand {M : ℕ} (x : FVec Ideal ⟨1, ![M]⟩ .f32) (h : (⟨1, ![M]⟩ : Shape).ShapeCasts ⟨2, ![M, 1]⟩) (r : Fin M) (z : Fin 1) :
    shapeCast ⟨2, ![M, 1]⟩ x h (ix2 r z) = x (ix1 r) :=
  shapeCast_apply x h (ix2 r z) (ix1 r) (by
    have hz : z = 0 := Subsingleton.elim _ _
    subst hz
    rw [Shape.rowMajor_val_one, Shape.rowMajor_val_two]
    show r.val = r.val * 1 + 0
    omega)

/-- A sum over the columns reads as the row's sum. -/
theorem sum_cols {M N : ℕ} (x : FVec Ideal ⟨2, ![M, N]⟩ .f32) (h : (⟨2, ![M, N]⟩ : Shape).Reduces [1] ⟨1, ![M]⟩)
    (hφ : FKind.Formats .f32) (ha : (0x00000000#32 : BitVec 32) = FKind.add.neutral .f32 hφ) (r : Fin M) :
    multiReduction .add [1] ⟨1, ![M]⟩ x 0x00000000#32 h hφ ha (ix1 r) = ∑ k : Fin N, x (ix2 r k) := by
  rw [Ideal.multiReduction_add_single]
  refine Finset.sum_congr rfl fun k _ => congrArg x (funext fun a => Fin.ext ?_)
  match a with
  | ⟨0, _⟩ => rfl
  | ⟨1, _⟩ => rfl

/-- The greatest over the columns reads as the row's greatest. -/
theorem top_cols {M N : ℕ} (x : FVec Ideal ⟨2, ![M, N]⟩ .f32) (h : (⟨2, ![M, N]⟩ : Shape).Reduces [1] ⟨1, ![M]⟩)
    (hφ : FKind.Formats .f32) (ha : (0xFF800000#32 : BitVec 32) = FKind.maximumf.neutral .f32 hφ) (r : Fin M) :
    multiReduction .maximumf [1] ⟨1, ![M]⟩ x 0xFF800000#32 h hφ ha (ix1 r) = top fun k : Fin N => x (ix2 r k) := by
  rw [Ideal.multiReduction_maximumf_single]
  unfold top
  refine congrArg (Finset.univ.fold max _) (funext fun k => congrArg x (funext fun a => Fin.ext ?_))
  match a with
  | ⟨0, _⟩ => rfl
  | ⟨1, _⟩ => rfl

/-- The normalised block at a row and column. -/
theorem rms_apply {M N : ℕ} (b : BitVec 32) (x : FVec Ideal ⟨2, ![M, N]⟩ .f32) (g : FVec Ideal ⟨2, ![1, N]⟩ .f32)
    (h : (⟨2, ![M, N]⟩ : Shape).Reduces [1] ⟨1, ![M]⟩)
    (hφ : FKind.Formats .f32) (ha : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨2, ![1, N]⟩ : Shape).Broadcasts ⟨2, ![M, N]⟩) (r : Fin M) (k : Fin N) :
    mulf (mulf x (broadcastTo ⟨2, ![M, N]⟩ (rsqrt (addf (divf
      (shapeCast ⟨2, ![M, 1]⟩ (multiReduction .add [1] ⟨1, ![M]⟩ (mulf x x) 0x00000000#32 h hφ ha) hc)
      (broadcast ⟨2, ![M, 1]⟩ (Scalar.ofBits (F := Ideal) .f32 b)))
      (broadcast ⟨2, ![M, 1]⟩ (Scalar.ofBits (F := Ideal) .f32 0x358637BD#32)))) hb))
      (broadcastTo ⟨2, ![M, N]⟩ g hg) (ix2 r k)
      = rms (Ideal.ofBits .f32 b) (fun j => x (ix2 r j)) (fun j => g (ix2 0 j)) k := by
  rw [mulf_apply, mulf_apply, spread_col, spread_row]
  show x (ix2 r k) * Ideal.rsqrt (Ideal.div (shapeCast ⟨2, ![M, 1]⟩ _ hc (ix2 r 0)) _ + _) * _ = _
  rw [stand, sum_cols]
  rfl

/-- A product into zeros at a row and column (`hD`: the dimension numbers are the plain ones). -/
theorem mm {M K N : ℕ} {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂) (r : Fin M) (c : Fin N) :
    matmul D prec lhs rhs (constant ⟨2, ![M, N]⟩ .f32 0x00000000#32) (ix2 r c)
      = dot (fun k => lhs (ix2 r k)) (fun k c => rhs (ix2 k c)) c := by
  subst hD
  refine (Ideal.matmul_plain_apply prec lhs rhs _ r c).trans ?_
  show Ideal.ofBits .f32 0x00000000#32 + _ = _
  rw [Ideal.ofBits_zero_f32, zero_add]
  rfl

/-- A product with the second factor's rows, into zeros. -/
theorem mmT {M K N : ℕ} {φ₁ φ₂ : FTy} (D : DotDims ⟨2, ![M, K]⟩ ⟨2, ![N, K]⟩ ⟨2, ![M, N]⟩) (hD : D = DotDims.transposedRhs M K N)
    (prec : Option ContractPrecision) (lhs : FVec Ideal ⟨2, ![M, K]⟩ φ₁) (rhs : FVec Ideal ⟨2, ![N, K]⟩ φ₂) (r : Fin M) (c : Fin N) :
    matmul D prec lhs rhs (constant ⟨2, ![M, N]⟩ .f32 0x00000000#32) (ix2 r c)
      = ∑ k, lhs (ix2 r k) * rhs (ix2 c k) := by
  subst hD
  refine (Ideal.matmul_transposedRhs_apply prec lhs rhs _ r c).trans ?_
  show Ideal.ofBits .f32 0x00000000#32 + _ = _
  rw [Ideal.ofBits_zero_f32, zero_add]

/-- The columns from `o` on, at a row and column. -/
theorem cols {M N K o : ℕ} {φ : FTy} (x : FVec Ideal ⟨2, ![M, N]⟩ φ) (h : (⟨2, ![M, N]⟩ : Shape).Slices ![0, o] ⟨2, ![M, K]⟩)
    (r : Fin M) (d : Fin K) (c : Fin N) (hc : c.val = o + d.val) :
    extractStridedSlice ⟨2, ![M, K]⟩ ![0, o] x h (ix2 r d) = x (ix2 r c) :=
  extractStridedSlice_apply ![0, o] x h (ix2 r d) (ix2 r c) fun a => match a with
    | ⟨0, _⟩ => (Nat.zero_add _).symm
    | ⟨1, _⟩ => hc

/-- Exponentials of a block of scores less their row's greatest. -/
abbrev expo {M N : ℕ} (s : FVec Ideal ⟨2, ![M, N]⟩ .f32) (h : (⟨2, ![M, N]⟩ : Shape).Reduces [1] ⟨1, ![M]⟩)
    (hφ : FKind.Formats .f32) (ha : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩) : FVec Ideal ⟨2, ![M, N]⟩ .f32 :=
  exp (subf s (broadcastTo ⟨2, ![M, N]⟩ (shapeCast ⟨2, ![M, 1]⟩
    (multiReduction .maximumf [1] ⟨1, ![M]⟩ s 0xFF800000#32 h hφ ha) hc) hb))

theorem expo_apply {M N : ℕ} (s : FVec Ideal ⟨2, ![M, N]⟩ .f32) (h : (⟨2, ![M, N]⟩ : Shape).Reduces [1] ⟨1, ![M]⟩)
    (hφ : FKind.Formats .f32) (ha : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩) (r : Fin M) (k : Fin N) :
    expo s h hφ ha hc hb (ix2 r k) = Ideal.exp (s (ix2 r k) - top fun j : Fin N => s (ix2 r j)) := by
  show Ideal.exp (s (ix2 r k) - broadcastTo _ _ hb (ix2 r k)) = _
  rw [spread_col, stand, top_cols]

/-- The softmax weights of a block of scores at a row and column. -/
theorem wt_apply {M N : ℕ} (s : FVec Ideal ⟨2, ![M, N]⟩ .f32) (h : (⟨2, ![M, N]⟩ : Shape).Reduces [1] ⟨1, ![M]⟩)
    (hφ : FKind.Formats .f32) (ha : (0xFF800000#32 : BitVec 32) = FKind.maximumf.neutral .f32 hφ)
    (ha' : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) (r : Fin M) (k : Fin N) :
    divf (expo s h hφ ha hc hb) (broadcastTo ⟨2, ![M, N]⟩ (shapeCast ⟨2, ![M, 1]⟩
      (multiReduction .add [1] ⟨1, ![M]⟩ (expo s h hφ ha hc hb) 0x00000000#32 h hφ ha') hc) hb) (ix2 r k)
      = wt (fun j : Fin N => s (ix2 r j)) k := by
  show Ideal.div (expo s h hφ ha hc hb (ix2 r k)) (broadcastTo _ _ hb (ix2 r k)) = _
  rw [spread_col, stand, sum_cols, expo_apply]
  unfold wt
  exact congrArg _ (Finset.sum_congr rfl fun j _ => expo_apply s h hφ ha hc hb r j)

end Cert.Reads

end
-- ==== Proof.Block.lean ====
/-
  What one run of the kernel's body computes, read at an index: every payload of the generated skeleton in the plain
  functions of Layer.lean, up to the stored block.
-/
module

public import proofs.«01_k».proof.Proof.Reads
public import proofs.«01_k».proof.Proof.Gen.KernelIdeal.Frame

@[expose] public section

noncomputable section

open scoped BigOperators

namespace Cert.Block

open Idealize.ShloMosaic Idealize.ShloMosaic.ValueIdx Cert.Layer Cert.Reads
open Cert.KernelIdeal Cert.KernelIdeal.Gen

/-- A block with one leading unit axis, that axis dropped. -/
theorem drop1 {M N : ℕ} {e : EltTy} (x : Vec Ideal ⟨3, ![1, M, N]⟩ e) (h : (⟨3, ![1, M, N]⟩ : Shape).ShapeCasts ⟨2, ![M, N]⟩)
    (r : Fin M) (c : Fin N) : shapeCast ⟨2, ![M, N]⟩ x h (ix2 r c) = x (ix3 0 r c) :=
  (shapeCast_dropUnit_apply ![M, N] x h (ix2 r c)).trans
    (congrArg x (funext fun a => by match a with | ⟨0, _⟩ => rfl | ⟨1, _⟩ => rfl | ⟨2, _⟩ => rfl))

theorem same {s : Shape} {α : Type} (x : s.Idx → α) (h : s.ShapeCasts s) : shapeCast s x h = x :=
  funext fun j => shapeCast_apply x h j j rfl

theorem pay2_apply (x0 : Vec Ideal S1x512x1024 .f32) (r : Fin 512) (j : Fin 1024) : k0_pay2 x0 (ix2 r j) = x0 (ix3 0 r j) :=
  drop1 x0 _ r j

/-- The normalised rows as the kernel computes them. -/
abbrev normed (z : FVec Ideal S512x1024 .f32) (g : FVec Ideal S1x1024 .f32) : FVec Ideal S512x1024 .bf16 :=
  truncf .bf16 (mulf (mulf z (broadcastTo S512x1024 (rsqrt (addf (divf
      (shapeCast S512x1
        (multiReduction .add [1] S512 (mulf z z) 0x00000000#32 reduces_S512x1024_S512 (.inl rfl) rfl) shapeCasts_S512_S512x1)
      (broadcast S512x1 (Scalar.ofBits (F := Ideal) .f32 0x44800000#32)))
      (broadcast S512x1 (Scalar.ofBits (F := Ideal) .f32 0x358637BD#32)))) broadcasts_S512x1_S512x1024))
      (broadcastTo S512x1024 g broadcasts_S1x1024_S512x1024)) bitsLt_bf16_f32

/-- The projected queries. -/
theorem pay3_apply (x0 : Vec Ideal S1x512x1024 .f32) (x1 : Vec Ideal S1x1024 .f32) (x2 : Vec Ideal S1024x512 .bf16) (r c : Fin 512) :
    k0_pay3 x0 x1 x2 (ix2 r c)
      = dot (rms cnt (fun j => x0 (ix3 0 r j)) (fun j => x1 (ix2 0 j))) (fun k c => x2 (ix2 k c)) c := by
  unfold k0_pay3
  rw [same, same]
  refine (mm (φ₂ := .bf16) (M := 512) (K := 1024) (N := 512) dot_S512x1024_S1024x512_S512x512_1_0_0_1_n_n rfl none (normed (k0_pay2 x0) x1) (x2 : FVec Ideal S1024x512 .bf16) r c).trans
    (congrArg (fun f => dot f (fun k c => x2 (ix2 k c)) c) (funext fun k => ?_))
  refine (rms_apply (M := 512) (N := 1024) _ _ _ _ _ _ _ _ _ r k).trans ?_
  simp only [pay2_apply]

theorem pay4_apply (x3 : Vec Ideal S1x256x512 .bf16) (r : Fin 256) (j : Fin 512) : k0_pay4 x3 (ix2 r j) = x3 (ix3 0 r j) :=
  drop1 x3 _ r j

theorem pay5_apply (x3 : Vec Ideal S1x256x512 .bf16) (r : Fin 256) (j : Fin 512) : k0_pay5 x3 (ix2 r j) = x3 (ix3 0 r j) :=
  drop1 x3 _ r j

/-- One head's scaled scores. -/
theorem scores_apply {o : ℕ} (h : Fin 4) (ho : o = h.val * 128) (q : FVec Ideal S512x512 .bf16) (k : FVec Ideal S256x512 .bf16)
    (hs : S512x512.Slices ![0, o] S512x128) (hs' : S256x512.Slices ![0, o] S256x128) (r : Fin 512) (m : Fin 256) :
    mulf (matmul dot_S512x128_S256x128_S512x256_1_1_0_0_n_n none (extractStridedSlice S512x128 ![0, o] q hs)
      (extractStridedSlice S256x128 ![0, o] k hs') (constant S512x256 .f32 0x00000000#32))
      (broadcast S512x256 (Scalar.ofBits (F := Ideal) .f32 0x3DB504F3#32)) (ix2 r m)
      = score (fun c => q (ix2 r c)) (fun m c => k (ix2 m c)) h m := by
  subst ho
  rw [mulf_apply]
  unfold score
  refine congrArg₂ (· * ·) ((mmT (M := 512) (K := 128) (N := 256) _ rfl none _ _ r m).trans (Finset.sum_congr rfl fun d _ => ?_)) rfl
  exact congrArg₂ (· * ·) (cols (M := 512) (N := 512) (K := 128) q hs r d (col h d) rfl)
    (cols (M := 256) (N := 512) (K := 128) k hs' m d (col h d) rfl)

/-- One head's context, whatever block of scores its weights come from. -/
theorem ctx_apply {o : ℕ} (h : Fin 4) (ho : o = h.val * 128) (q : FVec Ideal S512x512 .bf16) (k v : FVec Ideal S256x512 .bf16)
    (s : FVec Ideal S512x256 .f32) (hsc : ∀ r m, s (ix2 r m) = score (fun c => q (ix2 r c)) (fun m c => k (ix2 m c)) h m)
    (w : FVec Ideal S512x256 .bf16) (hw : ∀ r m, w (ix2 r m) = wt (fun j : Fin 256 => s (ix2 r j)) m)
    (hs : S256x512.Slices ![0, o] S256x128) (r : Fin 512) (d : Fin 128) (c : Fin 512) (hc : headOf c = h) (hd : within c = d) :
    matmul dot_S512x256_S256x128_S512x128_1_0_0_1_n_n none w (extractStridedSlice S256x128 ![0, o] v hs)
      (constant S512x128 .f32 0x00000000#32) (ix2 r d)
      = ctx (fun c => q (ix2 r c)) (fun m c => k (ix2 m c)) (fun m c => v (ix2 m c)) c := by
  subst ho hc hd
  refine (mm (M := 512) (K := 256) (N := 128) _ rfl none _ _ r (within c)).trans ?_
  unfold dot ctx
  refine Finset.sum_congr rfl fun m _ => congrArg₂ (· * ·) ?_ ?_
  · refine (hw r m).trans ?_
    exact congrArg (fun f => wt f m) (funext fun j => hsc r j)
  · exact cols (M := 256) (N := 512) (K := 128) v hs m (within c) c (congrArg Fin.val (col_headOf c)).symm

variable (x0 : Vec Ideal S1x512x1024 .f32) (x1 : Vec Ideal S1x1024 .f32) (x2 : Vec Ideal S1024x512 .bf16)
  (x3 x4 : Vec Ideal S1x256x512 .bf16) (x5 : Vec Ideal S512x1024 .bf16) (x6 : Vec Ideal S1x1024 .f32)
  (x7 x8 : Vec Ideal S1024x2816 .bf16) (x9 : Vec Ideal S2816x1024 .bf16) (x10 : Vec Ideal S1x1024 .f32)

/-- Four blocks of columns side by side, read at a column of the whole. -/
theorem cat4 (a b e f : FVec Ideal S512x128 .f32)
    (h : Shape.Concatenates ([(⟨S512x128, a⟩ : (s : Shape) × (s.Idx → EReal)), ⟨S512x128, b⟩, ⟨S512x128, e⟩, ⟨S512x128, f⟩].map (·.1)) S512x512 1)
    (r c : Fin 512) (z : EReal) (ha : headOf c = 0 → a (ix2 r (within c)) = z) (hb : headOf c = 1 → b (ix2 r (within c)) = z)
    (he : headOf c = 2 → e (ix2 r (within c)) = z) (hf : headOf c = 3 → f (ix2 r (within c)) = z) :
    concatenate S512x512 1 [(⟨S512x128, a⟩ : (s : Shape) × (s.Idx → EReal)), ⟨S512x128, b⟩, ⟨S512x128, e⟩, ⟨S512x128, f⟩] h (ix2 r c) = z := by
  have key := concatenate_ofFn_apply (t := S512x512) (s₁ := S512x128) 1 (![a, b, e, f] : Fin 4 → S512x128.Idx → EReal) h rfl 128 rfl (ix2 r c)
    (headOf c) rfl (ix2 r (within c)) rfl (fun b hb => by
        match b with
        | ⟨0, _⟩ => rfl
        | ⟨1, _⟩ => exact absurd rfl hb)
  refine Eq.trans ?_ (key.trans ?_)
  · rfl
  · have h4 : ∀ i : Fin 4, i = 0 ∨ i = 1 ∨ i = 2 ∨ i = 3 := by decide
    rcases h4 (headOf c) with e0 | e0 | e0 | e0 <;> rw [e0]
    · exact ha e0
    · exact hb e0
    · exact he e0
    · exact hf e0

section Heads
variable (q : FVec Ideal S512x512 .bf16) (k v : FVec Ideal S256x512 .bf16)

theorem head0 (r : Fin 512) (c : Fin 512) (hc : headOf c = 0) :
    k0_pay8 (k0_pay5 x4) (k0_pay6 x0 x1 x2 x3) (k0_pay7 x0 x1 x2 x3) (ix2 r (within c))
      = ctx (fun c => k0_pay3 x0 x1 x2 (ix2 r c)) (fun m c => k0_pay4 x3 (ix2 m c)) (fun m c => k0_pay5 x4 (ix2 m c)) c := by
  unfold k0_pay8 k0_pay7 k0_pay6
  exact ctx_apply (o := 0) 0 rfl (k0_pay3 x0 x1 x2) (k0_pay4 x3) (k0_pay5 x4) _
    (fun r m => scores_apply (o := 0) 0 rfl _ _ _ _ r m) _ (fun r m => wt_apply (M := 512) (N := 256) _ _ _ _ _ _ _ r m) _ r _ c hc rfl

theorem head1 (r : Fin 512) (c : Fin 512) (hc : headOf c = 1) :
    k0_pay9 q k v (ix2 r (within c)) = ctx (fun c => q (ix2 r c)) (fun m c => k (ix2 m c)) (fun m c => v (ix2 m c)) c := by
  unfold k0_pay9
  exact ctx_apply (o := 128) 1 rfl q k v _
    (fun r m => scores_apply (o := 128) 1 rfl _ _ _ _ r m) _ (fun r m => wt_apply (M := 512) (N := 256) _ _ _ _ _ _ _ r m) _ r _ c hc rfl

theorem head2 (r : Fin 512) (c : Fin 512) (hc : headOf c = 2) :
    k0_pay10 q k v (ix2 r (within c)) = ctx (fun c => q (ix2 r c)) (fun m c => k (ix2 m c)) (fun m c => v (ix2 m c)) c := by
  unfold k0_pay10
  exact ctx_apply (o := 256) 2 rfl q k v _
    (fun r m => scores_apply (o := 256) 2 rfl _ _ _ _ r m) _ (fun r m => wt_apply (M := 512) (N := 256) _ _ _ _ _ _ _ r m) _ r _ c hc rfl

/-- The residual row after the attention. -/
theorem pay13_apply (y : FVec Ideal S512x1024 .f32) (a b e : FVec Ideal S512x128 .f32) (wo : Vec Ideal S512x1024 .bf16)
    (ha : ∀ r c, headOf c = 0 → a (ix2 r (within c)) = ctx (fun c => q (ix2 r c)) (fun m c => k (ix2 m c)) (fun m c => v (ix2 m c)) c)
    (hb : ∀ r c, headOf c = 1 → b (ix2 r (within c)) = ctx (fun c => q (ix2 r c)) (fun m c => k (ix2 m c)) (fun m c => v (ix2 m c)) c)
    (he : ∀ r c, headOf c = 2 → e (ix2 r (within c)) = ctx (fun c => q (ix2 r c)) (fun m c => k (ix2 m c)) (fun m c => v (ix2 m c)) c)
    (r : Fin 512) (n : Fin 1024) :
    k0_pay13 y v a b e (k0_pay11 q k) (k0_pay12 q k) wo (ix2 r n)
      = y (ix2 r n) + dot (ctx (fun c => q (ix2 r c)) (fun m c => k (ix2 m c)) (fun m c => v (ix2 m c))) (fun c n => wo (ix2 c n)) n := by
  unfold k0_pay13 k0_pay12
  rw [same]
  refine congrArg (y (ix2 r n) + ·) ((mm (M := 512) (K := 512) (N := 1024) _ rfl none _ _ r n).trans
    (congrArg (fun f => dot f _ n) (funext fun c => ?_)))
  refine cat4 a b e _ concatenates_S512x128_S512x128_S512x128_S512x128_S512x512_d1 r c _ (ha r c) (hb r c) (he r c) fun hc => ?_
  exact ctx_apply (o := 384) 3 rfl q k v _ (fun r m => scores_apply (o := 384) 3 rfl _ _ _ _ r m) _
    (fun r m => wt_apply (M := 512) (N := 256) (k0_pay11 q k) _ _ _ _ _ _ r m) _ r _ c hc rfl
end Heads

/-- The gated hidden block. -/
theorem pay14_apply (y : FVec Ideal S512x1024 .f32) (v : FVec Ideal S256x512 .bf16) (a b e : FVec Ideal S512x128 .f32)
    (s : FVec Ideal S512x256 .f32) (t : FVec Ideal S512x1 .f32) (wo : Vec Ideal S512x1024 .bf16) (r : Fin 512) (j : Fin 2816) :
    k0_pay14 y v a b e s t wo x6 x7 x8 (ix2 r j)
      = gated siluT (fun n => k0_pay13 y v a b e s t wo (ix2 r n)) (fun n => x6 (ix2 0 n)) (fun k c => x7 (ix2 k c)) (fun k c => x8 (ix2 k c)) j := by
  unfold k0_pay14
  rw [same, same, same]
  have h1 := fun w : FVec Ideal S1024x2816 .bf16 => (mm (M := 512) (K := 1024) (N := 2816) dot_S512x1024_S1024x2816_S512x2816_1_0_0_1_n_n rfl none
    (normed (k0_pay13 y v a b e s t wo) x6) w r j).trans (congrArg (fun f => dot f (fun k c => w (ix2 k c)) j) (funext fun k =>
      rms_apply (M := 512) (N := 1024) _ (k0_pay13 y v a b e s t wo) x6 _ _ _ _ _ _ r k))
  exact congrArg₂ (fun a b => siluT a * b) (h1 x7) (h1 x8)

/-- The stored block: the row after the feed-forward and the final normalisation. -/
theorem pay1_apply (y : FVec Ideal S512x1024 .f32) (u : FVec Ideal S512x2816 .f32) (r : Fin 512) (n : Fin 1024) :
    k0_pay1 y u x9 x10 (ix3 0 r n)
      = rms cnt (fun n => y (ix2 r n) + dot (fun j => u (ix2 r j)) (fun j n => x9 (ix2 j n)) n) (fun n => x10 (ix2 0 n)) n := by
  unfold k0_pay1
  rw [same, same]
  refine (shapeCast_addUnit_apply ![512, 1024] _ shapeCasts_S512x1024_S1x512x1024 (ix3 0 r n)).trans ?_
  refine Eq.trans (congrArg _ (eq_ix2 _)) ?_
  refine (rms_apply (M := 512) (N := 1024) _ _ _ _ _ _ _ _ _ r n).trans ?_
  refine congrArg (fun f => rms cnt f _ n) (funext fun c => ?_)
  exact congrArg (y (ix2 r c) + ·) (mm (M := 512) (K := 2816) (N := 1024) _ rfl none _ _ r c)

/-- The whole body: the stored block at a row and column, from the blocks it reads. -/
theorem out_apply (r : Fin 512) (n : Fin 1024) :
    out0_11 x0 x1 x2 x3 x4 x5 x6 x7 x8 x9 x10 (ix3 0 r n)
      = last siluT (mid (fun j => x0 (ix3 0 r j)) (fun j => x1 (ix2 0 j)) (fun k c => x2 (ix2 k c)) (fun m c => x3 (ix3 0 m c))
          (fun m c => x4 (ix3 0 m c)) (fun c n => x5 (ix2 c n))) (fun j => x6 (ix2 0 j)) (fun k c => x7 (ix2 k c)) (fun k c => x8 (ix2 k c))
          (fun j n => x9 (ix2 j n)) (fun n => x10 (ix2 0 n)) n := by
  have z2 : (![0, 0] : Fin 2 → Nat) = fun _ => 0 := funext fun a => by fin_cases a <;> rfl
  have z3 : (![0, 0, 0] : Fin 3 → Nat) = fun _ => 0 := funext fun a => by fin_cases a <;> rfl
  unfold_out out0_11
  rw [View.canon_unit_zero z3]
  rw [View.ld_unit_zero z3 (X := x0), View.ld_unit_zero z2 (X := x1), View.ld_unit_zero z2 (X := x2), View.ld_unit_zero z3 (X := x3),
    View.ld_unit_zero z3 (X := x4), View.ld_unit_zero z2 (X := x5), View.ld_unit_zero z2 (X := x6), View.ld_unit_zero z2 (X := x7),
    View.ld_unit_zero z2 (X := x8), View.ld_unit_zero z2 (X := x9), View.ld_unit_zero z2 (X := x10)]
  rw [pay1_apply]
  unfold last
  refine congrArg (fun f => rms cnt f _ n) (funext fun n => ?_)
  have hm : ∀ n, k0_pay13 (k0_pay2 x0) (k0_pay5 x4) (k0_pay8 (k0_pay5 x4) (k0_pay6 x0 x1 x2 x3) (k0_pay7 x0 x1 x2 x3))
      (k0_pay9 (k0_pay3 x0 x1 x2) (k0_pay4 x3) (k0_pay5 x4)) (k0_pay10 (k0_pay3 x0 x1 x2) (k0_pay4 x3) (k0_pay5 x4))
      (k0_pay11 (k0_pay3 x0 x1 x2) (k0_pay4 x3)) (k0_pay12 (k0_pay3 x0 x1 x2) (k0_pay4 x3)) x5 (ix2 r n)
      = mid (fun j => x0 (ix3 0 r j)) (fun j => x1 (ix2 0 j)) (fun k c => x2 (ix2 k c)) (fun m c => x3 (ix3 0 m c))
          (fun m c => x4 (ix3 0 m c)) (fun c n => x5 (ix2 c n)) n := fun n => by
    rw [pay13_apply (k0_pay3 x0 x1 x2) (k0_pay4 x3) (k0_pay5 x4) _ _ _ _ _ (fun r c hc => head0 x0 x1 x2 x3 x4 r c hc)
      (fun r c hc => head1 _ _ _ r c hc) (fun r c hc => head2 _ _ _ r c hc) r n]
    simp only [pay2_apply, pay3_apply, pay4_apply, pay5_apply]
    rfl
  rw [hm n]
  refine congrArg₂ (· + ·) rfl (congrArg (fun f => dot f (fun j n => x9 (ix2 j n)) n) (funext fun j => ?_))
  rw [pay14_apply]
  exact congrArg (fun f => gated siluT f _ _ _ j) (funext hm)

end Cert.Block

end
-- ==== Proof.Array.lean ====
/-
  The idealized kernel's result array after the run: at batch `b`, position `s` and column `n` the layer's row function of
  the argument arrays. The host's casts, slices and reshapes before the region are read at an index; each grid point's
  input blocks are then rows of the arguments, and the grid's blocks tile the result.
-/
module

public import proofs.«01_k».proof.Proof.Block
public import proofs.«01_k».proof.Proof.Gen.KernelIdeal.Value
public import Idealize.ShloMosaic.Lib.Pipeline.ValueKit.Geometry
public import Idealize.ShloMosaic.Lib.Pipeline.ValueKit.Acc

@[expose] public section

noncomputable section

namespace Cert.Array

open Idealize.ShloMosaic Idealize.ShloMosaic.ValueIdx Idealize.ShloMosaic.TcCoe Idealize.SL.Sem Cert.Layer Cert.Reads Cert.Block
open Cert.KernelIdeal Cert.KernelIdeal.Gen

variable (m : (ℓ : Loc nD τ sig) → Buf (Elt Ideal) ℓ) (ρ : Dev nD → PrngReg) (c : Dev nD)

/-! ## The arguments -/

abbrev aX : Vec Ideal S4x4096x1024 .f32 := m ((c : Thread nD τ).loc main_arg0)
abbrev aGx : Vec Ideal S1024 .f32 := m ((c : Thread nD τ).loc main_arg1)
abbrev aWq : Vec Ideal S1024x512 .f32 := m ((c : Thread nD τ).loc main_arg2)
abbrev aK : Vec Ideal S4x256x512 .bf16 := m ((c : Thread nD τ).loc main_arg3)
abbrev aV : Vec Ideal S4x256x512 .bf16 := m ((c : Thread nD τ).loc main_arg4)
abbrev aWo : Vec Ideal S512x1024 .f32 := m ((c : Thread nD τ).loc main_arg5)
abbrev aGf : Vec Ideal S1024 .f32 := m ((c : Thread nD τ).loc main_arg6)
abbrev aWi : Vec Ideal S1024x5632 .f32 := m ((c : Thread nD τ).loc main_arg7)
abbrev aWu : Vec Ideal S2816x1024 .f32 := m ((c : Thread nD τ).loc main_arg8)
abbrev aG : Vec Ideal S1024 .f32 := m ((c : Thread nD τ).loc main_arg9)

/-- The row after the attention at batch `b`, position `s`, from the arguments. -/
def midAt (x : Vec Ideal S4x4096x1024 .f32) (gx : Vec Ideal S1024 .f32) (wq : Vec Ideal S1024x512 .f32) (k v : Vec Ideal S4x256x512 .bf16)
    (wo : Vec Ideal S512x1024 .f32) (b : Fin 4) (s : Fin 4096) : Fin 1024 → EReal :=
  mid (fun j => x (ix3 b s j)) (fun j => gx (ix1 j)) (fun k c => wq (ix2 k c)) (fun m c => k (ix3 b m c)) (fun m c => v (ix3 b m c))
    (fun c n => wo (ix2 c n))

/-- The layer's result at an index, for a given spelling of the activation. -/
def result (act : EReal → EReal) (x : Vec Ideal S4x4096x1024 .f32) (gx : Vec Ideal S1024 .f32) (wq : Vec Ideal S1024x512 .f32)
    (k v : Vec Ideal S4x256x512 .bf16) (wo : Vec Ideal S512x1024 .f32) (gf : Vec Ideal S1024 .f32) (wi : Vec Ideal S1024x5632 .f32)
    (wu : Vec Ideal S2816x1024 .f32) (g : Vec Ideal S1024 .f32) : Vec Ideal S4x4096x1024 .f32 := fun i =>
  last act (midAt x gx wq k v wo (i 0) (i 1)) (fun j => gf (ix1 j)) (fun k (c : Fin 2816) => wi (ix2 k ⟨c.val, by omega⟩))
    (fun k (c : Fin 2816) => wi (ix2 k ⟨2816 + c.val, by omega⟩)) (fun j n => wu (ix2 j n)) (fun n => g (ix1 n)) (i 2)

/-! ## What the host operations leave in the windows' arrays -/

theorem V_v0 : V m c main_v0 = aWq m c := by
  show StableHlo.after hostOps0 _ (Proc.devRef .tc main_v0) = _
  after_results
  rfl

theorem V_v1 : V m c main_v1 = aWo m c := by
  show StableHlo.after hostOps0 _ (Proc.devRef .tc main_v1) = _
  after_results
  rfl

theorem V_v3 (k : Fin 1024) (j : Fin 2816) : V m c main_v3 (ix2 k j) = aWi m c (ix2 k ⟨j.val, by omega⟩) := by
  have h : V m c main_v3 = extractStridedSlice S1024x2816 ![0, 0] (aWi m c) slices_S1024x5632_S1024x2816_0_0 := by
    show StableHlo.after hostOps0 _ (Proc.devRef .tc main_v3) = _
    after_results
    rfl
  rw [h]
  exact congrArg (aWi m c) (funext fun a => Fin.ext (by match a with | ⟨0, _⟩ => exact Nat.zero_add _ | ⟨1, _⟩ => exact Nat.zero_add _))

theorem V_v5 (k : Fin 1024) (j : Fin 2816) : V m c main_v5 (ix2 k j) = aWi m c (ix2 k ⟨2816 + j.val, by omega⟩) := by
  have h : V m c main_v5 = extractStridedSlice S1024x2816 ![0, 2816] (aWi m c) slices_S1024x5632_S1024x2816_0_2816 := by
    show StableHlo.after hostOps0 _ (Proc.devRef .tc main_v5) = _
    after_results
    rfl
  rw [h]
  exact congrArg (aWi m c) (funext fun a => Fin.ext (by match a with | ⟨0, _⟩ => exact Nat.zero_add _ | ⟨1, _⟩ => rfl))

theorem V_v6 : V m c main_v6 = aWu m c := by
  show StableHlo.after hostOps0 _ (Proc.devRef .tc main_v6) = _
  after_results
  rfl

/-- A vector viewed as one row. -/
theorem as_row (x : Vec Ideal S1024 .f32) (h : S1024.ShapeCasts S1x1024) (j : Fin 1024) : shapeCast S1x1024 x h (ix2 0 j) = x (ix1 j) :=
  shapeCast_apply x h _ (ix1 j) (by rw [Shape.rowMajor_val_one, Shape.rowMajor_val_two]; show j.val = 0 * 1024 + j.val; omega)

theorem V_v7 (j : Fin 1024) : V m c main_v7 (ix2 0 j) = aGx m c (ix1 j) := by
  have h : V m c main_v7 = shapeCast S1x1024 (aGx m c) shapeCasts_S1024_S1x1024 := by
    show StableHlo.after hostOps0 _ (Proc.devRef .tc main_v7) = _
    after_results
    rfl
  rw [h]; exact as_row _ _ j

theorem V_v8 (j : Fin 1024) : V m c main_v8 (ix2 0 j) = aGf m c (ix1 j) := by
  have h : V m c main_v8 = shapeCast S1x1024 (aGf m c) shapeCasts_S1024_S1x1024 := by
    show StableHlo.after hostOps0 _ (Proc.devRef .tc main_v8) = _
    after_results
    rfl
  rw [h]; exact as_row _ _ j

theorem V_v9 (j : Fin 1024) : V m c main_v9 (ix2 0 j) = aG m c (ix1 j) := by
  have h : V m c main_v9 = shapeCast S1x1024 (aG m c) shapeCasts_S1024_S1x1024 := by
    show StableHlo.after hostOps0 _ (Proc.devRef .tc main_v9) = _
    after_results
    rfl
  rw [h]; exact as_row _ _ j

/-! ## The blocks at a grid point -/

/-- Where each window's block sits at point `t`: batch `t / 8`, row block `t % 8`; the weights whole. -/
theorem idx : ∀ t : Fin cfg0.N, win0_0.index t = ![t.val / 8, t.val % 8, 0] ∧ win0_1.index t = ![0, 0] ∧ win0_2.index t = ![0, 0]
    ∧ win0_3.index t = ![t.val / 8, 0, 0] ∧ win0_4.index t = ![t.val / 8, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val / 8, t.val % 8, 0] :=
  (by decide +kernel : ∀ t : Fin grid0.N, _)

/-- The batch of point `t`. -/
def bat (t : Fin cfg0.N) : Fin 4 := ⟨t.val / 8, by have h := t.isLt; have : cfg0.N = 32 := N_0; omega⟩

/-- The position of row `r` of point `t`'s block. -/
def pos (t : Fin cfg0.N) (r : Fin 512) : Fin 4096 := ⟨t.val % 8 * 512 + r.val, by have := r.isLt; omega⟩

theorem b0 (t : Fin cfg0.N) (r : Fin 512) (j : Fin 1024) : iblk m c 0 t (ix3 0 r j) = aX m c (ix3 (bat t) (pos t r) j) := by
  refine Eq.trans (congrArg (V m c main_arg0) (a₂ := ix3 (bat t) (pos t r) j) ?_) (congrFun (V_main_arg0 m c) _)
  blk_ext [idx t, bat, pos]

theorem b1 (t : Fin cfg0.N) (j : Fin 1024) : iblk m c 1 t (ix2 0 j) = aGx m c (ix1 j) := by
  refine Eq.trans (congrArg (V m c main_v7) (a₂ := ix2 0 j) ?_) (V_v7 m c j)
  blk_ext [idx t]

theorem b2 (t : Fin cfg0.N) (k : Fin 1024) (j : Fin 512) : iblk m c 2 t (ix2 k j) = aWq m c (ix2 k j) := by
  refine Eq.trans (congrArg (V m c main_v0) (a₂ := ix2 k j) ?_) (congrFun (V_v0 m c) _)
  blk_ext [idx t]

theorem b3 (t : Fin cfg0.N) (k : Fin 256) (j : Fin 512) : iblk m c 3 t (ix3 0 k j) = aK m c (ix3 (bat t) k j) := by
  refine Eq.trans (congrArg (V m c main_arg3) (a₂ := ix3 (bat t) k j) ?_) (congrFun (V_main_arg3 m c) _)
  blk_ext [idx t, bat]

theorem b4 (t : Fin cfg0.N) (k : Fin 256) (j : Fin 512) : iblk m c 4 t (ix3 0 k j) = aV m c (ix3 (bat t) k j) := by
  refine Eq.trans (congrArg (V m c main_arg4) (a₂ := ix3 (bat t) k j) ?_) (congrFun (V_main_arg4 m c) _)
  blk_ext [idx t, bat]

theorem b5 (t : Fin cfg0.N) (k : Fin 512) (j : Fin 1024) : iblk m c 5 t (ix2 k j) = aWo m c (ix2 k j) := by
  refine Eq.trans (congrArg (V m c main_v1) (a₂ := ix2 k j) ?_) (congrFun (V_v1 m c) _)
  blk_ext [idx t]

theorem b6 (t : Fin cfg0.N) (j : Fin 1024) : iblk m c 6 t (ix2 0 j) = aGf m c (ix1 j) := by
  refine Eq.trans (congrArg (V m c main_v8) (a₂ := ix2 0 j) ?_) (V_v8 m c j)
  blk_ext [idx t]

theorem b7 (t : Fin cfg0.N) (k : Fin 1024) (j : Fin 2816) : iblk m c 7 t (ix2 k j) = aWi m c (ix2 k ⟨j.val, by omega⟩) := by
  refine Eq.trans (congrArg (V m c main_v3) (a₂ := ix2 k j) ?_) (V_v3 m c k j)
  blk_ext [idx t]

theorem b8 (t : Fin cfg0.N) (k : Fin 1024) (j : Fin 2816) : iblk m c 8 t (ix2 k j) = aWi m c (ix2 k ⟨2816 + j.val, by omega⟩) := by
  refine Eq.trans (congrArg (V m c main_v5) (a₂ := ix2 k j) ?_) (V_v5 m c k j)
  blk_ext [idx t]

theorem b9 (t : Fin cfg0.N) (k : Fin 2816) (j : Fin 1024) : iblk m c 9 t (ix2 k j) = aWu m c (ix2 k j) := by
  refine Eq.trans (congrArg (V m c main_v6) (a₂ := ix2 k j) ?_) (congrFun (V_v6 m c) _)
  blk_ext [idx t]

theorem b10 (t : Fin cfg0.N) (j : Fin 1024) : iblk m c 10 t (ix2 0 j) = aG m c (ix1 j) := by
  refine Eq.trans (congrArg (V m c main_v9) (a₂ := ix2 0 j) ?_) (V_v9 m c j)
  blk_ext [idx t]

/-! ## The result array -/

/-- The whole result array, as a function of the arguments. -/
abbrev G : Vec Ideal S4x4096x1024 .f32 :=
  result siluT (aX m c) (aGx m c) (aWq m c) (aK m c) (aV m c) (aWo m c) (aGf m c) (aWi m c) (aWu m c) (aG m c)

/-- What point `t` stores, at a row and a column. -/
theorem point (t : Fin cfg0.N) (r : Fin 512) (n : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 0 r n) = G m c (ix3 (bat t) (pos t r) n) := by
  refine (out_apply _ _ _ _ _ _ _ _ _ _ _ r n).trans ?_
  simp only [b0, b1, b2, b3, b4, b5, b6, b7, b8, b9, b10]
  rfl

theorem final : (dats m 0 c).arrAt 11 cfg0.N = G m c := by
  refine (dats m 0 c).arrAt_eq_of_covers 11 (G m c) (by decide +kernel) fun t hf y => ?_
  blk_simp
  rw [after0_11]
  have hy : y = ix3 0 (y 1) (y 2) := by blk_ext
  refine (congrArg _ hy).trans ((point m c t (y 1) (y 2)).trans (congrArg (G m c) ?_))
  blk_ext [idx t, bat, pos]

end Cert.Array
-- ==== Proof.Expected.lean ====
/-
  The reference program's result at an index, operation by operation, in the plain functions of Layer.lean: at batch `b`,
  position `s` and column `n` it is the layer's row function of the same arguments.
-/
module

public import proofs.«01_k».proof.Proof.Array
public import proofs.«01_k».proof.Proof.Gen.ReferenceIdeal.Read
public import Idealize.ShloMosaic.Lib.KernelVsHost

@[expose] public section

noncomputable section

open scoped BigOperators

namespace Cert.Expected

open Idealize.ShloMosaic Idealize.ShloMosaic.ValueIdx Cert.Layer Cert.Reads
open Cert.ReferenceIdeal Cert.ReferenceIdeal.Gen Cert.ReferenceIdeal.Read

variable (x0 : (⟨S4x4096x1024, .f32⟩ : BufTy).Contents (Elt Ideal)) (x1 : (⟨S1024, .f32⟩ : BufTy).Contents (Elt Ideal))
  (x2 : (⟨S1024x512, .f32⟩ : BufTy).Contents (Elt Ideal)) (x3 x4 : (⟨S4x256x512, .bf16⟩ : BufTy).Contents (Elt Ideal))
  (x5 : (⟨S512x1024, .f32⟩ : BufTy).Contents (Elt Ideal)) (x6 : (⟨S1024, .f32⟩ : BufTy).Contents (Elt Ideal))
  (x7 : (⟨S1024x5632, .f32⟩ : BufTy).Contents (Elt Ideal)) (x8 : (⟨S2816x1024, .f32⟩ : BufTy).Contents (Elt Ideal))
  (x9 : (⟨S1024, .f32⟩ : BufTy).Contents (Elt Ideal))

/-- The query row before its projection. -/
theorem v12_at (b : Fin 4) (s : Fin 4096) (k : Fin 1024) :
    val_main_v12 (F := Ideal) x0 x1 (ix3 b s k) = rms cnt (fun j => x0 (ix3 b s j)) (fun j => x1 (ix1 j)) k := by
  have e : ∀ j, idx_main_v1 (idx_main_v2 (idx_main_v8 (ix3 b s k))) j = ix3 b s j := fun j => funext fun a => by
    match a with | ⟨0, _⟩ => rfl | ⟨1, _⟩ => rfl | ⟨2, _⟩ => rfl
  have e' : idx_main_v10 (idx_main_v11 (ix3 b s k)) = ix1 k := funext fun a => by match a with | ⟨0, _⟩ => rfl
  refine Eq.trans (b := x0 (ix3 b s k) * Ideal.rsqrt (Ideal.div (Ideal.ofBits .f32 0x00000000#32 + ∑ j, x0 (ix3 b s j) * x0 (ix3 b s j)) cnt
    + Ideal.ofBits .f32 0x358637BD#32) * x1 (ix1 k)) ?_ ?_
  · simp only [val_main_v12_apply, val_main_v9_apply, val_main_v8_apply, val_main_v7_apply, val_main_v6_apply, val_main_v4_apply, val_main_v2_apply,
      val_main_v1_apply, val_main_v0_apply, val_main_v3_apply, val_main_v5_apply, val_main_v10_apply, val_main_v11_apply, e, e']
    rfl
  · rw [Ideal.ofBits_zero_f32, zero_add]; rfl

/-- The projected queries. -/
theorem v13_at (b : Fin 4) (s : Fin 4096) (c : Fin 512) :
    val_main_v13 (F := Ideal) x0 x1 x2 (ix3 b s c)
      = dot (rms cnt (fun j => x0 (ix3 b s j)) (fun j => x1 (ix1 j))) (fun k c => x2 (ix2 k c)) c := by
  rw [val_main_v13_apply]
  refine Finset.sum_congr rfl fun k _ => ?_
  have e : lidx_main_v13 (ix3 b s c) k = ix3 b s k := funext fun a => by
    match a with | ⟨0, _⟩ => rfl | ⟨1, _⟩ => rfl | ⟨2, _⟩ => rfl
  have e' : ridx_main_v13 (ix3 b s c) k = ix2 k c := funext fun a => by
    match a with | ⟨0, _⟩ => rfl | ⟨1, _⟩ => rfl
  rw [e, e', v12_at]

theorem v14_at (b : Fin 4) (s : Fin 4096) (h : Fin 4) (d : Fin 128) :
    val_main_v14 (F := Ideal) x0 x1 x2 (ix4 b s h d) = val_main_v13 (F := Ideal) x0 x1 x2 (ix3 b s (col h d)) := by
  rw [val_main_v14_apply]
  refine congrArg _ (funext fun a => Fin.ext ?_)
  have hb := b.isLt; have hs := s.isLt; have hh := h.isLt; have hd := d.isLt
  match a with
  | ⟨0, _⟩ => show (((b.val * 4096 + s.val) * 4 + h.val) * 128 + d.val) / 2097152 = b.val; omega
  | ⟨1, _⟩ => show (((b.val * 4096 + s.val) * 4 + h.val) * 128 + d.val) / 512 % 4096 = s.val; omega
  | ⟨2, _⟩ => show (((b.val * 4096 + s.val) * 4 + h.val) * 128 + d.val) % 512 = h.val * 128 + d.val; omega

theorem v16_at (b : Fin 4) (m : Fin 256) (h : Fin 4) (d : Fin 128) :
    val_main_v16 (F := Ideal) x3 (ix4 b m h d) = x3 (ix3 b m (col h d)) := by
  rw [val_main_v16_apply]
  refine Eq.trans ?_ (rfl : val_main_v15 (F := Ideal) x3 (ix3 b m (col h d)) = _)
  refine congrArg _ (funext fun a => Fin.ext ?_)
  have hb := b.isLt; have hs := m.isLt; have hh := h.isLt; have hd := d.isLt
  match a with
  | ⟨0, _⟩ => show (((b.val * 256 + m.val) * 4 + h.val) * 128 + d.val) / 131072 = b.val; omega
  | ⟨1, _⟩ => show (((b.val * 256 + m.val) * 4 + h.val) * 128 + d.val) / 512 % 256 = m.val; omega
  | ⟨2, _⟩ => show (((b.val * 256 + m.val) * 4 + h.val) * 128 + d.val) % 512 = h.val * 128 + d.val; omega

theorem v18_at (b : Fin 4) (m : Fin 256) (h : Fin 4) (d : Fin 128) :
    val_main_v18 (F := Ideal) x4 (ix4 b m h d) = x4 (ix3 b m (col h d)) := v16_at x4 b m h d

/-- The scaled scores of one query row of one head. -/
abbrev sc (b : Fin 4) (s : Fin 4096) (h : Fin 4) : Fin 256 → EReal :=
  score (dot (rms cnt (fun j => x0 (ix3 b s j)) (fun j => x1 (ix1 j))) (fun k c => x2 (ix2 k c))) (fun m c => x3 (ix3 b m c)) h

theorem v21_at (b : Fin 4) (h : Fin 4) (s : Fin 4096) (m : Fin 256) :
    val_main_v21 (F := Ideal) x0 x1 x2 x3 (ix4 b h s m) = sc x0 x1 x2 x3 b s h m := by
  rw [val_main_v21_apply, val_main_v19_apply, val_main_v20_apply]
  refine congrArg (· * Ideal.ofBits .f32 0x3DB504F3#32) (Finset.sum_congr rfl fun d _ => ?_)
  have e : lidx_main_v19 (ix4 b h s m) d = ix4 b s h d := funext fun a => by
    match a with | ⟨0, _⟩ => rfl | ⟨1, _⟩ => rfl | ⟨2, _⟩ => rfl | ⟨3, _⟩ => rfl
  have e' : ridx_main_v19 (ix4 b h s m) d = ix4 b m h d := funext fun a => by
    match a with | ⟨0, _⟩ => rfl | ⟨1, _⟩ => rfl | ⟨2, _⟩ => rfl | ⟨3, _⟩ => rfl
  rw [e, e', v14_at, v13_at, v16_at]

/-- The largest entry along the last of four axes. -/
theorem top_last {A B C N : ℕ} (x : FVec Ideal ⟨4, ![A, B, C, N]⟩ .f32)
    (h : (⟨4, ![A, B, C, N]⟩ : Shape).Reduces [3] ⟨3, ![A, B, C]⟩) (hφ : FKind.Formats .f32)
    (ha : (0xFF800000#32 : BitVec 32) = FKind.maximumf.neutral .f32 hφ) (i : Fin A) (j : Fin B) (l : Fin C) :
    multiReduction .maximumf [3] ⟨3, ![A, B, C]⟩ x 0xFF800000#32 h hφ ha (ix3 i j l) = top fun k : Fin N => x (ix4 i j l k) := by
  rw [Ideal.multiReduction_maximumf_single]
  unfold top
  refine congrArg (Finset.univ.fold max _) (funext fun k => congrArg x (funext fun a => Fin.ext ?_))
  match a with
  | ⟨0, _⟩ => rfl
  | ⟨1, _⟩ => rfl
  | ⟨2, _⟩ => rfl
  | ⟨3, _⟩ => rfl

theorem v22_at (b : Fin 4) (h : Fin 4) (s : Fin 4096) :
    val_main_v22 (F := Ideal) x0 x1 x2 x3 (ix3 b h s) = top (sc x0 x1 x2 x3 b s h) := by
  have hv : (fun m => val_main_v21 (F := Ideal) x0 x1 x2 x3 (ix4 b h s m)) = sc x0 x1 x2 x3 b s h :=
    funext fun m => v21_at x0 x1 x2 x3 b h s m
  rw [← hv]
  unfold val_main_v22
  generalize val_main_v21 (F := Ideal) x0 x1 x2 x3 = y
  have hr : S4x4x4096x256.Reduces [3] S4x4x4096 :=
    ⟨reducesTo_S4x4x4096x256_S4x4x4096_d3.1, by decide, reducesTo_S4x4x4096x256_S4x4x4096_d3.2⟩
  have key := hostReduce_maximumf_eq_multiReduction (F := Ideal) (φ := .f32) y 0xFF800000#32 reducesTo_S4x4x4096x256_S4x4x4096_d3 h_S_
    hr (.inl rfl) rfl
  exact (congrFun key (ix3 b h s)).trans (top_last y hr (.inl rfl) rfl b h s)

theorem v28_at (b : Fin 4) (h : Fin 4) (s : Fin 4096) (m : Fin 256) :
    val_main_v28 (F := Ideal) x0 x1 x2 x3 (ix4 b h s m) = Ideal.exp (sc x0 x1 x2 x3 b s h m - top (sc x0 x1 x2 x3 b s h)) := by
  have e : idx_main_v25 (idx_main_v26 (ix4 b h s m)) = ix3 b h s := funext fun a => by
    match a with | ⟨0, _⟩ => rfl | ⟨1, _⟩ => rfl | ⟨2, _⟩ => rfl
  rw [val_main_v28_apply, val_main_v27_apply, val_main_v26_apply, val_main_v25_apply, e, val_main_v24_apply, v21_at, v22_at,
    val_main_v23_apply]
  show Ideal.exp (_ - max (Ideal.ofBits .f32 0xFF800000#32) _) = _
  rw [ninf_eq, max_eq_right bot_le]

theorem v32_at (b : Fin 4) (h : Fin 4) (s : Fin 4096) (m : Fin 256) :
    val_main_v32 (F := Ideal) x0 x1 x2 x3 (ix4 b h s m) = wt (sc x0 x1 x2 x3 b s h) m := by
  have e : ∀ k, idx_main_v29 (idx_main_v30 (idx_main_v31 (ix4 b h s m))) k = ix4 b h s k := fun k => funext fun a => by
    match a with | ⟨0, _⟩ => rfl | ⟨1, _⟩ => rfl | ⟨2, _⟩ => rfl | ⟨3, _⟩ => rfl
  rw [val_main_v32_apply, val_main_v31_apply, val_main_v30_apply, val_main_v29_apply]
  simp only [e, v28_at]
  show Ideal.div _ (Ideal.ofBits .f32 0x00000000#32 + _) = _
  rw [Ideal.ofBits_zero_f32, zero_add]
  rfl

/-- The query row at a position. -/
abbrev qr (b : Fin 4) (s : Fin 4096) : Fin 512 → EReal :=
  dot (rms cnt (fun j => x0 (ix3 b s j)) (fun j => x1 (ix1 j))) (fun k c => x2 (ix2 k c))

theorem v35_at (b : Fin 4) (s : Fin 4096) (c : Fin 512) :
    val_main_v35 (F := Ideal) x0 x1 x2 x3 x4 (ix3 b s c)
      = ctx (qr x0 x1 x2 b s) (fun m c => x3 (ix3 b m c)) (fun m c => x4 (ix3 b m c)) c := by
  have hb := b.isLt; have hs := s.isLt; have hc := c.isLt
  have e : idx_main_v34 (idx_main_v35 (ix3 b s c)) = ix4 b (headOf c) (within c) s := funext fun a => Fin.ext (by
    match a with
    | ⟨0, _⟩ => show ((b.val * 4096 + s.val) * 512 + c.val) / 2097152 = b.val; omega
    | ⟨1, _⟩ => show ((b.val * 4096 + s.val) * 512 + c.val) / 128 % 4 = c.val / 128; omega
    | ⟨2, _⟩ => show ((b.val * 4096 + s.val) * 512 + c.val) % 128 = c.val % 128; omega
    | ⟨3, _⟩ => show ((b.val * 4096 + s.val) * 512 + c.val) / 512 % 4096 = s.val; omega)
  rw [val_main_v35_apply, val_main_v34_apply, e, val_main_v33_apply]
  refine Finset.sum_congr rfl fun m _ => ?_
  have e1 : lidx_main_v33 (ix4 b (headOf c) (within c) s) m = ix4 b m (headOf c) (within c) := funext fun a => by
    match a with | ⟨0, _⟩ => rfl | ⟨1, _⟩ => rfl | ⟨2, _⟩ => rfl | ⟨3, _⟩ => rfl
  have e2 : ridx_main_v33 (ix4 b (headOf c) (within c) s) m = ix4 b (headOf c) s m := funext fun a => by
    match a with | ⟨0, _⟩ => rfl | ⟨1, _⟩ => rfl | ⟨2, _⟩ => rfl | ⟨3, _⟩ => rfl
  rw [e1, e2, v18_at, v32_at, col_headOf]
  exact mul_comm _ _

/-- The row after the attention. -/
abbrev ym (b : Fin 4) (s : Fin 4096) : Fin 1024 → EReal := Cert.Array.midAt x0 x1 x2 x3 x4 x5 b s

theorem v37_at (b : Fin 4) (s : Fin 4096) (n : Fin 1024) :
    val_main_v37 (F := Ideal) x0 x1 x2 x3 x4 x5 (ix3 b s n) = ym x0 x1 x2 x3 x4 x5 b s n := by
  rw [val_main_v37_apply, val_main_v36_apply]
  refine congrArg (x0 (ix3 b s n) + ·) (Finset.sum_congr rfl fun c _ => ?_)
  have e : lidx_main_v36 (ix3 b s n) c = ix3 b s c := funext fun a => by
    match a with | ⟨0, _⟩ => rfl | ⟨1, _⟩ => rfl | ⟨2, _⟩ => rfl
  have e' : ridx_main_v36 (ix3 b s n) c = ix2 c n := funext fun a => by
    match a with | ⟨0, _⟩ => rfl | ⟨1, _⟩ => rfl
  rw [e, e', v35_at]

theorem v50_at (b : Fin 4) (s : Fin 4096) (k : Fin 1024) :
    val_main_v50 (F := Ideal) x0 x1 x2 x3 x4 x5 x6 (ix3 b s k) = rms cnt (ym x0 x1 x2 x3 x4 x5 b s) (fun j => x6 (ix1 j)) k := by
  have e : ∀ j, idx_main_v39 (idx_main_v40 (idx_main_v46 (ix3 b s k))) j = ix3 b s j := fun j => funext fun a => by
    match a with | ⟨0, _⟩ => rfl | ⟨1, _⟩ => rfl | ⟨2, _⟩ => rfl
  have e' : idx_main_v48 (idx_main_v49 (ix3 b s k)) = ix1 k := funext fun a => by match a with | ⟨0, _⟩ => rfl
  refine Eq.trans (b := ym x0 x1 x2 x3 x4 x5 b s k * Ideal.rsqrt (Ideal.div (Ideal.ofBits .f32 0x00000000#32
    + ∑ j, ym x0 x1 x2 x3 x4 x5 b s j * ym x0 x1 x2 x3 x4 x5 b s j) cnt + Ideal.ofBits .f32 0x358637BD#32) * x6 (ix1 k)) ?_ ?_
  · simp only [val_main_v50_apply, val_main_v47_apply, val_main_v46_apply, val_main_v45_apply, val_main_v44_apply, val_main_v42_apply,
      val_main_v40_apply, val_main_v39_apply, val_main_v38_apply, val_main_v41_apply, val_main_v43_apply, val_main_v48_apply,
      val_main_v49_apply, e, e', v37_at]
    rfl
  · rw [Ideal.ofBits_zero_f32, zero_add]; rfl

theorem v51_at (b : Fin 4) (s : Fin 4096) (j : Fin 5632) :
    val_main_v51 (F := Ideal) x0 x1 x2 x3 x4 x5 x6 x7 (ix3 b s j)
      = dot (rms cnt (ym x0 x1 x2 x3 x4 x5 b s) (fun j => x6 (ix1 j))) (fun k j => x7 (ix2 k j)) j := by
  rw [val_main_v51_apply]
  refine Finset.sum_congr rfl fun k _ => ?_
  have e : lidx_main_v51 (ix3 b s j) k = ix3 b s k := funext fun a => by
    match a with | ⟨0, _⟩ => rfl | ⟨1, _⟩ => rfl | ⟨2, _⟩ => rfl
  have e' : ridx_main_v51 (ix3 b s j) k = ix2 k j := funext fun a => by
    match a with | ⟨0, _⟩ => rfl | ⟨1, _⟩ => rfl
  rw [e, e', v50_at]

theorem one_eq : Ideal.ofBits .f32 0x3F800000#32 = 1 := by
  rw [f32_normal _ 127 0 (by decide) (by decide) (by decide) (by decide) (by decide)]
  norm_num [zpow_neg]

/-- The gated hidden row. -/
theorem v55_at (b : Fin 4) (s : Fin 4096) (j : Fin 2816) :
    val_main_v55 (F := Ideal) x0 x1 x2 x3 x4 x5 x6 x7 (ix3 b s j)
      = gated silu (ym x0 x1 x2 x3 x4 x5 b s) (fun j => x6 (ix1 j)) (fun k (c : Fin 2816) => x7 (ix2 k ⟨c.val, by omega⟩))
          (fun k (c : Fin 2816) => x7 (ix2 k ⟨2816 + c.val, by omega⟩)) j := by
  have e : idx_main_v52 (ix3 b s j) = ix3 b s (⟨j.val, by omega⟩ : Fin 5632) := funext fun a => by
    match a with | ⟨0, _⟩ => rfl | ⟨1, _⟩ => rfl | ⟨2, _⟩ => rfl
  have e' : idx_main_v53 (ix3 b s j) = ix3 b s (⟨2816 + j.val, by omega⟩ : Fin 5632) := funext fun a => by
    match a with | ⟨0, _⟩ => rfl | ⟨1, _⟩ => rfl | ⟨2, _⟩ => rfl
  simp only [val_main_v55_apply, val_main_v54_apply, val_main_v53_apply, val_main_call0_v5_apply, val_main_call0_v4_apply,
    val_main_call0_v3_apply, val_main_call0_v2_apply, val_main_call0_v1_apply, val_main_call0_v0_apply, val_main_v52_apply, e, e', v51_at]
  show _ * Ideal.div (Ideal.ofBits .f32 0x3F800000#32) (Ideal.ofBits .f32 0x3F800000#32 + _) * _ = _
  rw [one_eq]
  rfl

theorem v57_at (b : Fin 4) (s : Fin 4096) (n : Fin 1024) :
    val_main_v57 (F := Ideal) x0 x1 x2 x3 x4 x5 x6 x7 x8 (ix3 b s n)
      = ym x0 x1 x2 x3 x4 x5 b s n + dot (gated silu (ym x0 x1 x2 x3 x4 x5 b s) (fun j => x6 (ix1 j))
          (fun k (c : Fin 2816) => x7 (ix2 k ⟨c.val, by omega⟩)) (fun k (c : Fin 2816) => x7 (ix2 k ⟨2816 + c.val, by omega⟩)))
          (fun j n => x8 (ix2 j n)) n := by
  rw [val_main_v57_apply, val_main_v56_apply, v37_at]
  refine congrArg (ym x0 x1 x2 x3 x4 x5 b s n + ·) (Finset.sum_congr rfl fun c _ => ?_)
  have e : lidx_main_v56 (ix3 b s n) c = ix3 b s c := funext fun a => by
    match a with | ⟨0, _⟩ => rfl | ⟨1, _⟩ => rfl | ⟨2, _⟩ => rfl
  have e' : ridx_main_v56 (ix3 b s n) c = ix2 c n := funext fun a => by
    match a with | ⟨0, _⟩ => rfl | ⟨1, _⟩ => rfl
  rw [e, e', v55_at]

/-- The reference's result, at every index the layer's row function. -/
theorem v70_eq : val_main_v70 (F := Ideal) x0 x1 x2 x3 x4 x5 x6 x7 x8 x9 = Cert.Array.result silu x0 x1 x2 x3 x4 x5 x6 x7 x8 x9 := by
  funext i
  obtain ⟨b, s, k, rfl⟩ : ∃ b s k, i = ix3 b s k := ⟨i 0, i 1, i 2, funext fun a => by
    match a with | ⟨0, _⟩ => rfl | ⟨1, _⟩ => rfl | ⟨2, _⟩ => rfl⟩
  have e : ∀ j, idx_main_v59 (idx_main_v60 (idx_main_v66 (ix3 b s k))) j = ix3 b s j := fun j => funext fun a => by
    match a with | ⟨0, _⟩ => rfl | ⟨1, _⟩ => rfl | ⟨2, _⟩ => rfl
  have e' : idx_main_v68 (idx_main_v69 (ix3 b s k)) = ix1 k := funext fun a => by match a with | ⟨0, _⟩ => rfl
  have hz : ∀ z : Fin 1024 → EReal, (∀ n, val_main_v57 (F := Ideal) x0 x1 x2 x3 x4 x5 x6 x7 x8 (ix3 b s n) = z n) →
      val_main_v70 (F := Ideal) x0 x1 x2 x3 x4 x5 x6 x7 x8 x9 (ix3 b s k) = rms cnt z (fun n => x9 (ix1 n)) k := fun z hz => by
    refine Eq.trans (b := z k * Ideal.rsqrt (Ideal.div (Ideal.ofBits .f32 0x00000000#32 + ∑ j, z j * z j) cnt
      + Ideal.ofBits .f32 0x358637BD#32) * x9 (ix1 k)) ?_ ?_
    · simp only [val_main_v70_apply, val_main_v67_apply, val_main_v66_apply, val_main_v65_apply, val_main_v64_apply, val_main_v62_apply,
        val_main_v60_apply, val_main_v59_apply, val_main_v58_apply, val_main_v61_apply, val_main_v63_apply, val_main_v68_apply,
        val_main_v69_apply, e, e', hz]
      rfl
    · rw [Ideal.ofBits_zero_f32, zero_add]; rfl
  exact hz _ fun n => v57_at x0 x1 x2 x3 x4 x5 x6 x7 x8 b s n

end Cert.Expected
-- ==== Proof.Finite.lean ====
/-
  What the precondition says at an index, and the claim about the values: with every named argument finite, the row the
  feed-forward gates is real, so the kernel's spelling of the activation and the reference's agree.
-/
module

public import proofs.«01_k».proof.Proof.Expected
public import proofs.«01_k».proof.Proof.Gen.ReferenceIdeal.Run
public import proofs.«01_k».proof.Proof.Gen.Pre_finite
public import proofs.«01_k».proof.Defs

@[expose] public section

noncomputable section

namespace Cert.Finite

open Idealize.ShloMosaic Idealize.ShloMosaic.ValueIdx Idealize.ShloMosaic.TcCoe Idealize.SL.Sem Cert.Layer

/-- A number whose absolute value is below the infinite pattern is real. -/
theorem real_of_cmp {x : EReal} (h : Ideal.cmp .olt (max x (-x)) (Ideal.ofBits .f32 0x7F800000#32) = 1#1) : Real' x := by
  rw [pinf_eq] at h
  induction x using EReal.rec with
  | bot => exact absurd h (by simp [Ideal.cmp])
  | top => exact absurd h (by simp [Ideal.cmp])
  | coe r => exact ⟨r, rfl⟩

/-- So an array the comparison holds of everywhere has real entries. -/
theorem reals {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    Real' (x i) :=
  real_of_cmp (congrFun h i)

section
open Cert.KernelIdeal Cert.Array

variable (m : (ℓ : Loc nD τ sig) → Buf (Elt Ideal) ℓ) (c : Dev nD)

/-- Under the precondition the two spellings of the activation give the same result array. -/
theorem same (h : Cert.Pre_KernelIdeal_finite m) :
    result siluT (aX m c) (aGx m c) (aWq m c) (aK m c) (aV m c) (aWo m c) (aGf m c) (aWi m c) (aWu m c) (aG m c)
      = result silu (aX m c) (aGx m c) (aWq m c) (aK m c) (aV m c) (aWo m c) (aGf m c) (aWi m c) (aWu m c) (aG m c) := by
  obtain ⟨h0, h1, h2, h3, h4, h5, h6, h7⟩ := h c
  funext i
  have hm : ∀ n, Real' (midAt (aX m c) (aGx m c) (aWq m c) (aK m c) (aV m c) (aWo m c) (i 0) (i 1) n) :=
    real_mid (fun _ => reals (aX m c) _ h0 _) (fun _ => reals (aGx m c) _ h1 _) (fun _ _ => reals (aWq m c) _ h2 _)
      (fun _ _ => reals (aK m c) _ h3 _) (fun _ _ => reals (aV m c) _ h4 _) (fun _ _ => reals (aWo m c) _ h5 _)
  unfold result last
  rw [gated_eq hm (fun _ => reals (aGf m c) _ h6 _) (fun _ _ => reals (aWi m c) _ h7 _)]

end

/-- The kernel's result array is the reference's, the arguments agreeing and the named ones finite. -/
theorem algebraic : Cert.algebraic_KernelIdeal_ReferenceIdeal_pre_finite := by
  intro m ρ m' ρ' hpre hagree
  refine ⟨fun c => Cert.Array.G m c, ?_, ?_⟩
  · exact (θ_run Cert.KernelIdeal.defs _ _).mono (fun _ h c => ⟨(h c).1.trans (Cert.Array.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    refine (Cert.ReferenceIdeal.Read.val_main_v70_eq _).trans ((Cert.Expected.v70_eq _ _ _ _ _ _ _ _ _ _).trans ?_)
    refine Eq.trans ?_ (same m c hpre).symm
    exact congr (congr (congr (congr (congr (congr (congr (congr (congr (congrArg (Cert.Array.result silu) h0) h1) h2) h3) h4) h5) h6) h7) h8) h9

end Cert.Finite

end
-- ==== Proof.Dense.lean ====
/-
  The rows a projection call computes: each row normalised, times a weight matrix, at a column; the kernel's expression
  for it read at an index; and the logistic function in its two spellings.
-/
module

public import proofs.«01_k».proof.Proof.Reads

@[expose] public section

noncomputable section

open scoped BigOperators

namespace Cert.Dense

open Idealize.ShloMosaic Idealize.ShloMosaic.ValueIdx Cert.Layer Cert.Reads

/-- The projection of normalised row `s`, at column `n`. -/
def dense {T N : ℕ} (x : (⟨2, ![T, 1024]⟩ : Shape).Idx → EReal) (g : (⟨1, ![1024]⟩ : Shape).Idx → EReal)
    (w : (⟨2, ![1024, N]⟩ : Shape).Idx → EReal) (s : Fin T) (n : Fin N) : EReal :=
  dot (rms cnt (fun j => x (ix2 s j)) (fun j => g (ix1 j))) (fun k c => w (ix2 k c)) n

/-- The logistic function as the reference spells it. -/
def sigm (a : EReal) : EReal := Ideal.div 1 (1 + Ideal.exp (-a))

/-- The same function as the kernel spells it, through the hyperbolic tangent. -/
def sigmT (a : EReal) : EReal :=
  Ideal.ofBits .f32 0x3F000000#32 * Ideal.tanh (Ideal.ofBits .f32 0x3F000000#32 * a) + Ideal.ofBits .f32 0x3F000000#32

/-- The two spellings agree everywhere. -/
theorem sigmT_eq (a : EReal) : sigmT a = sigm a := by
  have hl : sigm a = Ideal.logistic a := rfl
  rw [hl]
  unfold sigmT
  rw [half_eq]
  induction a using EReal.rec with
  | bot =>
    rw [EReal.coe_mul_bot_of_pos (by norm_num)]
    have ht : (1 : EReal) + ⊤ = ⊤ := EReal.add_top_of_ne_bot (by decide)
    have h0 : Ideal.logistic ⊥ = 0 := by simp [Ideal.logistic, Ideal.div, ht]
    rw [h0, Ideal.tanh_bot, show (-1 : EReal) = ((-1 : ℝ) : EReal) from rfl, ← EReal.coe_mul, ← EReal.coe_add]
    norm_num
  | top =>
    rw [EReal.coe_mul_top_of_pos (by norm_num)]
    have h1 : Ideal.logistic ⊤ = 1 := by simp [Ideal.logistic, Ideal.div]
    rw [h1, Ideal.tanh_top, mul_one, ← EReal.coe_add]
    norm_num
  | coe r =>
    rw [← EReal.coe_mul, Ideal.tanh_coe, Ideal.logistic_coe, ← EReal.coe_mul, ← EReal.coe_add]
    congr 1
    have h1 : Real.exp r = Real.exp (1 / 2 * r) * Real.exp (1 / 2 * r) := by rw [← Real.exp_add]; congr 1; ring
    have h2 : Real.exp (-r) = (Real.exp (1 / 2 * r) * Real.exp (1 / 2 * r))⁻¹ := by rw [← h1, Real.exp_neg]
    have hp := Real.exp_pos (1 / 2 * r)
    rw [Real.tanh_eq_sinh_div_cosh, Real.sinh_eq, Real.cosh_eq, h2, Real.exp_neg]
    field_simp
    ring

/-- A cast of a block to its own shape. -/
theorem same {s : Shape} {α : Type} (x : s.Idx → α) (h : s.ShapeCasts s) : shapeCast s x h = x :=
  funext fun j => shapeCast_apply x h j j rfl

/-- A normalised block's product with a weight matrix, at a row and column. -/
theorem dense_apply {M N : ℕ} (D : DotDims ⟨2, ![M, 1024]⟩ ⟨2, ![1024, N]⟩ ⟨2, ![M, N]⟩) (hD : D = DotDims.plain M 1024 N)
    (x : FVec Ideal ⟨2, ![M, 1024]⟩ .f32) (g : FVec Ideal ⟨2, ![1, 1024]⟩ .f32) (w : FVec Ideal ⟨2, ![1024, N]⟩ .bf16)
    (y : FVec Ideal ⟨2, ![M, 1024]⟩ .bf16)
    (hy : ∀ r k, y (ix2 r k) = rms cnt (fun j => x (ix2 r j)) (fun j => g (ix2 0 j)) k) (r : Fin M) (n : Fin N) :
    matmul D none y w (constant ⟨2, ![M, N]⟩ .f32 0x00000000#32) (ix2 r n)
      = dot (rms cnt (fun j => x (ix2 r j)) (fun j => g (ix2 0 j))) (fun k c => w (ix2 k c)) n := by
  refine (mm (φ₁ := .bf16) (φ₂ := .bf16) D hD none y w r n).trans ?_
  exact congrArg (fun f => dot f (fun k c => w (ix2 k c)) n) (funext fun k => hy r k)

/-- The unit's literal. -/
theorem one_eq : Ideal.ofBits .f32 0x3F800000#32 = 1 := by
  rw [f32_normal _ 127 0 (by decide) (by decide) (by decide) (by decide) (by decide)]
  norm_num [zpow_neg]

end Cert.Dense

end
-- ==== Proof.Gates.lean ====
/-
  The branch gates: the idealized call's result array after its run, the reference's at an index, and their equality.
-/
module

public import proofs.«01_k».proof.Proof.Dense
public import proofs.«01_k».proof.Proof.Gen.GatesIdeal.Value
public import proofs.«01_k».proof.Proof.Gen.GatesReferenceIdeal.Run
public import proofs.«01_k».proof.Proof.Gen.GatesReferenceIdeal.Read
public import Idealize.ShloMosaic.Lib.Pipeline.ValueKit.Geometry
public import Idealize.ShloMosaic.Lib.Pipeline.ValueKit.Acc
public import proofs.«01_k».proof.Defs

@[expose] public section

noncomputable section

open scoped BigOperators

namespace Cert.GateValues

open Idealize.ShloMosaic Idealize.ShloMosaic.ValueIdx Idealize.ShloMosaic.TcCoe Idealize.SL.Sem Cert.Layer Cert.Reads Cert.Dense

/-- The gates' array, for a given spelling of the logistic function. -/
def result (act : EReal → EReal) (x : (⟨2, ![16384, 1024]⟩ : Shape).Idx → EReal) (g : (⟨1, ![1024]⟩ : Shape).Idx → EReal)
    (w : (⟨2, ![1024, 4096]⟩ : Shape).Idx → EReal) : (⟨2, ![16384, 4096]⟩ : Shape).Idx → EReal := fun i =>
  act (dense x g w (i 0) (i 1))

section
open Cert.GatesIdeal Cert.GatesIdeal.Gen

/-- What one run of the body stores, at a row and column. -/
theorem out_apply (x0 : Vec Ideal S1024x1024 .f32) (x1 : Vec Ideal S1x1024 .f32) (x2 : Vec Ideal S1024x4096 .bf16)
    (r : Fin 1024) (n : Fin 4096) :
    out0_3 x0 x1 x2 (ix2 r n)
      = sigmT (dot (rms cnt (fun j => x0 (ix2 r j)) (fun j => x1 (ix2 0 j))) (fun k c => x2 (ix2 k c)) n) := by
  have z2 : (![0, 0] : Fin 2 → Nat) = fun _ => 0 := funext fun a => by fin_cases a <;> rfl
  unfold out0_3
  rw [View.canon_unit_zero z2, View.ld_unit_zero z2 (X := x0), View.ld_unit_zero z2 (X := x1), View.ld_unit_zero z2 (X := x2)]
  unfold k0_pay1
  rw [same, same]
  refine congrArg sigmT (dense_apply (M := 1024) (N := 4096) _ rfl x0 x1 x2 _ (fun r k => ?_) r n)
  exact rms_apply (M := 1024) (N := 1024) _ _ _ _ _ _ _ _ _ r k

variable (m : (ℓ : Loc nD τ sig) → Buf (Elt Ideal) ℓ) (c : Dev nD)

abbrev aX : Vec Ideal S16384x1024 .f32 := m ((c : Thread nD τ).loc main_arg0)
abbrev aG : Vec Ideal S1024 .f32 := m ((c : Thread nD τ).loc main_arg1)
abbrev aW : Vec Ideal S1024x4096 .f32 := m ((c : Thread nD τ).loc main_arg2)

/-- Where each window's block sits at point `t`: row block `t`; the gain and the weights whole. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- Row `r` of point `t`'s block. -/
def pos (t : Fin cfg0.N) (r : Fin 1024) : Fin 16384 :=
  ⟨t.val * 1024 + r.val, by have := r.isLt; have h := t.isLt; have : cfg0.N = 16 := N_0; omega⟩

theorem b0 (t : Fin cfg0.N) (r : Fin 1024) (j : Fin 1024) : iblk m c 0 t (ix2 r j) = aX m c (ix2 (pos t r) j) := by
  refine Eq.trans (congrArg (V m c main_arg0) (a₂ := ix2 (pos t r) j) ?_) (congrFun (V_main_arg0 m c) _)
  blk_ext [idx t, pos]

theorem b1 (t : Fin cfg0.N) (j : Fin 1024) : iblk m c 1 t (ix2 0 j) = aG m c (ix1 j) := by
  refine Eq.trans (congrArg (V m c main_v1) (a₂ := ix2 0 j) ?_) ?_
  · blk_ext [idx t]
  · have h : V m c main_v1 = shapeCast S1x1024 (aG m c) shapeCasts_S1024_S1x1024 := by
      show StableHlo.after hostOps0 _ (Proc.devRef .tc main_v1) = _
      after_results
      rfl
    rw [h]
    exact shapeCast_apply _ _ _ (ix1 j) (by rw [Shape.rowMajor_val_one, Shape.rowMajor_val_two]; show j.val = 0 * 1024 + j.val; omega)

theorem b2 (t : Fin cfg0.N) (k : Fin 1024) (j : Fin 4096) : iblk m c 2 t (ix2 k j) = aW m c (ix2 k j) := by
  refine Eq.trans (congrArg (V m c main_v0) (a₂ := ix2 k j) ?_) (congrFun (?_ : V m c main_v0 = aW m c) _)
  · blk_ext [idx t]
  · show StableHlo.after hostOps0 _ (Proc.devRef .tc main_v0) = _
    after_results
    rfl

/-- What point `t` stores. -/
theorem point (t : Fin cfg0.N) (r : Fin 1024) (n : Fin 4096) :
    out0_3 (iblk m c 0 t) (iblk m c 1 t) (iblk m c 2 t) (ix2 r n) = result sigmT (aX m c) (aG m c) (aW m c) (ix2 (pos t r) n) := by
  refine (out_apply _ _ _ r n).trans ?_
  simp only [b0, b1, b2]
  rfl

theorem final : (dats m 0 c).arrAt 3 cfg0.N = result sigmT (aX m c) (aG m c) (aW m c) := by
  refine (dats m 0 c).arrAt_eq_of_covers 3 (result sigmT (aX m c) (aG m c) (aW m c)) (by decide +kernel) fun t hf y => ?_
  blk_simp
  rw [after0_3]
  have hy : y = ix2 (y 0) (y 1) := by blk_ext
  refine (congrArg _ hy).trans ((point m c t (y 0) (y 1)).trans (congrArg (result sigmT (aX m c) (aG m c) (aW m c)) ?_))
  blk_ext [idx t, pos]

end

section
open Cert.GatesReferenceIdeal Cert.GatesReferenceIdeal.Gen Cert.GatesReferenceIdeal.Read

variable (x0 : (⟨S16384x1024, .f32⟩ : BufTy).Contents (Elt Ideal)) (x1 : (⟨S1024, .f32⟩ : BufTy).Contents (Elt Ideal))
  (x2 : (⟨S1024x4096, .f32⟩ : BufTy).Contents (Elt Ideal))

/-- The reference's normalised rows. -/
theorem v12_at (s : Fin 16384) (k : Fin 1024) :
    val_main_v12 (F := Ideal) x0 x1 (ix2 s k) = rms cnt (fun j => x0 (ix2 s j)) (fun j => x1 (ix1 j)) k := by
  have e : ∀ j, idx_main_v1 (idx_main_v2 (idx_main_v8 (ix2 s k))) j = ix2 s j := fun j => funext fun a => by
    match a with | ⟨0, _⟩ => rfl | ⟨1, _⟩ => rfl
  have e' : idx_main_v10 (idx_main_v11 (ix2 s k)) = ix1 k := funext fun a => by match a with | ⟨0, _⟩ => rfl
  refine Eq.trans (b := x0 (ix2 s k) * Ideal.rsqrt (Ideal.div (Ideal.ofBits .f32 0x00000000#32 + ∑ j, x0 (ix2 s j) * x0 (ix2 s j)) cnt
    + Ideal.ofBits .f32 0x358637BD#32) * x1 (ix1 k)) ?_ ?_
  · simp only [val_main_v12_apply, val_main_v11_apply, val_main_v10_apply, val_main_v9_apply, val_main_v8_apply, val_main_v7_apply,
      val_main_v6_apply, val_main_v5_apply, val_main_v4_apply, val_main_v3_apply, val_main_v2_apply, val_main_v1_apply, val_main_v0_apply, e, e']
    rfl
  · rw [Ideal.ofBits_zero_f32, zero_add]; rfl

theorem v13_at (s : Fin 16384) (n : Fin 4096) : val_main_v13 (F := Ideal) x0 x1 x2 (ix2 s n) = dense x0 x1 x2 s n := by
  rw [val_main_v13_apply]
  unfold dense dot
  refine Finset.sum_congr rfl fun k _ => ?_
  have e : lidx_main_v13 (ix2 s n) k = ix2 s k := funext fun a => by match a with | ⟨0, _⟩ => rfl | ⟨1, _⟩ => rfl
  have e' : ridx_main_v13 (ix2 s n) k = ix2 k n := funext fun a => by match a with | ⟨0, _⟩ => rfl | ⟨1, _⟩ => rfl
  rw [e, e', v12_at]

theorem v20_eq : val_main_v20 (F := Ideal) x0 x1 x2 = result sigm x0 x1 x2 := by
  funext i
  obtain ⟨s, n, rfl⟩ : ∃ s n, i = ix2 s n := ⟨i 0, i 1, funext fun a => by match a with | ⟨0, _⟩ => rfl | ⟨1, _⟩ => rfl⟩
  simp only [val_main_v20_apply, val_main_v19_apply, val_main_v18_apply, val_main_v17_apply, val_main_v16_apply, val_main_v15_apply,
    val_main_v14_apply, v13_at]
  show Ideal.div (Ideal.ofBits .f32 0x3F800000#32) (Ideal.ofBits .f32 0x3F800000#32 + _) = _
  rw [one_eq]
  rfl

end

/-- The call's result is the reference's. -/
theorem algebraic : Cert.algebraic_GatesIdeal_GatesReferenceIdeal := by
  intro m ρ m' ρ' _ hagree
  refine ⟨fun c => result sigmT (aX m c) (aG m c) (aW m c), ?_, ?_⟩
  · exact (θ_run Cert.GatesIdeal.defs _ _).mono (fun _ h c => ⟨(h c).1.trans (final m c), (h c).2⟩)
      (Cert.GatesIdeal.Value.run_blocks (F := Ideal) m ρ)
  · refine (θ_run Cert.GatesReferenceIdeal.defs _ _).mono (fun _ h c => ⟨(h c).1.trans ?_, (h c).2⟩)
      (Cert.GatesReferenceIdeal.Value.run (F := Ideal) m' ρ')
    obtain ⟨h0, h1, h2⟩ := hagree c
    refine (Cert.GatesReferenceIdeal.Read.val_main_v20_eq _ _ _).trans ((v20_eq _ _ _).trans ?_)
    have hs : sigmT = sigm := funext sigmT_eq
    rw [hs]
    exact congr (congr (congrArg (result sigm) h0) h1) h2

end Cert.GateValues

end
-- ==== Proof.Proj.lean ====
/-
  The mixer's seven plain projections: the idealized call's result arrays after its run, the reference's at an index, and
  their equality when the rows of the two gated ones are finite.
-/
module

public import proofs.«01_k».proof.Proof.Dense
public import proofs.«01_k».proof.Proof.Finite
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.Pre_finite_proj
public import Idealize.ShloMosaic.Lib.Pipeline.ValueKit.Geometry
public import Idealize.ShloMosaic.Lib.Pipeline.ValueKit.Acc
public import proofs.«01_k».proof.Defs

@[expose] public section

noncomputable section

open scoped BigOperators

namespace Cert.ProjValues

open Idealize.ShloMosaic Idealize.ShloMosaic.ValueIdx Idealize.ShloMosaic.TcCoe Idealize.SL.Sem Cert.Layer Cert.Reads Cert.Dense

/-- A projection's array, with a function applied to each entry. -/
def result {N : ℕ} (act : EReal → EReal) (x : (⟨2, ![16384, 1024]⟩ : Shape).Idx → EReal)
    (g : (⟨1, ![1024]⟩ : Shape).Idx → EReal) (w : (⟨2, ![1024, N]⟩ : Shape).Idx → EReal) :
    (⟨2, ![16384, N]⟩ : Shape).Idx → EReal := fun i =>
  act (dense x g w (i 0) (i 1))

section
open Cert.ProjIdeal Cert.ProjIdeal.Gen

theorem z2 : (![0, 0] : Fin 2 → Nat) = fun _ => 0 := funext fun a => by fin_cases a <;> rfl

/-- The body's normalised rows. -/
theorem rows_apply (x0 : Vec Ideal S1024x1024 .f32) (x1 : Vec Ideal S1x1024 .f32) (r k : Fin 1024) :
    k0_pay5 x0 x1 (ix2 r k) = rms cnt (fun j => x0 (ix2 r j)) (fun j => x1 (ix2 0 j)) k := by
  unfold k0_pay5
  rw [same]
  exact rms_apply (M := 1024) (N := 1024) _ _ _ _ _ _ _ _ _ r k

variable (x0 : Vec Ideal S1024x1024 .f32) (x1 : Vec Ideal S1x1024 .f32)
  (x2 : Vec Ideal S1024x256 .bf16)
  (x3 : Vec Ideal S1024x256 .bf16)
  (x4 : Vec Ideal S1024x512 .bf16)
  (x5 : Vec Ideal S1024x512 .bf16)
  (x6 : Vec Ideal S1024x512 .bf16)
  (x7 : Vec Ideal S1024x1024 .bf16)
  (x8 : Vec Ideal S1024x128 .bf16)

theorem out9_apply (r : Fin 1024) (n : Fin 256) :
    out0_9 x0 x1 x2 x3 x4 x5 x6 x7 x8 (ix2 r n)
      = id (dot (rms cnt (fun j => x0 (ix2 r j)) (fun j => x1 (ix2 0 j))) (fun k c => x2 (ix2 k c)) n) := by
  unfold out0_9
  rw [View.canon_unit_zero z2, View.ld_unit_zero z2 (X := x0), View.ld_unit_zero z2 (X := x1), View.ld_unit_zero z2 (X := x2)]
  unfold k0_pay6
  rw [same]
  exact congrArg id (dense_apply (M := 1024) (N := 256) _ rfl x0 x1 x2 _ (rows_apply x0 x1) r n)

theorem out10_apply (r : Fin 1024) (n : Fin 256) :
    out0_10 x0 x1 x2 x3 x4 x5 x6 x7 x8 (ix2 r n)
      = id (dot (rms cnt (fun j => x0 (ix2 r j)) (fun j => x1 (ix2 0 j))) (fun k c => x3 (ix2 k c)) n) := by
  unfold out0_10
  rw [View.canon_unit_zero z2, View.ld_unit_zero z2 (X := x0), View.ld_unit_zero z2 (X := x1), View.ld_unit_zero z2 (X := x3)]
  unfold k0_pay7
  rw [same]
  exact congrArg id (dense_apply (M := 1024) (N := 256) _ rfl x0 x1 x3 _ (rows_apply x0 x1) r n)

theorem out11_apply (r : Fin 1024) (n : Fin 512) :
    out0_11 x0 x1 x2 x3 x4 x5 x6 x7 x8 (ix2 r n)
      = id (dot (rms cnt (fun j => x0 (ix2 r j)) (fun j => x1 (ix2 0 j))) (fun k c => x4 (ix2 k c)) n) := by
  unfold out0_11
  rw [View.canon_unit_zero z2, View.ld_unit_zero z2 (X := x0), View.ld_unit_zero z2 (X := x1), View.ld_unit_zero z2 (X := x4)]
  unfold k0_pay8
  rw [same]
  exact congrArg id (dense_apply (M := 1024) (N := 512) _ rfl x0 x1 x4 _ (rows_apply x0 x1) r n)

theorem out12_apply (r : Fin 1024) (n : Fin 512) :
    out0_12 x0 x1 x2 x3 x4 x5 x6 x7 x8 (ix2 r n)
      = siluT (dot (rms cnt (fun j => x0 (ix2 r j)) (fun j => x1 (ix2 0 j))) (fun k c => x5 (ix2 k c)) n) := by
  unfold out0_12 k0_pay10
  rw [View.canon_unit_zero z2, View.ld_unit_zero z2 (X := x0), View.ld_unit_zero z2 (X := x1), View.ld_unit_zero z2 (X := x5)]
  unfold k0_pay1 k0_pay9
  rw [same]
  exact congrArg siluT (dense_apply (M := 1024) (N := 512) _ rfl x0 x1 x5 _ (rows_apply x0 x1) r n)

theorem out13_apply (r : Fin 1024) (n : Fin 512) :
    out0_13 x0 x1 x2 x3 x4 x5 x6 x7 x8 (ix2 r n)
      = siluT (dot (rms cnt (fun j => x0 (ix2 r j)) (fun j => x1 (ix2 0 j))) (fun k c => x6 (ix2 k c)) n) := by
  unfold out0_13 k0_pay10
  rw [View.canon_unit_zero z2, View.ld_unit_zero z2 (X := x0), View.ld_unit_zero z2 (X := x1), View.ld_unit_zero z2 (X := x6)]
  unfold k0_pay2
  rw [same]
  exact congrArg siluT (dense_apply (M := 1024) (N := 512) _ rfl x0 x1 x6 _ (rows_apply x0 x1) r n)

theorem out14_apply (r : Fin 1024) (n : Fin 1024) :
    out0_14 x0 x1 x2 x3 x4 x5 x6 x7 x8 (ix2 r n)
      = id (dot (rms cnt (fun j => x0 (ix2 r j)) (fun j => x1 (ix2 0 j))) (fun k c => x7 (ix2 k c)) n) := by
  unfold out0_14 k0_pay10
  rw [View.canon_unit_zero z2, View.ld_unit_zero z2 (X := x0), View.ld_unit_zero z2 (X := x1), View.ld_unit_zero z2 (X := x7)]
  unfold k0_pay3
  rw [same]
  exact congrArg id (dense_apply (M := 1024) (N := 1024) _ rfl x0 x1 x7 _ (rows_apply x0 x1) r n)

theorem out15_apply (r : Fin 1024) (n : Fin 128) :
    out0_15 x0 x1 x2 x3 x4 x5 x6 x7 x8 (ix2 r n)
      = id (dot (rms cnt (fun j => x0 (ix2 r j)) (fun j => x1 (ix2 0 j))) (fun k c => x8 (ix2 k c)) n) := by
  unfold out0_15 k0_pay10
  rw [View.canon_unit_zero z2, View.ld_unit_zero z2 (X := x0), View.ld_unit_zero z2 (X := x1), View.ld_unit_zero z2 (X := x8)]
  unfold k0_pay4
  rw [same]
  exact congrArg id (dense_apply (M := 1024) (N := 128) _ rfl x0 x1 x8 _ (rows_apply x0 x1) r n)

variable (m : (ℓ : Loc nD τ sig) → Buf (Elt Ideal) ℓ) (c : Dev nD)

abbrev aX : Vec Ideal S16384x1024 .f32 := m ((c : Thread nD τ).loc main_arg0)
abbrev aG : Vec Ideal S1024 .f32 := m ((c : Thread nD τ).loc main_arg1)
abbrev aBq : Vec Ideal S1024x256 .f32 := m ((c : Thread nD τ).loc main_arg2)
abbrev aBk : Vec Ideal S1024x256 .f32 := m ((c : Thread nD τ).loc main_arg3)
abbrev aBv : Vec Ideal S1024x512 .f32 := m ((c : Thread nD τ).loc main_arg4)
abbrev aBg : Vec Ideal S1024x512 .f32 := m ((c : Thread nD τ).loc main_arg5)
abbrev aDz : Vec Ideal S1024x512 .f32 := m ((c : Thread nD τ).loc main_arg6)
abbrev aDx : Vec Ideal S1024x1024 .f32 := m ((c : Thread nD τ).loc main_arg7)
abbrev aDd : Vec Ideal S1024x128 .f32 := m ((c : Thread nD τ).loc main_arg8)

/-- Where each window's block sits at point `t`: the rows' at row block `t`; the gain and the weights whole. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- Row `r` of point `t`'s block. -/
def pos (t : Fin cfg0.N) (r : Fin 1024) : Fin 16384 :=
  ⟨t.val * 1024 + r.val, by have := r.isLt; have h := t.isLt; have : cfg0.N = 16 := N_0; omega⟩

theorem b0 (t : Fin cfg0.N) (r : Fin 1024) (j : Fin 1024) : iblk m c 0 t (ix2 r j) = aX m c (ix2 (pos t r) j) := by
  refine Eq.trans (congrArg (V m c main_arg0) (a₂ := ix2 (pos t r) j) ?_) (congrFun (V_main_arg0 m c) _)
  blk_ext [idx t, pos]

theorem b1 (t : Fin cfg0.N) (j : Fin 1024) : iblk m c 1 t (ix2 0 j) = aG m c (ix1 j) := by
  refine Eq.trans (congrArg (V m c main_v7) (a₂ := ix2 0 j) ?_) ?_
  · blk_ext [idx t]
  · have h : V m c main_v7 = shapeCast S1x1024 (aG m c) shapeCasts_S1024_S1x1024 := by
      show StableHlo.after hostOps0 _ (Proc.devRef .tc main_v7) = _
      after_results
      rfl
    rw [h]
    exact shapeCast_apply _ _ _ (ix1 j) (by rw [Shape.rowMajor_val_one, Shape.rowMajor_val_two]; show j.val = 0 * 1024 + j.val; omega)

theorem b2 (t : Fin cfg0.N) (k : Fin 1024) (j : Fin 256) : iblk m c 2 t (ix2 k j) = aBq m c (ix2 k j) := by
  refine Eq.trans (congrArg (V m c main_v0) (a₂ := ix2 k j) ?_) (congrFun (?_ : V m c main_v0 = aBq m c) _)
  · blk_ext [idx t]
  · show StableHlo.after hostOps0 _ (Proc.devRef .tc main_v0) = _
    after_results
    rfl

theorem b3 (t : Fin cfg0.N) (k : Fin 1024) (j : Fin 256) : iblk m c 3 t (ix2 k j) = aBk m c (ix2 k j) := by
  refine Eq.trans (congrArg (V m c main_v1) (a₂ := ix2 k j) ?_) (congrFun (?_ : V m c main_v1 = aBk m c) _)
  · blk_ext [idx t]
  · show StableHlo.after hostOps0 _ (Proc.devRef .tc main_v1) = _
    after_results
    rfl

theorem b4 (t : Fin cfg0.N) (k : Fin 1024) (j : Fin 512) : iblk m c 4 t (ix2 k j) = aBv m c (ix2 k j) := by
  refine Eq.trans (congrArg (V m c main_v2) (a₂ := ix2 k j) ?_) (congrFun (?_ : V m c main_v2 = aBv m c) _)
  · blk_ext [idx t]
  · show StableHlo.after hostOps0 _ (Proc.devRef .tc main_v2) = _
    after_results
    rfl

theorem b5 (t : Fin cfg0.N) (k : Fin 1024) (j : Fin 512) : iblk m c 5 t (ix2 k j) = aBg m c (ix2 k j) := by
  refine Eq.trans (congrArg (V m c main_v3) (a₂ := ix2 k j) ?_) (congrFun (?_ : V m c main_v3 = aBg m c) _)
  · blk_ext [idx t]
  · show StableHlo.after hostOps0 _ (Proc.devRef .tc main_v3) = _
    after_results
    rfl

theorem b6 (t : Fin cfg0.N) (k : Fin 1024) (j : Fin 512) : iblk m c 6 t (ix2 k j) = aDz m c (ix2 k j) := by
  refine Eq.trans (congrArg (V m c main_v4) (a₂ := ix2 k j) ?_) (congrFun (?_ : V m c main_v4 = aDz m c) _)
  · blk_ext [idx t]
  · show StableHlo.after hostOps0 _ (Proc.devRef .tc main_v4) = _
    after_results
    rfl

theorem b7 (t : Fin cfg0.N) (k : Fin 1024) (j : Fin 1024) : iblk m c 7 t (ix2 k j) = aDx m c (ix2 k j) := by
  refine Eq.trans (congrArg (V m c main_v5) (a₂ := ix2 k j) ?_) (congrFun (?_ : V m c main_v5 = aDx m c) _)
  · blk_ext [idx t]
  · show StableHlo.after hostOps0 _ (Proc.devRef .tc main_v5) = _
    after_results
    rfl

theorem b8 (t : Fin cfg0.N) (k : Fin 1024) (j : Fin 128) : iblk m c 8 t (ix2 k j) = aDd m c (ix2 k j) := by
  refine Eq.trans (congrArg (V m c main_v6) (a₂ := ix2 k j) ?_) (congrFun (?_ : V m c main_v6 = aDd m c) _)
  · blk_ext [idx t]
  · show StableHlo.after hostOps0 _ (Proc.devRef .tc main_v6) = _
    after_results
    rfl

theorem final9 : (dats m 0 c).arrAt 9 cfg0.N = result id (aX m c) (aG m c) (aBq m c) := by
  refine (dats m 0 c).arrAt_eq_of_covers 9 (result id (aX m c) (aG m c) (aBq m c)) (by decide +kernel) fun t hf y => ?_
  blk_simp
  rw [after0_9]
  have hy : y = ix2 (y 0) (y 1) := by blk_ext
  have hp : ∀ (r : Fin 1024) (n : Fin 256), out0_9 (iblk m c 0 t) (iblk m c 1 t) (iblk m c 2 t) (iblk m c 3 t) (iblk m c 4 t)
      (iblk m c 5 t) (iblk m c 6 t) (iblk m c 7 t) (iblk m c 8 t) (ix2 r n) = result id (aX m c) (aG m c) (aBq m c) (ix2 (pos t r) n) := fun r n => by
    refine (out9_apply _ _ _ _ _ _ _ _ _ r n).trans ?_
    simp only [b0, b1, b2]
    rfl
  refine (congrArg _ hy).trans ((hp (y 0) (y 1)).trans (congrArg (result id (aX m c) (aG m c) (aBq m c)) ?_))
  blk_ext [idx t, pos]

theorem final10 : (dats m 0 c).arrAt 10 cfg0.N = result id (aX m c) (aG m c) (aBk m c) := by
  refine (dats m 0 c).arrAt_eq_of_covers 10 (result id (aX m c) (aG m c) (aBk m c)) (by decide +kernel) fun t hf y => ?_
  blk_simp
  rw [after0_10]
  have hy : y = ix2 (y 0) (y 1) := by blk_ext
  have hp : ∀ (r : Fin 1024) (n : Fin 256), out0_10 (iblk m c 0 t) (iblk m c 1 t) (iblk m c 2 t) (iblk m c 3 t) (iblk m c 4 t)
      (iblk m c 5 t) (iblk m c 6 t) (iblk m c 7 t) (iblk m c 8 t) (ix2 r n) = result id (aX m c) (aG m c) (aBk m c) (ix2 (pos t r) n) := fun r n => by
    refine (out10_apply _ _ _ _ _ _ _ _ _ r n).trans ?_
    simp only [b0, b1, b3]
    rfl
  refine (congrArg _ hy).trans ((hp (y 0) (y 1)).trans (congrArg (result id (aX m c) (aG m c) (aBk m c)) ?_))
  blk_ext [idx t, pos]

theorem final11 : (dats m 0 c).arrAt 11 cfg0.N = result id (aX m c) (aG m c) (aBv m c) := by
  refine (dats m 0 c).arrAt_eq_of_covers 11 (result id (aX m c) (aG m c) (aBv m c)) (by decide +kernel) fun t hf y => ?_
  blk_simp
  rw [after0_11]
  have hy : y = ix2 (y 0) (y 1) := by blk_ext
  have hp : ∀ (r : Fin 1024) (n : Fin 512), out0_11 (iblk m c 0 t) (iblk m c 1 t) (iblk m c 2 t) (iblk m c 3 t) (iblk m c 4 t)
      (iblk m c 5 t) (iblk m c 6 t) (iblk m c 7 t) (iblk m c 8 t) (ix2 r n) = result id (aX m c) (aG m c) (aBv m c) (ix2 (pos t r) n) := fun r n => by
    refine (out11_apply _ _ _ _ _ _ _ _ _ r n).trans ?_
    simp only [b0, b1, b4]
    rfl
  refine (congrArg _ hy).trans ((hp (y 0) (y 1)).trans (congrArg (result id (aX m c) (aG m c) (aBv m c)) ?_))
  blk_ext [idx t, pos]

theorem final12 : (dats m 0 c).arrAt 12 cfg0.N = result siluT (aX m c) (aG m c) (aBg m c) := by
  refine (dats m 0 c).arrAt_eq_of_covers 12 (result siluT (aX m c) (aG m c) (aBg m c)) (by decide +kernel) fun t hf y => ?_
  blk_simp
  rw [after0_12]
  have hy : y = ix2 (y 0) (y 1) := by blk_ext
  have hp : ∀ (r : Fin 1024) (n : Fin 512), out0_12 (iblk m c 0 t) (iblk m c 1 t) (iblk m c 2 t) (iblk m c 3 t) (iblk m c 4 t)
      (iblk m c 5 t) (iblk m c 6 t) (iblk m c 7 t) (iblk m c 8 t) (ix2 r n) = result siluT (aX m c) (aG m c) (aBg m c) (ix2 (pos t r) n) := fun r n => by
    refine (out12_apply _ _ _ _ _ _ _ _ _ r n).trans ?_
    simp only [b0, b1, b5]
    rfl
  refine (congrArg _ hy).trans ((hp (y 0) (y 1)).trans (congrArg (result siluT (aX m c) (aG m c) (aBg m c)) ?_))
  blk_ext [idx t, pos]

theorem final13 : (dats m 0 c).arrAt 13 cfg0.N = result siluT (aX m c) (aG m c) (aDz m c) := by
  refine (dats m 0 c).arrAt_eq_of_covers 13 (result siluT (aX m c) (aG m c) (aDz m c)) (by decide +kernel) fun t hf y => ?_
  blk_simp
  rw [after0_13]
  have hy : y = ix2 (y 0) (y 1) := by blk_ext
  have hp : ∀ (r : Fin 1024) (n : Fin 512), out0_13 (iblk m c 0 t) (iblk m c 1 t) (iblk m c 2 t) (iblk m c 3 t) (iblk m c 4 t)
      (iblk m c 5 t) (iblk m c 6 t) (iblk m c 7 t) (iblk m c 8 t) (ix2 r n) = result siluT (aX m c) (aG m c) (aDz m c) (ix2 (pos t r) n) := fun r n => by
    refine (out13_apply _ _ _ _ _ _ _ _ _ r n).trans ?_
    simp only [b0, b1, b6]
    rfl
  refine (congrArg _ hy).trans ((hp (y 0) (y 1)).trans (congrArg (result siluT (aX m c) (aG m c) (aDz m c)) ?_))
  blk_ext [idx t, pos]

theorem final14 : (dats m 0 c).arrAt 14 cfg0.N = result id (aX m c) (aG m c) (aDx m c) := by
  refine (dats m 0 c).arrAt_eq_of_covers 14 (result id (aX m c) (aG m c) (aDx m c)) (by decide +kernel) fun t hf y => ?_
  blk_simp
  rw [after0_14]
  have hy : y = ix2 (y 0) (y 1) := by blk_ext
  have hp : ∀ (r : Fin 1024) (n : Fin 1024), out0_14 (iblk m c 0 t) (iblk m c 1 t) (iblk m c 2 t) (iblk m c 3 t) (iblk m c 4 t)
      (iblk m c 5 t) (iblk m c 6 t) (iblk m c 7 t) (iblk m c 8 t) (ix2 r n) = result id (aX m c) (aG m c) (aDx m c) (ix2 (pos t r) n) := fun r n => by
    refine (out14_apply _ _ _ _ _ _ _ _ _ r n).trans ?_
    simp only [b0, b1, b7]
    rfl
  refine (congrArg _ hy).trans ((hp (y 0) (y 1)).trans (congrArg (result id (aX m c) (aG m c) (aDx m c)) ?_))
  blk_ext [idx t, pos]

theorem final15 : (dats m 0 c).arrAt 15 cfg0.N = result id (aX m c) (aG m c) (aDd m c) := by
  refine (dats m 0 c).arrAt_eq_of_covers 15 (result id (aX m c) (aG m c) (aDd m c)) (by decide +kernel) fun t hf y => ?_
  blk_simp
  rw [after0_15]
  have hy : y = ix2 (y 0) (y 1) := by blk_ext
  have hp : ∀ (r : Fin 1024) (n : Fin 128), out0_15 (iblk m c 0 t) (iblk m c 1 t) (iblk m c 2 t) (iblk m c 3 t) (iblk m c 4 t)
      (iblk m c 5 t) (iblk m c 6 t) (iblk m c 7 t) (iblk m c 8 t) (ix2 r n) = result id (aX m c) (aG m c) (aDd m c) (ix2 (pos t r) n) := fun r n => by
    refine (out15_apply _ _ _ _ _ _ _ _ _ r n).trans ?_
    simp only [b0, b1, b8]
    rfl
  refine (congrArg _ hy).trans ((hp (y 0) (y 1)).trans (congrArg (result id (aX m c) (aG m c) (aDd m c)) ?_))
  blk_ext [idx t, pos]

end

section
open Cert.ProjReferenceIdeal Cert.ProjReferenceIdeal.Gen Cert.ProjReferenceIdeal.Read

variable (x0 : (⟨S16384x1024, .f32⟩ : BufTy).Contents (Elt Ideal)) (x1 : (⟨S1024, .f32⟩ : BufTy).Contents (Elt Ideal))

/-- The reference's normalised rows. -/
theorem v12_at (s : Fin 16384) (k : Fin 1024) :
    val_main_v12 (F := Ideal) x0 x1 (ix2 s k) = rms cnt (fun j => x0 (ix2 s j)) (fun j => x1 (ix1 j)) k := by
  have e : ∀ j, idx_main_v1 (idx_main_v2 (idx_main_v8 (ix2 s k))) j = ix2 s j := fun j => funext fun a => by
    match a with | ⟨0, _⟩ => rfl | ⟨1, _⟩ => rfl
  have e' : idx_main_v10 (idx_main_v11 (ix2 s k)) = ix1 k := funext fun a => by match a with | ⟨0, _⟩ => rfl
  refine Eq.trans (b := x0 (ix2 s k) * Ideal.rsqrt (Ideal.div (Ideal.ofBits .f32 0x00000000#32 + ∑ j, x0 (ix2 s j) * x0 (ix2 s j)) cnt
    + Ideal.ofBits .f32 0x358637BD#32) * x1 (ix1 k)) ?_ ?_
  · simp only [val_main_v12_apply, val_main_v11_apply, val_main_v10_apply, val_main_v9_apply, val_main_v8_apply, val_main_v7_apply,
      val_main_v6_apply, val_main_v5_apply, val_main_v4_apply, val_main_v3_apply, val_main_v2_apply, val_main_v1_apply, val_main_v0_apply, e, e']
    rfl
  · rw [Ideal.ofBits_zero_f32, zero_add]; rfl

theorem ix2_eta {M N : ℕ} (i : (⟨2, ![M, N]⟩ : Shape).Idx) : ∃ s n, i = ix2 s n :=
  ⟨i 0, i 1, funext fun a => by match a with | ⟨0, _⟩ => rfl | ⟨1, _⟩ => rfl⟩

theorem v13_at (x2 : (⟨S1024x256, .f32⟩ : BufTy).Contents (Elt Ideal)) (s : Fin 16384) (n : Fin 256) :
    val_main_v13 (F := Ideal) x0 x1 x2 (ix2 s n) = dense x0 x1 x2 s n := by
  rw [val_main_v13_apply]
  unfold dense dot
  refine Finset.sum_congr rfl fun k _ => ?_
  have e : lidx_main_v13 (ix2 s n) k = ix2 s k := funext fun a => by match a with | ⟨0, _⟩ => rfl | ⟨1, _⟩ => rfl
  have e' : ridx_main_v13 (ix2 s n) k = ix2 k n := funext fun a => by match a with | ⟨0, _⟩ => rfl | ⟨1, _⟩ => rfl
  rw [e, e', v12_at]

theorem v14_at (x3 : (⟨S1024x256, .f32⟩ : BufTy).Contents (Elt Ideal)) (s : Fin 16384) (n : Fin 256) :
    val_main_v14 (F := Ideal) x0 x1 x3 (ix2 s n) = dense x0 x1 x3 s n := by
  rw [val_main_v14_apply]
  unfold dense dot
  refine Finset.sum_congr rfl fun k _ => ?_
  have e : lidx_main_v14 (ix2 s n) k = ix2 s k := funext fun a => by match a with | ⟨0, _⟩ => rfl | ⟨1, _⟩ => rfl
  have e' : ridx_main_v14 (ix2 s n) k = ix2 k n := funext fun a => by match a with | ⟨0, _⟩ => rfl | ⟨1, _⟩ => rfl
  rw [e, e', v12_at]

theorem v15_at (x4 : (⟨S1024x512, .f32⟩ : BufTy).Contents (Elt Ideal)) (s : Fin 16384) (n : Fin 512) :
    val_main_v15 (F := Ideal) x0 x1 x4 (ix2 s n) = dense x0 x1 x4 s n := by
  rw [val_main_v15_apply]
  unfold dense dot
  refine Finset.sum_congr rfl fun k _ => ?_
  have e : lidx_main_v15 (ix2 s n) k = ix2 s k := funext fun a => by match a with | ⟨0, _⟩ => rfl | ⟨1, _⟩ => rfl
  have e' : ridx_main_v15 (ix2 s n) k = ix2 k n := funext fun a => by match a with | ⟨0, _⟩ => rfl | ⟨1, _⟩ => rfl
  rw [e, e', v12_at]

theorem v17_at (x5 : (⟨S1024x512, .f32⟩ : BufTy).Contents (Elt Ideal)) (s : Fin 16384) (n : Fin 512) :
    val_main_v17 (F := Ideal) x0 x1 x5 (ix2 s n) = dense x0 x1 x5 s n := by
  rw [val_main_v17_apply]
  unfold dense dot
  refine Finset.sum_congr rfl fun k _ => ?_
  have e : lidx_main_v17 (ix2 s n) k = ix2 s k := funext fun a => by match a with | ⟨0, _⟩ => rfl | ⟨1, _⟩ => rfl
  have e' : ridx_main_v17 (ix2 s n) k = ix2 k n := funext fun a => by match a with | ⟨0, _⟩ => rfl | ⟨1, _⟩ => rfl
  rw [e, e', v12_at]

theorem v20_at (x6 : (⟨S1024x512, .f32⟩ : BufTy).Contents (Elt Ideal)) (s : Fin 16384) (n : Fin 512) :
    val_main_v20 (F := Ideal) x0 x1 x6 (ix2 s n) = dense x0 x1 x6 s n := by
  rw [val_main_v20_apply]
  unfold dense dot
  refine Finset.sum_congr rfl fun k _ => ?_
  have e : lidx_main_v20 (ix2 s n) k = ix2 s k := funext fun a => by match a with | ⟨0, _⟩ => rfl | ⟨1, _⟩ => rfl
  have e' : ridx_main_v20 (ix2 s n) k = ix2 k n := funext fun a => by match a with | ⟨0, _⟩ => rfl | ⟨1, _⟩ => rfl
  rw [e, e', v12_at]

theorem v23_at (x7 : (⟨S1024x1024, .f32⟩ : BufTy).Contents (Elt Ideal)) (s : Fin 16384) (n : Fin 1024) :
    val_main_v23 (F := Ideal) x0 x1 x7 (ix2 s n) = dense x0 x1 x7 s n := by
  rw [val_main_v23_apply]
  unfold dense dot
  refine Finset.sum_congr rfl fun k _ => ?_
  have e : lidx_main_v23 (ix2 s n) k = ix2 s k := funext fun a => by match a with | ⟨0, _⟩ => rfl | ⟨1, _⟩ => rfl
  have e' : ridx_main_v23 (ix2 s n) k = ix2 k n := funext fun a => by match a with | ⟨0, _⟩ => rfl | ⟨1, _⟩ => rfl
  rw [e, e', v12_at]

theorem v24_at (x8 : (⟨S1024x128, .f32⟩ : BufTy).Contents (Elt Ideal)) (s : Fin 16384) (n : Fin 128) :
    val_main_v24 (F := Ideal) x0 x1 x8 (ix2 s n) = dense x0 x1 x8 s n := by
  rw [val_main_v24_apply]
  unfold dense dot
  refine Finset.sum_congr rfl fun k _ => ?_
  have e : lidx_main_v24 (ix2 s n) k = ix2 s k := funext fun a => by match a with | ⟨0, _⟩ => rfl | ⟨1, _⟩ => rfl
  have e' : ridx_main_v24 (ix2 s n) k = ix2 k n := funext fun a => by match a with | ⟨0, _⟩ => rfl | ⟨1, _⟩ => rfl
  rw [e, e', v12_at]

theorem v13_eq (x2 : (⟨S1024x256, .f32⟩ : BufTy).Contents (Elt Ideal)) :
    val_main_v13 (F := Ideal) x0 x1 x2 = result id x0 x1 x2 := by
  funext i
  obtain ⟨s, n, rfl⟩ := ix2_eta i
  exact v13_at x0 x1 x2 s n

theorem v14_eq (x3 : (⟨S1024x256, .f32⟩ : BufTy).Contents (Elt Ideal)) :
    val_main_v14 (F := Ideal) x0 x1 x3 = result id x0 x1 x3 := by
  funext i
  obtain ⟨s, n, rfl⟩ := ix2_eta i
  exact v14_at x0 x1 x3 s n

theorem v16_eq (x4 : (⟨S1024x512, .f32⟩ : BufTy).Contents (Elt Ideal)) :
    val_main_v16 (F := Ideal) x0 x1 x4 = result id x0 x1 x4 := by
  funext i
  obtain ⟨s, n, rfl⟩ := ix2_eta i
  rw [val_main_v16_apply]
  exact v15_at x0 x1 x4 s n

theorem v19_eq (x5 : (⟨S1024x512, .f32⟩ : BufTy).Contents (Elt Ideal)) :
    val_main_v19 (F := Ideal) x0 x1 x5 = result silu x0 x1 x5 := by
  funext i
  obtain ⟨s, n, rfl⟩ := ix2_eta i
  simp only [val_main_v19_apply, val_main_v18_apply, val_main_call0_v5_apply, val_main_call0_v4_apply, val_main_call0_v3_apply, val_main_call0_v2_apply, val_main_call0_v1_apply, val_main_call0_v0_apply, val_main_call0_cst_0_apply, val_main_call0_cst_apply, v17_at]
  show _ * Ideal.div (Ideal.ofBits .f32 0x3F800000#32) (Ideal.ofBits .f32 0x3F800000#32 + _) = _
  rw [one_eq]
  rfl

theorem v22_eq (x6 : (⟨S1024x512, .f32⟩ : BufTy).Contents (Elt Ideal)) :
    val_main_v22 (F := Ideal) x0 x1 x6 = result silu x0 x1 x6 := by
  funext i
  obtain ⟨s, n, rfl⟩ := ix2_eta i
  simp only [val_main_v22_apply, val_main_v21_apply, val_main_call1_v5_apply, val_main_call1_v4_apply, val_main_call1_v3_apply, val_main_call1_v2_apply, val_main_call1_v1_apply, val_main_call1_v0_apply, val_main_call1_cst_0_apply, val_main_call1_cst_apply, v20_at]
  show _ * Ideal.div (Ideal.ofBits .f32 0x3F800000#32) (Ideal.ofBits .f32 0x3F800000#32 + _) = _
  rw [one_eq]
  rfl

theorem v23_eq (x7 : (⟨S1024x1024, .f32⟩ : BufTy).Contents (Elt Ideal)) :
    val_main_v23 (F := Ideal) x0 x1 x7 = result id x0 x1 x7 := by
  funext i
  obtain ⟨s, n, rfl⟩ := ix2_eta i
  exact v23_at x0 x1 x7 s n

theorem v24_eq (x8 : (⟨S1024x128, .f32⟩ : BufTy).Contents (Elt Ideal)) :
    val_main_v24 (F := Ideal) x0 x1 x8 = result id x0 x1 x8 := by
  funext i
  obtain ⟨s, n, rfl⟩ := ix2_eta i
  exact v24_at x0 x1 x8 s n

end

/-- A normalised real row is real. -/
theorem real_cnt {x g : Fin 1024 → EReal} (hx : ∀ k, Real' (x k)) (hg : ∀ k, Real' (g k)) (k : Fin 1024) :
    Real' (rms cnt x g k) := by
  unfold cnt; rw [cnt_eq]; exact real_rms (by norm_num) hx hg k

/-- A projection of finite rows through finite weights is real, so the two spellings of the activation agree on it. -/
theorem gated {N : ℕ} (x : (⟨2, ![16384, 1024]⟩ : Shape).Idx → EReal) (g : (⟨1, ![1024]⟩ : Shape).Idx → EReal)
    (w : (⟨2, ![1024, N]⟩ : Shape).Idx → EReal) (hx : ∀ i, Real' (x i)) (hg : ∀ i, Real' (g i)) (hw : ∀ i, Real' (w i)) :
    result siluT x g w = result silu x g w :=
  funext fun _ => siluT_eq (real_dot (real_cnt (fun _ => hx _) (fun _ => hg _)) (fun _ _ => hw _) _)

/-- The call's seven results are the reference's, the arguments agreeing and the gated ones' finite. -/
theorem algebraic : Cert.algebraic_ProjIdeal_ProjReferenceIdeal_pre_finite_proj := by
  intro m ρ m' ρ' hpre hagree
  refine ⟨fun c => result id (aX m c) (aG m c) (aBq m c), fun c => result id (aX m c) (aG m c) (aBk m c), fun c => result id (aX m c) (aG m c) (aBv m c), fun c => result silu (aX m c) (aG m c) (aBg m c), fun c => result silu (aX m c) (aG m c) (aDz m c), fun c => result id (aX m c) (aG m c) (aDx m c), fun c => result id (aX m c) (aG m c) (aDd m c), ?_, ?_⟩
  · refine (θ_run Cert.ProjIdeal.defs _ _).mono (fun _ h c => ?_) (Cert.ProjIdeal.Value.run_blocks (F := Ideal) m ρ)
    obtain ⟨p0, p1, p2, p3⟩ := hpre c
    obtain ⟨e0, e1, e2, e3, e4, e5, e6, e⟩ := h c
    have hx := Cert.Finite.reals (aX m c) _ p0
    have hg := Cert.Finite.reals (aG m c) _ p1
    exact ⟨e0.trans (final9 m c), e1.trans (final10 m c), e2.trans (final11 m c),
      e3.trans ((final12 m c).trans (gated _ _ _ hx hg (Cert.Finite.reals (aBg m c) _ p2))),
      e4.trans ((final13 m c).trans (gated _ _ _ hx hg (Cert.Finite.reals (aDz m c) _ p3))),
      e5.trans (final14 m c), e6.trans (final15 m c), e⟩
  · refine (θ_run Cert.ProjReferenceIdeal.defs _ _).mono (fun _ h c => ?_) (Cert.ProjReferenceIdeal.Value.run (F := Ideal) m' ρ')
    obtain ⟨h0, h1, h2, h3, h4, h5, h6, h7, h8⟩ := hagree c
    obtain ⟨e0, e1, e2, e3, e4, e5, e6, e⟩ := h c
    exact ⟨e0.trans ((Cert.ProjReferenceIdeal.Read.val_main_v13_eq _ _ _).trans ((v13_eq _ _ _).trans (congr (congr (congrArg (result id) h0) h1) h2))),
      e1.trans ((Cert.ProjReferenceIdeal.Read.val_main_v14_eq _ _ _).trans ((v14_eq _ _ _).trans (congr (congr (congrArg (result id) h0) h1) h3))),
      e2.trans ((Cert.ProjReferenceIdeal.Read.val_main_v16_eq _ _ _).trans ((v16_eq _ _ _).trans (congr (congr (congrArg (result id) h0) h1) h4))),
      e3.trans ((Cert.ProjReferenceIdeal.Read.val_main_v19_eq _ _ _).trans ((v19_eq _ _ _).trans (congr (congr (congrArg (result silu) h0) h1) h5))),
      e4.trans ((Cert.ProjReferenceIdeal.Read.val_main_v22_eq _ _ _).trans ((v22_eq _ _ _).trans (congr (congr (congrArg (result silu) h0) h1) h6))),
      e5.trans ((Cert.ProjReferenceIdeal.Read.val_main_v23_eq _ _ _).trans ((v23_eq _ _ _).trans (congr (congr (congrArg (result id) h0) h1) h7))),
      e6.trans ((Cert.ProjReferenceIdeal.Read.val_main_v24_eq _ _ _).trans ((v24_eq _ _ _).trans (congr (congr (congrArg (result id) h0) h1) h8))), e⟩

end Cert.ProjValues

end
-- ==== Proof.AttnMath.lean ====
/-
  The arithmetic of one row of causal attention: the weights by powers of two less any real shift, summed block by block,
  and the weights by exponentials less any real shift, have one quotient.
-/
module

public import proofs.«01_k».proof.Proof.Layer

@[expose] public section

noncomputable section

open scoped BigOperators

namespace Cert.AttnMath

open Idealize.ShloMosaic Cert.Layer

/-- The weight of key `k` for query `q`, before the division. -/
def ew (q : ℕ) (S : ℕ → ℝ) (k : ℕ) : ℝ := if k ≤ q then Real.exp (S k) else 0

/-- The weighted sum over all keys. -/
def msum (q : ℕ) (S V : ℕ → ℝ) : ℝ := ∑ k ∈ Finset.range 4096, ew q S k * V k

/-- The attention of one row. -/
def att (q : ℕ) (S V : ℕ → ℝ) : ℝ := msum q S V / msum q S fun _ => 1

/-- A score, masked. -/
def masked (q : ℕ) (S : ℕ → ℝ) (k : ℕ) : EReal := if k ≤ q then ((S k : ℝ) : EReal) else ⊥

/-- A score in powers of two, masked. -/
def masked2 (q : ℕ) (S : ℕ → ℝ) (k : ℕ) : EReal := if k ≤ q then ((S k * (Real.log 2)⁻¹ : ℝ) : EReal) else ⊥

theorem exp_masked (q : ℕ) (S : ℕ → ℝ) (k : ℕ) (M : ℝ) :
    Ideal.exp (masked q S k - (M : EReal)) = ((Real.exp (-M) * ew q S k : ℝ) : EReal) := by
  unfold masked ew
  split
  · rw [← EReal.coe_sub, Ideal.exp_coe, ← Real.exp_add]
    congr 2; ring
  · rw [sub_eq_add_neg, EReal.bot_add, Ideal.exp_bot, mul_zero]; rfl

theorem exp2_masked (q : ℕ) (S : ℕ → ℝ) (k : ℕ) (M : ℝ) :
    Ideal.exp2 (masked2 q S k - (M : EReal)) = ((Real.exp (-(M * Real.log 2)) * ew q S k : ℝ) : EReal) := by
  unfold masked2 ew
  have h2 : Real.log 2 ≠ 0 := (Real.log_pos (by norm_num)).ne'
  split
  · rw [← EReal.coe_sub, Ideal.exp2_coe, ← Real.exp_add]
    congr 1
    show (2 : ℝ) ^ (S k * (Real.log 2)⁻¹ - M) = _
    rw [Real.rpow_def_of_pos (by norm_num)]
    congr 1
    field_simp
    ring
  · rw [sub_eq_add_neg, EReal.bot_add, Ideal.exp2_bot, mul_zero]; rfl

theorem ew_nonneg (q : ℕ) (S : ℕ → ℝ) (k : ℕ) : 0 ≤ ew q S k := by
  unfold ew; split
  · exact (Real.exp_pos _).le
  · exact le_rfl

theorem msum_pos (q : ℕ) (S : ℕ → ℝ) : 0 < msum q S fun _ => 1 := by
  unfold msum
  refine Finset.sum_pos' (fun k _ => by rw [mul_one]; exact ew_nonneg q S k) ⟨0, by simp, ?_⟩
  rw [mul_one]; unfold ew; rw [if_pos (Nat.zero_le _)]; exact Real.exp_pos _

/-- Sums taken block by block. -/
theorem blocks (f : ℕ → ℝ) (a : ℕ → EReal) (N : ℕ) (h0 : a 0 = 0)
    (hs : ∀ j, j < N → a (j + 1) = a j + ∑ r : Fin 512, ((f (512 * j + r.val) : ℝ) : EReal)) :
    ∀ n, n ≤ N → a n = ((∑ k ∈ Finset.range (512 * n), f k : ℝ) : EReal) := by
  intro n
  induction n with
  | zero => intro _; rw [h0]; simp
  | succ n ih =>
    intro hn
    rw [hs n hn, ih (Nat.le_of_succ_le hn), coe_sum, ← EReal.coe_add, Nat.mul_succ, Finset.sum_range_add, ← Fin.sum_univ_eq_sum_range (fun r => f (512 * n + r))]

/-- Beyond the query's own block nothing is added. -/
theorem extend (q n : ℕ) (S V : ℕ → ℝ) (hn : n < 8) (hq : q < 512 * (n + 1)) :
    ∑ k ∈ Finset.range (512 * (n + 1)), ew q S k * V k = msum q S V := by
  unfold msum
  refine Finset.sum_subset (Finset.range_subset_range.mpr (by omega)) fun k _ hk => ?_
  rw [Finset.mem_range, not_lt] at hk
  unfold ew; rw [if_neg (by omega), zero_mul]

/-- The quotient of two sums scaled by one positive number. -/
theorem quotient (c A D : ℝ) (hc : 0 < c) (hD : 0 < D) : Ideal.div ((c * A : ℝ) : EReal) ((c * D : ℝ) : EReal) = ((A / D : ℝ) : EReal) := by
  rw [Ideal.div_coe (mul_pos hc hD).ne', ← EReal.coe_mul]
  congr 1
  field_simp

/-- The kernel's attention of one row: the accumulated sums over the accumulated weights. -/
theorem kernel (q n : ℕ) (S V : ℕ → ℝ) (M : ℝ) (hn : n < 8) (hq : q < 512 * (n + 1)) (a d : ℕ → EReal) (ha0 : a 0 = 0) (hd0 : d 0 = 0)
    (ha : ∀ j, j < n + 1 → a (j + 1) = a j + ∑ r : Fin 512, Ideal.exp2 (masked2 q S (512 * j + r.val) - (M : EReal)) * ((V (512 * j + r.val) : ℝ) : EReal))
    (hd : ∀ j, j < n + 1 → d (j + 1) = d j + ∑ r : Fin 512, Ideal.exp2 (masked2 q S (512 * j + r.val) - (M : EReal)) * ((1 : ℝ) : EReal)) :
    Ideal.div (a (n + 1)) (d (n + 1)) = ((att q S V : ℝ) : EReal) := by
  have key : ∀ (W : ℕ → ℝ) (b : ℕ → EReal), b 0 = 0 → (∀ j, j < n + 1 → b (j + 1) = b j + ∑ r : Fin 512, Ideal.exp2 (masked2 q S (512 * j + r.val) - (M : EReal)) * ((W (512 * j + r.val) : ℝ) : EReal))
      → b (n + 1) = ((Real.exp (-(M * Real.log 2)) * msum q S W : ℝ) : EReal) := by
    intro W b h0 hs
    rw [blocks (fun k => Real.exp (-(M * Real.log 2)) * (ew q S k * W k)) b (n + 1) h0 (fun j hj => by
      rw [hs j hj]
      refine congrArg (_ + ·) (Finset.sum_congr rfl fun r _ => ?_)
      rw [exp2_masked, ← EReal.coe_mul, mul_assoc]) (n + 1) le_rfl, ← Finset.mul_sum, extend q n S W hn hq]
  rw [key V a ha0 ha, key (fun _ => 1) d hd0 hd]
  exact quotient _ _ _ (Real.exp_pos _) (msum_pos q S)

/-- The reference's sum of weights less weights, times values. -/
theorem reference (q : ℕ) (S T V : ℕ → ℝ) (M N l : ℝ) :
    ∑ k : Fin 4096, (Ideal.div (Ideal.exp (masked q S k.val - (M : EReal))) (∑ j : Fin 4096, Ideal.exp (masked q S j.val - (M : EReal)))
      - (l : EReal) * Ideal.div (Ideal.exp (masked q T k.val - (N : EReal))) (∑ j : Fin 4096, Ideal.exp (masked q T j.val - (N : EReal)))) * ((V k.val : ℝ) : EReal)
      = ((att q S V - l * att q T V : ℝ) : EReal) := by
  have hsum : ∀ (U : ℕ → ℝ) (m : ℝ), ∑ j : Fin 4096, Ideal.exp (masked q U j.val - (m : EReal)) = ((Real.exp (-m) * msum q U fun _ => 1 : ℝ) : EReal) := by
    intro U m
    rw [Finset.sum_congr rfl fun (j : Fin 4096) _ => exp_masked q U j.val m, coe_sum]
    congr 1
    rw [Fin.sum_univ_eq_sum_range (fun k => Real.exp (-m) * ew q U k), ← Finset.mul_sum]
    unfold msum; simp
  rw [hsum, hsum]
  have hk : ∀ k : Fin 4096, (Ideal.div (Ideal.exp (masked q S k.val - (M : EReal))) ((Real.exp (-M) * msum q S fun _ => 1 : ℝ) : EReal)
      - (l : EReal) * Ideal.div (Ideal.exp (masked q T k.val - (N : EReal))) ((Real.exp (-N) * msum q T fun _ => 1 : ℝ) : EReal)) * ((V k.val : ℝ) : EReal)
      = (((ew q S k.val * V k.val) / (msum q S fun _ => 1) - l * ((ew q T k.val * V k.val) / (msum q T fun _ => 1)) : ℝ) : EReal) := by
    intro k
    rw [exp_masked, exp_masked, quotient _ _ _ (Real.exp_pos _) (msum_pos q S), quotient _ _ _ (Real.exp_pos _) (msum_pos q T),
      ← EReal.coe_mul, ← EReal.coe_sub, ← EReal.coe_mul]
    congr 1; ring
  rw [Finset.sum_congr rfl fun k _ => hk k, coe_sum]
  congr 1
  rw [Finset.sum_sub_distrib, ← Finset.mul_sum, ← Finset.sum_div, ← Finset.sum_div,
    Fin.sum_univ_eq_sum_range (fun k => ew q S k * V k), Fin.sum_univ_eq_sum_range (fun k => ew q T k * V k)]
  rfl

/-- A greatest of numbers below the top, one of them real, is real. -/
theorem real_of_between {x : EReal} (h1 : x ≠ ⊤) (h2 : x ≠ ⊥) : Real' x := ⟨x.toReal, (EReal.coe_toReal h1 h2).symm⟩

theorem fold_real {n : ℕ} {s : Fin n → EReal} (ht : ∀ i, s i ≠ ⊤) (i : Fin n) (hb : s i ≠ ⊥) : Real' (top s) := by
  refine real_of_between (ne_of_lt ?_) ?_
  · unfold top
    rw [Finset.fold_max_lt]
    exact ⟨by rw [ninf_eq]; exact bot_lt_top, fun i _ => lt_top_iff_ne_top.mpr (ht i)⟩
  · have hi : s i ≤ top s := by
      unfold top
      rw [Finset.le_fold_max]
      exact Or.inr ⟨i, Finset.mem_univ _, le_rfl⟩
    intro h0
    rw [h0, le_bot_iff] at hi
    exact hb hi

theorem masked_ne_top (q : ℕ) (S : ℕ → ℝ) (k : ℕ) : masked q S k ≠ ⊤ := by
  unfold masked; split
  · exact EReal.coe_ne_top _
  · exact bot_ne_top

theorem masked2_ne_top (q : ℕ) (S : ℕ → ℝ) (k : ℕ) : masked2 q S k ≠ ⊤ := by
  unfold masked2; split
  · exact EReal.coe_ne_top _
  · exact bot_ne_top

end Cert.AttnMath

end
-- ==== Proof.AttnRun.lean ====
module

public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import Idealize.ShloMosaic.Lib.Tactic

@[expose] public section

set_option maxRecDepth 65536

noncomputable section

namespace Cert.AttnRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev 𝒱₀ : Variants := Variants.none

/-- The trips of the first loop: the whole quadruples of blocks before the diagonal. -/
theorem trips1 : ∀ i : grid0.Coords, (k0_t1_loop i).trips = (i 2).val / 4 := by decide +kernel
theorem trips2 : ∀ i : grid0.Coords, (k0_t2_loop i).trips = 0 := by decide +kernel
theorem trips3 : ∀ i : grid0.Coords, (k0_t3_loop i).trips = ((i 2).val + 1) / 4 := by decide +kernel
theorem trips4 : ∀ i : grid0.Coords, (k0_t4_loop i).trips = 0 := by decide +kernel

theorem off1 : ∀ (i : grid0.Coords) (k : Fin (k0_t1_loop i).trips) (u : Fin 4),
    k0_off1 i k (BitVec.ofNat 32 u.val) = ![0, 512 * (4 * k.val + u.val), 0] := by decide +kernel
theorem off2 : ∀ (i : grid0.Coords) (k : Fin (k0_t1_loop i).trips) (u : Fin 4),
    k0_off2 i k (BitVec.ofNat 32 u.val) = ![0, 4 * k.val + u.val, 0, 0] := by decide +kernel
theorem off3 : ∀ (i : grid0.Coords) (k : Fin (k0_t1_loop i).trips) (u : Fin 4),
    k0_off3 i k (BitVec.ofNat 32 u.val) = ![1, 4 * k.val + u.val, 0, 0] := by decide +kernel
theorem off19 : ∀ (i : grid0.Coords) (k : Fin (k0_t3_loop i).trips) (u : Fin 4),
    k0_off19 i k (BitVec.ofNat 32 u.val) = ![512 * (4 * k.val + u.val), 0] := by decide +kernel
theorem off20 : ∀ (i : grid0.Coords) (k : Fin (k0_t3_loop i).trips) (u : Fin 4),
    k0_off20 i k (BitVec.ofNat 32 u.val) = ![0, 4 * k.val + u.val, 0, 0] := by decide +kernel
theorem off21 : ∀ (i : grid0.Coords) (k : Fin (k0_t3_loop i).trips) (u : Fin 4),
    k0_off21 i k (BitVec.ofNat 32 u.val) = ![1, 4 * k.val + u.val, 0, 0] := by decide +kernel

theorem off7 : ∀ i : grid0.Coords, k0_off7 i = ![0, 512 * ((i 2).val / 4 * 4), 0] := by decide +kernel
theorem off8 : ∀ i : grid0.Coords, k0_off8 i = ![0, (i 2).val / 4 * 4, 0, 0] := by decide +kernel
theorem off9 : ∀ i : grid0.Coords, k0_off9 i = ![1, (i 2).val / 4 * 4, 0, 0] := by decide +kernel
theorem off10 : ∀ i : grid0.Coords, k0_off10 i = ![0, 512 * ((i 2).val / 4 * 4 + 1), 0] := by decide +kernel
theorem off11 : ∀ i : grid0.Coords, k0_off11 i = ![0, (i 2).val / 4 * 4 + 1, 0, 0] := by decide +kernel
theorem off12 : ∀ i : grid0.Coords, k0_off12 i = ![1, (i 2).val / 4 * 4 + 1, 0, 0] := by decide +kernel
theorem off16 : ∀ i : grid0.Coords, k0_off16 i = ![0, 512 * (i 2).val, 0] := by decide +kernel
theorem off17 : ∀ i : grid0.Coords, k0_off17 i = ![0, (i 2).val, 0, 0] := by decide +kernel
theorem off18 : ∀ i : grid0.Coords, k0_off18 i = ![1, (i 2).val, 0, 0] := by decide +kernel
theorem cond2 : ∀ i : grid0.Coords, k0_cond2 i = 1#1 ↔ 2 ≤ (i 2).val % 4 := by decide +kernel
theorem cond3 : ∀ i : grid0.Coords, k0_cond3 i = 1#1 ↔ (i 2).val % 2 = 1 := by decide +kernel
theorem cond4 : ∀ i : grid0.Coords, k0_cond4 i = 1#1 ↔ 2 ≤ ((i 2).val + 1) % 4 := by decide +kernel
theorem cond5 : ∀ i : grid0.Coords, k0_cond5 i = 1#1 ↔ (i 2).val % 2 = 0 := by decide +kernel
theorem off25 : ∀ i : grid0.Coords, k0_off25 i = ![512 * (((i 2).val + 1) / 4 * 4), 0] := by decide +kernel
theorem off26 : ∀ i : grid0.Coords, k0_off26 i = ![0, ((i 2).val + 1) / 4 * 4, 0, 0] := by decide +kernel

instance (i : grid0.Coords) (k : Fin (k0_t1_loop i).trips) : ClosedOff (k0_off1 i k 0#32) := ⟨_, off1 i k 0⟩
instance (i : grid0.Coords) (k : Fin (k0_t1_loop i).trips) : ClosedOff (k0_off1 i k 1#32) := ⟨_, off1 i k 1⟩
instance (i : grid0.Coords) (k : Fin (k0_t1_loop i).trips) : ClosedOff (k0_off1 i k 2#32) := ⟨_, off1 i k 2⟩
instance (i : grid0.Coords) (k : Fin (k0_t1_loop i).trips) : ClosedOff (k0_off1 i k 3#32) := ⟨_, off1 i k 3⟩
instance (i : grid0.Coords) (k : Fin (k0_t1_loop i).trips) : ClosedOff (k0_off2 i k 0#32) := ⟨_, off2 i k 0⟩
instance (i : grid0.Coords) (k : Fin (k0_t1_loop i).trips) : ClosedOff (k0_off2 i k 1#32) := ⟨_, off2 i k 1⟩
instance (i : grid0.Coords) (k : Fin (k0_t1_loop i).trips) : ClosedOff (k0_off2 i k 2#32) := ⟨_, off2 i k 2⟩
instance (i : grid0.Coords) (k : Fin (k0_t1_loop i).trips) : ClosedOff (k0_off2 i k 3#32) := ⟨_, off2 i k 3⟩
instance (i : grid0.Coords) (k : Fin (k0_t1_loop i).trips) : ClosedOff (k0_off3 i k 0#32) := ⟨_, off3 i k 0⟩
instance (i : grid0.Coords) (k : Fin (k0_t1_loop i).trips) : ClosedOff (k0_off3 i k 1#32) := ⟨_, off3 i k 1⟩
instance (i : grid0.Coords) (k : Fin (k0_t1_loop i).trips) : ClosedOff (k0_off3 i k 2#32) := ⟨_, off3 i k 2⟩
instance (i : grid0.Coords) (k : Fin (k0_t1_loop i).trips) : ClosedOff (k0_off3 i k 3#32) := ⟨_, off3 i k 3⟩

instance (i : grid0.Coords) (k : Fin (k0_t3_loop i).trips) : ClosedOff (k0_off19 i k 0#32) := ⟨_, off19 i k 0⟩
instance (i : grid0.Coords) (k : Fin (k0_t3_loop i).trips) : ClosedOff (k0_off19 i k 1#32) := ⟨_, off19 i k 1⟩
instance (i : grid0.Coords) (k : Fin (k0_t3_loop i).trips) : ClosedOff (k0_off19 i k 2#32) := ⟨_, off19 i k 2⟩
instance (i : grid0.Coords) (k : Fin (k0_t3_loop i).trips) : ClosedOff (k0_off19 i k 3#32) := ⟨_, off19 i k 3⟩
instance (i : grid0.Coords) (k : Fin (k0_t3_loop i).trips) : ClosedOff (k0_off20 i k 0#32) := ⟨_, off20 i k 0⟩
instance (i : grid0.Coords) (k : Fin (k0_t3_loop i).trips) : ClosedOff (k0_off20 i k 1#32) := ⟨_, off20 i k 1⟩
instance (i : grid0.Coords) (k : Fin (k0_t3_loop i).trips) : ClosedOff (k0_off20 i k 2#32) := ⟨_, off20 i k 2⟩
instance (i : grid0.Coords) (k : Fin (k0_t3_loop i).trips) : ClosedOff (k0_off20 i k 3#32) := ⟨_, off20 i k 3⟩
instance (i : grid0.Coords) (k : Fin (k0_t3_loop i).trips) : ClosedOff (k0_off21 i k 0#32) := ⟨_, off21 i k 0⟩
instance (i : grid0.Coords) (k : Fin (k0_t3_loop i).trips) : ClosedOff (k0_off21 i k 1#32) := ⟨_, off21 i k 1⟩
instance (i : grid0.Coords) (k : Fin (k0_t3_loop i).trips) : ClosedOff (k0_off21 i k 2#32) := ⟨_, off21 i k 2⟩
instance (i : grid0.Coords) (k : Fin (k0_t3_loop i).trips) : ClosedOff (k0_off21 i k 3#32) := ⟨_, off21 i k 3⟩

section Trips
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x512x128 .bf16) (harg8 : arg8.IsWhole) (arg9 : Memref sig .tc .vmem S2x8x512x512 .f32) (harg9 : arg9.IsWhole) (arg10 : Memref sig .tc .vmem S2x512x128 .f32) (harg10 : arg10.IsWhole) (arg11 : Memref sig .tc .vmem S4096x256 .bf16) (harg11 : arg11.IsWhole) (arg12 : Memref sig .tc .vmem S2x512x256 .f32) (harg12 : arg12.IsWhole)

/-- One trip of the score loop: the pieces it leaves in the scores and in the running maxima. -/
def trip1 (v0 : Vec F S1x512x128 .bf16) (k : Fin (k0_t1_loop i).trips)
    (f6 : Buf (Elt F) (arg6.view.loc (c : Thread nD τ)))
    (f10 : Buf (Elt F) (arg10.view.loc (c : Thread nD τ))) :
    Σ' (L9 : List (View.Piece (Elt F) S2x8x512x512 .f32)), {L10 : List (View.Piece (Elt F) S2x512x128 .f32) //
      ∀ f9 : Buf (Elt F) (arg9.view.loc (c : Thread nD τ)),
      iprop((arg6.view.loc (c : Thread nD τ) ↦{fullShare} f6) ∗ (arg9.view.loc (c : Thread nD τ) ↦{fullShare} f9) ∗ (arg10.view.loc (c : Thread nD τ) ↦{fullShare} f10) : sProp (MT nD τ sig Unit (Elt F) ℕ (UR sig nD τ) ℕ))
      ⊢ wp frame (wpE defs₀ 𝒱₀ (c : Thread nD τ) none) Set.univ (k0_t1_body (F := F) i arg3 harg3 arg4 harg4 arg5 harg5 arg6 harg6 arg7 harg7 arg8 harg8 arg9 harg9 arg10 harg10 arg11 harg11 arg12 harg12 v0 k ())
          (fun _ => iprop((arg6.view.loc (c : Thread nD τ) ↦{fullShare} f6) ∗ (arg9.view.loc (c : Thread nD τ) ↦{fullShare} arg9.view.writes (Elt F) f9 L9) ∗ (arg10.view.loc (c : Thread nD τ) ↦{fullShare} arg10.view.writes (Elt F) f10 L10)))} := by
  refine ⟨?_, ?_, fun f9 => ?run⟩
  case run =>
    unfold k0_t1_body
    iintro ⟨H6, H9, H10⟩
    sl_exec_parts
    sl_step
    sl_close

/-- One trip of the accumulation loop: the pieces it leaves in the accumulators. -/
def trip3 (w : BitVec 32) (x : F .f32) (k : Fin (k0_t3_loop i).trips) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    {L12 : List (View.Piece (Elt F) S2x512x256 .f32) //
      iprop((arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ))
      ⊢ wp frame (wpE defs₀ 𝒱₀ (c : Thread nD τ) none) Set.univ (k0_t3_body (F := F) i arg3 harg3 arg4 harg4 arg5 harg5 arg6 harg6 arg7 harg7 arg8 harg8 arg9 harg9 arg10 harg10 arg11 harg11 arg12 harg12 w x k ())
          (fun _ => iprop((arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} arg12.view.writes (Elt F) f12 L12)))} := by
  refine ⟨?_, ?run⟩
  case run =>
    unfold k0_t3_body
    iintro ⟨H9, H10, H11, H12⟩
    sl_exec_parts
    sl_step
    sl_close

/-- The writes of the score loop before trip `n`, to the scores and to the maxima. -/
def st1 (v0 : Vec F S1x512x128 .bf16) (f6 : Buf (Elt F) (arg6.view.loc (c : Thread nD τ))) (f10 : Buf (Elt F) (arg10.view.loc (c : Thread nD τ))) (L : List (View.Piece (Elt F) S2x512x128 .f32)) :
    ℕ → List (View.Piece (Elt F) S2x8x512x512 .f32) × List (View.Piece (Elt F) S2x512x128 .f32)
  | 0 => ([], L)
  | n + 1 => if h : n < (k0_t1_loop i).trips then
      ((trip1 c i arg3 harg3 arg4 harg4 arg5 harg5 arg6 harg6 arg7 harg7 arg8 harg8 arg9 harg9 arg10 harg10 arg11 harg11 arg12 harg12 v0 ⟨n, h⟩ f6 (arg10.view.writes (Elt F) f10 (st1 v0 f6 f10 L n).2)).1 ++ (st1 v0 f6 f10 L n).1,
        (trip1 c i arg3 harg3 arg4 harg4 arg5 harg5 arg6 harg6 arg7 harg7 arg8 harg8 arg9 harg9 arg10 harg10 arg11 harg11 arg12 harg12 v0 ⟨n, h⟩ f6 (arg10.view.writes (Elt F) f10 (st1 v0 f6 f10 L n).2)).2.1 ++ (st1 v0 f6 f10 L n).2)
    else st1 v0 f6 f10 L n

theorem st1_succ (v0 : Vec F S1x512x128 .bf16) (f6 : Buf (Elt F) (arg6.view.loc (c : Thread nD τ))) (f10 : Buf (Elt F) (arg10.view.loc (c : Thread nD τ))) (L : List (View.Piece (Elt F) S2x512x128 .f32)) (k : Fin (k0_t1_loop i).trips) :
    st1 c i arg3 harg3 arg4 harg4 arg5 harg5 arg6 harg6 arg7 harg7 arg8 harg8 arg9 harg9 arg10 harg10 arg11 harg11 arg12 harg12 v0 f6 f10 L (k.val + 1) =
      ((trip1 c i arg3 harg3 arg4 harg4 arg5 harg5 arg6 harg6 arg7 harg7 arg8 harg8 arg9 harg9 arg10 harg10 arg11 harg11 arg12 harg12 v0 k f6 (arg10.view.writes (Elt F) f10 (st1 c i arg3 harg3 arg4 harg4 arg5 harg5 arg6 harg6 arg7 harg7 arg8 harg8 arg9 harg9 arg10 harg10 arg11 harg11 arg12 harg12 v0 f6 f10 L k.val).2)).1 ++ (st1 c i arg3 harg3 arg4 harg4 arg5 harg5 arg6 harg6 arg7 harg7 arg8 harg8 arg9 harg9 arg10 harg10 arg11 harg11 arg12 harg12 v0 f6 f10 L k.val).1,
        (trip1 c i arg3 harg3 arg4 harg4 arg5 harg5 arg6 harg6 arg7 harg7 arg8 harg8 arg9 harg9 arg10 harg10 arg11 harg11 arg12 harg12 v0 k f6 (arg10.view.writes (Elt F) f10 (st1 c i arg3 harg3 arg4 harg4 arg5 harg5 arg6 harg6 arg7 harg7 arg8 harg8 arg9 harg9 arg10 harg10 arg11 harg11 arg12 harg12 v0 f6 f10 L k.val).2)).2.1 ++ (st1 c i arg3 harg3 arg4 harg4 arg5 harg5 arg6 harg6 arg7 harg7 arg8 harg8 arg9 harg9 arg10 harg10 arg11 harg11 arg12 harg12 v0 f6 f10 L k.val).2) := by
  rw [st1.eq_2]; exact dif_pos k.isLt

/-- The writes of the accumulation loop before trip `n`. -/
def st3 (w : BitVec 32) (x : F .f32) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (L : List (View.Piece (Elt F) S2x512x256 .f32)) : ℕ → List (View.Piece (Elt F) S2x512x256 .f32)
  | 0 => L
  | n + 1 => if h : n < (k0_t3_loop i).trips then
      (trip3 c i arg3 harg3 arg4 harg4 arg5 harg5 arg6 harg6 arg7 harg7 arg8 harg8 arg9 harg9 arg10 harg10 arg11 harg11 arg12 harg12 w x ⟨n, h⟩ f9 f10 f11 (arg12.view.writes (Elt F) f12 (st3 w x f9 f10 f11 f12 L n))).1 ++ st3 w x f9 f10 f11 f12 L n
    else st3 w x f9 f10 f11 f12 L n

theorem st3_succ (w : BitVec 32) (x : F .f32) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (L : List (View.Piece (Elt F) S2x512x256 .f32)) (k : Fin (k0_t3_loop i).trips) :
    st3 c i arg3 harg3 arg4 harg4 arg5 harg5 arg6 harg6 arg7 harg7 arg8 harg8 arg9 harg9 arg10 harg10 arg11 harg11 arg12 harg12 w x f9 f10 f11 f12 L (k.val + 1) =
      (trip3 c i arg3 harg3 arg4 harg4 arg5 harg5 arg6 harg6 arg7 harg7 arg8 harg8 arg9 harg9 arg10 harg10 arg11 harg11 arg12 harg12 w x k f9 f10 f11 (arg12.view.writes (Elt F) f12 (st3 c i arg3 harg3 arg4 harg4 arg5 harg5 arg6 harg6 arg7 harg7 arg8 harg8 arg9 harg9 arg10 harg10 arg11 harg11 arg12 harg12 w x f9 f10 f11 f12 L k.val))).1 ++ st3 c i arg3 harg3 arg4 harg4 arg5 harg5 arg6 harg6 arg7 harg7 arg8 harg8 arg9 harg9 arg10 harg10 arg11 harg11 arg12 harg12 w x f9 f10 f11 f12 L k.val := by
  rw [st3.eq_2]; exact dif_pos k.isLt

/-- The score loop: before trip `n` the scores and the maxima hold the state. -/
@[sl_loop, instance_reducible] def loop1 (v0 : Vec F S1x512x128 .bf16) (f6 : Buf (Elt F) (arg6.view.loc (c : Thread nD τ))) (f9 : Buf (Elt F) (arg9.view.loc (c : Thread nD τ))) (f10 : Buf (Elt F) (arg10.view.loc (c : Thread nD τ))) (L : List (View.Piece (Elt F) S2x512x128 .f32)) :
    Cert.DiffIdeal.Gen.LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 v0 where
  inv n _ := iprop((arg6.view.loc (c : Thread nD τ) ↦{fullShare} f6) ∗ (arg9.view.loc (c : Thread nD τ) ↦{fullShare} arg9.view.writes (Elt F) f9 (st1 c i arg3 harg3 arg4 harg4 arg5 harg5 arg6 harg6 arg7 harg7 arg8 harg8 arg9 harg9 arg10 harg10 arg11 harg11 arg12 harg12 v0 f6 f10 L n).1) ∗ (arg10.view.loc (c : Thread nD τ) ↦{fullShare} arg10.view.writes (Elt F) f10 (st1 c i arg3 harg3 arg4 harg4 arg5 harg5 arg6 harg6 arg7 harg7 arg8 harg8 arg9 harg9 arg10 harg10 arg11 harg11 arg12 harg12 v0 f6 f10 L n).2))
  step k acc := by
    have h := (trip1 c i arg3 harg3 arg4 harg4 arg5 harg5 arg6 harg6 arg7 harg7 arg8 harg8 arg9 harg9 arg10 harg10 arg11 harg11 arg12 harg12 v0 k f6 (arg10.view.writes (Elt F) f10 (st1 c i arg3 harg3 arg4 harg4 arg5 harg5 arg6 harg6 arg7 harg7 arg8 harg8 arg9 harg9 arg10 harg10 arg11 harg11 arg12 harg12 v0 f6 f10 L k.val).2)).2.2 (arg9.view.writes (Elt F) f9 (st1 c i arg3 harg3 arg4 harg4 arg5 harg5 arg6 harg6 arg7 harg7 arg8 harg8 arg9 harg9 arg10 harg10 arg11 harg11 arg12 harg12 v0 f6 f10 L k.val).1)
    rw [st1_succ c i arg3 harg3 arg4 harg4 arg5 harg5 arg6 harg6 arg7 harg7 arg8 harg8 arg9 harg9 arg10 harg10 arg11 harg11 arg12 harg12 v0 f6 f10 L k]
    dsimp only
    rw [View.writes_append, View.writes_append]
    exact h

/-- The accumulation loop: before trip `n` the accumulators hold the state. -/
@[sl_loop, instance_reducible] def loop3 (w : BitVec 32) (x : F .f32) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (L : List (View.Piece (Elt F) S2x512x256 .f32)) :
    Cert.DiffIdeal.Gen.LoopInvTy_k0_t3 (F := F) Unit ℕ (UR sig nD τ) ℕ 𝒱₀ c none Set.univ i arg3 harg3 arg4 harg4 arg5 harg5 arg6 harg6 arg7 harg7 arg8 harg8 arg9 harg9 arg10 harg10 arg11 harg11 arg12 harg12 w x where
  inv n _ := iprop((arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} arg12.view.writes (Elt F) f12 (st3 c i arg3 harg3 arg4 harg4 arg5 harg5 arg6 harg6 arg7 harg7 arg8 harg8 arg9 harg9 arg10 harg10 arg11 harg11 arg12 harg12 w x f9 f10 f11 f12 L n)))
  step k acc := by
    rw [st3_succ c i arg3 harg3 arg4 harg4 arg5 harg5 arg6 harg6 arg7 harg7 arg8 harg8 arg9 harg9 arg10 harg10 arg11 harg11 arg12 harg12 w x f9 f10 f11 f12 L k, View.writes_append]
    exact (trip3 c i arg3 harg3 arg4 harg4 arg5 harg5 arg6 harg6 arg7 harg7 arg8 harg8 arg9 harg9 arg10 harg10 arg11 harg11 arg12 harg12 w x k f9 f10 f11 (arg12.view.writes (Elt F) f12 (st3 c i arg3 harg3 arg4 harg4 arg5 harg5 arg6 harg6 arg7 harg7 arg8 harg8 arg9 harg9 arg10 harg10 arg11 harg11 arg12 harg12 w x f9 f10 f11 f12 L k.val))).2

end Trips

end Cert.AttnRun
-- ==== Proof.AttnSem.lean ====
module

public import proofs.«01_k».proof.Proof.AttnRun

@[expose] public section

set_option maxRecDepth 65536

noncomputable section

namespace Cert.AttnRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Boxes
variable {sig : RefSig} {κ : Kind} {sp : Space} {s : Shape} {e : EltTy} {Val : EltTy → Type}

/-- A box read just after it was written reads what was written. -/
theorem hit (v : View sig κ sp s e) (f : v.ty.Contents Val) (L : List (View.Piece Val s e)) {off off' : Fin s.rank → ℕ} (size : Fin s.rank → ℕ)
    (inb inb') (w : (Rect.unit off' size inb').shape.Idx → Val e) (h : off = off') :
    v.readAt Val (Rect.unit off size inb).toLoadRect (v.writes Val f (⟨Rect.unit off' size inb', w⟩ :: L)) = w := by
  subst h
  funext j
  exact View.read_writes_cons_emb v f _ w L j

/-- A box read after another one, apart from it on one axis, was written reads what it held. -/
theorem miss (v : View sig κ sp s e) (f : v.ty.Contents Val) (L : List (View.Piece Val s e)) {off off' : Fin s.rank → ℕ} (size size' : Fin s.rank → ℕ)
    (inb inb') (w : (Rect.unit off' size' inb').shape.Idx → Val e) (a : Fin s.rank) (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext j
  refine View.read_writes_cons_miss_of_axis v f _ L _ a (off' a) (size' a) rfl rfl rfl ?_
  have hj : (j a).val < size a := (j a).isLt
  have hi : (((Rect.unit off size inb).toLoadRect.idx j) a).val = off a + 1 * (j a).val := rfl
  omega

/-- The same box at equal corners. -/
theorem same (v : View sig κ sp s e) (f : v.ty.Contents Val) {off off' : Fin s.rank → ℕ} (size : Fin s.rank → ℕ) (inb inb') (h : off = off') :
    v.readAt Val (Rect.unit off size inb).toLoadRect f = v.readAt Val (Rect.unit off' size inb').toLoadRect f := by
  subst h; rfl
end Boxes

/-- The scores of one block of keys, by head half, times log₂ e. -/
def raw (v0 : Vec F S1x512x128 .bf16) (kb : Vec F S1x512x128 .bf16) : Fin 2 → FVec F S512x512 .f32
  | 0 => k0_pay3 (k0_pay126 v0) kb
  | 1 => k0_pay6 (k0_pay127 v0) kb

/-- The scores of the diagonal block, masked. -/
def diag (v0 : Vec F S1x512x128 .bf16) (kb : Vec F S1x512x128 .bf16) : Fin 2 → FVec F S512x512 .f32
  | 0 => k0_pay138 (k0_pay126 v0) kb
  | 1 => k0_pay141 (k0_pay127 v0) kb

section Read
variable {sig : RefSig} {κ : Kind}
theorem inb9 (h : Fin 2) (j : ℕ) : ∀ a, ![h.val, j % 8, 0, 0] a + S1x1x512x512.size a ≤ S2x8x512x512.size a := by
  intro a
  have := Nat.mod_lt j (show 0 < 8 by decide)
  have := h.isLt
  fin_cases a <;> simp [S1x1x512x512, S2x8x512x512] <;> omega
theorem inb6 (j : ℕ) : ∀ a, ![0, 512 * (j % 8), 0] a + S1x512x128.size a ≤ S1x4096x128.size a := by
  intro a
  have := Nat.mod_lt j (show 0 < 8 by decide)
  fin_cases a <;> simp [S1x512x128, S1x4096x128] <;> omega
theorem inb10 (h : Fin 2) : ∀ a, ![h.val, 0, 0] a + S1x512x128.size a ≤ S2x512x128.size a := by
  revert h; decide
theorem inb11 (j : ℕ) : ∀ a, ![512 * (j % 8), 0] a + S512x256.size a ≤ S4096x256.size a := by
  intro a
  have := Nat.mod_lt j (show 0 < 8 by decide)
  fin_cases a <;> simp [S512x256, S4096x256] <;> omega
theorem inb12 (h : Fin 2) : ∀ a, ![h.val, 0, 0] a + S1x512x256.size a ≤ S2x512x256.size a := by
  revert h; decide

/-- Block `j` of the keys. -/
def kb {sp} (v : View sig κ sp S1x4096x128 .bf16) (f : v.ty.Contents (Elt F)) (j : ℕ) : Vec F S1x512x128 .bf16 :=
  v.readAt (Elt F) (Rect.unit (s := S1x4096x128) ![0, 512 * (j % 8), 0] S1x512x128.size (inb6 j)).toLoadRect f
/-- Block `j` of the values with the column of ones beside. -/
def vb {sp} (v : View sig κ sp S4096x256 .bf16) (f : v.ty.Contents (Elt F)) (j : ℕ) : Vec F S512x256 .bf16 :=
  v.readAt (Elt F) (Rect.unit (s := S4096x256) ![512 * (j % 8), 0] S512x256.size (inb11 j)).toLoadRect f
/-- Block `j` of the scores of half `h`. -/
def sb {sp} (v : View sig κ sp S2x8x512x512 .f32) (f : v.ty.Contents (Elt F)) (h : Fin 2) (j : ℕ) : Vec F S1x1x512x512 .f32 :=
  v.readAt (Elt F) (Rect.unit (s := S2x8x512x512) ![h.val, j % 8, 0, 0] S1x1x512x512.size (inb9 h j)).toLoadRect f
/-- The maxima of half `h`. -/
def mb {sp} (v : View sig κ sp S2x512x128 .f32) (f : v.ty.Contents (Elt F)) (h : Fin 2) : Vec F S1x512x128 .f32 :=
  v.readAt (Elt F) (Rect.unit (s := S2x512x128) ![h.val, 0, 0] S1x512x128.size (inb10 h)).toLoadRect f
/-- The accumulator of half `h`. -/
def ab {sp} (v : View sig κ sp S2x512x256 .f32) (f : v.ty.Contents (Elt F)) (h : Fin 2) : Vec F S1x512x256 .f32 :=
  v.readAt (Elt F) (Rect.unit (s := S2x512x256) ![h.val, 0, 0] S1x512x256.size (inb12 h)).toLoadRect f
end Read

/-- The maxima after `n` blocks from block `a` on, from `m`. -/
def mx (s : ℕ → FVec F S512x512 .f32) (m : Vec F S1x512x128 .f32) : ℕ → Vec F S1x512x128 .f32
  | 0 => m
  | n + 1 => k0_pay8 (s n) (mx s m n)

/-- The accumulator after `n` blocks, from `a`. -/
def acc (v : ℕ → Vec F S512x256 .bf16) (m : Vec F S1x512x128 .f32) (s : ℕ → Vec F S1x1x512x512 .f32) (a : Vec F S1x512x256 .f32) : ℕ → Vec F S1x512x256 .f32
  | 0 => a
  | n + 1 => k0_pay148 (v n) m (s n) (acc v m s a n)

section Sem
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x512x128 .bf16) (harg8 : arg8.IsWhole) (arg9 : Memref sig .tc .vmem S2x8x512x512 .f32) (harg9 : arg9.IsWhole) (arg10 : Memref sig .tc .vmem S2x512x128 .f32) (harg10 : arg10.IsWhole) (arg11 : Memref sig .tc .vmem S4096x256 .bf16) (harg11 : arg11.IsWhole) (arg12 : Memref sig .tc .vmem S2x512x256 .f32) (harg12 : arg12.IsWhole)

/-- The block of keys a trip loads. -/
def kbo (k : Fin (k0_t1_loop i).trips) (f6 : Buf (Elt F) (arg6.view.loc (c : Thread nD τ))) (r : Fin 4) : Vec F S1x512x128 .bf16 :=
  arg6.view.readAt (Elt F) (Rect.unit (s := S1x4096x128) (k0_off1 i k (BitVec.ofNat 32 r.val)) S1x512x128.size (k0_off1_inb i k r)).toLoadRect f6

theorem kbo_eq (k : Fin (k0_t1_loop i).trips) (f6 : Buf (Elt F) (arg6.view.loc (c : Thread nD τ))) (r : Fin 4) : kbo c i arg6 k f6 r = kb arg6.view f6 (4 * k.val + r.val) := by
  have hk := k.isLt
  have := trips1 i
  have hi : (i 2).val < 8 := (i 2).isLt
  refine same _ _ _ _ _ ?_
  rw [off1, Nat.mod_eq_of_lt (by omega)]

def LS (v0 : Vec F S1x512x128 .bf16) (k : Fin (k0_t1_loop i).trips) (f6 : Buf (Elt F) (arg6.view.loc (c : Thread nD τ))) : ℕ → List (View.Piece (Elt F) S2x8x512x512 .f32)
  | 0 => []
  | n + 1 => if h : n < 4 then
      ⟨Rect.unit (s := S2x8x512x512) (k0_off3 i k (BitVec.ofNat 32 n)) S1x1x512x512.size (k0_off3_inb i k ⟨n, h⟩), k0_pay142 (raw v0 (kbo c i arg6 k f6 ⟨n, h⟩) 1)⟩ ::
      ⟨Rect.unit (s := S2x8x512x512) (k0_off2 i k (BitVec.ofNat 32 n)) S1x1x512x512.size (k0_off2_inb i k ⟨n, h⟩), k0_pay142 (raw v0 (kbo c i arg6 k f6 ⟨n, h⟩) 0)⟩ :: LS v0 k f6 n
    else LS v0 k f6 n

/-- The maxima's writes of a trip, block by block. -/
def LM (v0 : Vec F S1x512x128 .bf16) (k : Fin (k0_t1_loop i).trips) (f6 : Buf (Elt F) (arg6.view.loc (c : Thread nD τ))) (f10 : Buf (Elt F) (arg10.view.loc (c : Thread nD τ))) : ℕ → List (View.Piece (Elt F) S2x512x128 .f32)
  | 0 => []
  | n + 1 => if h : n < 4 then
      ⟨Rect.unit (s := S2x512x128) ![1, 0, 0] S1x512x128.size inb_S2x512x128_S1x512x128_1_0_0, k0_pay8 (raw v0 (kbo c i arg6 k f6 ⟨n, h⟩) 1) (if n = 0 then mb arg10.view f10 1 else
        arg10.view.readCov (⟨Rect.unit (s := S2x512x128) ![0, 0, 0] S1x512x128.size inb_S2x512x128_S1x512x128_0_0_0, k0_pay8 (raw v0 (kbo c i arg6 k f6 ⟨n, h⟩) 0) (if n = 0 then mb arg10.view f10 0 else arg10.view.readCov (LM v0 k f6 f10 n) (Rect.unit (s := S2x512x128) ![0, 0, 0] S1x512x128.size inb_S2x512x128_S1x512x128_0_0_0).toLoadRect)⟩ :: LM v0 k f6 f10 n) (Rect.unit (s := S2x512x128) ![1, 0, 0] S1x512x128.size inb_S2x512x128_S1x512x128_1_0_0).toLoadRect)⟩ ::
      ⟨Rect.unit (s := S2x512x128) ![0, 0, 0] S1x512x128.size inb_S2x512x128_S1x512x128_0_0_0, k0_pay8 (raw v0 (kbo c i arg6 k f6 ⟨n, h⟩) 0) (if n = 0 then mb arg10.view f10 0 else arg10.view.readCov (LM v0 k f6 f10 n) (Rect.unit (s := S2x512x128) ![0, 0, 0] S1x512x128.size inb_S2x512x128_S1x512x128_0_0_0).toLoadRect)⟩ :: LM v0 k f6 f10 n
    else LM v0 k f6 f10 n

theorem trip1_s (v0 : Vec F S1x512x128 .bf16) (k : Fin (k0_t1_loop i).trips) (f6 : Buf (Elt F) (arg6.view.loc (c : Thread nD τ))) (f10 : Buf (Elt F) (arg10.view.loc (c : Thread nD τ))) :
    (trip1 c i arg3 harg3 arg4 harg4 arg5 harg5 arg6 harg6 arg7 harg7 arg8 harg8 arg9 harg9 arg10 harg10 arg11 harg11 arg12 harg12 v0 k f6 f10).1 = LS c i arg6 v0 k f6 4 := rfl

theorem trip1_m (v0 : Vec F S1x512x128 .bf16) (k : Fin (k0_t1_loop i).trips) (f6 : Buf (Elt F) (arg6.view.loc (c : Thread nD τ))) (f10 : Buf (Elt F) (arg10.view.loc (c : Thread nD τ))) :
    (trip1 c i arg3 harg3 arg4 harg4 arg5 harg5 arg6 harg6 arg7 harg7 arg8 harg8 arg9 harg9 arg10 harg10 arg11 harg11 arg12 harg12 v0 k f6 f10).2.1 = LM c i arg6 arg10 v0 k f6 f10 4 := by
  unfold trip1
  dsimp only
  rfl

/-- The block of values a trip loads. -/
def vbo (k : Fin (k0_t3_loop i).trips) (f11 : Buf (Elt F) (arg11.view.loc (c : Thread nD τ))) (r : Fin 4) : Vec F S512x256 .bf16 :=
  arg11.view.readAt (Elt F) (Rect.unit (s := S4096x256) (k0_off19 i k (BitVec.ofNat 32 r.val)) S512x256.size (k0_off19_inb i k r)).toLoadRect f11

theorem vbo_eq (k : Fin (k0_t3_loop i).trips) (f11 : Buf (Elt F) (arg11.view.loc (c : Thread nD τ))) (r : Fin 4) : vbo c i arg11 k f11 r = vb arg11.view f11 (4 * k.val + r.val) := by
  have hk := k.isLt
  have := trips3 i
  have hi : (i 2).val < 8 := (i 2).isLt
  refine same _ _ _ _ _ ?_
  rw [off19, Nat.mod_eq_of_lt (by omega)]

/-- The block of scores a trip loads. -/
def sbo (k : Fin (k0_t3_loop i).trips) (f9 : Buf (Elt F) (arg9.view.loc (c : Thread nD τ))) (h : Fin 2) (r : Fin 4) : Vec F S1x1x512x512 .f32 :=
  match h with
  | 0 => arg9.view.readAt (Elt F) (Rect.unit (s := S2x8x512x512) (k0_off20 i k (BitVec.ofNat 32 r.val)) S1x1x512x512.size (k0_off20_inb i k r)).toLoadRect f9
  | 1 => arg9.view.readAt (Elt F) (Rect.unit (s := S2x8x512x512) (k0_off21 i k (BitVec.ofNat 32 r.val)) S1x1x512x512.size (k0_off21_inb i k r)).toLoadRect f9

theorem sbo_eq (k : Fin (k0_t3_loop i).trips) (f9 : Buf (Elt F) (arg9.view.loc (c : Thread nD τ))) (h : Fin 2) (r : Fin 4) : sbo c i arg9 k f9 h r = sb arg9.view f9 h (4 * k.val + r.val) := by
  have hk := k.isLt
  have := trips3 i
  have hi : (i 2).val < 8 := (i 2).isLt
  match h with
  | 0 => exact same _ _ _ _ _ (by rw [off20, Nat.mod_eq_of_lt (by omega)]; rfl)
  | 1 => exact same _ _ _ _ _ (by rw [off21, Nat.mod_eq_of_lt (by omega)]; rfl)

/-- The accumulators' writes of a trip, block by block. -/
def LA (k : Fin (k0_t3_loop i).trips) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → List (View.Piece (Elt F) S2x512x256 .f32)
  | 0 => []
  | n + 1 => if h : n < 4 then
      ⟨Rect.unit (s := S2x512x256) ![1, 0, 0] S1x512x256.size inb_S2x512x256_S1x512x256_1_0_0, k0_pay148 (vbo c i arg11 k f11 ⟨n, h⟩) (mb arg10.view f10 1) (sbo c i arg9 k f9 1 ⟨n, h⟩) (if n = 0 then ab arg12.view f12 1 else arg12.view.readCov (⟨Rect.unit (s := S2x512x256) ![0, 0, 0] S1x512x256.size inb_S2x512x256_S1x512x256_0_0_0, k0_pay148 (vbo c i arg11 k f11 ⟨n, h⟩) (mb arg10.view f10 0) (sbo c i arg9 k f9 0 ⟨n, h⟩) (if n = 0 then ab arg12.view f12 0 else arg12.view.readCov (LA k f9 f10 f11 f12 n) (Rect.unit (s := S2x512x256) ![0, 0, 0] S1x512x256.size inb_S2x512x256_S1x512x256_0_0_0).toLoadRect)⟩ :: LA k f9 f10 f11 f12 n) (Rect.unit (s := S2x512x256) ![1, 0, 0] S1x512x256.size inb_S2x512x256_S1x512x256_1_0_0).toLoadRect)⟩ ::
      ⟨Rect.unit (s := S2x512x256) ![0, 0, 0] S1x512x256.size inb_S2x512x256_S1x512x256_0_0_0, k0_pay148 (vbo c i arg11 k f11 ⟨n, h⟩) (mb arg10.view f10 0) (sbo c i arg9 k f9 0 ⟨n, h⟩) (if n = 0 then ab arg12.view f12 0 else arg12.view.readCov (LA k f9 f10 f11 f12 n) (Rect.unit (s := S2x512x256) ![0, 0, 0] S1x512x256.size inb_S2x512x256_S1x512x256_0_0_0).toLoadRect)⟩ :: LA k f9 f10 f11 f12 n
    else LA k f9 f10 f11 f12 n

theorem trip3_a (w : BitVec 32) (x : F .f32) (k : Fin (k0_t3_loop i).trips) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    (trip3 c i arg3 harg3 arg4 harg4 arg5 harg5 arg6 harg6 arg7 harg7 arg8 harg8 arg9 harg9 arg10 harg10 arg11 harg11 arg12 harg12 w x k f9 f10 f11 f12).1 = LA c i arg9 arg10 arg11 arg12 k f9 f10 f11 f12 4 := by
  unfold trip3
  dsimp only
  rfl

theorem LM_read (v0 : Vec F S1x512x128 .bf16) (k : Fin (k0_t1_loop i).trips) (f6 : Buf (Elt F) (arg6.view.loc (c : Thread nD τ))) (f10 : Buf (Elt F) (arg10.view.loc (c : Thread nD τ))) (h : Fin 2) :
    ∀ n, n < 4 → ∀ f, mb arg10.view (arg10.view.writes (Elt F) f (LM c i arg6 arg10 v0 k f6 f10 (n + 1))) h
      = mx (fun r => raw v0 (kb arg6.view f6 (4 * k.val + r)) h) (mb arg10.view f10 h) (n + 1) := by
  intro n
  induction n with
  | zero =>
    intro _ f
    rw [LM, dif_pos (by decide)]
    match h with
    | 0 => exact (miss _ _ _ _ _ _ _ _ 0 (by decide)).trans ((hit _ _ _ _ _ _ _ (by rfl)).trans (by rw [kbo_eq]; rfl))
    | 1 => exact (hit _ _ _ _ _ _ _ (by rfl)).trans (by rw [kbo_eq]; rfl)
  | succ n ih =>
    intro hn f
    rw [LM, dif_pos hn]
    have hz : ¬ (n + 1 = 0) := by omega
    have e := ih (by omega)
    match h with
    | 0 =>
      refine (miss _ _ _ _ _ _ _ _ 0 (by decide)).trans ((hit _ _ _ _ _ _ _ (by rfl)).trans ?_)
      rw [if_neg hz, kbo_eq]
      exact congrArg (k0_pay8 _) (e _)
    | 1 =>
      refine (hit _ _ _ _ _ _ _ (by rfl)).trans ?_
      rw [if_neg hz, kbo_eq]
      exact congrArg (k0_pay8 _) ((miss _ _ _ _ _ _ _ _ 0 (by decide)).trans (e _))

theorem LA_read (k : Fin (k0_t3_loop i).trips) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (h : Fin 2) :
    ∀ n, n < 4 → ∀ f, ab arg12.view (arg12.view.writes (Elt F) f (LA c i arg9 arg10 arg11 arg12 k f9 f10 f11 f12 (n + 1))) h
      = acc (fun r => vb arg11.view f11 (4 * k.val + r)) (mb arg10.view f10 h) (fun r => sb arg9.view f9 h (4 * k.val + r)) (ab arg12.view f12 h) (n + 1) := by
  intro n
  induction n with
  | zero =>
    intro _ f
    rw [LA, dif_pos (by decide)]
    match h with
    | 0 => exact (miss _ _ _ _ _ _ _ _ 0 (by decide)).trans ((hit _ _ _ _ _ _ _ (by rfl)).trans (by rw [vbo_eq, sbo_eq]; rfl))
    | 1 => exact (hit _ _ _ _ _ _ _ (by rfl)).trans (by rw [vbo_eq, sbo_eq]; rfl)
  | succ n ih =>
    intro hn f
    rw [LA, dif_pos hn]
    have hz : ¬ (n + 1 = 0) := by omega
    have e := ih (by omega)
    match h with
    | 0 =>
      refine (miss _ _ _ _ _ _ _ _ 0 (by decide)).trans ((hit _ _ _ _ _ _ _ (by rfl)).trans ?_)
      rw [if_neg hz, vbo_eq, sbo_eq]
      exact congrArg (k0_pay148 _ _ _) (e _)
    | 1 =>
      refine (hit _ _ _ _ _ _ _ (by rfl)).trans ?_
      rw [if_neg hz, vbo_eq, sbo_eq]
      exact congrArg (k0_pay148 _ _ _) ((miss _ _ _ _ _ _ _ _ 0 (by decide)).trans (e _))

theorem LS_read (v0 : Vec F S1x512x128 .bf16) (k : Fin (k0_t1_loop i).trips) (f6 : Buf (Elt F) (arg6.view.loc (c : Thread nD τ))) (f) (h : Fin 2) (j : ℕ) (hj : j < 8) :
    ∀ n, n ≤ 4 → sb arg9.view (arg9.view.writes (Elt F) f (LS c i arg6 v0 k f6 n)) h j
      = if 4 * k.val ≤ j ∧ j < 4 * k.val + n then k0_pay142 (raw v0 (kb arg6.view f6 j) h) else sb arg9.view f h j := by
  have hk := k.isLt
  have ht := trips1 i
  have hi : (i 2).val < 8 := (i 2).isLt
  have hm := Nat.mod_eq_of_lt hj
  intro n
  induction n with
  | zero => intro _; rw [if_neg (by omega)]; rfl
  | succ n ih =>
    intro hn
    have e := ih (by omega)
    have o2 := off2 i k ⟨n, hn⟩
    have o3 := off3 i k ⟨n, hn⟩
    have ek := kbo_eq c i arg6 k f6 ⟨n, hn⟩
    dsimp only at o2 o3 ek
    have hn' : n < 4 := hn
    rw [LS, dif_pos hn', ek]
    generalize hg : kb arg6.view f6 (4 * k.val + n) = g
    by_cases hx : j = 4 * k.val + n
    · rw [if_pos (by omega)]
      match h with
      | 0 =>
        refine Eq.trans (miss _ _ _ _ _ _ _ _ 0 ?_) ?_
        · rw [o3]; left; exact le_refl 1
        refine Eq.trans (hit _ _ _ _ _ _ _ ?_) ?_
        · rw [o2, hm, hx]; rfl
        · rw [← hg, hx]
      | 1 =>
        refine Eq.trans (hit _ _ _ _ _ _ _ ?_) ?_
        · rw [o3, hm, hx]; rfl
        · rw [← hg, hx]
    · have hne : j % 8 + 1 ≤ 4 * k.val + n ∨ 4 * k.val + n + 1 ≤ j % 8 := by omega
      refine Eq.trans (miss _ _ _ _ _ _ _ _ 1 ?_) ?_
      · rw [o3]; exact hne
      refine Eq.trans (miss _ _ _ _ _ _ _ _ 1 ?_) ?_
      · rw [o2]; exact hne
      refine e.trans ?_
      · by_cases hy : 4 * k.val ≤ j ∧ j < 4 * k.val + n
        · rw [if_pos hy, if_pos (by omega)]
        · rw [if_neg hy, if_neg (by omega)]

theorem mx_add (s : ℕ → FVec F S512x512 .f32) (m : Vec F S1x512x128 .f32) (a : ℕ) : ∀ n, mx s m (a + n) = mx (fun r => s (a + r)) (mx s m a) n
  | 0 => rfl
  | n + 1 => congrArg (k0_pay8 _) (mx_add s m a n)

theorem acc_add (v : ℕ → Vec F S512x256 .bf16) (m : Vec F S1x512x128 .f32) (s : ℕ → Vec F S1x1x512x512 .f32) (z : Vec F S1x512x256 .f32) (a : ℕ) :
    ∀ n, acc v m s z (a + n) = acc (fun r => v (a + r)) m (fun r => s (a + r)) (acc v m s z a) n
  | 0 => rfl
  | n + 1 => congrArg (k0_pay148 _ _ _) (acc_add v m s z a n)

/-- What the score loop leaves: the maxima of the blocks done, and their scores. -/
theorem st1_sem (v0 : Vec F S1x512x128 .bf16) (f6 : Buf (Elt F) (arg6.view.loc (c : Thread nD τ))) (f9 : Buf (Elt F) (arg9.view.loc (c : Thread nD τ))) (f10 : Buf (Elt F) (arg10.view.loc (c : Thread nD τ))) (L : List (View.Piece (Elt F) S2x512x128 .f32)) (h : Fin 2) :
    ∀ n, n ≤ (k0_t1_loop i).trips →
      mb arg10.view (arg10.view.writes (Elt F) f10 (st1 c i arg3 harg3 arg4 harg4 arg5 harg5 arg6 harg6 arg7 harg7 arg8 harg8 arg9 harg9 arg10 harg10 arg11 harg11 arg12 harg12 v0 f6 f10 L n).2) h = mx (fun j => raw v0 (kb arg6.view f6 j) h) (mb arg10.view (arg10.view.writes (Elt F) f10 L) h) (4 * n)
      ∧ ∀ j, j < 8 → sb arg9.view (arg9.view.writes (Elt F) f9 (st1 c i arg3 harg3 arg4 harg4 arg5 harg5 arg6 harg6 arg7 harg7 arg8 harg8 arg9 harg9 arg10 harg10 arg11 harg11 arg12 harg12 v0 f6 f10 L n).1) h j
          = if j < 4 * n then k0_pay142 (raw v0 (kb arg6.view f6 j) h) else sb arg9.view f9 h j := by
  intro n
  induction n with
  | zero => intro _; exact ⟨rfl, fun j _ => by rw [if_neg (by omega)]; rfl⟩
  | succ n ih =>
    intro hn
    obtain ⟨e1, e2⟩ := ih (by omega)
    have es := st1_succ c i arg3 harg3 arg4 harg4 arg5 harg5 arg6 harg6 arg7 harg7 arg8 harg8 arg9 harg9 arg10 harg10 arg11 harg11 arg12 harg12 v0 f6 f10 L ⟨n, hn⟩
    dsimp only at es
    rw [es]
    dsimp only
    rw [trip1_m, trip1_s, View.writes_append, View.writes_append]
    constructor
    · refine (LM_read c i arg6 arg10 v0 ⟨n, hn⟩ f6 _ h 3 (by decide) _).trans ?_
      rw [e1]
      exact (mx_add (fun j => raw v0 (kb arg6.view f6 j) h) _ (4 * n) 4).symm
    · intro j hj
      rw [LS_read c i arg6 arg9 v0 ⟨n, hn⟩ f6 _ h j hj 4 le_rfl, e2 j hj]
      dsimp only
      by_cases h1 : 4 * n ≤ j ∧ j < 4 * n + 4
      · rw [if_pos h1, if_pos (by omega)]
      · rw [if_neg h1]
        by_cases h2 : j < 4 * n
        · rw [if_pos h2, if_pos (by omega)]
        · rw [if_neg h2, if_neg (by omega)]

/-- What the accumulation loop leaves. -/
theorem st3_sem (w : BitVec 32) (x : F .f32) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (L : List (View.Piece (Elt F) S2x512x256 .f32)) (h : Fin 2) :
    ∀ n, n ≤ (k0_t3_loop i).trips →
      ab arg12.view (arg12.view.writes (Elt F) f12 (st3 c i arg3 harg3 arg4 harg4 arg5 harg5 arg6 harg6 arg7 harg7 arg8 harg8 arg9 harg9 arg10 harg10 arg11 harg11 arg12 harg12 w x f9 f10 f11 f12 L n)) h = acc (vb arg11.view f11) (mb arg10.view f10 h) (sb arg9.view f9 h) (ab arg12.view (arg12.view.writes (Elt F) f12 L) h) (4 * n) := by
  intro n
  induction n with
  | zero => intro _; rfl
  | succ n ih =>
    intro hn
    have e1 := ih (by omega)
    have es := st3_succ c i arg3 harg3 arg4 harg4 arg5 harg5 arg6 harg6 arg7 harg7 arg8 harg8 arg9 harg9 arg10 harg10 arg11 harg11 arg12 harg12 w x f9 f10 f11 f12 L ⟨n, hn⟩
    dsimp only at es
    rw [es, trip3_a, View.writes_append]
    refine (LA_read c i arg9 arg10 arg11 arg12 ⟨n, hn⟩ f9 f10 f11 _ h 3 (by decide) _).trans ?_
    rw [e1]
    exact (acc_add (vb arg11.view f11) _ (sb arg9.view f9 h) _ (4 * n) 4).symm

end Sem
end Cert.AttnRun
-- ==== Proof.AttnBody.lean ====
module

public import proofs.«01_k».proof.Proof.AttnSem

@[expose] public section

set_option maxRecDepth 65536

noncomputable section

namespace Cert.AttnRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Body
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x512x128 .bf16) (harg8 : arg8.IsWhole) (arg9 : Memref sig .tc .vmem S2x8x512x512 .f32) (harg9 : arg9.IsWhole) (arg10 : Memref sig .tc .vmem S2x512x128 .f32) (harg10 : arg10.IsWhole) (arg11 : Memref sig .tc .vmem S4096x256 .bf16) (harg11 : arg11.IsWhole) (arg12 : Memref sig .tc .vmem S2x512x256 .f32) (harg12 : arg12.IsWhole)

/-- The block of queries. -/
def qv (f5 : Buf (Elt F) (arg5.view.loc (c : Thread nD τ))) : Vec F S1x512x128 .bf16 :=
  arg5.view.readAt (Elt F) (Rect.unit (s := S1x512x128) ![0, 0, 0] S1x512x128.size inb_S1x512x128_S1x512x128_0_0_0).toLoadRect f5

/-- The values of all keys. -/
def vv (f7 : Buf (Elt F) (arg7.view.loc (c : Thread nD τ))) : Vec F S1x4096x128 .bf16 :=
  arg7.view.readAt (Elt F) (Rect.unit (s := S1x4096x128) ![0, 0, 0] S1x4096x128.size inb_S1x4096x128_S1x4096x128_0_0_0).toLoadRect f7

/-- The maxima before any block. -/
def lowest : Vec F S1x512x128 .f32 := fun _ => Named.named κ "mask" 0xF149F2CA#32

/-- Block `j` of the values with ones beside. -/
def vx (V : Vec F S1x4096x128 .bf16) (j : ℕ) : Vec F S512x256 .bf16 := fun p =>
  if h : (p 1).val < 128 then k0_pay128 V (fun a => match a with
    | 0 => ⟨512 * (j % 8) + (p 0).val, by have := Nat.mod_lt j (show 0 < 8 by decide); have h0 : (p 0).val < 512 := (p 0).isLt; show _ < 4096; omega⟩
    | 1 => ⟨(p 1).val, h⟩)
  else Scalar.ofBits .bf16 0x3F80#16

/-- What the first part leaves in the scratch buffers. -/
def sem29 (f5 : Buf (Elt F) (arg5.view.loc (c : Thread nD τ))) (f6 : Buf (Elt F) (arg6.view.loc (c : Thread nD τ))) (f7 : Buf (Elt F) (arg7.view.loc (c : Thread nD τ))) (f11 : Buf (Elt F) (arg11.view.loc (c : Thread nD τ))) (g9 : Buf (Elt F) (arg9.view.loc (c : Thread nD τ))) (g10 : Buf (Elt F) (arg10.view.loc (c : Thread nD τ))) (g11 : Buf (Elt F) (arg11.view.loc (c : Thread nD τ))) : Prop :=
  (∀ h : Fin 2, mb arg10.view g10 h = mx (fun j => raw (qv c arg5 f5) (kb arg6.view f6 j) h) lowest (i 2).val)
  ∧ (∀ h : Fin 2, ∀ j, j < (i 2).val → sb arg9.view g9 h j = k0_pay142 (raw (qv c arg5 f5) (kb arg6.view f6 j) h))
  ∧ ((i 2).val = 0 → ∀ j, vb arg11.view g11 j = vx (vv c arg7 f7) j) ∧ ((i 2).val ≠ 0 → g11 = f11)

theorem off13 : ∀ i : grid0.Coords, k0_cond3 i = 1#1 → k0_off13 i = ![0, 512 * ((i 2).val - 1), 0] := by decide +kernel
theorem off14 : ∀ i : grid0.Coords, k0_cond3 i = 1#1 → k0_off14 i = ![0, (i 2).val - 1, 0, 0] := by decide +kernel
theorem off15 : ∀ i : grid0.Coords, k0_cond3 i = 1#1 → k0_off15 i = ![1, (i 2).val - 1, 0, 0] := by decide +kernel
theorem cond1 : ∀ i : grid0.Coords, (Scalar.cmpi .ne (Scalar.extui (Scalar.cmpi .eq (BitVec.ofNat 32 (i 2).val) 0#32) : BitVec 32) 0#32 : BitVec 1) = 1#1 ↔ (i 2).val = 0 := by decide +kernel

theorem kb_off (f6 : Buf (Elt F) (arg6.view.loc (c : Thread nD τ))) {n : ℕ} {o : Fin S1x4096x128.rank → ℕ} (b) (h : o = ![0, 512 * n, 0]) (hn : n < 8) :
    arg6.view.readAt (Elt F) (Rect.unit (s := S1x4096x128) o S1x512x128.size b).toLoadRect f6 = kb arg6.view f6 n :=
  same _ _ _ _ _ (by rw [h, Nat.mod_eq_of_lt hn])

theorem vb_vx (f : Buf (Elt F) (arg11.view.loc (c : Thread nD τ))) (V : Vec F S1x4096x128 .bf16) (j : ℕ) :
    vb arg11.view (arg11.view.writes (Elt F) f [⟨Rect.unit (s := S4096x256) ![0, 128] S4096x128.size inb_S4096x256_S4096x128_0_128, k0_pay129⟩,
      ⟨Rect.unit (s := S4096x256) ![0, 0] S4096x128.size inb_S4096x256_S4096x128_0_0, k0_pay128 V⟩]) j = vx V j := by
  funext p
  have hj := Nat.mod_lt j (show 0 < 8 by decide)
  have h0 : (p 0).val < 512 := (p 0).isLt
  have h1 : (p 1).val < 256 := (p 1).isLt
  unfold vx
  by_cases hp : (p 1).val < 128
  · rw [dif_pos hp]
    refine Eq.trans (View.read_writes_cons_miss_of_axis arg11.view f _ _ _ 1 128 128 rfl rfl rfl (Or.inl (by show 0 + 1 * (p 1).val < 128; omega))) ?_
    refine Eq.trans ?_ (View.read_writes_cons_emb arg11.view f (Rect.unit (s := S4096x256) ![0, 0] S4096x128.size inb_S4096x256_S4096x128_0_0) (k0_pay128 V) [] _)
    refine congrArg (arg11.view.read (Elt F) (arg11.view.writes (Elt F) f _)) ?_
    funext a
    refine Fin.ext ?_
    match a with
    | 0 => show 512 * (j % 8) + 1 * (p 0).val = 0 + 1 * (512 * (j % 8) + (p 0).val); omega
    | 1 => show 0 + 1 * (p 1).val = 0 + 1 * (p 1).val; rfl
  · rw [dif_neg hp]
    refine Eq.trans ?_ (Eq.trans (View.read_writes_cons_emb arg11.view f (Rect.unit (s := S4096x256) ![0, 128] S4096x128.size inb_S4096x256_S4096x128_0_128) k0_pay129 [⟨Rect.unit (s := S4096x256) ![0, 0] S4096x128.size inb_S4096x256_S4096x128_0_0, k0_pay128 V⟩]
      (fun a => match a with
        | 0 => ⟨512 * (j % 8) + (p 0).val, by show _ < 4096; omega⟩
        | 1 => ⟨(p 1).val - 128, by show _ < 128; omega⟩)) rfl)
    refine congrArg (arg11.view.read (Elt F) (arg11.view.writes (Elt F) f _)) ?_
    funext a
    refine Fin.ext ?_
    match a with
    | 0 => show 512 * (j % 8) + 1 * (p 0).val = 0 + 1 * (512 * (j % 8) + (p 0).val); omega
    | 1 => show 0 + 1 * (p 1).val = 128 + 1 * ((p 1).val - 128); omega

/-- The first `n` blocks are scored: the maxima and the scores. -/
def St (v0 : Vec F S1x512x128 .bf16) (f6 : Buf (Elt F) (arg6.view.loc (c : Thread nD τ))) (f9 : Buf (Elt F) (arg9.view.loc (c : Thread nD τ))) (n : ℕ) (L9 : List (View.Piece (Elt F) S2x8x512x512 .f32)) (L10 : List (View.Piece (Elt F) S2x512x128 .f32)) : Prop :=
  (∀ h : Fin 2, mb arg10.view (arg10.view.writes (Elt F) arg10.view.junk L10) h = mx (fun j => raw v0 (kb arg6.view f6 j) h) lowest n)
  ∧ (∀ h : Fin 2, ∀ j, j < n → sb arg9.view (arg9.view.writes (Elt F) f9 L9) h j = k0_pay142 (raw v0 (kb arg6.view f6 j) h))

theorem St_step (v0 : Vec F S1x512x128 .bf16) (f6 : Buf (Elt F) (arg6.view.loc (c : Thread nD τ))) (f9 : Buf (Elt F) (arg9.view.loc (c : Thread nD τ))) (n : ℕ) (L9 : List (View.Piece (Elt F) S2x8x512x512 .f32)) (L10 : List (View.Piece (Elt F) S2x512x128 .f32))
    (hs : St c arg6 arg9 arg10 v0 f6 f9 n L9 L10) (hn : n < 8) {o0 o1 : Fin S2x8x512x512.rank → ℕ} (b0 b1) (ho0 : o0 = ![0, n, 0, 0]) (ho1 : o1 = ![1, n, 0, 0])
    (K : Vec F S1x512x128 .bf16) (hK : K = kb arg6.view f6 n) :
    St c arg6 arg9 arg10 v0 f6 f9 (n + 1)
      (⟨Rect.unit (s := S2x8x512x512) o1 S1x1x512x512.size b1, k0_pay142 (raw v0 K 1)⟩ :: ⟨Rect.unit (s := S2x8x512x512) o0 S1x1x512x512.size b0, k0_pay142 (raw v0 K 0)⟩ :: L9)
      (⟨Rect.unit (s := S2x512x128) ![1, 0, 0] S1x512x128.size inb_S2x512x128_S1x512x128_1_0_0, k0_pay8 (raw v0 K 1) (arg10.view.readCov (⟨Rect.unit (s := S2x512x128) ![0, 0, 0] S1x512x128.size inb_S2x512x128_S1x512x128_0_0_0, k0_pay8 (raw v0 K 0) (arg10.view.readCov L10 (Rect.unit (s := S2x512x128) ![0, 0, 0] S1x512x128.size inb_S2x512x128_S1x512x128_0_0_0).toLoadRect)⟩ :: L10) (Rect.unit (s := S2x512x128) ![1, 0, 0] S1x512x128.size inb_S2x512x128_S1x512x128_1_0_0).toLoadRect)⟩ :: ⟨Rect.unit (s := S2x512x128) ![0, 0, 0] S1x512x128.size inb_S2x512x128_S1x512x128_0_0_0, k0_pay8 (raw v0 K 0) (arg10.view.readCov L10 (Rect.unit (s := S2x512x128) ![0, 0, 0] S1x512x128.size inb_S2x512x128_S1x512x128_0_0_0).toLoadRect)⟩ :: L10) := by
  obtain ⟨hm, hsb⟩ := hs
  have hm8 := Nat.mod_eq_of_lt hn
  subst hK
  constructor
  · intro h
    match h with
    | 0 =>
      refine Eq.trans (miss _ _ _ _ _ _ _ _ 0 (by decide)) ?_
      refine Eq.trans (hit _ _ _ _ _ _ _ (by rfl)) ?_
      exact congrArg (k0_pay8 _) (hm 0)
    | 1 =>
      refine Eq.trans (hit _ _ _ _ _ _ _ (by rfl)) ?_
      refine congrArg (k0_pay8 _) ?_
      exact Eq.trans (miss _ _ _ _ _ _ _ _ 0 (by decide)) (hm 1)
  · intro h j hj
    generalize hg : kb arg6.view f6 n = g
    by_cases hx : j = n
    · subst hx
      match h with
      | 0 =>
        refine Eq.trans (miss _ _ _ _ _ _ _ _ 0 ?_) ?_
        · rw [ho1]; left; exact le_refl 1
        refine Eq.trans (hit _ _ _ _ _ _ _ ?_) ?_
        · rw [ho0, hm8]; rfl
        · rw [hg]
      | 1 =>
        refine Eq.trans (hit _ _ _ _ _ _ _ ?_) ?_
        · rw [ho1, hm8]; rfl
        · rw [hg]
    · have hne : j % 8 + 1 ≤ n ∨ n + 1 ≤ j % 8 := by omega
      refine Eq.trans (miss _ _ _ _ _ _ _ _ 1 ?_) ?_
      · rw [ho1]; exact hne
      refine Eq.trans (miss _ _ _ _ _ _ _ _ 1 ?_) ?_
      · rw [ho0]; exact hne
      exact hsb h j (by omega)

theorem mb_lowest (f : Buf (Elt F) (arg10.view.loc (c : Thread nD τ))) (h : Fin 2) :
    mb arg10.view (arg10.view.writes (Elt F) f [⟨Rect.unit (s := S2x512x128) ![0, 0, 0] S2x512x128.size inb_S2x512x128_S2x512x128_0_0_0, k0_pay130⟩]) h = lowest := by
  funext j
  have e := View.read_writes_cons_emb (Val := Elt F) arg10.view f (Rect.unit (s := S2x512x128) ![0, 0, 0] S2x512x128.size inb_S2x512x128_S2x512x128_0_0_0) k0_pay130 []
    ((Rect.unit (s := S2x512x128) ![h.val, 0, 0] S1x512x128.size (inb10 h)).toLoadRect.idx j)
  refine Eq.trans ?_ (e.trans ?_)
  · unfold mb
    refine congrArg (arg10.view.read (Elt F) (arg10.view.writes (Elt F) f _)) ?_
    funext a
    refine Fin.ext ?_
    fin_cases a <;> simp [Rect.emb, Rect.unit]
  · rfl

theorem St_loop (v0 : Vec F S1x512x128 .bf16) (f6 : Buf (Elt F) (arg6.view.loc (c : Thread nD τ))) (f9 : Buf (Elt F) (arg9.view.loc (c : Thread nD τ))) :
    St c arg6 arg9 arg10 v0 f6 f9 ((i 2).val / 4 * 4)
      (st1 c i arg3 harg3 arg4 harg4 arg5 harg5 arg6 harg6 arg7 harg7 arg8 harg8 arg9 harg9 arg10 harg10 arg11 harg11 arg12 harg12 v0 f6 arg10.view.junk [⟨Rect.unit (s := S2x512x128) ![0, 0, 0] S2x512x128.size inb_S2x512x128_S2x512x128_0_0_0, k0_pay130⟩] (k0_t1_loop i).trips).1
      (st1 c i arg3 harg3 arg4 harg4 arg5 harg5 arg6 harg6 arg7 harg7 arg8 harg8 arg9 harg9 arg10 harg10 arg11 harg11 arg12 harg12 v0 f6 arg10.view.junk [⟨Rect.unit (s := S2x512x128) ![0, 0, 0] S2x512x128.size inb_S2x512x128_S2x512x128_0_0_0, k0_pay130⟩] (k0_t1_loop i).trips).2 := by
  have hi : (i 2).val < 8 := (i 2).isLt
  have ht : 4 * (k0_t1_loop i).trips = (i 2).val / 4 * 4 := by rw [trips1, Nat.mul_comm]
  have e := fun h => st1_sem c i arg3 harg3 arg4 harg4 arg5 harg5 arg6 harg6 arg7 harg7 arg8 harg8 arg9 harg9 arg10 harg10 arg11 harg11 arg12 harg12 v0 f6 f9 arg10.view.junk [⟨Rect.unit (s := S2x512x128) ![0, 0, 0] S2x512x128.size inb_S2x512x128_S2x512x128_0_0_0, k0_pay130⟩] h _ le_rfl
  rw [ht] at e
  constructor
  · intro h
    rw [(e h).1, mb_lowest c arg10]
  · intro h j hj
    rw [(e h).2 j (by omega), if_pos hj]

set_option maxHeartbeats 4000000 in
theorem spec29_3 (h1 : ¬ (Scalar.cmpi .ne (Scalar.extui (Scalar.cmpi .eq (BitVec.ofNat 32 (i 2).val) 0#32) : BitVec 32) 0#32 : BitVec 1) = 1#1) (h2 : k0_cond2 i = 1#1) (h3 : k0_cond3 i = 1#1) (f5 : Buf (Elt F) (arg5.view.loc (c : Thread nD τ))) (f6 : Buf (Elt F) (arg6.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) :
   ∃ g9 g10 g11, (iprop((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11) : sProp (MT nD τ sig Unit (Elt F) ℕ (UR sig nD τ) ℕ)) ⊢ wp frame (wpE defs₀ 𝒱₀ (c : Thread nD τ) none) Set.univ (k0_part29 (F := F) i arg3 harg3 arg4 harg4 arg5 harg5 arg6 harg6 arg7 harg7 arg8 harg8 arg9 harg9 arg10 harg10 arg11 harg11 arg12 harg12)
      (fun r => iprop(⌜r = ⟨BitVec.ofNat 32 (i 2).val, k0_pay126 (qv c arg5 f5), k0_pay127 (qv c arg5 f5), Scalar.muli (BitVec.ofNat 32 (i 2).val) 512#32⟩⌝ ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} g9) ∗ (arg10.view.loc (c : Thread nD τ) ↦{fullShare} g10) ∗ (arg11.view.loc (c : Thread nD τ) ↦{fullShare} g11)))) ∧ sem29 c i arg5 arg6 arg7 arg9 arg10 arg11 f5 f6 f7 f11 g9 g10 g11 := by
  have htr := trips2 i
  refine ⟨?_, ?_, ?_, ?run, ?sem⟩
  case run =>
    rw [k0_part29_eq_skeleton]; unfold k0_part29_skel
    iintro ⟨H5, H6, H7, H9, H10, H11⟩
    sl_exec_parts
    sl_step
    sl_close
  case sem =>
    have hi : (i 2).val < 8 := (i 2).isLt
    have q1 := (cond1 i).not.mp h1
    have q2 := (cond2 i).mp h2
    have q3 := (cond3 i).mp h3
    have s0 := St_loop c i arg3 harg3 arg4 harg4 arg5 harg5 arg6 harg6 arg7 harg7 arg8 harg8 arg9 harg9 arg10 harg10 arg11 harg11 arg12 harg12 (qv c arg5 f5) f6 f9
    have s1 := St_step c arg6 arg9 arg10 (qv c arg5 f5) f6 f9 _ _ _ s0 (by omega) (k0_off8_inb i h2) (k0_off9_inb i h2) (off8 i) (off9 i) _ (kb_off c arg6 f6 (k0_off7_inb i h2) (off7 i) (by omega))
    have s2 := St_step c arg6 arg9 arg10 (qv c arg5 f5) f6 f9 _ _ _ s1 (by omega) (k0_off11_inb i h2) (k0_off12_inb i h2) (off11 i) (off12 i) _ (kb_off c arg6 f6 (k0_off10_inb i h2) (off10 i) (by omega))
    have eq3 : (i 2).val - 1 = (i 2).val / 4 * 4 + 1 + 1 := by omega
    have s3 := St_step c arg6 arg9 arg10 (qv c arg5 f5) f6 f9 _ _ _ s2 (by omega) (k0_off14_inb i h3) (k0_off15_inb i h3) ((off14 i h3).trans (by rw [eq3])) ((off15 i h3).trans (by rw [eq3])) _ (kb_off c arg6 f6 (k0_off13_inb i h3) ((off13 i h3).trans (by rw [eq3])) (by omega))
    have en : (i 2).val / 4 * 4 + 1 + 1 + 1 = (i 2).val := by omega
    rw [en] at s3
    refine ⟨fun h => s3.1 h, fun h j hj => s3.2 h j hj, fun hz => ?_, fun hz => ?_⟩
    · exact absurd hz q1
    · rfl

set_option maxHeartbeats 4000000 in
theorem spec29_2 (h1 : ¬ (Scalar.cmpi .ne (Scalar.extui (Scalar.cmpi .eq (BitVec.ofNat 32 (i 2).val) 0#32) : BitVec 32) 0#32 : BitVec 1) = 1#1) (h2 : k0_cond2 i = 1#1) (h3 : ¬ k0_cond3 i = 1#1) (f5 : Buf (Elt F) (arg5.view.loc (c : Thread nD τ))) (f6 : Buf (Elt F) (arg6.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) :
   ∃ g9 g10 g11, (iprop((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11) : sProp (MT nD τ sig Unit (Elt F) ℕ (UR sig nD τ) ℕ)) ⊢ wp frame (wpE defs₀ 𝒱₀ (c : Thread nD τ) none) Set.univ (k0_part29 (F := F) i arg3 harg3 arg4 harg4 arg5 harg5 arg6 harg6 arg7 harg7 arg8 harg8 arg9 harg9 arg10 harg10 arg11 harg11 arg12 harg12)
      (fun r => iprop(⌜r = ⟨BitVec.ofNat 32 (i 2).val, k0_pay126 (qv c arg5 f5), k0_pay127 (qv c arg5 f5), Scalar.muli (BitVec.ofNat 32 (i 2).val) 512#32⟩⌝ ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} g9) ∗ (arg10.view.loc (c : Thread nD τ) ↦{fullShare} g10) ∗ (arg11.view.loc (c : Thread nD τ) ↦{fullShare} g11)))) ∧ sem29 c i arg5 arg6 arg7 arg9 arg10 arg11 f5 f6 f7 f11 g9 g10 g11 := by
  have htr := trips2 i
  refine ⟨?_, ?_, ?_, ?run, ?sem⟩
  case run =>
    rw [k0_part29_eq_skeleton]; unfold k0_part29_skel
    iintro ⟨H5, H6, H7, H9, H10, H11⟩
    sl_exec_parts
    sl_step
    sl_close
  case sem =>
    have hi : (i 2).val < 8 := (i 2).isLt
    have q1 := (cond1 i).not.mp h1
    have q2 := (cond2 i).mp h2
    have q3 := (cond3 i).not.mp h3
    have s0 := St_loop c i arg3 harg3 arg4 harg4 arg5 harg5 arg6 harg6 arg7 harg7 arg8 harg8 arg9 harg9 arg10 harg10 arg11 harg11 arg12 harg12 (qv c arg5 f5) f6 f9
    have s1 := St_step c arg6 arg9 arg10 (qv c arg5 f5) f6 f9 _ _ _ s0 (by omega) (k0_off8_inb i h2) (k0_off9_inb i h2) (off8 i) (off9 i) _ (kb_off c arg6 f6 (k0_off7_inb i h2) (off7 i) (by omega))
    have s2 := St_step c arg6 arg9 arg10 (qv c arg5 f5) f6 f9 _ _ _ s1 (by omega) (k0_off11_inb i h2) (k0_off12_inb i h2) (off11 i) (off12 i) _ (kb_off c arg6 f6 (k0_off10_inb i h2) (off10 i) (by omega))
    have en : (i 2).val / 4 * 4 + 1 + 1 = (i 2).val := by omega
    rw [en] at s2
    refine ⟨fun h => s2.1 h, fun h j hj => s2.2 h j hj, fun hz => ?_, fun hz => ?_⟩
    · exact absurd hz q1
    · rfl

set_option maxHeartbeats 4000000 in
theorem spec29_1 (h1 : ¬ (Scalar.cmpi .ne (Scalar.extui (Scalar.cmpi .eq (BitVec.ofNat 32 (i 2).val) 0#32) : BitVec 32) 0#32 : BitVec 1) = 1#1) (h2 : ¬ k0_cond2 i = 1#1) (h3 : k0_cond3 i = 1#1) (f5 : Buf (Elt F) (arg5.view.loc (c : Thread nD τ))) (f6 : Buf (Elt F) (arg6.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) :
   ∃ g9 g10 g11, (iprop((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11) : sProp (MT nD τ sig Unit (Elt F) ℕ (UR sig nD τ) ℕ)) ⊢ wp frame (wpE defs₀ 𝒱₀ (c : Thread nD τ) none) Set.univ (k0_part29 (F := F) i arg3 harg3 arg4 harg4 arg5 harg5 arg6 harg6 arg7 harg7 arg8 harg8 arg9 harg9 arg10 harg10 arg11 harg11 arg12 harg12)
      (fun r => iprop(⌜r = ⟨BitVec.ofNat 32 (i 2).val, k0_pay126 (qv c arg5 f5), k0_pay127 (qv c arg5 f5), Scalar.muli (BitVec.ofNat 32 (i 2).val) 512#32⟩⌝ ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} g9) ∗ (arg10.view.loc (c : Thread nD τ) ↦{fullShare} g10) ∗ (arg11.view.loc (c : Thread nD τ) ↦{fullShare} g11)))) ∧ sem29 c i arg5 arg6 arg7 arg9 arg10 arg11 f5 f6 f7 f11 g9 g10 g11 := by
  have htr := trips2 i
  refine ⟨?_, ?_, ?_, ?run, ?sem⟩
  case run =>
    rw [k0_part29_eq_skeleton]; unfold k0_part29_skel
    iintro ⟨H5, H6, H7, H9, H10, H11⟩
    sl_exec_parts
    sl_step
    sl_close
  case sem =>
    have hi : (i 2).val < 8 := (i 2).isLt
    have q1 := (cond1 i).not.mp h1
    have q2 := (cond2 i).not.mp h2
    have q3 := (cond3 i).mp h3
    have s0 := St_loop c i arg3 harg3 arg4 harg4 arg5 harg5 arg6 harg6 arg7 harg7 arg8 harg8 arg9 harg9 arg10 harg10 arg11 harg11 arg12 harg12 (qv c arg5 f5) f6 f9
    have eq3 : (i 2).val - 1 = (i 2).val / 4 * 4 := by omega
    have s3 := St_step c arg6 arg9 arg10 (qv c arg5 f5) f6 f9 _ _ _ s0 (by omega) (k0_off14_inb i h3) (k0_off15_inb i h3) ((off14 i h3).trans (by rw [eq3])) ((off15 i h3).trans (by rw [eq3])) _ (kb_off c arg6 f6 (k0_off13_inb i h3) ((off13 i h3).trans (by rw [eq3])) (by omega))
    have en : (i 2).val / 4 * 4 + 1 = (i 2).val := by omega
    rw [en] at s3
    refine ⟨fun h => s3.1 h, fun h j hj => s3.2 h j hj, fun hz => ?_, fun hz => ?_⟩
    · exact absurd hz q1
    · rfl

set_option maxHeartbeats 4000000 in
theorem spec29_4 (h1 : ¬ (Scalar.cmpi .ne (Scalar.extui (Scalar.cmpi .eq (BitVec.ofNat 32 (i 2).val) 0#32) : BitVec 32) 0#32 : BitVec 1) = 1#1) (h2 : ¬ k0_cond2 i = 1#1) (h3 : ¬ k0_cond3 i = 1#1) (f5 : Buf (Elt F) (arg5.view.loc (c : Thread nD τ))) (f6 : Buf (Elt F) (arg6.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) :
   ∃ g9 g10 g11, (iprop((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11) : sProp (MT nD τ sig Unit (Elt F) ℕ (UR sig nD τ) ℕ)) ⊢ wp frame (wpE defs₀ 𝒱₀ (c : Thread nD τ) none) Set.univ (k0_part29 (F := F) i arg3 harg3 arg4 harg4 arg5 harg5 arg6 harg6 arg7 harg7 arg8 harg8 arg9 harg9 arg10 harg10 arg11 harg11 arg12 harg12)
      (fun r => iprop(⌜r = ⟨BitVec.ofNat 32 (i 2).val, k0_pay126 (qv c arg5 f5), k0_pay127 (qv c arg5 f5), Scalar.muli (BitVec.ofNat 32 (i 2).val) 512#32⟩⌝ ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} g9) ∗ (arg10.view.loc (c : Thread nD τ) ↦{fullShare} g10) ∗ (arg11.view.loc (c : Thread nD τ) ↦{fullShare} g11)))) ∧ sem29 c i arg5 arg6 arg7 arg9 arg10 arg11 f5 f6 f7 f11 g9 g10 g11 := by
  have htr := trips2 i
  refine ⟨?_, ?_, ?_, ?run, ?sem⟩
  case run =>
    rw [k0_part29_eq_skeleton]; unfold k0_part29_skel
    iintro ⟨H5, H6, H7, H9, H10, H11⟩
    sl_exec_parts
    sl_step
    sl_close
  case sem =>
    have hi : (i 2).val < 8 := (i 2).isLt
    have q1 := (cond1 i).not.mp h1
    have q2 := (cond2 i).not.mp h2
    have q3 := (cond3 i).not.mp h3
    have s0 := St_loop c i arg3 harg3 arg4 harg4 arg5 harg5 arg6 harg6 arg7 harg7 arg8 harg8 arg9 harg9 arg10 harg10 arg11 harg11 arg12 harg12 (qv c arg5 f5) f6 f9
    have en : (i 2).val / 4 * 4 = (i 2).val := by omega
    rw [en] at s0
    refine ⟨fun h => s0.1 h, fun h j hj => s0.2 h j hj, fun hz => ?_, fun hz => ?_⟩
    · exact absurd hz q1
    · rfl

set_option maxHeartbeats 4000000 in
theorem spec29_0 (h1 : (Scalar.cmpi .ne (Scalar.extui (Scalar.cmpi .eq (BitVec.ofNat 32 (i 2).val) 0#32) : BitVec 32) 0#32 : BitVec 1) = 1#1) (h2 : ¬ k0_cond2 i = 1#1) (h3 : ¬ k0_cond3 i = 1#1) (f5 : Buf (Elt F) (arg5.view.loc (c : Thread nD τ))) (f6 : Buf (Elt F) (arg6.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) :
   ∃ g9 g10 g11, (iprop((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11) : sProp (MT nD τ sig Unit (Elt F) ℕ (UR sig nD τ) ℕ)) ⊢ wp frame (wpE defs₀ 𝒱₀ (c : Thread nD τ) none) Set.univ (k0_part29 (F := F) i arg3 harg3 arg4 harg4 arg5 harg5 arg6 harg6 arg7 harg7 arg8 harg8 arg9 harg9 arg10 harg10 arg11 harg11 arg12 harg12)
      (fun r => iprop(⌜r = ⟨BitVec.ofNat 32 (i 2).val, k0_pay126 (qv c arg5 f5), k0_pay127 (qv c arg5 f5), Scalar.muli (BitVec.ofNat 32 (i 2).val) 512#32⟩⌝ ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} g9) ∗ (arg10.view.loc (c : Thread nD τ) ↦{fullShare} g10) ∗ (arg11.view.loc (c : Thread nD τ) ↦{fullShare} g11)))) ∧ sem29 c i arg5 arg6 arg7 arg9 arg10 arg11 f5 f6 f7 f11 g9 g10 g11 := by
  have htr := trips2 i
  refine ⟨?_, ?_, ?_, ?run, ?sem⟩
  case run =>
    rw [k0_part29_eq_skeleton]; unfold k0_part29_skel
    iintro ⟨H5, H6, H7, H9, H10, H11⟩
    sl_exec_parts
    sl_step
    sl_close
  case sem =>
    have hi : (i 2).val < 8 := (i 2).isLt
    have q1 := (cond1 i).mp h1
    have q2 := (cond2 i).not.mp h2
    have q3 := (cond3 i).not.mp h3
    have s0 := St_loop c i arg3 harg3 arg4 harg4 arg5 harg5 arg6 harg6 arg7 harg7 arg8 harg8 arg9 harg9 arg10 harg10 arg11 harg11 arg12 harg12 (qv c arg5 f5) f6 f9
    have en : (i 2).val / 4 * 4 = (i 2).val := by omega
    rw [en] at s0
    refine ⟨fun h => s0.1 h, fun h j hj => s0.2 h j hj, fun hz => ?_, fun hz => ?_⟩
    · intro j; exact vb_vx c arg11 _ (vv c arg7 f7) j
    · exact absurd q1 hz

end Body
end Cert.AttnRun
-- ==== Proof.AttnAcc.lean ====
module

public import proofs.«01_k».proof.Proof.AttnBody

@[expose] public section

set_option maxRecDepth 65536

noncomputable section

namespace Cert.AttnRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Acc
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x512x128 .bf16) (harg8 : arg8.IsWhole) (arg9 : Memref sig .tc .vmem S2x8x512x512 .f32) (harg9 : arg9.IsWhole) (arg10 : Memref sig .tc .vmem S2x512x128 .f32) (harg10 : arg10.IsWhole) (arg11 : Memref sig .tc .vmem S4096x256 .bf16) (harg11 : arg11.IsWhole) (arg12 : Memref sig .tc .vmem S2x512x256 .f32) (harg12 : arg12.IsWhole)

theorem off25c : ∀ i : grid0.Coords, k0_cond4 i = 1#1 → k0_off25 i = ![512 * (((i 2).val + 1) / 4 * 4), 0] := by decide +kernel
theorem off26c : ∀ i : grid0.Coords, k0_cond4 i = 1#1 → k0_off26 i = ![0, ((i 2).val + 1) / 4 * 4, 0, 0] := by decide +kernel
theorem off27 : ∀ i : grid0.Coords, k0_cond4 i = 1#1 → k0_off27 i = ![1, ((i 2).val + 1) / 4 * 4, 0, 0] := by decide +kernel
theorem off28 : ∀ i : grid0.Coords, k0_cond4 i = 1#1 → k0_off28 i = ![512 * (((i 2).val + 1) / 4 * 4 + 1), 0] := by decide +kernel
theorem off29 : ∀ i : grid0.Coords, k0_cond4 i = 1#1 → k0_off29 i = ![0, ((i 2).val + 1) / 4 * 4 + 1, 0, 0] := by decide +kernel
theorem off30 : ∀ i : grid0.Coords, k0_cond4 i = 1#1 → k0_off30 i = ![1, ((i 2).val + 1) / 4 * 4 + 1, 0, 0] := by decide +kernel
theorem off31 : ∀ i : grid0.Coords, k0_cond5 i = 1#1 → k0_off31 i = ![512 * (i 2).val, 0] := by decide +kernel
theorem off32 : ∀ i : grid0.Coords, k0_cond5 i = 1#1 → k0_off32 i = ![0, (i 2).val, 0, 0] := by decide +kernel
theorem off33 : ∀ i : grid0.Coords, k0_cond5 i = 1#1 → k0_off33 i = ![1, (i 2).val, 0, 0] := by decide +kernel

/-- The four vectors of λ. -/
def lv (f3 : Buf (Elt F) (arg3.view.loc (c : Thread nD τ))) : Vec F S4x64 .f32 :=
  arg3.view.readAt (Elt F) (Rect.unit (s := S4x64) ![0, 0] S4x64.size inb_S4x64_S4x64_0_0).toLoadRect f3

theorem vb_off (f11 : Buf (Elt F) (arg11.view.loc (c : Thread nD τ))) {n : ℕ} {o : Fin S4096x256.rank → ℕ} (b) (h : o = ![512 * n, 0]) (hn : n < 8) :
    arg11.view.readAt (Elt F) (Rect.unit (s := S4096x256) o S512x256.size b).toLoadRect f11 = vb arg11.view f11 n :=
  same _ _ _ _ _ (by rw [h, Nat.mod_eq_of_lt hn])

theorem sb_off (f9 : Buf (Elt F) (arg9.view.loc (c : Thread nD τ))) (h : Fin 2) {n : ℕ} {o : Fin S2x8x512x512.rank → ℕ} (b) (ho : o = ![h.val, n, 0, 0]) (hn : n < 8) :
    arg9.view.readAt (Elt F) (Rect.unit (s := S2x8x512x512) o S1x1x512x512.size b).toLoadRect f9 = sb arg9.view f9 h n :=
  same _ _ _ _ _ (by rw [ho, Nat.mod_eq_of_lt hn])

/-- The first `n` blocks are accumulated. -/
def SA (x : F .f32) (f9 : Buf (Elt F) (arg9.view.loc (c : Thread nD τ))) (f10 : Buf (Elt F) (arg10.view.loc (c : Thread nD τ))) (f11 : Buf (Elt F) (arg11.view.loc (c : Thread nD τ))) (n : ℕ) (L : List (View.Piece (Elt F) S2x512x256 .f32)) : Prop :=
  ∀ h : Fin 2, ab arg12.view (arg12.view.writes (Elt F) arg12.view.junk L) h
    = acc (vb arg11.view f11) (mb arg10.view f10 h) (sb arg9.view f9 h) (fun _ => x) n

/-- What the accumulation leaves. -/
def sem32 (x : F .f32) (f9 : Buf (Elt F) (arg9.view.loc (c : Thread nD τ))) (f10 : Buf (Elt F) (arg10.view.loc (c : Thread nD τ))) (f11 : Buf (Elt F) (arg11.view.loc (c : Thread nD τ))) (g12 : Buf (Elt F) (arg12.view.loc (c : Thread nD τ))) : Prop :=
  ∀ h : Fin 2, ab arg12.view g12 h
    = acc (vb arg11.view f11) (mb arg10.view f10 h) (sb arg9.view f9 h) (fun _ => x) ((i 2).val + 1)

theorem SA_step (x : F .f32) (f9 : Buf (Elt F) (arg9.view.loc (c : Thread nD τ))) (f10 : Buf (Elt F) (arg10.view.loc (c : Thread nD τ))) (f11 : Buf (Elt F) (arg11.view.loc (c : Thread nD τ))) (n : ℕ) (L : List (View.Piece (Elt F) S2x512x256 .f32)) (hs : SA c arg9 arg10 arg11 arg12 x f9 f10 f11 n L)
    (V : Vec F S512x256 .bf16) (s0 s1 : Vec F S1x1x512x512 .f32)
    (hV : V = vb arg11.view f11 n) (h0 : s0 = sb arg9.view f9 0 n) (h1 : s1 = sb arg9.view f9 1 n) :
    SA c arg9 arg10 arg11 arg12 x f9 f10 f11 (n + 1)
      (⟨Rect.unit (s := S2x512x256) ![1, 0, 0] S1x512x256.size inb_S2x512x256_S1x512x256_1_0_0, k0_pay148 V (mb arg10.view f10 1) s1 (arg12.view.readCov (⟨Rect.unit (s := S2x512x256) ![0, 0, 0] S1x512x256.size inb_S2x512x256_S1x512x256_0_0_0, k0_pay148 V (mb arg10.view f10 0) s0 (arg12.view.readCov L (Rect.unit (s := S2x512x256) ![0, 0, 0] S1x512x256.size inb_S2x512x256_S1x512x256_0_0_0).toLoadRect)⟩ :: L) (Rect.unit (s := S2x512x256) ![1, 0, 0] S1x512x256.size inb_S2x512x256_S1x512x256_1_0_0).toLoadRect)⟩ :: ⟨Rect.unit (s := S2x512x256) ![0, 0, 0] S1x512x256.size inb_S2x512x256_S1x512x256_0_0_0, k0_pay148 V (mb arg10.view f10 0) s0 (arg12.view.readCov L (Rect.unit (s := S2x512x256) ![0, 0, 0] S1x512x256.size inb_S2x512x256_S1x512x256_0_0_0).toLoadRect)⟩ :: L) := by
  subst hV h0 h1
  intro h
  match h with
  | 0 =>
    refine Eq.trans (miss _ _ _ _ _ _ _ _ 0 (by decide)) ?_
    refine Eq.trans (hit _ _ _ _ _ _ _ (by rfl)) ?_
    exact congrArg (k0_pay148 _ _ _) (hs 0)
  | 1 =>
    refine Eq.trans (hit _ _ _ _ _ _ _ (by rfl)) ?_
    refine congrArg (k0_pay148 _ _ _) ?_
    exact Eq.trans (miss _ _ _ _ _ _ _ _ 0 (by decide)) (hs 1)

theorem ab_zero (x : F .f32) (f : Buf (Elt F) (arg12.view.loc (c : Thread nD τ))) (h : Fin 2) :
    ab arg12.view (arg12.view.writes (Elt F) f [⟨Rect.unit (s := S2x512x256) ![0, 0, 0] S2x512x256.size inb_S2x512x256_S2x512x256_0_0_0, k0_pay146 x⟩]) h = fun _ => x := by
  funext j
  have e := View.read_writes_cons_emb (Val := Elt F) arg12.view f (Rect.unit (s := S2x512x256) ![0, 0, 0] S2x512x256.size inb_S2x512x256_S2x512x256_0_0_0) (k0_pay146 x) []
    ((Rect.unit (s := S2x512x256) ![h.val, 0, 0] S1x512x256.size (inb12 h)).toLoadRect.idx j)
  refine Eq.trans ?_ (e.trans ?_)
  · unfold ab
    refine congrArg (arg12.view.read (Elt F) (arg12.view.writes (Elt F) f _)) ?_
    funext a
    refine Fin.ext ?_
    fin_cases a <;> simp [Rect.emb, Rect.unit]
  · rfl

theorem SA_loop (w : BitVec 32) (x : F .f32) (f9 : Buf (Elt F) (arg9.view.loc (c : Thread nD τ))) (f10 : Buf (Elt F) (arg10.view.loc (c : Thread nD τ))) (f11 : Buf (Elt F) (arg11.view.loc (c : Thread nD τ))) :
    SA c arg9 arg10 arg11 arg12 x f9 f10 f11 (((i 2).val + 1) / 4 * 4) (st3 c i arg3 harg3 arg4 harg4 arg5 harg5 arg6 harg6 arg7 harg7 arg8 harg8 arg9 harg9 arg10 harg10 arg11 harg11 arg12 harg12 w x f9 f10 f11 arg12.view.junk [⟨Rect.unit (s := S2x512x256) ![0, 0, 0] S2x512x256.size inb_S2x512x256_S2x512x256_0_0_0, k0_pay146 x⟩] (k0_t3_loop i).trips) := by
  have ht : 4 * (k0_t3_loop i).trips = ((i 2).val + 1) / 4 * 4 := by rw [trips3, Nat.mul_comm]
  have e := fun h => st3_sem c i arg3 harg3 arg4 harg4 arg5 harg5 arg6 harg6 arg7 harg7 arg8 harg8 arg9 harg9 arg10 harg10 arg11 harg11 arg12 harg12 w x f9 f10 f11 arg12.view.junk [⟨Rect.unit (s := S2x512x256) ![0, 0, 0] S2x512x256.size inb_S2x512x256_S2x512x256_0_0_0, k0_pay146 x⟩] h _ le_rfl
  rw [ht] at e
  intro h
  rw [e h, ab_zero c arg12]

set_option maxHeartbeats 4000000 in
theorem spec32_3 (w : BitVec 32) (x : F .f32) (h4 : k0_cond4 i = 1#1) (h5 : k0_cond5 i = 1#1) (f3 : Buf (Elt F) (arg3.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
   ∃ g12, (iprop((arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (k0_part32 (F := F) i arg3 harg3 arg4 harg4 arg5 harg5 arg6 harg6 arg7 harg7 arg8 harg8 arg9 harg9 arg10 harg10 arg11 harg11 arg12 harg12 w x)
      (fun r => iprop(⌜r = ⟨k0_pay150 (lv c arg3 f3), k0_pay151 (lv c arg3 f3)⟩⌝ ∗ (arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} g12)))) ∧ sem32 c i arg9 arg10 arg11 arg12 x f9 f10 f11 g12 := by
  have htr := trips4 i
  refine ⟨?_, ?run, ?sem⟩
  case run =>
    rw [k0_part32_eq_skeleton]; unfold k0_part32_skel
    iintro ⟨H3, H9, H10, H11, H12⟩
    sl_exec_parts
    sl_step
    sl_close
  case sem =>
    have hi : (i 2).val < 8 := (i 2).isLt
    have q4 := (cond4 i).mp h4
    have q5 := (cond5 i).mp h5
    have s0 := SA_loop c i arg3 harg3 arg4 harg4 arg5 harg5 arg6 harg6 arg7 harg7 arg8 harg8 arg9 harg9 arg10 harg10 arg11 harg11 arg12 harg12 w x f9 f10 f11
    have s1 := SA_step c arg9 arg10 arg11 arg12 x f9 f10 f11 _ _ s0 _ _ _ (vb_off c arg11 f11 (k0_off25_inb i h4) (off25c i h4) (by omega)) (sb_off c arg9 f9 0 (k0_off26_inb i h4) (off26c i h4) (by omega)) (sb_off c arg9 f9 1 (k0_off27_inb i h4) (off27 i h4) (by omega))
    have s2 := SA_step c arg9 arg10 arg11 arg12 x f9 f10 f11 _ _ s1 _ _ _ (vb_off c arg11 f11 (k0_off28_inb i h4) (off28 i h4) (by omega)) (sb_off c arg9 f9 0 (k0_off29_inb i h4) (off29 i h4) (by omega)) (sb_off c arg9 f9 1 (k0_off30_inb i h4) (off30 i h4) (by omega))
    have eq3 : (i 2).val = ((i 2).val + 1) / 4 * 4 + 1 + 1 := by omega
    have s3 := SA_step c arg9 arg10 arg11 arg12 x f9 f10 f11 _ _ s2 _ _ _ (vb_off c arg11 f11 (k0_off31_inb i h5) ((off31 i h5).trans (by rw [← eq3] <;> rfl)) (by omega)) (sb_off c arg9 f9 0 (k0_off32_inb i h5) ((off32 i h5).trans (by rw [← eq3] <;> rfl)) (by omega)) (sb_off c arg9 f9 1 (k0_off33_inb i h5) ((off33 i h5).trans (by rw [← eq3] <;> rfl)) (by omega))
    have en : ((i 2).val + 1) / 4 * 4 + 1 + 1 + 1 = (i 2).val + 1 := by omega
    rw [en] at s3
    exact fun h => s3 h

set_option maxHeartbeats 4000000 in
theorem spec32_2 (w : BitVec 32) (x : F .f32) (h4 : k0_cond4 i = 1#1) (h5 : ¬ k0_cond5 i = 1#1) (f3 : Buf (Elt F) (arg3.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
   ∃ g12, (iprop((arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (k0_part32 (F := F) i arg3 harg3 arg4 harg4 arg5 harg5 arg6 harg6 arg7 harg7 arg8 harg8 arg9 harg9 arg10 harg10 arg11 harg11 arg12 harg12 w x)
      (fun r => iprop(⌜r = ⟨k0_pay150 (lv c arg3 f3), k0_pay151 (lv c arg3 f3)⟩⌝ ∗ (arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} g12)))) ∧ sem32 c i arg9 arg10 arg11 arg12 x f9 f10 f11 g12 := by
  have htr := trips4 i
  refine ⟨?_, ?run, ?sem⟩
  case run =>
    rw [k0_part32_eq_skeleton]; unfold k0_part32_skel
    iintro ⟨H3, H9, H10, H11, H12⟩
    sl_exec_parts
    sl_step
    sl_close
  case sem =>
    have hi : (i 2).val < 8 := (i 2).isLt
    have q4 := (cond4 i).mp h4
    have q5 := (cond5 i).not.mp h5
    have s0 := SA_loop c i arg3 harg3 arg4 harg4 arg5 harg5 arg6 harg6 arg7 harg7 arg8 harg8 arg9 harg9 arg10 harg10 arg11 harg11 arg12 harg12 w x f9 f10 f11
    have s1 := SA_step c arg9 arg10 arg11 arg12 x f9 f10 f11 _ _ s0 _ _ _ (vb_off c arg11 f11 (k0_off25_inb i h4) (off25c i h4) (by omega)) (sb_off c arg9 f9 0 (k0_off26_inb i h4) (off26c i h4) (by omega)) (sb_off c arg9 f9 1 (k0_off27_inb i h4) (off27 i h4) (by omega))
    have s2 := SA_step c arg9 arg10 arg11 arg12 x f9 f10 f11 _ _ s1 _ _ _ (vb_off c arg11 f11 (k0_off28_inb i h4) (off28 i h4) (by omega)) (sb_off c arg9 f9 0 (k0_off29_inb i h4) (off29 i h4) (by omega)) (sb_off c arg9 f9 1 (k0_off30_inb i h4) (off30 i h4) (by omega))
    have en : ((i 2).val + 1) / 4 * 4 + 1 + 1 = (i 2).val + 1 := by omega
    rw [en] at s2
    exact fun h => s2 h

set_option maxHeartbeats 4000000 in
theorem spec32_1 (w : BitVec 32) (x : F .f32) (h4 : ¬ k0_cond4 i = 1#1) (h5 : k0_cond5 i = 1#1) (f3 : Buf (Elt F) (arg3.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
   ∃ g12, (iprop((arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (k0_part32 (F := F) i arg3 harg3 arg4 harg4 arg5 harg5 arg6 harg6 arg7 harg7 arg8 harg8 arg9 harg9 arg10 harg10 arg11 harg11 arg12 harg12 w x)
      (fun r => iprop(⌜r = ⟨k0_pay150 (lv c arg3 f3), k0_pay151 (lv c arg3 f3)⟩⌝ ∗ (arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} g12)))) ∧ sem32 c i arg9 arg10 arg11 arg12 x f9 f10 f11 g12 := by
  have htr := trips4 i
  refine ⟨?_, ?run, ?sem⟩
  case run =>
    rw [k0_part32_eq_skeleton]; unfold k0_part32_skel
    iintro ⟨H3, H9, H10, H11, H12⟩
    sl_exec_parts
    sl_step
    sl_close
  case sem =>
    have hi : (i 2).val < 8 := (i 2).isLt
    have q4 := (cond4 i).not.mp h4
    have q5 := (cond5 i).mp h5
    have s0 := SA_loop c i arg3 harg3 arg4 harg4 arg5 harg5 arg6 harg6 arg7 harg7 arg8 harg8 arg9 harg9 arg10 harg10 arg11 harg11 arg12 harg12 w x f9 f10 f11
    have eq3 : (i 2).val = ((i 2).val + 1) / 4 * 4 := by omega
    have s3 := SA_step c arg9 arg10 arg11 arg12 x f9 f10 f11 _ _ s0 _ _ _ (vb_off c arg11 f11 (k0_off31_inb i h5) ((off31 i h5).trans (by rw [← eq3] <;> rfl)) (by omega)) (sb_off c arg9 f9 0 (k0_off32_inb i h5) ((off32 i h5).trans (by rw [← eq3] <;> rfl)) (by omega)) (sb_off c arg9 f9 1 (k0_off33_inb i h5) ((off33 i h5).trans (by rw [← eq3] <;> rfl)) (by omega))
    have en : ((i 2).val + 1) / 4 * 4 + 1 = (i 2).val + 1 := by omega
    rw [en] at s3
    exact fun h => s3 h

set_option maxHeartbeats 4000000 in
theorem spec32_0 (w : BitVec 32) (x : F .f32) (h4 : ¬ k0_cond4 i = 1#1) (h5 : ¬ k0_cond5 i = 1#1) (f3 : Buf (Elt F) (arg3.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
   ∃ g12, (iprop((arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (k0_part32 (F := F) i arg3 harg3 arg4 harg4 arg5 harg5 arg6 harg6 arg7 harg7 arg8 harg8 arg9 harg9 arg10 harg10 arg11 harg11 arg12 harg12 w x)
      (fun r => iprop(⌜r = ⟨k0_pay150 (lv c arg3 f3), k0_pay151 (lv c arg3 f3)⟩⌝ ∗ (arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} g12)))) ∧ sem32 c i arg9 arg10 arg11 arg12 x f9 f10 f11 g12 := by
  have htr := trips4 i
  refine ⟨?_, ?run, ?sem⟩
  case run =>
    rw [k0_part32_eq_skeleton]; unfold k0_part32_skel
    iintro ⟨H3, H9, H10, H11, H12⟩
    sl_exec_parts
    sl_step
    sl_close
  case sem =>
    have hi : (i 2).val < 8 := (i 2).isLt
    have q4 := (cond4 i).not.mp h4
    have q5 := (cond5 i).not.mp h5
    have s0 := SA_loop c i arg3 harg3 arg4 harg4 arg5 harg5 arg6 harg6 arg7 harg7 arg8 harg8 arg9 harg9 arg10 harg10 arg11 harg11 arg12 harg12 w x f9 f10 f11
    have en : ((i 2).val + 1) / 4 * 4 = (i 2).val + 1 := by omega
    rw [en] at s0
    exact fun h => s0 h

theorem spec32 (w : BitVec 32) (x : F .f32) (f3 : Buf (Elt F) (arg3.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
   ∃ g12, (iprop((arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (k0_part32 (F := F) i arg3 harg3 arg4 harg4 arg5 harg5 arg6 harg6 arg7 harg7 arg8 harg8 arg9 harg9 arg10 harg10 arg11 harg11 arg12 harg12 w x)
      (fun r => iprop(⌜r = ⟨k0_pay150 (lv c arg3 f3), k0_pay151 (lv c arg3 f3)⟩⌝ ∗ (arg3.view.loc (c : Thread nD τ) ↦{fullShare} f3) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} g12)))) ∧ sem32 c i arg9 arg10 arg11 arg12 x f9 f10 f11 g12 := by
  by_cases h4 : k0_cond4 i = 1#1 <;> by_cases h5 : k0_cond5 i = 1#1
  · exact spec32_3 c i arg3 harg3 arg4 harg4 arg5 harg5 arg6 harg6 arg7 harg7 arg8 harg8 arg9 harg9 arg10 harg10 arg11 harg11 arg12 harg12 w x h4 h5 f3 f9 f10 f11 f12
  · exact spec32_2 c i arg3 harg3 arg4 harg4 arg5 harg5 arg6 harg6 arg7 harg7 arg8 harg8 arg9 harg9 arg10 harg10 arg11 harg11 arg12 harg12 w x h4 h5 f3 f9 f10 f11 f12
  · exact spec32_1 c i arg3 harg3 arg4 harg4 arg5 harg5 arg6 harg6 arg7 harg7 arg8 harg8 arg9 harg9 arg10 harg10 arg11 harg11 arg12 harg12 w x h4 h5 f3 f9 f10 f11 f12
  · exact spec32_0 c i arg3 harg3 arg4 harg4 arg5 harg5 arg6 harg6 arg7 harg7 arg8 harg8 arg9 harg9 arg10 harg10 arg11 harg11 arg12 harg12 w x h4 h5 f3 f9 f10 f11 f12
end Acc
end Cert.AttnRun
-- ==== Proof.AttnPoint.lean ====
module

public import proofs.«01_k».proof.Proof.AttnAcc

@[expose] public section

set_option maxRecDepth 65536

noncomputable section

namespace Cert.AttnRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Point
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x512x128 .bf16) (harg8 : arg8.IsWhole) (arg9 : Memref sig .tc .vmem S2x8x512x512 .f32) (harg9 : arg9.IsWhole) (arg10 : Memref sig .tc .vmem S2x512x128 .f32) (harg10 : arg10.IsWhole) (arg11 : Memref sig .tc .vmem S4096x256 .bf16) (harg11 : arg11.IsWhole) (arg12 : Memref sig .tc .vmem S2x512x256 .f32) (harg12 : arg12.IsWhole)

theorem spec29 (f5 : Buf (Elt F) (arg5.view.loc (c : Thread nD τ))) (f6 : Buf (Elt F) (arg6.view.loc (c : Thread nD τ))) (f7 : Buf (Elt F) (arg7.view.loc (c : Thread nD τ))) (f9 : Buf (Elt F) (arg9.view.loc (c : Thread nD τ))) (f10 : Buf (Elt F) (arg10.view.loc (c : Thread nD τ))) (f11 : Buf (Elt F) (arg11.view.loc (c : Thread nD τ))) :
   ∃ g9 g10 g11, (iprop((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11) : sProp (MT nD τ sig Unit (Elt F) ℕ (UR sig nD τ) ℕ)) ⊢ wp frame (wpE defs₀ 𝒱₀ (c : Thread nD τ) none) Set.univ (k0_part29 (F := F) i arg3 harg3 arg4 harg4 arg5 harg5 arg6 harg6 arg7 harg7 arg8 harg8 arg9 harg9 arg10 harg10 arg11 harg11 arg12 harg12) (fun r => iprop(⌜r = ⟨BitVec.ofNat 32 (i 2).val, k0_pay126 (qv c arg5 f5), k0_pay127 (qv c arg5 f5), Scalar.muli (BitVec.ofNat 32 (i 2).val) 512#32⟩⌝ ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} g9) ∗ (arg10.view.loc (c : Thread nD τ) ↦{fullShare} g10) ∗ (arg11.view.loc (c : Thread nD τ) ↦{fullShare} g11)))) ∧ sem29 c i arg5 arg6 arg7 arg9 arg10 arg11 f5 f6 f7 f11 g9 g10 g11 := by
  by_cases h1 : (Scalar.cmpi .ne (Scalar.extui (Scalar.cmpi .eq (BitVec.ofNat 32 (i 2).val) 0#32) : BitVec 32) 0#32 : BitVec 1) = 1#1
  · have q1 := (cond1 i).mp h1
    have h2 : ¬ k0_cond2 i = 1#1 := by rw [cond2]; omega
    have h3 : ¬ k0_cond3 i = 1#1 := by rw [cond3]; omega
    exact spec29_0 c i arg3 harg3 arg4 harg4 arg5 harg5 arg6 harg6 arg7 harg7 arg8 harg8 arg9 harg9 arg10 harg10 arg11 harg11 arg12 harg12 h1 h2 h3 f5 f6 f7 f9 f10 f11
  · by_cases h2 : k0_cond2 i = 1#1 <;> by_cases h3 : k0_cond3 i = 1#1
    · exact spec29_3 c i arg3 harg3 arg4 harg4 arg5 harg5 arg6 harg6 arg7 harg7 arg8 harg8 arg9 harg9 arg10 harg10 arg11 harg11 arg12 harg12 h1 h2 h3 f5 f6 f7 f9 f10 f11
    · exact spec29_2 c i arg3 harg3 arg4 harg4 arg5 harg5 arg6 harg6 arg7 harg7 arg8 harg8 arg9 harg9 arg10 harg10 arg11 harg11 arg12 harg12 h1 h2 h3 f5 f6 f7 f9 f10 f11
    · exact spec29_1 c i arg3 harg3 arg4 harg4 arg5 harg5 arg6 harg6 arg7 harg7 arg8 harg8 arg9 harg9 arg10 harg10 arg11 harg11 arg12 harg12 h1 h2 h3 f5 f6 f7 f9 f10 f11
    · exact spec29_4 c i arg3 harg3 arg4 harg4 arg5 harg5 arg6 harg6 arg7 harg7 arg8 harg8 arg9 harg9 arg10 harg10 arg11 harg11 arg12 harg12 h1 h2 h3 f5 f6 f7 f9 f10 f11

/-- The diagonal block of half 0 is scored. -/
theorem spec30 (w27 w2 : BitVec 32) (v0 : Vec F S1x512x128 .bf16) (f6 : Buf (Elt F) (arg6.view.loc (c : Thread nD τ))) (f9 : Buf (Elt F) (arg9.view.loc (c : Thread nD τ))) (f10 : Buf (Elt F) (arg10.view.loc (c : Thread nD τ))) :
   ∃ g9 g10, (iprop((arg6.view.loc (c : Thread nD τ) ↦{fullShare} f6) ∗ (arg9.view.loc (c : Thread nD τ) ↦{fullShare} f9) ∗ (arg10.view.loc (c : Thread nD τ) ↦{fullShare} f10) : sProp (MT nD τ sig Unit (Elt F) ℕ (UR sig nD τ) ℕ)) ⊢ wp frame (wpE defs₀ 𝒱₀ (c : Thread nD τ) none) Set.univ (k0_part30 (F := F) i arg3 harg3 arg4 harg4 arg5 harg5 arg6 harg6 arg7 harg7 arg8 harg8 arg9 harg9 arg10 harg10 arg11 harg11 arg12 harg12 w2 (k0_pay126 v0) (k0_pay127 v0) w27) (fun r => iprop(⌜r = diag v0 (kb arg6.view f6 (i 2).val) 1⌝ ∗ (arg6.view.loc (c : Thread nD τ) ↦{fullShare} f6) ∗ (arg9.view.loc (c : Thread nD τ) ↦{fullShare} g9) ∗ (arg10.view.loc (c : Thread nD τ) ↦{fullShare} g10)))) ∧
     (sb arg9.view g9 0 (i 2).val = k0_pay142 (diag v0 (kb arg6.view f6 (i 2).val) 0)
      ∧ (∀ h : Fin 2, ∀ j, j < 8 → j ≠ (i 2).val → sb arg9.view g9 h j = sb arg9.view f9 h j)
      ∧ mb arg10.view g10 0 = k0_pay8 (diag v0 (kb arg6.view f6 (i 2).val) 0) (mb arg10.view f10 0)
      ∧ mb arg10.view g10 1 = mb arg10.view f10 1) := by
  have hi : (i 2).val < 8 := (i 2).isLt
  have hm := Nat.mod_eq_of_lt hi
  refine ⟨?_, ?_, ?run, ?sem⟩
  case run =>
    have hr : k0_pay141 (k0_pay127 v0) (arg6.view.readAt (Elt F) (Rect.unit (s := S1x4096x128) (k0_off16 i) S1x512x128.size (k0_off16_inb i)).toLoadRect f6) = diag v0 (kb arg6.view f6 (i 2).val) 1 := by rw [kb_off c arg6 f6 (k0_off16_inb i) (off16 i) hi]; rfl
    rw [k0_part30_eq_skeleton]; unfold k0_part30_skel
    iintro ⟨H6, H9, H10⟩
    sl_exec_parts
    sl_step
    sl_close
  case sem =>
    rw [← kb_off c arg6 f6 (k0_off16_inb i) (off16 i) hi]
    refine ⟨?_, ?_, ?_, ?_⟩
    · refine Eq.trans (hit _ _ _ _ _ _ _ ?_) rfl
      rw [off17, hm]; rfl
    · intro h j hj hne
      refine (miss _ _ _ _ _ _ _ _ 1 ?_)
      rw [off17]; show j % 8 + 1 ≤ (i 2).val ∨ (i 2).val + 1 ≤ j % 8; omega
    · exact hit _ _ _ _ _ _ _ (by rfl)
    · exact miss _ _ _ _ _ _ _ _ 0 (by decide)

/-- The diagonal block of half 1 is scored, and the maxima are taken over the lanes. -/
theorem spec31 (v65 : FVec F S512x512 .f32) (f9 : Buf (Elt F) (arg9.view.loc (c : Thread nD τ))) (f10 : Buf (Elt F) (arg10.view.loc (c : Thread nD τ))) :
   ∃ g9 g10, (iprop((arg9.view.loc (c : Thread nD τ) ↦{fullShare} f9) ∗ (arg10.view.loc (c : Thread nD τ) ↦{fullShare} f10) : sProp (MT nD τ sig Unit (Elt F) ℕ (UR sig nD τ) ℕ)) ⊢ wp frame (wpE defs₀ 𝒱₀ (c : Thread nD τ) none) Set.univ (k0_part31 (F := F) i arg3 harg3 arg4 harg4 arg5 harg5 arg6 harg6 arg7 harg7 arg8 harg8 arg9 harg9 arg10 harg10 arg11 harg11 arg12 harg12 v65) (fun r => iprop(⌜r = Scalar.ofBits .f32 0x00000000#32⌝ ∗ (arg9.view.loc (c : Thread nD τ) ↦{fullShare} g9) ∗ (arg10.view.loc (c : Thread nD τ) ↦{fullShare} g10)))) ∧
     (sb arg9.view g9 1 (i 2).val = k0_pay142 v65
      ∧ (∀ h : Fin 2, ∀ j, j < 8 → (h = 1 → j ≠ (i 2).val) → sb arg9.view g9 h j = sb arg9.view f9 h j)
      ∧ mb arg10.view g10 0 = k0_pay144 (mb arg10.view f10 0)
      ∧ mb arg10.view g10 1 = k0_pay144 (k0_pay8 v65 (mb arg10.view f10 1))) := by
  have hi : (i 2).val < 8 := (i 2).isLt
  have hm := Nat.mod_eq_of_lt hi
  refine ⟨?_, ?_, ?run, ?sem⟩
  case run =>
    rw [k0_part31_eq_skeleton]; unfold k0_part31_skel
    iintro ⟨H9, H10⟩
    sl_exec_parts
    sl_step
    sl_close
  case sem =>
    refine ⟨?_, ?_, ?_, ?_⟩
    · refine Eq.trans (hit _ _ _ _ _ _ _ ?_) rfl
      rw [off18, hm]; rfl
    · intro h j hj hne
      match h with
      | 0 =>
        refine (miss _ _ _ _ _ _ _ _ 0 ?_)
        rw [off18]; left; exact le_refl 1
      | 1 =>
        have := hne rfl
        refine (miss _ _ _ _ _ _ _ _ 1 ?_)
        rw [off18]; show j % 8 + 1 ≤ (i 2).val ∨ (i 2).val + 1 ≤ j % 8; omega
    · refine Eq.trans (miss _ _ _ _ _ _ _ _ 0 (by decide)) ?_
      refine Eq.trans (hit _ _ _ _ _ _ _ (by rfl)) ?_
      refine congrArg k0_pay144 ?_
      first | rfl | exact miss _ _ _ _ _ _ _ _ 0 (by decide)
    · refine Eq.trans (hit _ _ _ _ _ _ _ (by rfl)) ?_
      refine congrArg k0_pay144 ?_
      refine Eq.trans (miss _ _ _ _ _ _ _ _ 0 (by decide)) ?_
      refine Eq.trans (hit _ _ _ _ _ _ _ (by rfl)) ?_
      rfl

/-- The two halves of an accumulator: the weighted sums, and the sum of the weights. -/
def lo (a : Vec F S1x512x256 .f32) : Vec F S1x512x128 .f32 := fun p => a (fun d => match d with
  | 0 => p 0
  | 1 => p 1
  | 2 => ⟨(p 2).val, Nat.lt_of_lt_of_le (p 2).isLt (by decide)⟩)
def hi (a : Vec F S1x512x256 .f32) : Vec F S1x512x128 .f32 := fun p => a (fun d => match d with
  | 0 => p 0
  | 1 => p 1
  | 2 => ⟨(p 2).val + 128, Nat.add_lt_of_lt_sub (Nat.lt_of_lt_of_le (p 2).isLt (by decide))⟩)

/-- The row maxima in use at block `n`. -/
def top (v0 : Vec F S1x512x128 .bf16) (K : ℕ → Vec F S1x512x128 .bf16) (n : ℕ) (h : Fin 2) : Vec F S1x512x128 .f32 :=
  k0_pay144 (k0_pay8 (diag v0 (K n) h) (mx (fun j => raw v0 (K j) h) lowest n))

/-- The scores in use. -/
def sc (v0 : Vec F S1x512x128 .bf16) (K : ℕ → Vec F S1x512x128 .bf16) (n : ℕ) (h : Fin 2) (j : ℕ) : Vec F S1x1x512x512 .f32 :=
  k0_pay142 (if j = n then diag v0 (K j) h else raw v0 (K j) h)

/-- The accumulator of half `h`. -/
def ac (v0 : Vec F S1x512x128 .bf16) (K : ℕ → Vec F S1x512x128 .bf16) (V : Vec F S1x4096x128 .bf16) (n : ℕ) (h : Fin 2) : Vec F S1x512x256 .f32 :=
  acc (vx V) (top v0 K n h) (sc v0 K n h) (fun _ => Scalar.ofBits .f32 0x00000000#32) (n + 1)

/-- The block of results. -/
def outv (lam : Vec F S4x64 .f32) (g : Vec F S1x128 .f32) (v0 : Vec F S1x512x128 .bf16) (K : ℕ → Vec F S1x512x128 .bf16) (V : Vec F S1x4096x128 .bf16) (n : ℕ) : Vec F S1x512x128 .bf16 :=
  k0_pay1 (k0_pay152 (k0_pay150 lam) (k0_pay151 lam) (lo (ac v0 K V n 0)) (hi (ac v0 K V n 0)) (lo (ac v0 K V n 1)) (hi (ac v0 K V n 1)) g)

theorem acc_congr {v v' : ℕ → Vec F S512x256 .bf16} {m m' : Vec F S1x512x128 .f32} {s s' : ℕ → Vec F S1x1x512x512 .f32} (a : Vec F S1x512x256 .f32) (hm : m = m') :
    ∀ n, (∀ j, j < n → v j = v' j) → (∀ j, j < n → s j = s' j) → acc v m s a n = acc v' m' s' a n := by
  subst hm
  intro n
  induction n with
  | zero => intro _ _; rfl
  | succ n ih =>
    intro hv hs
    show k0_pay148 (v n) m (s n) (acc v m s a n) = k0_pay148 (v' n) m (s' n) (acc v' m s' a n)
    rw [hv n (by omega), hs n (by omega), ih (fun j hj => hv j (by omega)) (fun j hj => hs j (by omega))]

/-- The scale of the result's rows. -/
def gv (f4 : Buf (Elt F) (arg4.view.loc (c : Thread nD τ))) : Vec F S1x128 .f32 :=
  arg4.view.readAt (Elt F) (Rect.unit (s := S1x128) ![0, 0] S1x128.size inb_S1x128_S1x128_0_0).toLoadRect f4

theorem ab_lo (f : Buf (Elt F) (arg12.view.loc (c : Thread nD τ))) (h : Fin 2) (b) :
    arg12.view.readAt (Elt F) (Rect.unit (s := S2x512x256) ![h.val, 0, 0] S1x512x128.size b).toLoadRect f = lo (ab arg12.view f h) := by
  funext p
  refine congrArg (arg12.view.read (Elt F) f) ?_
  funext a
  refine Fin.ext ?_
  match a with
  | 0 => rfl
  | 1 => rfl
  | 2 => rfl

theorem ab_hi (f : Buf (Elt F) (arg12.view.loc (c : Thread nD τ))) (h : Fin 2) (b) :
    arg12.view.readAt (Elt F) (Rect.unit (s := S2x512x256) ![h.val, 0, 128] S1x512x128.size b).toLoadRect f = hi (ab arg12.view f h) := by
  funext p
  refine congrArg (arg12.view.read (Elt F) f) ?_
  funext a
  refine Fin.ext ?_
  match a with
  | 0 => rfl
  | 1 => rfl
  | 2 => show 128 + 1 * (p 2).val = 0 + 1 * ((p 2).val + 128); omega

/-- A program whose first part is known to return x goes on at x. -/
theorem seq {σ β : Type} {p : Prog (TpuEff nD τ sig (Elt F) Λ₀ .tc) σ} {kk : σ → Prog (TpuEff nD τ sig (Elt F) Λ₀ .tc) β} {R R' G : sProp (MT nD τ sig Unit (Elt F) ℕ (UR sig nD τ) ℕ)} {Q : β → sProp (MT nD τ sig Unit (Elt F) ℕ (UR sig nD τ) ℕ)} (x : σ)
    (h1 : R ⊢ wp frame (wpE defs₀ 𝒱₀ (c : Thread nD τ) none) Set.univ p (fun r => iprop(⌜r = x⌝ ∗ R')))
    (h2 : iprop(R' ∗ G) ⊢ wp frame (wpE defs₀ 𝒱₀ (c : Thread nD τ) none) Set.univ (kk x) Q) :
    iprop(R ∗ G) ⊢ wp frame (wpE defs₀ 𝒱₀ (c : Thread nD τ) none) Set.univ (p >>= kk) Q := by
  iintro ⟨HR, HG⟩
  ihave Hw := (exec_cut frame (wpE defs₀ 𝒱₀ (c : Thread nD τ) none) Set.univ h1 (kk := kk) (Q := Q)) $$ HR
  iapply Hw
  iintro %r ⟨%hr, HR'⟩
  subst hr
  iapply h2
  isplitl [HR']
  · iexact HR'
  · iexact HG

set_option pp.deepTerms false in
set_option pp.maxSteps 400 in
set_option maxHeartbeats 4000000 in
/-- The body is its five parts, one after the other, and the store of the result. -/
theorem body_run (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (a9 : Buf (Elt F) (arg9.view.loc (c : Thread nD τ))) (a10 : Buf (Elt F) (arg10.view.loc (c : Thread nD τ))) (a11 : Buf (Elt F) (arg11.view.loc (c : Thread nD τ))) (b9 : Buf (Elt F) (arg9.view.loc (c : Thread nD τ))) (b10 : Buf (Elt F) (arg10.view.loc (c : Thread nD τ))) (d9 : Buf (Elt F) (arg9.view.loc (c : Thread nD τ))) (d10 : Buf (Elt F) (arg10.view.loc (c : Thread nD τ))) (e12 : Buf (Elt F) (arg12.view.loc (c : Thread nD τ)))
    (r29 : (iprop((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11) : sProp (MT nD τ sig Unit (Elt F) ℕ (UR sig nD τ) ℕ)) ⊢ wp frame (wpE defs₀ 𝒱₀ (c : Thread nD τ) none) Set.univ (k0_part29 (F := F) i arg3 harg3 arg4 harg4 arg5 harg5 arg6 harg6 arg7 harg7 arg8 harg8 arg9 harg9 arg10 harg10 arg11 harg11 arg12 harg12) (fun r => iprop(⌜r = ⟨BitVec.ofNat 32 (i 2).val, k0_pay126 (qv c arg5 f5), k0_pay127 (qv c arg5 f5), Scalar.muli (BitVec.ofNat 32 (i 2).val) 512#32⟩⌝ ∗ (arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} a9) ∗ (arg10.view.loc (c : Thread nD τ) ↦{fullShare} a10) ∗ (arg11.view.loc (c : Thread nD τ) ↦{fullShare} a11)))))
    (r30 : (iprop((arg6.view.loc (c : Thread nD τ) ↦{fullShare} f6) ∗ (arg9.view.loc (c : Thread nD τ) ↦{fullShare} a9) ∗ (arg10.view.loc (c : Thread nD τ) ↦{fullShare} a10) : sProp (MT nD τ sig Unit (Elt F) ℕ (UR sig nD τ) ℕ)) ⊢ wp frame (wpE defs₀ 𝒱₀ (c : Thread nD τ) none) Set.univ (k0_part30 (F := F) i arg3 harg3 arg4 harg4 arg5 harg5 arg6 harg6 arg7 harg7 arg8 harg8 arg9 harg9 arg10 harg10 arg11 harg11 arg12 harg12 (BitVec.ofNat 32 (i 2).val) (k0_pay126 (qv c arg5 f5)) (k0_pay127 (qv c arg5 f5)) (Scalar.muli (BitVec.ofNat 32 (i 2).val) 512#32)) (fun r => iprop(⌜r = diag (qv c arg5 f5) (kb arg6.view f6 (i 2).val) 1⌝ ∗ (arg6.view.loc (c : Thread nD τ) ↦{fullShare} f6) ∗ (arg9.view.loc (c : Thread nD τ) ↦{fullShare} b9) ∗ (arg10.view.loc (c : Thread nD τ) ↦{fullShare} b10)))))
    (r31 : (iprop((arg9.view.loc (c : Thread nD τ) ↦{fullShare} b9) ∗ (arg10.view.loc (c : Thread nD τ) ↦{fullShare} b10) : sProp (MT nD τ sig Unit (Elt F) ℕ (UR sig nD τ) ℕ)) ⊢ wp frame (wpE defs₀ 𝒱₀ (c : Thread nD τ) none) Set.univ (k0_part31 (F := F) i arg3 harg3 arg4 harg4 arg5 harg5 arg6 harg6 arg7 harg7 arg8 harg8 arg9 harg9 arg10 harg10 arg11 harg11 arg12 harg12 (diag (qv c arg5 f5) (kb arg6.view f6 (i 2).val) 1)) (fun r => iprop(⌜r = Scalar.ofBits .f32 0x00000000#32⌝ ∗ (arg9.view.loc (c : Thread nD τ) ↦{fullShare} d9) ∗ (arg10.view.loc (c : Thread nD τ) ↦{fullShare} d10)))))
    (r32 : (iprop((arg3.view.loc (c : Thread nD τ) ↦{fullShare} f3) ∗ (arg9.view.loc (c : Thread nD τ) ↦{fullShare} d9) ∗ (arg10.view.loc (c : Thread nD τ) ↦{fullShare} d10) ∗ (arg11.view.loc (c : Thread nD τ) ↦{fullShare} a11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (k0_part32 (F := F) i arg3 harg3 arg4 harg4 arg5 harg5 arg6 harg6 arg7 harg7 arg8 harg8 arg9 harg9 arg10 harg10 arg11 harg11 arg12 harg12 (BitVec.ofNat 32 (i 2).val) (Scalar.ofBits .f32 0x00000000#32)) (fun r => iprop(⌜r = ⟨k0_pay150 (lv c arg3 f3), k0_pay151 (lv c arg3 f3)⟩⌝ ∗ (arg3.view.loc (c : Thread nD τ) ↦{fullShare} f3) ∗ (arg9.view.loc (c : Thread nD τ) ↦{fullShare} d9) ∗ (arg10.view.loc (c : Thread nD τ) ↦{fullShare} d10) ∗ (arg11.view.loc (c : Thread nD τ) ↦{fullShare} a11) ∗ (arg12.view.loc (c : Thread nD τ) ↦{fullShare} e12))))) :
    ∃ g8, (iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (cc0_diff_attention (F := F) i arg3 harg3 arg4 harg4 arg5 harg5 arg6 harg6 arg7 harg7 arg8 harg8 arg9 harg9 arg10 harg10 arg11 harg11 arg12 harg12) (fun r => iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} g8) ∗ (arg9.view.loc (c : Thread nD τ) ↦{fullShare} d9) ∗ (arg10.view.loc (c : Thread nD τ) ↦{fullShare} d10) ∗ (arg11.view.loc (c : Thread nD τ) ↦{fullShare} a11) ∗ (arg12.view.loc (c : Thread nD τ) ↦{fullShare} e12)))) ∧ g8 = (arg8.view.writes (Elt F) f8 [⟨Rect.unit (s := S1x512x128) ![0, 0, 0] S1x512x128.size inb_S1x512x128_S1x512x128_0_0_0, k0_pay1 (k0_pay152 (k0_pay150 (lv c arg3 f3)) (k0_pay151 (lv c arg3 f3)) (arg12.view.readAt (Elt F) (Rect.unit (s := S2x512x256) ![0, 0, 0] S1x512x128.size inb_S2x512x256_S1x512x128_0_0_0).toLoadRect e12) (arg12.view.readAt (Elt F) (Rect.unit (s := S2x512x256) ![0, 0, 128] S1x512x128.size inb_S2x512x256_S1x512x128_0_0_128).toLoadRect e12) (arg12.view.readAt (Elt F) (Rect.unit (s := S2x512x256) ![1, 0, 0] S1x512x128.size inb_S2x512x256_S1x512x128_1_0_0).toLoadRect e12) (arg12.view.readAt (Elt F) (Rect.unit (s := S2x512x256) ![1, 0, 128] S1x512x128.size inb_S2x512x256_S1x512x128_1_0_128).toLoadRect e12) (gv c arg4 f4))⟩]) := by
  refine ⟨?_, ?run, ?sem⟩
  case run =>
    rw [cc0_diff_attention_eq_skeleton]; unfold cc0_diff_attention_skel
    refine BI.BIBase.Entails.trans (Q := iprop(((arg5.view.loc (c : Thread nD τ) ↦{fullShare} f5) ∗ (arg6.view.loc (c : Thread nD τ) ↦{fullShare} f6) ∗ (arg7.view.loc (c : Thread nD τ) ↦{fullShare} f7) ∗ (arg9.view.loc (c : Thread nD τ) ↦{fullShare} f9) ∗ (arg10.view.loc (c : Thread nD τ) ↦{fullShare} f10) ∗ (arg11.view.loc (c : Thread nD τ) ↦{fullShare} f11)) ∗ (arg3.view.loc (c : Thread nD τ) ↦{fullShare} f3) ∗ (arg4.view.loc (c : Thread nD τ) ↦{fullShare} f4) ∗ (arg8.view.loc (c : Thread nD τ) ↦{fullShare} f8) ∗ (arg12.view.loc (c : Thread nD τ) ↦{fullShare} f12))) (by iintro ⟨H3, H4, H5, H6, H7, H8, H9, H10, H11, H12⟩; sl_close) ?_
    refine seq c _ r29 ?_
    dsimp only
    refine BI.BIBase.Entails.trans (Q := iprop(((arg6.view.loc (c : Thread nD τ) ↦{fullShare} f6) ∗ (arg9.view.loc (c : Thread nD τ) ↦{fullShare} a9) ∗ (arg10.view.loc (c : Thread nD τ) ↦{fullShare} a10)) ∗ (arg3.view.loc (c : Thread nD τ) ↦{fullShare} f3) ∗ (arg4.view.loc (c : Thread nD τ) ↦{fullShare} f4) ∗ (arg5.view.loc (c : Thread nD τ) ↦{fullShare} f5) ∗ (arg7.view.loc (c : Thread nD τ) ↦{fullShare} f7) ∗ (arg8.view.loc (c : Thread nD τ) ↦{fullShare} f8) ∗ (arg11.view.loc (c : Thread nD τ) ↦{fullShare} a11) ∗ (arg12.view.loc (c : Thread nD τ) ↦{fullShare} f12))) (by iintro ⟨⟨H5, H6, H7, H9, H10, H11⟩, H3, H4, H8, H12⟩; sl_close) ?_
    refine seq c _ r30 ?_
    dsimp only
    refine BI.BIBase.Entails.trans (Q := iprop(((arg9.view.loc (c : Thread nD τ) ↦{fullShare} b9) ∗ (arg10.view.loc (c : Thread nD τ) ↦{fullShare} b10)) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg11.view.loc (c : Thread nD τ) ↦{fullShare} a11) ∗ (arg12.view.loc (c : Thread nD τ) ↦{fullShare} f12))) (by iintro ⟨⟨H6, H9, H10⟩, H3, H4, H5, H7, H8, H11, H12⟩; sl_close) ?_
    refine seq c _ r31 ?_
    dsimp only
    refine BI.BIBase.Entails.trans (Q := iprop(((arg3.view.loc (c : Thread nD τ) ↦{fullShare} f3) ∗ (arg9.view.loc (c : Thread nD τ) ↦{fullShare} d9) ∗ (arg10.view.loc (c : Thread nD τ) ↦{fullShare} d10) ∗ (arg11.view.loc (c : Thread nD τ) ↦{fullShare} a11) ∗ (arg12.view.loc (c : Thread nD τ) ↦{fullShare} f12)) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8))) (by iintro ⟨⟨H9, H10⟩, H3, H4, H5, H6, H7, H8, H11, H12⟩; sl_close) ?_
    refine seq c _ r32 ?_
    dsimp only
    iintro ⟨⟨H3, H9, H10, H11, H12⟩, H4, H5, H6, H7, H8⟩
    sl_exec_parts
    sl_step
    sl_close
  case sem => rfl

set_option maxHeartbeats 4000000 in
set_option pp.deepTerms false in
set_option pp.maxSteps 300 in
/-- The body at a grid point: what it leaves in the result's block and in the scratch that it carries. -/
theorem body (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (hv : (i 2).val ≠ 0 → ∀ j, vb arg11.view f11 j = vx (vv c arg7 f7) j) :
   ∃ g8 g9 g10 g11 g12, (iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) : sProp (MT nD τ sig Unit (Elt F) ℕ (UR sig nD τ) ℕ)) ⊢ wp frame (wpE defs₀ 𝒱₀ (c : Thread nD τ) none) Set.univ (cc0_diff_attention (F := F) i arg3 harg3 arg4 harg4 arg5 harg5 arg6 harg6 arg7 harg7 arg8 harg8 arg9 harg9 arg10 harg10 arg11 harg11 arg12 harg12) (fun r => iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} g8) ∗ (arg9.view.loc (c : Thread nD τ) ↦{fullShare} g9) ∗ (arg10.view.loc (c : Thread nD τ) ↦{fullShare} g10) ∗ (arg11.view.loc (c : Thread nD τ) ↦{fullShare} g11) ∗ (arg12.view.loc (c : Thread nD τ) ↦{fullShare} g12)))) ∧
     ((∀ j, vb arg11.view g11 j = vx (vv c arg7 f7) j) ∧
      g8 = arg8.view.writes (Elt F) f8 [⟨Rect.unit (s := S1x512x128) ![0, 0, 0] S1x512x128.size inb_S1x512x128_S1x512x128_0_0_0, outv (lv c arg3 f3) (gv c arg4 f4) (qv c arg5 f5) (kb arg6.view f6) (vv c arg7 f7) (i 2).val⟩]) := by
  have hi8 : (i 2).val < 8 := (i 2).isLt
  obtain ⟨a9, a10, a11, r29, m29, s29, z29, nz29⟩ := spec29 c i arg3 harg3 arg4 harg4 arg5 harg5 arg6 harg6 arg7 harg7 arg8 harg8 arg9 harg9 arg10 harg10 arg11 harg11 arg12 harg12 f5 f6 f7 f9 f10 f11
  obtain ⟨b9, b10, r30, s30, s30', m30, m30'⟩ := spec30 c i arg3 harg3 arg4 harg4 arg5 harg5 arg6 harg6 arg7 harg7 arg8 harg8 arg9 harg9 arg10 harg10 arg11 harg11 arg12 harg12 (Scalar.muli (BitVec.ofNat 32 (i 2).val) 512#32) (BitVec.ofNat 32 (i 2).val) (qv c arg5 f5) f6 a9 a10
  obtain ⟨d9, d10, r31, s31, s31', m31, m31'⟩ := spec31 c i arg3 harg3 arg4 harg4 arg5 harg5 arg6 harg6 arg7 harg7 arg8 harg8 arg9 harg9 arg10 harg10 arg11 harg11 arg12 harg12 (diag (qv c arg5 f5) (kb arg6.view f6 (i 2).val) 1) b9 b10
  obtain ⟨e12, r32, s32⟩ := spec32 c i arg3 harg3 arg4 harg4 arg5 harg5 arg6 harg6 arg7 harg7 arg8 harg8 arg9 harg9 arg10 harg10 arg11 harg11 arg12 harg12 (BitVec.ofNat 32 (i 2).val) (Scalar.ofBits .f32 0x00000000#32) f3 d9 d10 a11 f12
  have hvx : ∀ j, vb arg11.view a11 j = vx (vv c arg7 f7) j := by
    by_cases hz : (i 2).val = 0
    · exact z29 hz
    · rw [nz29 hz]; exact hv hz
  have hac : ∀ h : Fin 2, ab arg12.view e12 h = ac (qv c arg5 f5) (kb arg6.view f6) (vv c arg7 f7) (i 2).val h := by
    intro h
    rw [s32 h]
    refine acc_congr _ ?_ _ (fun j _ => hvx j) ?_
    · match h with
      | 0 => rw [m31, m30, m29]; rfl
      | 1 => rw [m31', m30', m29]; rfl
    · intro j hj
      unfold sc
      by_cases hx : j = (i 2).val
      · rw [if_pos hx, hx]
        match h with
        | 0 => rw [s31' 0 _ hi8 (fun h => absurd h (by decide)), s30]
        | 1 => exact s31
      · rw [if_neg hx, s31' h j (by omega) (fun _ => hx), s30' h j (by omega) hx, s29 h j (by omega)]
  obtain ⟨g8, run8, eq8⟩ := body_run c i arg3 harg3 arg4 harg4 arg5 harg5 arg6 harg6 arg7 harg7 arg8 harg8 arg9 harg9 arg10 harg10 arg11 harg11 arg12 harg12 f3 f4 f5 f6 f7 f8 f9 f10 f11 f12 a9 a10 a11 b9 b10 d9 d10 e12 r29 r30 r31 r32
  refine ⟨g8, d9, d10, a11, e12, run8, hvx, eq8.trans ?_⟩
  unfold outv
  rw [← hac 0, ← hac 1, ← ab_lo c arg12 e12 0, ← ab_hi c arg12 e12 0, ← ab_lo c arg12 e12 1, ← ab_hi c arg12 e12 1]
  rfl

end Point
end Cert.AttnRun
-- ==== Proof.AttnReads.lean ====
/-
  The attention kernel's vector expressions read at an index: the scores of a block of keys, plain and masked, the row maxima,
  the accumulation of one block, and one row of the block of results.
-/
module

public import proofs.«01_k».proof.Proof.Block
public import proofs.«01_k».proof.Proof.AttnMath
public import proofs.«01_k».proof.Proof.AttnPoint
public import Idealize.ShloMosaic.Lib.WordCmp

@[expose] public section

noncomputable section

open scoped BigOperators

namespace Cert.AttnReads

open Idealize.ShloMosaic Idealize.ShloMosaic.ValueIdx Idealize.ShloMosaic.WordCmp Cert.Layer Cert.Reads
open Cert.DiffIdeal Cert.DiffIdeal.Gen Cert.AttnMath

/-- A column of one half of a head. -/
def half (h : Fin 2) (d : Fin 64) : Fin 128 := ⟨64 * h.val + d.val, by omega⟩

/-- A score of a query of the block against a key of the block. -/
def dotp (v0 kb : Vec Ideal S1x512x128 .bf16) (h : Fin 2) (r c : Fin 512) : EReal := ∑ d : Fin 64, v0 (ix3 0 r (half h d)) * kb (ix3 0 c (half h d))

theorem log2e : (Named.named κ "log2e" 0x3FB8AA3B#32 : Ideal .f32) = (((Real.log 2)⁻¹ : ℝ) : EReal) :=
  IdealRules.named_const.ideal_named_scalar _ _ _ _ rfl

theorem mask : (Named.named κ "mask" 0xF149F2CA#32 : Ideal .f32) = (⊥ : EReal) :=
  IdealRules.named_const.ideal_named_scalar _ _ _ _ rfl

theorem prod_at {o : ℕ} (h : Fin 2) (ho : o = 64 * h.val) (v0 kb : Vec Ideal S1x512x128 .bf16) (h1 h2 : S1x512x128.ShapeCasts S512x128)
    (hs hs' : S512x128.Slices ![0, o] S512x64) (r c : Fin 512) :
    matmul (F := Ideal) (φ₁ := .bf16) (φ₂ := .bf16) dot_S512x64_S512x64_S512x512_1_1_0_0_n_n none (extractStridedSlice S512x64 ![0, o] (shapeCast S512x128 v0 h1) hs)
      (extractStridedSlice S512x64 ![0, o] (shapeCast S512x128 kb h2) hs') (constant S512x512 .f32 0x00000000#32) (ix2 r c) = dotp v0 kb h r c := by
  subst ho
  refine (mmT (M := 512) (K := 64) (N := 512) (φ₁ := .bf16) (φ₂ := .bf16) dot_S512x64_S512x64_S512x512_1_1_0_0_n_n rfl none _ _ r c).trans ?_
  refine Finset.sum_congr rfl fun d _ => congrArg₂ (· * ·) ?_ ?_
  · exact (cols (M := 512) (N := 128) (K := 64) (φ := .bf16) _ hs r d (half h d) rfl).trans (Cert.Block.drop1 (M := 512) (N := 128) v0 h1 r (half h d))
  · exact (cols (M := 512) (N := 128) (K := 64) (φ := .bf16) _ hs' c d (half h d) rfl).trans (Cert.Block.drop1 (M := 512) (N := 128) kb h2 c (half h d))

theorem raw_at (v0 kb : Vec Ideal S1x512x128 .bf16) (h : Fin 2) (r c : Fin 512) :
    Cert.AttnRun.raw v0 kb h (ix2 r c) = dotp v0 kb h r c * (((Real.log 2)⁻¹ : ℝ) : EReal) := by
  match h with
  | 0 => exact congrArg₂ (· * ·) (prod_at (o := 0) 0 rfl v0 kb shapeCasts_S1x512x128_S512x128 shapeCasts_S1x512x128_S512x128 slices_S512x128_o0_0_S512x64 slices_S512x128_o0_0_S512x64 r c) log2e
  | 1 => exact congrArg₂ (· * ·) (prod_at (o := 64) 1 rfl v0 kb shapeCasts_S1x512x128_S512x128 shapeCasts_S1x512x128_S512x128 slices_S512x128_o0_64_S512x64 slices_S512x128_o0_64_S512x64 r c) log2e

theorem tri (r c : Fin 512) (x y : EReal) :
    Scalar.select (IntOp.cmpi .sle (BitVec.ofNat 32 (0 * 512 + c.val)) (BitVec.ofNat 32 (0 * 512 + r.val))) x y = if c.val ≤ r.val then x else y := by
  have hc := c.isLt
  have hr := r.isLt
  by_cases h : c.val ≤ r.val
  · rw [if_pos h, (cmpi_sle_ofNat_eq_one_iff (by omega) (by omega)).mpr (by omega)]; rfl
  · rw [if_neg h, (cmpi_sle_ofNat_eq_zero_iff (by omega) (by omega)).mpr (by omega)]; rfl

theorem diag_at (v0 kb : Vec Ideal S1x512x128 .bf16) (h : Fin 2) (r c : Fin 512) :
    Cert.AttnRun.diag v0 kb h (ix2 r c) = if c.val ≤ r.val then dotp v0 kb h r c * (((Real.log 2)⁻¹ : ℝ) : EReal) else ⊥ := by
  match h with
  | 0 =>
    refine Eq.trans ?_ (tri r c _ _)
    exact congrArg₂ (Scalar.select _) (congrArg₂ (· * ·) (prod_at (o := 0) 0 rfl v0 kb shapeCasts_S1x512x128_S512x128 shapeCasts_S1x512x128_S512x128 slices_S512x128_o0_0_S512x64 slices_S512x128_o0_0_S512x64 r c) log2e) mask
  | 1 =>
    refine Eq.trans ?_ (tri r c _ _)
    exact congrArg₂ (Scalar.select _) (congrArg₂ (· * ·) (prod_at (o := 64) 1 rfl v0 kb shapeCasts_S1x512x128_S512x128 shapeCasts_S1x512x128_S512x128 slices_S512x128_o0_64_S512x64 slices_S512x128_o0_64_S512x64 r c) log2e) mask

/-! ## The maxima -/

theorem up1 {M N : ℕ} {α : Type} (x : (⟨2, ![M, N]⟩ : Shape).Idx → α) (h : (⟨2, ![M, N]⟩ : Shape).ShapeCasts ⟨3, ![1, M, N]⟩)
    (r : Fin M) (c : Fin N) : shapeCast ⟨3, ![1, M, N]⟩ x h (ix3 0 r c) = x (ix2 r c) :=
  (shapeCast_addUnit_apply ![M, N] x h (ix3 0 r c)).trans
    (congrArg x (funext fun a => by match a with | ⟨0, _⟩ => rfl | ⟨1, _⟩ => rfl))

/-- A column of one of the four blocks of columns. -/
def colAt (k : Fin 4) (l : Fin 128) : Fin 512 := ⟨128 * k.val + l.val, by omega⟩

theorem pay8_at (s : FVec Ideal S512x512 .f32) (m : Vec Ideal S1x512x128 .f32) (r : Fin 512) (l : Fin 128) :
    k0_pay8 s m (ix3 0 r l) = max (m (ix3 0 r l)) (max (max (max (s (ix2 r (colAt 0 l))) (s (ix2 r (colAt 1 l)))) (s (ix2 r (colAt 2 l)))) (s (ix2 r (colAt 3 l)))) := by
  unfold k0_pay8
  refine (up1 (M := 512) (N := 128) _ _ r l).trans ?_
  refine congrArg₂ max (Cert.Block.drop1 (M := 512) (N := 128) m _ r l) (congrArg₂ max (congrArg₂ max (congrArg₂ max ?_ ?_) ?_) ?_)
  · exact cols (M := 512) (N := 512) (K := 128) s _ r l (colAt 0 l) rfl
  · exact cols (M := 512) (N := 512) (K := 128) s _ r l (colAt 1 l) rfl
  · exact cols (M := 512) (N := 512) (K := 128) s _ r l (colAt 2 l) rfl
  · exact cols (M := 512) (N := 512) (K := 128) s _ r l (colAt 3 l) rfl

theorem pay8_ne_top {s : FVec Ideal S512x512 .f32} {m : Vec Ideal S1x512x128 .f32} {r : Fin 512} {l : Fin 128}
    (hs : ∀ c, s (ix2 r c) ≠ ⊤) (hm : m (ix3 0 r l) ≠ ⊤) : k0_pay8 s m (ix3 0 r l) ≠ ⊤ := by
  rw [pay8_at, ← lt_top_iff_ne_top]
  have hs' := fun c => lt_top_iff_ne_top.mpr (hs c)
  exact max_lt (lt_top_iff_ne_top.mpr hm) (max_lt (max_lt (max_lt (hs' _) (hs' _)) (hs' _)) (hs' _))

theorem le_pay8 (s : FVec Ideal S512x512 .f32) (m : Vec Ideal S1x512x128 .f32) (r : Fin 512) (l : Fin 128) :
    s (ix2 r (colAt 0 l)) ≤ k0_pay8 s m (ix3 0 r l) := by
  rw [pay8_at]
  exact le_max_of_le_right (le_max_of_le_left (le_max_of_le_left (le_max_left _ _)))

theorem pay144_at (x : Vec Ideal S1x512x128 .f32) (r : Fin 512) (l : Fin 128) :
    k0_pay144 x (ix3 0 r l) = top fun l : Fin 128 => x (ix3 0 r l) := by
  unfold k0_pay144
  refine (up1 (M := 512) (N := 128) _ _ r l).trans ?_
  refine (spread_col (M := 512) (N := 128) _ _ r l).trans ?_
  refine (congrFun (Cert.Block.same _ _) _).trans ?_
  refine (stand (M := 512) _ _ r 0).trans ?_
  refine (top_cols (M := 512) (N := 128) _ _ _ _ r).trans ?_
  exact congrArg top (funext fun l => Cert.Block.drop1 (M := 512) (N := 128) x _ r l)

theorem mx_ne_top {s : ℕ → FVec Ideal S512x512 .f32} {m : Vec Ideal S1x512x128 .f32} {r : Fin 512} {l : Fin 128}
    (hm : m (ix3 0 r l) ≠ ⊤) (n : ℕ) (hs : ∀ j, j < n → ∀ c, s j (ix2 r c) ≠ ⊤) : Cert.AttnRun.mx s m n (ix3 0 r l) ≠ ⊤ := by
  induction n with
  | zero => exact hm
  | succ n ih => exact pay8_ne_top (hs n (Nat.lt_succ_self n)) (ih fun j hj => hs j (Nat.lt_succ_of_lt hj))

/-- The row maximum in use is one real number. -/
theorem top_real (v0 : Vec Ideal S1x512x128 .bf16) (K : ℕ → Vec Ideal S1x512x128 .bf16) (n : ℕ) (h : Fin 2) (r : Fin 512)
    (hK : ∀ j c, Real' (dotp v0 (K j) h r c)) : ∃ M : ℝ, ∀ l, Cert.AttnRun.top v0 K n h (ix3 0 r l) = (M : EReal) := by
  have hraw : ∀ j c, Cert.AttnRun.raw v0 (K j) h (ix2 r c) ≠ ⊤ := fun j c => by
    obtain ⟨x, hx⟩ := (hK j c).mul ⟨_, rfl⟩
    rw [raw_at, hx]; exact EReal.coe_ne_top _
  have hdiag : ∀ c, Cert.AttnRun.diag v0 (K n) h (ix2 r c) ≠ ⊤ := fun c => by
    obtain ⟨x, hx⟩ := (hK n c).mul ⟨_, rfl⟩
    rw [diag_at, hx]; split
    · exact EReal.coe_ne_top _
    · exact bot_ne_top
  have h0 : k0_pay8 (Cert.AttnRun.diag v0 (K n) h) (Cert.AttnRun.mx (fun j => Cert.AttnRun.raw v0 (K j) h) Cert.AttnRun.lowest n) (ix3 0 r 0) ≠ ⊥ := by
    intro hb
    have hle := le_pay8 (Cert.AttnRun.diag v0 (K n) h) (Cert.AttnRun.mx (fun j => Cert.AttnRun.raw v0 (K j) h) Cert.AttnRun.lowest n) r 0
    rw [hb, le_bot_iff, diag_at, if_pos (show (colAt 0 0).val ≤ r.val from Nat.zero_le _)] at hle
    obtain ⟨x, hx⟩ := (hK n (colAt 0 0)).mul ⟨(Real.log 2)⁻¹, rfl⟩
    rw [hx] at hle
    exact EReal.coe_ne_bot _ hle
  have hr := fold_real (fun l : Fin 128 => pay8_ne_top (r := r) (l := l) hdiag (mx_ne_top (m := Cert.AttnRun.lowest) (by
    show (Named.named κ "mask" 0xF149F2CA#32 : Ideal .f32) ≠ _
    rw [mask]; exact bot_ne_top) n fun j _ c => hraw j c)) 0 h0
  obtain ⟨M, hM⟩ := hr
  exact ⟨M, fun l => (pay144_at _ r l).trans hM⟩

/-! ## One block accumulated -/

theorem pay142_at (s : FVec Ideal S512x512 .f32) (r c : Fin 512) : k0_pay142 s (ix4 0 0 r c) = s (ix2 r c) :=
  shapeCast_apply s _ (ix4 0 0 r c) (ix2 r c) (by
    rw [Shape.rowMajor_val_two, Shape.rowMajor_val_four]
    show r.val * 512 + c.val = ((0 * 1 + 0) * 512 + r.val) * 512 + c.val
    omega)

theorem dropTwo (s : Vec Ideal S1x1x512x512 .f32) (h : S1x1x512x512.ShapeCasts S512x512) (r c : Fin 512) : shapeCast S512x512 s h (ix2 r c) = s (ix4 0 0 r c) :=
  shapeCast_apply s _ (ix2 r c) (ix4 0 0 r c) (by
    rw [Shape.rowMajor_val_two, Shape.rowMajor_val_four]
    show ((0 * 1 + 0) * 512 + r.val) * 512 + c.val = r.val * 512 + c.val
    omega)

theorem piece_at {o : ℕ} (s : Vec Ideal S1x1x512x512 .f32) (m : Vec Ideal S1x512x128 .f32) (h : S1x1x512x512.ShapeCasts S512x512) (h' : S1x512x128.ShapeCasts S512x128)
    (hs : S512x512.Slices ![0, o] S512x128) (r c : Fin 512) (hc : c.val = o + (within c).val) :
    exp2 (F := Ideal) (φ := .f32) (subf (F := Ideal) (φ := .f32) (extractStridedSlice S512x128 ![0, o] (shapeCast S512x512 s h) hs) (shapeCast S512x128 m h')) (ix2 r (within c))
      = Ideal.exp2 (s (ix4 0 0 r c) - m (ix3 0 r (within c))) := by
  refine congrArg Ideal.exp2 (congrArg₂ (· - ·) ?_ (Cert.Block.drop1 (M := 512) (N := 128) m _ r _))
  exact (cols (M := 512) (N := 512) (K := 128) (φ := .f32) _ hs r (within c) c hc).trans (dropTwo s h r c)

theorem pay148_at (v : Vec Ideal S512x256 .bf16) (m : Vec Ideal S1x512x128 .f32) (s : Vec Ideal S1x1x512x512 .f32) (a : Vec Ideal S1x512x256 .f32)
    (r : Fin 512) (e : Fin 256) :
    k0_pay148 v m s a (ix3 0 r e) = a (ix3 0 r e) + ∑ k : Fin 512, Ideal.exp2 (s (ix4 0 0 r k) - m (ix3 0 r (within k))) * v (ix2 k e) := by
  unfold k0_pay148
  refine (up1 (M := 512) (N := 256) _ _ r e).trans ?_
  refine congrArg₂ (· + ·) (Cert.Block.drop1 (M := 512) (N := 256) a _ r e) ?_
  refine (mm (M := 512) (K := 512) (N := 256) (φ₁ := .bf16) (φ₂ := .bf16) dot_S512x512_S512x256_S512x256_1_0_0_1_n_n rfl none _ _ r e).trans ?_
  refine Finset.sum_congr rfl fun k _ => congrArg (· * _) ?_
  have hk := k.isLt
  have hv : ∀ i : Fin 4, headOf k = i → k.val = 128 * i.val + (within k).val := fun i hi => by
    have h1 : k.val / 128 = i.val := congrArg Fin.val hi
    show k.val = 128 * i.val + k.val % 128
    omega
  exact Cert.Block.cat4 _ _ _ _ concatenates_S512x128_S512x128_S512x128_S512x128_S512x512_d1 r k _ (fun h0 => piece_at (o := 0) s m _ _ _ r k (hv 0 h0)) (fun h0 => piece_at (o := 128) s m _ _ _ r k (hv 1 h0))
    (fun h0 => piece_at (o := 256) s m _ _ _ r k (hv 2 h0)) (fun h0 => piece_at (o := 384) s m _ _ _ r k (hv 3 h0))

/-! ## The values with the ones beside -/

/-- A column of the values. -/
def wl (e : Fin 128) : Fin 256 := ⟨e.val, by omega⟩
/-- A column of the ones. -/
def wr (e : Fin 128) : Fin 256 := ⟨e.val + 128, by omega⟩
/-- The position of key `c` of block `j`. -/
def kpos (j : ℕ) (hj : j < 8) (c : Fin 512) : Fin 4096 := ⟨512 * j + c.val, by omega⟩

theorem vx_l (V : Vec Ideal S1x4096x128 .bf16) (j : ℕ) (hj : j < 8) (c : Fin 512) (e : Fin 128) :
    Cert.AttnRun.vx V j (ix2 c (wl e)) = V (ix3 0 (kpos j hj c) e) := by
  have he : ((ix2 c (wl e) : S512x256.Idx) 1).val < 128 := e.isLt
  unfold Cert.AttnRun.vx
  rw [dif_pos he]
  unfold k0_pay128
  rw [Cert.Block.same]
  refine Eq.trans (congrArg _ ?_) (Cert.Block.drop1 (M := 4096) (N := 128) V _ (kpos j hj c) e)
  funext a
  match a with
  | ⟨0, _⟩ => exact Fin.ext (by show 512 * (j % 8) + c.val = 512 * j + c.val; rw [Nat.mod_eq_of_lt hj])
  | ⟨1, _⟩ => rfl

theorem one16 : (Scalar.ofBits .bf16 0x3F80#16 : Ideal .bf16) = ((1 : ℝ) : EReal) := by
  show Ideal.ofBits .bf16 0x3F80#16 = _
  have e : Ideal.ofBits .bf16 0x3F80#16 = ((128 * (2 : ℝ) ^ (-7 : ℤ) : ℝ) : EReal) := by simp [Ideal.ofBits, Ideal.ieee]
  rw [e]
  congr 1; norm_num [zpow_neg]

theorem vx_r (V : Vec Ideal S1x4096x128 .bf16) (j : ℕ) (c : Fin 512) (e : Fin 128) :
    Cert.AttnRun.vx V j (ix2 c (wr e)) = ((1 : ℝ) : EReal) := by
  have he : ¬ ((ix2 c (wr e) : S512x256.Idx) 1).val < 128 := by show ¬ e.val + 128 < 128; omega
  unfold Cert.AttnRun.vx
  rw [dif_neg he]
  exact one16

/-! ## One row's attention -/

section Row
variable (v0 : Vec Ideal S1x512x128 .bf16) (K : ℕ → Vec Ideal S1x512x128 .bf16) (V : Vec Ideal S1x4096x128 .bf16) (n : ℕ) (hn : n < 8) (h : Fin 2) (r : Fin 512)
  (S : ℕ → ℝ) (hS : ∀ j, j < 8 → ∀ c : Fin 512, dotp v0 (K j) h r c = ((S (512 * j + c.val) : ℝ) : EReal))

include hn hS in
theorem sc_at (j : ℕ) (hj : j < n + 1) (c : Fin 512) : Cert.AttnRun.sc v0 K n h j (ix4 0 0 r c) = masked2 (512 * n + r.val) S (512 * j + c.val) := by
  have hc := c.isLt
  unfold Cert.AttnRun.sc masked2
  rw [pay142_at]
  by_cases e : j = n
  · subst e
    rw [if_pos rfl, diag_at, hS j hn, ← EReal.coe_mul]
    by_cases hcr : c.val ≤ r.val
    · rw [if_pos hcr, if_pos (by omega)]
    · rw [if_neg hcr, if_neg (by omega)]
  · rw [if_neg e, raw_at, hS j (by omega), ← EReal.coe_mul, if_pos (by omega)]

include hn hS in
theorem row_at (M : ℝ) (hM : ∀ l, Cert.AttnRun.top v0 K n h (ix3 0 r l) = (M : EReal)) (W : ℕ → ℝ) (e : Fin 128)
    (hW : ∀ k : Fin 4096, V (ix3 0 k e) = ((W k.val : ℝ) : EReal)) :
    Ideal.div (Cert.AttnRun.lo (Cert.AttnRun.ac v0 K V n h) (ix3 0 r e)) (Cert.AttnRun.hi (Cert.AttnRun.ac v0 K V n h) (ix3 0 r e))
      = ((att (512 * n + r.val) S W : ℝ) : EReal) := by
  have hl : Cert.AttnRun.lo (Cert.AttnRun.ac v0 K V n h) (ix3 0 r e) = Cert.AttnRun.ac v0 K V n h (ix3 0 r (wl e)) :=
    congrArg (Cert.AttnRun.ac v0 K V n h) (funext fun d => by match d with | ⟨0, _⟩ => rfl | ⟨1, _⟩ => rfl | ⟨2, _⟩ => rfl)
  have hh : Cert.AttnRun.hi (Cert.AttnRun.ac v0 K V n h) (ix3 0 r e) = Cert.AttnRun.ac v0 K V n h (ix3 0 r (wr e)) :=
    congrArg (Cert.AttnRun.ac v0 K V n h) (funext fun d => by match d with | ⟨0, _⟩ => rfl | ⟨1, _⟩ => rfl | ⟨2, _⟩ => rfl)
  rw [hl, hh]
  refine kernel (512 * n + r.val) n S W M hn (by omega)
    (fun j => Cert.AttnRun.acc (Cert.AttnRun.vx V) (Cert.AttnRun.top v0 K n h) (Cert.AttnRun.sc v0 K n h) (fun _ => Ideal.ofBits .f32 0x00000000#32) j (ix3 0 r (wl e)))
    (fun j => Cert.AttnRun.acc (Cert.AttnRun.vx V) (Cert.AttnRun.top v0 K n h) (Cert.AttnRun.sc v0 K n h) (fun _ => Ideal.ofBits .f32 0x00000000#32) j (ix3 0 r (wr e)))
    (Ideal.ofBits_zero_f32) (Ideal.ofBits_zero_f32) (fun j hj => ?_) (fun j hj => ?_)
  · refine (pay148_at _ _ _ _ r (wl e)).trans (congrArg (_ + ·) (Finset.sum_congr rfl fun c _ => ?_))
    rw [hM, sc_at v0 K n hn h r S hS j hj c, vx_l V j (by omega) c e, hW]
    rfl
  · refine (pay148_at _ _ _ _ r (wr e)).trans (congrArg (_ + ·) (Finset.sum_congr rfl fun c _ => ?_))
    rw [hM, sc_at v0 K n hn h r S hS j hj c, vx_r V j c e]

end Row

/-! ## One row of the result -/

/-- λ from its four vectors. -/
def lamOf (lam : Fin 4 → Fin 64 → EReal) : EReal :=
  Ideal.exp (∑ d, lam 0 d * lam 1 d) - Ideal.exp (∑ d, lam 2 d * lam 3 d) + Ideal.ofBits .f32 0x3EB60549#32

theorem sum64 (f : S1x1x64.Idx → EReal) : ∑ i, f i = ∑ d : Fin 64, f (ix3 0 0 d) :=
  Finset.sum_nbij' (fun i => i 2) (fun d => ix3 0 0 d) (fun _ _ => Finset.mem_univ _) (fun _ _ => Finset.mem_univ _)
    (fun i _ => (eta i).symm) (fun _ _ => rfl) (fun i _ => congrArg f (eta i))
where
  eta (i : S1x1x64.Idx) : i = ix3 0 0 (i 2) := funext fun a => match a with
    | ⟨0, _⟩ => Subsingleton.elim (α := Fin 1) _ _
    | ⟨1, _⟩ => Subsingleton.elim (α := Fin 1) _ _
    | ⟨2, _⟩ => rfl

theorem lam_row {o : ℕ} (lam : Vec Ideal S4x64 .f32) (k : Fin 4) (hk : o = k.val) (hs : S4x64.Slices ![o, 0] S1x64) (d : Fin 64) :
    extractStridedSlice S1x64 ![o, 0] lam hs (ix2 0 d) = lam (ix2 k d) := by
  subst hk
  exact extractStridedSlice_apply ![k.val, 0] lam hs (ix2 0 d) (ix2 k d) fun a => match a with
    | ⟨0, _⟩ => rfl
    | ⟨1, _⟩ => (Nat.zero_add _).symm

theorem lam_sum {o o' : ℕ} (lam : Vec Ideal S4x64 .f32) (k k' : Fin 4) (hk : o = k.val) (hk' : o' = k'.val) (hs : S4x64.Slices ![o, 0] S1x64)
    (hs' : S4x64.Slices ![o', 0] S1x64) (h : S1x64.ShapeCasts S1x1x64) (hr : S1x1x64.Reduces [1, 2] S1) (hφ : FKind.Formats .f32)
    (ha : (0x00000000#32 : BitVec 32) = FKind.add.neutral .f32 hφ) (h1 : S1.ShapeCasts S1x1x1) (hp) :
    extractAt ![0, 0, 0] (shapeCast S1x1x1 (multiReduction (F := Ideal) .add [1, 2] S1 (shapeCast S1x1x64 (mulf (F := Ideal) (extractStridedSlice S1x64 ![o, 0] lam hs)
      (extractStridedSlice S1x64 ![o', 0] lam hs')) h) 0x00000000#32 hr hφ ha) h1) hp = ∑ d, lam (ix2 k d) * lam (ix2 k' d) := by
  refine (Ideal.multiReduction_add_total (φ := .f32) (s := S1x1x64) (t := S1) _ _ hr (fun b => by match b with | ⟨0, _⟩ => rfl) hφ ha _).trans ?_
  rw [sum64]
  refine Finset.sum_congr rfl fun d _ => ?_
  refine (up1 (M := 1) (N := 64) _ h 0 d).trans (congrArg₂ (fun x y : EReal => x * y) (lam_row lam k hk hs d) (lam_row lam k' hk' hs' d))

theorem spread_one (x : FVec Ideal S1x1 .f32) (h : S1x1.Broadcasts S512x128) (r : Fin 512) (e : Fin 128) : broadcastTo S512x128 x h (ix2 r e) = x (ix2 0 0) :=
  broadcastTo_apply x h (ix2 r e) (ix2 0 0) fun a => match a with
    | ⟨0, _⟩ => rfl
    | ⟨1, _⟩ => rfl

theorem out_at (lam : Vec Ideal S4x64 .f32) (g : Vec Ideal S1x128 .f32) (a0 b0 a1 b1 : Vec Ideal S1x512x128 .f32) (r : Fin 512) (e : Fin 128) :
    k0_pay1 (k0_pay152 (k0_pay150 lam) (k0_pay151 lam) a0 b0 a1 b1 g) (ix3 0 r e)
      = rms (Ideal.ofBits .f32 0x43000000#32) (fun e : Fin 128 => Ideal.div (a0 (ix3 0 r e)) (b0 (ix3 0 r e))
          - lamOf (fun k d => lam (ix2 k d)) * Ideal.div (a1 (ix3 0 r e)) (b1 (ix3 0 r e))) (fun e => g (ix2 0 e)) e * Ideal.ofBits .f32 0x3F24FD5C#32 := by
  unfold k0_pay1
  refine (up1 (M := 512) (N := 128) _ _ r e).trans ?_
  refine congrArg (fun x : EReal => x * Ideal.ofBits .f32 0x3F24FD5C#32) ?_
  refine (rms_apply (M := 512) (N := 128) 0x43000000#32 _ _ _ _ _ _ _ _ r e).trans ?_
  refine congrArg₂ (fun x g => rms _ x g e) (funext fun e => ?_) (funext fun e => congrFun (Cert.Block.same _ _) _)
  refine congrArg₂ (· - ·) (congrArg₂ Ideal.div (Cert.Block.drop1 (M := 512) (N := 128) a0 _ r e) (Cert.Block.drop1 (M := 512) (N := 128) b0 _ r e)) ?_
  refine congrArg₂ (· * ·) ((spread_one _ _ r e).trans ?_) (congrArg₂ Ideal.div (Cert.Block.drop1 (M := 512) (N := 128) a1 _ r e) (Cert.Block.drop1 (M := 512) (N := 128) b1 _ r e))
  exact congrArg (· + _) (congrArg₂ (fun x y => Ideal.exp x - Ideal.exp y) (lam_sum lam 0 1 rfl rfl _ _ _ _ _ _ _ _) (lam_sum lam 2 3 rfl rfl _ _ _ _ _ _ _ _))

end Cert.AttnReads

end
-- ==== Proof.AttnRef.lean ====
/-
  The reference's differential attention read at an index, finite arguments: per head the two softmaxes' difference applied to
  the values, normalised over the head's columns and scaled.
-/
module

public import proofs.«01_k».proof.Proof.AttnReads
public import proofs.«01_k».proof.Proof.Gen.DiffReferenceIdeal.Read
public import Idealize.ShloMosaic.Lib.KernelVsHost

@[expose] public section

noncomputable section

open scoped BigOperators

namespace Cert.AttnRef

open Idealize.ShloMosaic Idealize.ShloMosaic.ValueIdx Idealize.ShloMosaic.WordCmp Cert.Layer Cert.AttnMath
open Cert.AttnReads (half lamOf)

/-- An array of all positions. -/
abbrev Arr := (⟨3, ![4, 4096, 512]⟩ : Shape).Idx → EReal

/-- A column of one half of a head among all columns. -/
def hcol (H : Fin 4) (h : Fin 2) (d : Fin 64) : Fin 512 := ⟨128 * H.val + (64 * h.val + d.val), by omega⟩

/-- A score. -/
def score (q k : Arr) (b H : Fin 4) (h : Fin 2) (i j : Fin 4096) : EReal := ∑ d : Fin 64, q (ix3 b i (hcol H h d)) * k (ix3 b j (hcol H h d))

/-- The scores of one query, as real numbers by key. -/
def scoreR (q k : Arr) (b H : Fin 4) (h : Fin 2) (i : Fin 4096) (j : ℕ) : ℝ := if hj : j < 4096 then (score q k b H h i ⟨j, hj⟩).toReal else 0

/-- The values of one column, as real numbers by key. -/
def valR (v : Arr) (b H : Fin 4) (e : Fin 128) (j : ℕ) : ℝ := if hj : j < 4096 then (v (ix3 b ⟨j, hj⟩ (col H e))).toReal else 0

/-- One entry of a head's attention before the normalisation. -/
def mixed (x0 : (⟨2, ![4, 64]⟩ : Shape).Idx → EReal) (q k v : Arr) (b H : Fin 4) (i : Fin 4096) (e : Fin 128) : EReal :=
  ((att i.val (scoreR q k b H 0 i) (valR v b H e) - (lamOf fun k d => x0 (ix2 k d)).toReal * att i.val (scoreR q k b H 1 i) (valR v b H e) : ℝ) : EReal)

/-- The result at an index. -/
def result (x0 : (⟨2, ![4, 64]⟩ : Shape).Idx → EReal) (x1 : (⟨1, ![128]⟩ : Shape).Idx → EReal) (q k v : Arr) : Arr := fun i =>
  rms (Ideal.ofBits .f32 0x43000000#32) (fun e : Fin 128 => mixed x0 q k v (i 0) (headOf (i 2)) (i 1) e) (fun e => x1 (ix1 e)) (within (i 2))
    * Ideal.ofBits .f32 0x3F24FD5C#32

theorem toReal_eq {x : EReal} (h : Real' x) : ((x.toReal : ℝ) : EReal) = x := by
  obtain ⟨r, rfl⟩ := h; rfl

section Finite
variable {x0 : (⟨2, ![4, 64]⟩ : Shape).Idx → EReal} {q k v : Arr} (h0 : ∀ i, Real' (x0 i)) (hq : ∀ i, Real' (q i)) (hk : ∀ i, Real' (k i)) (hv : ∀ i, Real' (v i))

include hq hk in
theorem score_real (b H : Fin 4) (h : Fin 2) (i j : Fin 4096) : Real' (score q k b H h i j) := real_sum _ fun _ => (hq _).mul (hk _)

include hq hk in
theorem scoreR_eq (b H : Fin 4) (h : Fin 2) (i j : Fin 4096) : ((scoreR q k b H h i j.val : ℝ) : EReal) = score q k b H h i j := by
  unfold scoreR
  rw [dif_pos j.isLt]
  exact toReal_eq (score_real hq hk b H h i j)

include hv in
theorem valR_eq (b H : Fin 4) (e : Fin 128) (j : Fin 4096) : ((valR v b H e j.val : ℝ) : EReal) = v (ix3 b j (col H e)) := by
  unfold valR
  rw [dif_pos j.isLt]
  exact toReal_eq (hv _)

theorem real_exp {x : EReal} (h : Real' x) : Real' (Ideal.exp x) := by
  obtain ⟨r, rfl⟩ := h; exact ⟨_, Ideal.exp_coe r⟩

include h0 in
theorem lam_real : Real' (lamOf fun k d => x0 (ix2 k d)) := by
  unfold lamOf
  exact ((real_exp (real_sum _ fun _ => (h0 _).mul (h0 _))).sub (real_exp (real_sum _ fun _ => (h0 _).mul (h0 _)))).add
    ⟨_, f32_normal _ 125 3540297 (by decide) (by decide) (by decide) (by decide) (by decide)⟩

end Finite

open Cert.DiffReferenceIdeal Cert.DiffReferenceIdeal.Gen Cert.DiffReferenceIdeal.Read

variable (x0 : (⟨S4x64, .f32⟩ : BufTy).Contents (Elt Ideal)) (x1 : (⟨S128, .f32⟩ : BufTy).Contents (Elt Ideal)) (x2 x3 x4 : (⟨S4x4096x512, .bf16⟩ : BufTy).Contents (Elt Ideal))

theorem v2_at (b H : Fin 4) (h : Fin 2) (s : Fin 4096) (d : Fin 64) : val_main_v2 (F := Ideal) x2 (ix5 b H h s d) = x2 (ix3 b s (hcol H h d)) := by
  rw [val_main_v2_apply, val_main_v1_apply, val_main_v0_apply]
  refine congrArg x2 (funext fun a => Fin.ext ?_)
  match a with
  | ⟨0, _⟩ => show (((((b.val * 4096 + s.val) * 4 + H.val) * 2 + h.val) * 64 + d.val) / 2097152) = b.val; omega
  | ⟨1, _⟩ => show (((((b.val * 4096 + s.val) * 4 + H.val) * 2 + h.val) * 64 + d.val) / 512 % 4096) = s.val; omega
  | ⟨2, _⟩ => show (((((b.val * 4096 + s.val) * 4 + H.val) * 2 + h.val) * 64 + d.val) % 512) = 128 * H.val + (64 * h.val + d.val); omega

theorem v5_at (b H : Fin 4) (h : Fin 2) (s : Fin 4096) (d : Fin 64) : val_main_v5 (F := Ideal) x3 (ix5 b H h s d) = x3 (ix3 b s (hcol H h d)) := by
  rw [val_main_v5_apply, val_main_v4_apply, val_main_v3_apply]
  refine congrArg x3 (funext fun a => Fin.ext ?_)
  match a with
  | ⟨0, _⟩ => show (((((b.val * 4096 + s.val) * 4 + H.val) * 2 + h.val) * 64 + d.val) / 2097152) = b.val; omega
  | ⟨1, _⟩ => show (((((b.val * 4096 + s.val) * 4 + H.val) * 2 + h.val) * 64 + d.val) / 512 % 4096) = s.val; omega
  | ⟨2, _⟩ => show (((((b.val * 4096 + s.val) * 4 + H.val) * 2 + h.val) * 64 + d.val) % 512) = 128 * H.val + (64 * h.val + d.val); omega

theorem v8_at (b H : Fin 4) (s : Fin 4096) (e : Fin 128) : val_main_v8 (F := Ideal) x4 (ix4 b H s e) = x4 (ix3 b s (col H e)) := by
  rw [val_main_v8_apply, val_main_v7_apply, val_main_v6_apply]
  refine congrArg x4 (funext fun a => Fin.ext ?_)
  match a with
  | ⟨0, _⟩ => show ((((b.val * 4096 + s.val) * 4 + H.val) * 128 + e.val) / 2097152) = b.val; omega
  | ⟨1, _⟩ => show ((((b.val * 4096 + s.val) * 4 + H.val) * 128 + e.val) / 512 % 4096) = s.val; omega
  | ⟨2, _⟩ => show ((((b.val * 4096 + s.val) * 4 + H.val) * 128 + e.val) % 512) = H.val * 128 + e.val; omega

theorem v25_at (b H : Fin 4) (h : Fin 2) (i j : Fin 4096) : val_main_v25 (F := Ideal) x2 x3 (ix5 b H h i j) = score x2 x3 b H h i j := by
  rw [val_main_v25_apply]
  refine Finset.sum_congr rfl fun d _ => congrArg₂ (· * ·) ?_ ?_
  · exact (congrArg (val_main_v2 (F := Ideal) x2) (eq_ix5 _)).trans (v2_at x2 b H h i d)
  · exact (congrArg (val_main_v5 (F := Ideal) x3) (eq_ix5 _)).trans (v5_at x3 b H h j d)

theorem v32_at (b H : Fin 4) (h : Fin 2) (i j : Fin 4096) :
    val_main_v32 (F := Ideal) x2 x3 (ix5 b H h i j) = if j.val ≤ i.val then score x2 x3 b H h i j else ⊥ := by
  rw [val_main_v32_apply, val_main_call0_v1_apply, val_main_v31_apply, val_main_v29_apply, val_main_v30_apply, val_main_v27_apply, val_main_v28_apply,
    val_main_v26_apply, val_main_v26_apply, val_main_call0_v2_apply, val_main_call0_v0_apply, val_main_cst_2_apply, v25_at]
  show Scalar.select (IntOp.cmpi .sle (BitVec.ofNat 32 j.val) (BitVec.ofNat 32 i.val)) _ (Ideal.ofBits .f32 0xFF800000#32) = _
  have hi := i.isLt
  have hj := j.isLt
  by_cases hc : j.val ≤ i.val
  · rw [if_pos hc, (cmpi_sle_ofNat_eq_one_iff (by omega) (by omega)).mpr hc]; rfl
  · rw [if_neg hc, (cmpi_sle_ofNat_eq_zero_iff (by omega) (by omega)).mpr hc]; exact ninf_eq

variable (h0 : ∀ i, Real' (x0 i)) (hq : ∀ i, Real' (x2 i)) (hk : ∀ i, Real' (x3 i)) (hv : ∀ i, Real' (x4 i))

include hq hk in
theorem v32_masked (b H : Fin 4) (h : Fin 2) (i j : Fin 4096) :
    val_main_v32 (F := Ideal) x2 x3 (ix5 b H h i j) = masked i.val (scoreR x2 x3 b H h i) j.val := by
  rw [v32_at]
  unfold masked
  rw [scoreR_eq hq hk]

theorem v33_at (b H : Fin 4) (h : Fin 2) (i : Fin 4096) :
    val_main_v33 (F := Ideal) x2 x3 (ix4 b H h i) = top fun j : Fin 4096 => val_main_v32 (F := Ideal) x2 x3 (ix5 b H h i j) := by
  unfold val_main_v33 val_main_cst_3
  generalize val_main_v32 (F := Ideal) x2 x3 = y
  refine (congrFun (hostReduce_maximumf_eq_multiReduction (F := Ideal) (φ := .f32) (s := S4x4x2x4096x4096) (t := S4x4x2x4096) (u := S_) y 0xFF800000#32
    reducesTo_S4x4x2x4096x4096_S4x4x2x4096_d4 h_S_ (by decide) (.inl rfl) rfl) _).trans ?_
  refine (Ideal.multiReduction_maximumf_single (φ := .f32) y _ _ _ _ (ix4 b H h i)).trans ?_
  unfold top
  exact congrArg (Finset.univ.fold max _) (funext fun j => congrArg y (funext fun a => Fin.ext (by
    match a with | ⟨0, _⟩ => rfl | ⟨1, _⟩ => rfl | ⟨2, _⟩ => rfl | ⟨3, _⟩ => rfl | ⟨4, _⟩ => rfl)))

include hq hk in
theorem v35_real (b H : Fin 4) (h : Fin 2) (i : Fin 4096) : ∃ M : ℝ, val_main_v35 (F := Ideal) x2 x3 (ix4 b H h i) = (M : EReal) := by
  obtain ⟨M, hM⟩ : Real' (top fun j : Fin 4096 => val_main_v32 (F := Ideal) x2 x3 (ix5 b H h i j)) := by
    refine fold_real (fun j => ?_) 0 ?_
    · rw [v32_masked x2 x3 hq hk]; exact masked_ne_top _ _ _
    · rw [v32_masked x2 x3 hq hk]
      unfold masked
      rw [if_pos (show (0 : Fin 4096).val ≤ i.val from Nat.zero_le _)]
      exact EReal.coe_ne_bot _
  refine ⟨M, ?_⟩
  rw [val_main_v35_apply, val_main_v34_apply, val_main_cst_4_apply, v33_at, hM]
  show max (Ideal.ofBits .f32 0xFF800000#32) (M : EReal) = _
  rw [ninf_eq]
  exact max_eq_right bot_le

include hq hk in
theorem v43_at (b H : Fin 4) (h : Fin 2) (i : Fin 4096) : ∃ M : ℝ, ∀ j : Fin 4096, val_main_v43 (F := Ideal) x2 x3 (ix5 b H h i j)
    = Ideal.div (Ideal.exp (masked i.val (scoreR x2 x3 b H h i) j.val - (M : EReal)))
        (∑ j : Fin 4096, Ideal.exp (masked i.val (scoreR x2 x3 b H h i) j.val - (M : EReal))) := by
  obtain ⟨M, hM⟩ := v35_real x2 x3 hq hk b H h i
  refine ⟨M, ?_⟩
  have h39 : ∀ j : Fin 4096, val_main_v39 (F := Ideal) x2 x3 (ix5 b H h i j) = Ideal.exp (masked i.val (scoreR x2 x3 b H h i) j.val - (M : EReal)) := by
    intro j
    rw [val_main_v39_apply, val_main_v38_apply, val_main_v37_apply, val_main_v36_apply, v32_masked x2 x3 hq hk]
    refine congrArg (fun z : EReal => Ideal.exp (masked i.val (scoreR x2 x3 b H h i) j.val - z)) ?_
    exact (congrArg (val_main_v35 (F := Ideal) x2 x3) (eq_ix4 _)).trans hM
  intro j
  rw [val_main_v43_apply, val_main_v42_apply, val_main_v41_apply, val_main_v40_apply, val_main_cst_5_apply, h39]
  refine congrArg (Ideal.div _) ?_
  refine (congrArg (· + _) Ideal.ofBits_zero_f32).trans ((zero_add _).trans (Finset.sum_congr rfl fun k _ => ?_))
  exact (congrArg (val_main_v39 (F := Ideal) x2 x3) (eq_ix5 _)).trans (h39 k)

theorem v45_at (b H : Fin 4) (i j : Fin 4096) : val_main_v45 (F := Ideal) x2 x3 (ix4 b H i j) = val_main_v43 (F := Ideal) x2 x3 (ix5 b H 0 i j) := by
  rw [val_main_v45_apply, val_main_v44_apply]
  refine congrArg (val_main_v43 (F := Ideal) x2 x3) (funext fun a => Fin.ext ?_)
  match a with
  | ⟨0, _⟩ => show (((b.val * 4 + H.val) * 4096 + i.val) * 4096 + j.val) / 67108864 = b.val; omega
  | ⟨1, _⟩ => show (((b.val * 4 + H.val) * 4096 + i.val) * 4096 + j.val) / 16777216 % 4 = H.val; omega
  | ⟨2, _⟩ => rfl
  | ⟨3, _⟩ => show (((b.val * 4 + H.val) * 4096 + i.val) * 4096 + j.val) / 4096 % 4096 = i.val; omega
  | ⟨4, _⟩ => show (((b.val * 4 + H.val) * 4096 + i.val) * 4096 + j.val) % 4096 = j.val; omega

theorem v47_at (b H : Fin 4) (i j : Fin 4096) : val_main_v47 (F := Ideal) x2 x3 (ix4 b H i j) = val_main_v43 (F := Ideal) x2 x3 (ix5 b H 1 i j) := by
  rw [val_main_v47_apply, val_main_v46_apply]
  refine congrArg (val_main_v43 (F := Ideal) x2 x3) (funext fun a => Fin.ext ?_)
  match a with
  | ⟨0, _⟩ => show (((b.val * 4 + H.val) * 4096 + i.val) * 4096 + j.val) / 67108864 = b.val; omega
  | ⟨1, _⟩ => show (((b.val * 4 + H.val) * 4096 + i.val) * 4096 + j.val) / 16777216 % 4 = H.val; omega
  | ⟨2, _⟩ => rfl
  | ⟨3, _⟩ => show (((b.val * 4 + H.val) * 4096 + i.val) * 4096 + j.val) / 4096 % 4096 = i.val; omega
  | ⟨4, _⟩ => show (((b.val * 4 + H.val) * 4096 + i.val) * 4096 + j.val) % 4096 = j.val; omega

theorem sum64 (f : S64.Idx → EReal) : ∑ i, f i = ∑ d : Fin 64, f (ix1 d) :=
  Finset.sum_nbij' (fun i => i 0) (fun d => ix1 d) (fun _ _ => Finset.mem_univ _) (fun _ _ => Finset.mem_univ _)
    (fun i _ => (eq_ix1 i).symm) (fun _ _ => rfl) (fun i _ => congrArg f (eq_ix1 i))

theorem v24_at (i : S_.Idx) : val_main_v24 (F := Ideal) x0 i = lamOf fun k d => x0 (ix2 k d) := by
  rw [val_main_v24_apply, val_main_v23_apply, val_main_v15_apply, val_main_v22_apply, val_main_v14_apply, val_main_v21_apply,
    val_main_cst_apply, val_main_cst_0_apply, val_main_cst_1_apply, sum64, sum64]
  unfold lamOf
  refine congrArg (fun z : EReal => z + Ideal.ofBits .f32 0x3EB60549#32) (congrArg₂ (fun x y : EReal => Ideal.exp x - Ideal.exp y) ?_ ?_)
  · refine (congrArg (· + _) Ideal.ofBits_zero_f32).trans ((zero_add _).trans (Finset.sum_congr rfl fun d _ => ?_))
    rw [val_main_v13_apply, val_main_v10_apply, val_main_v12_apply, val_main_v9_apply, val_main_v11_apply]
    refine congrArg₂ (fun x y : EReal => x * y) (congrArg x0 (funext fun a => Fin.ext ?_)) (congrArg x0 (funext fun a => Fin.ext ?_))
    · match a with
      | ⟨0, _⟩ => rfl
      | ⟨1, _⟩ => exact Nat.mod_eq_of_lt d.isLt
    · match a with
      | ⟨0, _⟩ => rfl
      | ⟨1, _⟩ => exact Nat.mod_eq_of_lt d.isLt
  · refine (congrArg (· + _) Ideal.ofBits_zero_f32).trans ((zero_add _).trans (Finset.sum_congr rfl fun d _ => ?_))
    rw [val_main_v20_apply, val_main_v17_apply, val_main_v19_apply, val_main_v16_apply, val_main_v18_apply]
    refine congrArg₂ (fun x y : EReal => x * y) (congrArg x0 (funext fun a => Fin.ext ?_)) (congrArg x0 (funext fun a => Fin.ext ?_))
    · match a with
      | ⟨0, _⟩ => rfl
      | ⟨1, _⟩ => exact Nat.mod_eq_of_lt d.isLt
    · match a with
      | ⟨0, _⟩ => rfl
      | ⟨1, _⟩ => exact Nat.mod_eq_of_lt d.isLt

include h0 hq hk hv in
theorem v52_at (b H : Fin 4) (i : Fin 4096) (e : Fin 128) : val_main_v52 (F := Ideal) x0 x2 x3 x4 (ix4 b i H e) = mixed x0 x2 x3 x4 b H i e := by
  obtain ⟨M, hM⟩ := v43_at x2 x3 hq hk b H 0 i
  obtain ⟨N, hN⟩ := v43_at x2 x3 hq hk b H 1 i
  rw [val_main_v52_apply, val_main_v51_apply]
  unfold mixed
  rw [← reference i.val (scoreR x2 x3 b H 0 i) (scoreR x2 x3 b H 1 i) (valR x4 b H e) M N]
  refine Finset.sum_congr rfl fun j _ => congrArg₂ (fun x y : EReal => x * y) ?_ ?_
  · refine (congrArg (val_main_v50 (F := Ideal) x0 x2 x3) (eq_ix4 _)).trans ?_
    refine (val_main_v50_apply (F := Ideal) x0 x2 x3 (ix4 b H i j)).trans ?_
    rw [val_main_v49_apply, val_main_v48_apply, v24_at, v45_at, v47_at, hM, hN, toReal_eq (lam_real h0)]
    rfl
  · rw [valR_eq hv]
    exact (congrArg (val_main_v8 (F := Ideal) x4) (eq_ix4 _)).trans (v8_at x4 b H j e)

include h0 hq hk hv in
theorem v69_eq : val_main_v69 (F := Ideal) x0 x1 x2 x3 x4 = result x0 x1 x2 x3 x4 := by
  funext p
  obtain ⟨b, s, n, rfl⟩ : ∃ (b : Fin 4) (s : Fin 4096) (n : Fin 512), p = ix3 b s n := ⟨p 0, p 1, p 2, eq_ix3 p⟩
  have h68 : idx_main_v68 (ix3 b s n) = ix4 b s (headOf n) (within n) := by
    have hb : b.val < 4 := b.isLt
    have hs : s.val < 4096 := s.isLt
    have hn : n.val < 512 := n.isLt
    funext a
    refine Fin.ext ?_
    match a with
    | ⟨0, _⟩ => show ((b.val * 4096 + s.val) * 512 + n.val) / 2097152 = b.val; omega
    | ⟨1, _⟩ => show ((b.val * 4096 + s.val) * 512 + n.val) / 512 % 4096 = s.val; omega
    | ⟨2, _⟩ => show ((b.val * 4096 + s.val) * 512 + n.val) / 128 % 4 = n.val / 128; omega
    | ⟨3, _⟩ => show ((b.val * 4096 + s.val) * 512 + n.val) % 128 = n.val % 128; omega
  have h52 := v52_at x0 x2 x3 x4 h0 hq hk hv b
  refine (val_main_v69_apply (F := Ideal) x0 x1 x2 x3 x4 _).trans ?_
  refine (val_main_v68_apply (F := Ideal) x0 x1 x2 x3 x4 _).trans ?_
  rw [h68, val_main_v67_apply, val_main_v66_apply, val_main_cst_9_apply, val_main_v65_apply, val_main_v64_apply, val_main_v63_apply, val_main_v62_apply,
    val_main_v61_apply, val_main_v60_apply, val_main_v59_apply, val_main_v58_apply, val_main_cst_8_apply, val_main_v57_apply, val_main_v56_apply, val_main_cst_7_apply,
    val_main_v55_apply, val_main_v54_apply, val_main_cst_6_apply, h52]
  refine congrArg (fun z : EReal => z * Ideal.ofBits .f32 0x3F24FD5C#32) (congrArg₂ (fun x y : EReal => x * y) ?_ (congrArg x1 (eq_ix1 _)))
  refine congrArg (fun z : EReal => mixed x0 x2 x3 x4 b (headOf n) s (within n) * Ideal.rsqrt (Ideal.div z (Ideal.ofBits .f32 0x43000000#32) + Ideal.ofBits .f32 0x358637BD#32)) ?_
  refine (congrArg (· + _) Ideal.ofBits_zero_f32).trans ((zero_add _).trans (Finset.sum_congr rfl fun e _ => ?_))
  rw [val_main_v53_apply]
  refine congrArg (fun z : EReal => z * z) ?_
  exact (congrArg (val_main_v52 (F := Ideal) x0 x2 x3 x4) (eq_ix4 _)).trans (h52 (headOf n) s e)

end Cert.AttnRef

end
-- ==== Proof.AttnFrame.lean ====
module

public import proofs.«01_k».proof.Proof.AttnPoint
public import Idealize.ShloMosaic.Lib.Pipeline.FrameBody
public import Idealize.ShloMosaic.Lib.Claim

@[expose] public section

set_option maxRecDepth 65536

noncomputable section

namespace Cert.AttnRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- A whole buffer held at what it reads, as its contents. -/
theorem owns_eq (c : Dev nD) {sp : Space} {s : Shape} {e : EltTy} (a : Memref sig .tc sp s e) (h : a.IsWhole) (X : s.Idx → Elt F e) :
    (owns (c : Thread nD τ) a fullShare X : sProp (MT nD τ sig Unit (Elt F) ℕ (UR sig nD τ) ℕ)) = iprop(∃ f, ⌜a.view.read (Elt F) f = X⌝ ∗ (a.view.loc (c : Thread nD τ) ↦{fullShare} f)) := by
  unfold owns; rw [h.set_eq_univ]

/-- A program's triple, used before what comes after it. -/
theorem last (c : Dev nD) {σ : Type} {p : Prog (TpuEff nD τ sig (Elt F) Λ₀ .tc) σ} {R : sProp (MT nD τ sig Unit (Elt F) ℕ (UR sig nD τ) ℕ)} {Q K : σ → sProp (MT nD τ sig Unit (Elt F) ℕ (UR sig nD τ) ℕ)}
    (h : R ⊢ wp frame (wpE defs₀ 𝒱₀ (c : Thread nD τ) none) Set.univ p Q) :
    iprop(R ∗ (∀ r, Q r -∗ K r)) ⊢ wp frame (wpE defs₀ 𝒱₀ (c : Thread nD τ) none) Set.univ p K :=
  (sep_mono_left h).trans (wp_wand_r frame _ _)

/-- The whole of a block, read. -/
def all0 (x : Vec F S4x64 .f32) : Vec F S4x64 .f32 := View.ld x (Rect.unit (s := S4x64) ![0, 0] S4x64.size inb_S4x64_S4x64_0_0)
def all1 (x : Vec F S1x128 .f32) : Vec F S1x128 .f32 := View.ld x (Rect.unit (s := S1x128) ![0, 0] S1x128.size inb_S1x128_S1x128_0_0)
def all2 (x : Vec F S1x512x128 .bf16) : Vec F S1x512x128 .bf16 := View.ld x (Rect.unit (s := S1x512x128) ![0, 0, 0] S1x512x128.size inb_S1x512x128_S1x512x128_0_0_0)
def all4 (x : Vec F S1x4096x128 .bf16) : Vec F S1x4096x128 .bf16 := View.ld x (Rect.unit (s := S1x4096x128) ![0, 0, 0] S1x4096x128.size inb_S1x4096x128_S1x4096x128_0_0_0)
/-- Block `j` of the keys. -/
def blk3 (x : Vec F S1x4096x128 .bf16) (j : ℕ) : Vec F S1x512x128 .bf16 := View.ld x (Rect.unit (s := S1x4096x128) ![0, 512 * (j % 8), 0] S1x512x128.size (inb6 j))

/-- What the body leaves in the result's block, from the blocks of the operands. -/
def out5 (x0 : Vec F S4x64 .f32) (x1 : Vec F S1x128 .f32) (x2 : Vec F S1x512x128 .bf16) (x3 : Vec F S1x4096x128 .bf16) (x4 : Vec F S1x4096x128 .bf16) (n : ℕ) : Vec F S1x512x128 .bf16 :=
  View.canon [⟨Rect.unit (s := S1x512x128) ![0, 0, 0] S1x512x128.size inb_S1x512x128_S1x512x128_0_0_0, outv (all0 x0) (all1 x1) (all2 x2) (blk3 x3) (all4 x4) n⟩]

theorem cover5 (p0 : Vec F S1x512x128 .bf16) (y : S1x512x128.Idx) :
    ∃ pc ∈ ([⟨Rect.unit (s := S1x512x128) ![0, 0, 0] S1x512x128.size inb_S1x512x128_S1x512x128_0_0_0, p0⟩] : List (View.Piece (Elt F) S1x512x128 .bf16)), y ∈ pc.1.set :=
  View.cover_of_tiled [⟨Rect.unit (s := S1x512x128) ![0, 0, 0] S1x512x128.size inb_S1x512x128_S1x512x128_0_0_0, p0⟩] S1x512x128.size (by rfl) y

set_option maxHeartbeats 1000000 in
/-- The body on whole buffers, with what it keeps of the values between points. -/
theorem sound_kernel (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x512x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x512x128 .bf16) (harg8 : arg8.IsWhole) (arg9 : Memref sig .tc .vmem S2x8x512x512 .f32) (harg9 : arg9.IsWhole) (arg10 : Memref sig .tc .vmem S2x512x128 .f32) (harg10 : arg10.IsWhole) (arg11 : Memref sig .tc .vmem S4096x256 .bf16) (harg11 : arg11.IsWhole) (arg12 : Memref sig .tc .vmem S2x512x256 .f32) (harg12 : arg12.IsWhole) (x0 : Vec F S4x64 .f32) (x1 : Vec F S1x128 .f32) (x2 : Vec F S1x512x128 .bf16) (x3 : Vec F S1x4096x128 .bf16) (x4 : Vec F S1x4096x128 .bf16)
    (P : Buf (Elt F) (arg11.view.loc (c : Thread nD τ)) → Prop) (hP : ∀ f, P f → (i 2).val ≠ 0 → ∀ j, vb arg11.view f j = vx (all4 x4) j) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, (arg9.view.loc (c : Thread nD τ) ↦{fullShare} f)) ∗ (∃ f, (arg10.view.loc (c : Thread nD τ) ↦{fullShare} f)) ∗ (∃ f, ⌜P f⌝ ∗ (arg11.view.loc (c : Thread nD τ) ↦{fullShare} f)) ∗ (∃ f, (arg12.view.loc (c : Thread nD τ) ↦{fullShare} f))
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out5 x0 x1 x2 x3 x4 (i 2).val) ∗ (∃ f, (arg9.view.loc (c : Thread nD τ) ↦{fullShare} f)) ∗ (∃ f, (arg10.view.loc (c : Thread nD τ) ↦{fullShare} f)) ∗ (∃ f, ⌜∀ j, vb arg11.view f j = vx (all4 x4) j⌝ ∗ (arg11.view.loc (c : Thread nD τ) ↦{fullShare} f)) ∗ (∃ f, (arg12.view.loc (c : Thread nD τ) ↦{fullShare} f))) -∗ K ⟨⟩))
      ⊢ wp frame (wpE defs₀ 𝒱₀ (c : Thread nD τ) none) Set.univ (cc0_diff_attention (F := F) i arg3 harg3 arg4 harg4 arg5 harg5 arg6 harg6 arg7 harg7 arg8 harg8 arg9 harg9 arg10 harg10 arg11 harg11 arg12 harg12) K := by
  simp only [owns_eq c arg3 harg3, owns_eq c arg4 harg4, owns_eq c arg5 harg5, owns_eq c arg6 harg6, owns_eq c arg7 harg7, owns_eq c arg8 harg8]
  iintro ⟨⟨%f3, %h3, H3⟩, ⟨%f4, %h4, H4⟩, ⟨%f5, %h5, H5⟩, ⟨%f6, %h6, H6⟩, ⟨%f7, %h7, H7⟩, ⟨%d, %f8, -, H8⟩, ⟨%f9, H9⟩, ⟨%f10, H10⟩, ⟨%f11, %h11, H11⟩, ⟨%f12, H12⟩, Hk⟩
  subst h3 h4 h5 h6 h7
  obtain ⟨g8, g9, g10, g11, g12, run, hvx, e8⟩ := body c i arg3 harg3 arg4 harg4 arg5 harg5 arg6 harg6 arg7 harg7 arg8 harg8 arg9 harg9 arg10 harg10 arg11 harg11 arg12 harg12 f3 f4 f5 f6 f7 f8 f9 f10 f11 f12 (fun h => hP f11 h11 h)
  iapply (last c run)
  isplitl [H3 H4 H5 H6 H7 H8 H9 H10 H11 H12]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %r ⟨H3, H4, H5, H6, H7, H8, H9, H10, H11, H12⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr
    swap; · iexact H8
    ipureintro
    rw [e8]
    exact View.read_writes_eq_canon _ _ _ (cover5 _)
  isplitl [H9]; · iexists g9; iexact H9
  isplitl [H10]; · iexists g10; iexact H10
  isplitl [H11]
  · iexists g11; isplitr; · ipureintro; exact hvx
    iexact H11
  iexists g12; iexact H12

variable (m : (ℓ : Loc nD τ sig) → Buf (Elt F) ℓ) (ρ : Dev nD → PrngReg)

/-- What is known of the kept values before point `n`: within a head, they are that head's values with ones beside. -/
def kept (c : Dev nD) (n : ℕ) (f : Buf (Elt F) ((c : Thread nD τ).loc cc0_scratch2)) : Prop :=
  n % 8 ≠ 0 → ∀ h : n - 1 < cfg0.N, ∀ j, vb (Memref.whole cc0_scratch2 : Memref sig .tc .vmem S4096x256 .bf16).view f j = vx (all4 (iblk m c 4 ⟨n - 1, h⟩)) j

/-- What is carried from point to point: the four scratch buffers and the generator register. -/
def carried (c : Dev nD) (n : ℕ) : sProp (MT nD τ sig Unit (Elt F) ℕ (UR sig nD τ) ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ⌜kept m c n f⌝ ∗ ((c : Thread nD τ).loc cc0_scratch2) ↦{fullShare} f)
    ∗ (∃ f : Buf (Elt F) ((c : Thread nD τ).loc cc0_scratch3), ((c : Thread nD τ).loc cc0_scratch3) ↦{fullShare} f)
    ∗ ∃ r, prngReg c r)

/-- The pipeline's data: inputs left in place, the result's block computed, the scratch carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t) (t.val % 8)
  Φ t := carried m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 (iblk m c 0 t) (iblk m c 1 t) (iblk m c 2 t) (iblk m c 3 t) (iblk m c 4 t) (t.val % 8) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The third coordinate of a point. -/
theorem coord2 : ∀ t : Fin cfg0.N, ((grid0.coords t) 2).val = t.val % 8 := by decide

/-- Within a head the block of values stays. -/
theorem stays (c : Dev nD) (t : Fin cfg0.N) (ht : t.val % 8 ≠ 0) (h : t.val - 1 < cfg0.N) : iblk m c 4 t = iblk m c 4 ⟨t.val - 1, h⟩ := by
  have hf : (cfg0.win 4).fetch t = false := by
    cases hb : (cfg0.win 4).fetch t
    · rfl
    · exact absurd ((fetch0_4 t).mp hb) ht
  have d : (cfg0.win 4).block.Idx → Elt F (cfg0.win 4).elt := iblk m c 4 t
  have e := before0_4 m c t d
  rw [← e, (dats m 0 c).before_unfetched_in 4 rfl t hf (fun _ => rfl) d]
  rfl

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.castSucc = carried m c t.val from rfl, show (dats m 0 c).Φ t.succ = carried m c (t.val + 1) from rfl,
    show (dats m 0 c).owesAt () t.succ = (dats m 0 c).owesAt () t.castSucc from rfl,
    after0_0, after0_1, after0_2, after0_3, after0_4, after0_5, ← coord2 t]
  unfold carried
  iintro ⟨⟨H9, H10, H11, H12, Hr⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ (iblk m c 0 t) (iblk m c 1 t) (iblk m c 2 t) (iblk m c 3 t) (iblk m c 4 t) (kept m c t.val)
    (fun f hk hq j => by
      have hq' : t.val % 8 ≠ 0 := by rw [← coord2 t]; exact hq
      have h1 : t.val - 1 < cfg0.N := Nat.lt_of_le_of_lt (Nat.sub_le _ _) t.isLt
      rw [stays m c t hq' h1]
      exact hk hq' h1 j) _)
  isplitl [H0]; · iexact H0
  isplitl [H1]; · iexact H1
  isplitl [H2]; · iexact H2
  isplitl [H3]; · iexact H3
  isplitl [H4]; · iexact H4
  isplitl [H5]; · iexists _; iexact H5
  isplitl [H9]; · iexact H9
  isplitl [H10]; · iexact H10
  isplitl [H11]; · iexact H11
  isplitl [H12]; · iexact H12
  iintro ⟨H0, H1, H2, H3, H4, H5, H9, H10, ⟨%f, %hf, H11⟩, H12⟩
  isplitl [H9 H10 H11 H12 Hr]
  · isplitl [H9]; · iexact H9
    isplitl [H10]; · iexact H10
    isplitl [H11]
    · iexists f; isplitr
      · ipureintro; exact fun _ _ j => hf j
      iexact H11
    isplitl [H12]; · iexact H12
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- The launch: every run ends, the arrays at what the pipeline's data say, the counters at zero. -/
theorem run_main0 : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m)
    (hin := fun c => by
      rw [show (dats m 0 c).Φ 0 = carried m c 0 from rfl]
      unfold Pipeline.ΦA carried
      rw [show (cfgs (0 : Fin 1)).spec = spec0 from rfl, scopedRest0_eq]
      iintro ⟨⟨H0, H1, ⟨%f, H2⟩, H3⟩, Hr⟩
      isplitl [H0]; · iexact H0
      isplitl [H1]; · iexact H1
      isplitl [H2]
      · iexists f; isplitr
        · ipureintro; exact fun h => absurd rfl h
        iexact H2
      isplitl [H3]; · iexact H3
      iexact Hr)
    (hout := fun c => by
      rw [show (dats m 0 c).Φ (Fin.last (cfgs (0 : Fin 1)).N) = carried m c (Fin.last (cfgs (0 : Fin 1)).N).val from rfl]
      unfold Pipeline.ΦA carried
      rw [show (cfgs (0 : Fin 1)).spec = spec0 from rfl, scopedRest0_eq]
      iintro ⟨H0, H1, ⟨%f, -, H2⟩, H3, Hr⟩
      isplitl [H0 H1 H2 H3]
      · isplitl [H0]; · iexact H0
        isplitl [H1]; · iexact H1
        isplitl [H2]; · iexists f; iexact H2
        iexact H3
      iexact Hr)

theorem run_main : θ_run defs (onTc (τ := τ) (main (F := F))) (s₀ m ρ) (Pipeline.FramePost cfgs (dats m) 0 (V m)) :=
  (θ_run defs _ _).mono (fun _ h => h.1) (run_main0 m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main0 m ρ))

end Cert.AttnRun
-- ==== Proof.AttnValues.lean ====
/-
  The attention call's values: the block a grid point stores is the reference's entries there, the blocks cover the result, and so
  the call's result is the reference's.
-/
module

public import proofs.«01_k».proof.Proof.AttnRef
public import proofs.«01_k».proof.Proof.AttnFrame
public import proofs.«01_k».proof.Proof.Finite
public import proofs.«01_k».proof.Proof.Gen.DiffReferenceIdeal.Run
public import proofs.«01_k».proof.Proof.Gen.Pre_finite_diff
public import Idealize.ShloMosaic.Lib.Pipeline.ValueKit.Geometry
public import Idealize.ShloMosaic.Lib.Pipeline.ValueKit.Acc
public import proofs.«01_k».proof.Defs

@[expose] public section

noncomputable section

open scoped BigOperators

namespace Cert.AttnValues

open Idealize.ShloMosaic Idealize.ShloMosaic.ValueIdx Idealize.ShloMosaic.TcCoe Idealize.SL.Sem Cert.Layer Cert.AttnMath Cert.AttnReads Cert.AttnRef

/-- An array below the infinite pattern everywhere has real entries, at the shorter format too. -/
theorem reals16 {s : Shape} (x : FVec Ideal s .bf16) (hb : (⟨0, ![]⟩ : Shape).BroadcastsInDim s (![] : Fin 0 → Fin s.rank))
    (h : cmpf .olt (Host.absf x) (broadcastInDim s ![] hb (constant ⟨0, ![]⟩ .bf16 0x7F80#16)) = fun _ => 1#1) (i : s.Idx) :
    Real' (x i) := by
  have e : Ideal.ofBits .bf16 0x7F80#16 = ⊤ := by simp [Ideal.ofBits, Ideal.ieee]
  refine Cert.Finite.real_of_cmp ?_
  have h' : Ideal.cmp .olt (max (x i) (-x i)) (Ideal.ofBits .bf16 0x7F80#16) = 1#1 := congrFun h i
  rwa [e, ← pinf_eq] at h'

section
open Cert.DiffIdeal Cert.DiffIdeal.Gen Cert.AttnRun

variable (m : (ℓ : Loc nD τ sig) → Buf (Elt Ideal) ℓ) (c : Dev nD)

abbrev aL : Vec Ideal S4x64 .f32 := m ((c : Thread nD τ).loc main_arg0)
abbrev aG : Vec Ideal S128 .f32 := m ((c : Thread nD τ).loc main_arg1)
abbrev aQ : Vec Ideal S4x4096x512 .bf16 := m ((c : Thread nD τ).loc main_arg2)
abbrev aK : Vec Ideal S4x4096x512 .bf16 := m ((c : Thread nD τ).loc main_arg3)
abbrev aV : Vec Ideal S4x4096x512 .bf16 := m ((c : Thread nD τ).loc main_arg4)

/-- Where each window's block sits at point `t`. -/
theorem idx : ∀ t : Fin cfg0.N, win0_0.index t = ![0, 0] ∧ win0_1.index t = ![0, 0] ∧ win0_2.index t = ![t.val / 32, t.val % 8, t.val / 8 % 4]
    ∧ win0_3.index t = ![t.val / 32, 0, t.val / 8 % 4] ∧ win0_4.index t = ![t.val / 32, 0, t.val / 8 % 4] ∧ win0_5.index t = ![t.val / 32, t.val % 8, t.val / 8 % 4] :=
  (by decide +kernel : ∀ t : Fin grid0.N, _)

theorem N_eq : cfg0.N = 128 := N_0

/-- A point's batch, its head and a row of its query block. -/
def bat (t : Fin cfg0.N) : Fin 4 := ⟨t.val / 32, by have := t.isLt; have := N_eq; omega⟩
def head (t : Fin cfg0.N) : Fin 4 := ⟨t.val / 8 % 4, by omega⟩
def pos (t : Fin cfg0.N) (r : Fin 512) : Fin 4096 := ⟨512 * (t.val % 8) + r.val, by omega⟩

theorem b0 (t : Fin cfg0.N) (k : Fin 4) (d : Fin 64) : iblk m c 0 t (ix2 k d) = aL m c (ix2 k d) := by
  refine Eq.trans (congrArg (V m c main_arg0) (a₂ := ix2 k d) ?_) (congrFun (V_main_arg0 m c) _)
  blk_ext [idx t]

theorem b1 (t : Fin cfg0.N) (j : Fin 128) : iblk m c 1 t (ix2 0 j) = aG m c (ix1 j) := by
  refine Eq.trans (congrArg (V m c main_v0) (a₂ := ix2 0 j) ?_) ?_
  · blk_ext [idx t]
  · have h : V m c main_v0 = shapeCast S1x128 (aG m c) shapeCasts_S128_S1x128 := by
      show StableHlo.after hostOps0 _ (Proc.devRef .tc main_v0) = _
      after_results
      rfl
    rw [h]
    exact shapeCast_apply _ _ _ (ix1 j) (by rw [Shape.rowMajor_val_one, Shape.rowMajor_val_two]; show j.val = 0 * 128 + j.val; omega)

theorem b2 (t : Fin cfg0.N) (r : Fin 512) (e : Fin 128) : iblk m c 2 t (ix3 0 r e) = aQ m c (ix3 (bat t) (pos t r) (col (head t) e)) := by
  refine Eq.trans (congrArg (V m c main_arg2) (a₂ := ix3 (bat t) (pos t r) (col (head t) e)) ?_) (congrFun (V_main_arg2 m c) _)
  blk_ext [idx t, bat, pos, head, col]
  show t.val % 8 * 512 + r.val = 512 * (t.val % 8) + r.val
  omega

theorem b3 (t : Fin cfg0.N) (k : Fin 4096) (e : Fin 128) : iblk m c 3 t (ix3 0 k e) = aK m c (ix3 (bat t) k (col (head t) e)) := by
  refine Eq.trans (congrArg (V m c main_arg3) (a₂ := ix3 (bat t) k (col (head t) e)) ?_) (congrFun (V_main_arg3 m c) _)
  blk_ext [idx t, bat, head, col]

theorem b4 (t : Fin cfg0.N) (k : Fin 4096) (e : Fin 128) : iblk m c 4 t (ix3 0 k e) = aV m c (ix3 (bat t) k (col (head t) e)) := by
  refine Eq.trans (congrArg (V m c main_arg4) (a₂ := ix3 (bat t) k (col (head t) e)) ?_) (congrFun (V_main_arg4 m c) _)
  blk_ext [idx t, bat, head, col]

theorem z2 : (![0, 0] : Fin 2 → Nat) = fun _ => 0 := funext fun a => by fin_cases a <;> rfl
theorem z3 : (![0, 0, 0] : Fin 3 → Nat) = fun _ => 0 := funext fun a => by fin_cases a <;> rfl

theorem all0_eq (x : Vec Ideal S4x64 .f32) : all0 x = x := View.ld_unit_zero z2 _ x
theorem all1_eq (x : Vec Ideal S1x128 .f32) : all1 x = x := View.ld_unit_zero z2 _ x
theorem all2_eq (x : Vec Ideal S1x512x128 .bf16) : all2 x = x := View.ld_unit_zero z3 _ x
theorem all4_eq (x : Vec Ideal S1x4096x128 .bf16) : all4 x = x := View.ld_unit_zero z3 _ x

/-- The key at place `i` of block `j`. -/
def kp (j : ℕ) (i : Fin 512) : Fin 4096 := ⟨512 * (j % 8) + i.val, by omega⟩

theorem blk3_at (x : Vec Ideal S1x4096x128 .bf16) (j : ℕ) (i : Fin 512) (e : Fin 128) : blk3 x j (ix3 0 i e) = x (ix3 0 (kp j i) e) := by
  refine congrArg x (funext fun a => Fin.ext ?_)
  match a with
  | ⟨0, _⟩ => rfl
  | ⟨1, _⟩ => show 512 * (j % 8) + 1 * i.val = 512 * (j % 8) + i.val; omega
  | ⟨2, _⟩ => show 0 + 1 * e.val = e.val; omega

/-- The scores of a point's block are the reference's. -/
theorem dotp_at (t : Fin cfg0.N) (j : ℕ) (h : Fin 2) (r i : Fin 512) :
    dotp (iblk m c 2 t) (blk3 (iblk m c 3 t) j) h r i = AttnRef.score (aQ m c) (aK m c) (bat t) (head t) h (pos t r) (kp j i) := by
  unfold dotp AttnRef.score
  have e : ∀ d : Fin 64, col (head t) (half h d) = hcol (head t) h d := fun d => Fin.ext (by
    show (head t).val * 128 + (64 * h.val + d.val) = 128 * (head t).val + (64 * h.val + d.val); omega)
  refine Finset.sum_congr rfl fun d _ => ?_
  rw [b2, blk3_at, b3, e]

section Finite
variable (hL : ∀ i, Real' (aL m c i)) (hQ : ∀ i, Real' (aQ m c i)) (hK : ∀ i, Real' (aK m c i)) (hV : ∀ i, Real' (aV m c i))

include hQ hK hV in
/-- A half's attention row at a point. -/
theorem half_at (t : Fin cfg0.N) (h : Fin 2) (r : Fin 512) (e : Fin 128) :
    Ideal.div (lo (ac (iblk m c 2 t) (blk3 (iblk m c 3 t)) (iblk m c 4 t) (t.val % 8) h) (ix3 0 r e))
        (hi (ac (iblk m c 2 t) (blk3 (iblk m c 3 t)) (iblk m c 4 t) (t.val % 8) h) (ix3 0 r e))
      = ((att (pos t r).val (scoreR (aQ m c) (aK m c) (bat t) (head t) h (pos t r)) (valR (aV m c) (bat t) (head t) e) : ℝ) : EReal) := by
  obtain ⟨M, hM⟩ := top_real (iblk m c 2 t) (blk3 (iblk m c 3 t)) (t.val % 8) h r (fun j i => by
    rw [dotp_at]; exact score_real hQ hK _ _ _ _ _)
  refine row_at _ _ _ _ (by omega) h r _ (fun j hj i => ?_) M hM _ e (fun k => ?_)
  · rw [dotp_at, ← scoreR_eq hQ hK]
    have hk : (kp j i).val = 512 * j + i.val := by show 512 * (j % 8) + i.val = _; rw [Nat.mod_eq_of_lt hj]
    rw [hk]
  · rw [b4, valR_eq hV]

include hL hQ hK hV in
/-- What a point stores, at a row and column. -/
theorem point (t : Fin cfg0.N) (r : Fin 512) (e : Fin 128) :
    out5 (iblk m c 0 t) (iblk m c 1 t) (iblk m c 2 t) (iblk m c 3 t) (iblk m c 4 t) (t.val % 8) (ix3 0 r e)
      = result (aL m c) (aG m c) (aQ m c) (aK m c) (aV m c) (ix3 (bat t) (pos t r) (col (head t) e)) := by
  unfold out5
  rw [View.canon_unit_zero z3, all0_eq, all1_eq, all2_eq, all4_eq]
  unfold outv
  refine (out_at _ _ _ _ _ _ r e).trans ?_
  have hl : (fun (k : Fin 4) (d : Fin 64) => iblk m c 0 t (ix2 k d)) = fun k d => aL m c (ix2 k d) := funext fun k => funext fun d => b0 m c t k d
  have hc : headOf (col (head t) e) = head t := Fin.ext (by show ((head t).val * 128 + e.val) / 128 = _; omega)
  have hw : within (col (head t) e) = e := Fin.ext (by show ((head t).val * 128 + e.val) % 128 = _; omega)
  have hg : (fun e : Fin 128 => iblk m c 1 t (ix2 0 e)) = fun e => aG m c (ix1 e) := funext fun e => b1 m c t e
  have hx : (fun e : Fin 128 => Ideal.div (lo (ac (iblk m c 2 t) (blk3 (iblk m c 3 t)) (iblk m c 4 t) (t.val % 8) 0) (ix3 0 r e))
        (hi (ac (iblk m c 2 t) (blk3 (iblk m c 3 t)) (iblk m c 4 t) (t.val % 8) 0) (ix3 0 r e))
      - lamOf (fun k d => iblk m c 0 t (ix2 k d)) * Ideal.div (lo (ac (iblk m c 2 t) (blk3 (iblk m c 3 t)) (iblk m c 4 t) (t.val % 8) 1) (ix3 0 r e))
        (hi (ac (iblk m c 2 t) (blk3 (iblk m c 3 t)) (iblk m c 4 t) (t.val % 8) 1) (ix3 0 r e)))
      = fun e : Fin 128 => mixed (aL m c) (aQ m c) (aK m c) (aV m c) (bat t) (head t) (pos t r) e := funext fun e => by
    rw [half_at m c hQ hK hV, half_at m c hQ hK hV, hl, ← toReal_eq (lam_real hL)]
    unfold mixed
    rw [EReal.coe_sub, EReal.coe_mul]
  refine congrArg (fun z : EReal => z * Ideal.ofBits .f32 0x3F24FD5C#32) ?_
  refine (congrArg₂ (fun x g => rms (Ideal.ofBits .f32 0x43000000#32) x g e) hx hg).trans ?_
  show _ = rms (Ideal.ofBits .f32 0x43000000#32) (fun e' : Fin 128 => mixed (aL m c) (aQ m c) (aK m c) (aV m c) (bat t) (headOf (col (head t) e)) (pos t r) e')
    (fun e' => aG m c (ix1 e')) (within (col (head t) e))
  rw [hc, hw]

include hL hQ hK hV in
theorem final : (dats m 0 c).arrAt 5 cfg0.N = result (aL m c) (aG m c) (aQ m c) (aK m c) (aV m c) := by
  refine (dats m 0 c).arrAt_eq_of_covers 5 (result (aL m c) (aG m c) (aQ m c) (aK m c) (aV m c)) (by decide +kernel) fun t hf y => ?_
  blk_simp
  rw [after0_5]
  have hy : y = ix3 0 (y 1) (y 2) := by blk_ext
  refine (congrArg _ hy).trans ((point m c hL hQ hK hV t (y 1) (y 2)).trans (congrArg (result (aL m c) (aG m c) (aQ m c) (aK m c) (aV m c)) ?_))
  blk_ext [idx t, bat, pos, head, col]

end Finite

end

/-- The call's result is the reference's, the arguments agreeing and all but the gain finite. -/
theorem algebraic : Cert.algebraic_DiffIdeal_DiffReferenceIdeal_pre_finite_diff := by
  intro m ρ m' ρ' hpre hagree
  have hfin : ∀ c, (∀ i, Real' (aL m c i)) ∧ (∀ i, Real' (aQ m c i)) ∧ (∀ i, Real' (aK m c i)) ∧ (∀ i, Real' (aV m c i)) := fun c => by
    obtain ⟨p0, p1, p2, p3⟩ := hpre c
    exact ⟨Cert.Finite.reals (aL m c) _ p0, reals16 (aQ m c) _ p1, reals16 (aK m c) _ p2, reals16 (aV m c) _ p3⟩
  refine ⟨fun c => result (aL m c) (aG m c) (aQ m c) (aK m c) (aV m c), ?_, ?_⟩
  · refine (θ_run Cert.DiffIdeal.defs _ _).mono (fun _ h c => ?_) (θ_run_and (Cert.AttnRun.run_main (F := Ideal) m ρ) (Cert.AttnRun.frame (F := Ideal) m ρ))
    obtain ⟨hL, hQ, hK, hV⟩ := hfin c
    exact ⟨((h.1 c).1 5).trans (final m c hL hQ hK hV), h.2.1 c⟩
  · refine (θ_run Cert.DiffReferenceIdeal.defs _ _).mono (fun _ h c => ⟨(h c).1.trans ?_, (h c).2⟩)
      (Cert.DiffReferenceIdeal.Value.run (F := Ideal) m' ρ')
    obtain ⟨hL, hQ, hK, hV⟩ := hfin c
    obtain ⟨h0, h1, h2, h3, h4⟩ := hagree c
    refine (Cert.DiffReferenceIdeal.Read.val_main_v69_eq _ _).trans ?_
    rw [h0, h1, h2, h3, h4]
    exact v69_eq _ _ _ _ _ hL hQ hK hV

end Cert.AttnValues

end
-- ==== Proof.MemValues.lean ====
/-
  The memory's keys and values: the idealized call's two result arrays after its run, the reference's at an index, and
  their equality.
-/
module

public import proofs.«01_k».proof.Proof.Dense
public import proofs.«01_k».proof.Proof.Gen.MemIdeal.Value
public import proofs.«01_k».proof.Proof.Gen.MemReferenceIdeal.Run
public import proofs.«01_k».proof.Proof.Gen.MemReferenceIdeal.Read
public import Idealize.ShloMosaic.Lib.Pipeline.ValueKit.Geometry
public import Idealize.ShloMosaic.Lib.Pipeline.ValueKit.Acc
public import proofs.«01_k».proof.Defs

@[expose] public section

noncomputable section

open scoped BigOperators

namespace Cert.MemValues

open Idealize.ShloMosaic Idealize.ShloMosaic.ValueIdx Idealize.ShloMosaic.TcCoe Idealize.SL.Sem Cert.Layer Cert.Reads Cert.Dense

/-- A projection's array. -/
def result (x : (⟨2, ![1024, 1024]⟩ : Shape).Idx → EReal)
    (g : (⟨1, ![1024]⟩ : Shape).Idx → EReal) (w : (⟨2, ![1024, 512]⟩ : Shape).Idx → EReal) :
    (⟨2, ![1024, 512]⟩ : Shape).Idx → EReal := fun i =>
  dense x g w (i 0) (i 1)

section
open Cert.MemIdeal Cert.MemIdeal.Gen

theorem z2 : (![0, 0] : Fin 2 → Nat) = fun _ => 0 := funext fun a => by fin_cases a <;> rfl

/-- The body's normalised rows. -/
theorem rows_apply (x0 : Vec Ideal S256x1024 .f32) (x1 : Vec Ideal S1x1024 .f32) (r : Fin 256) (k : Fin 1024) :
    k0_pay1 x0 x1 (ix2 r k) = rms cnt (fun j => x0 (ix2 r j)) (fun j => x1 (ix2 0 j)) k := by
  unfold k0_pay1
  rw [same]
  exact rms_apply (M := 256) (N := 1024) _ _ _ _ _ _ _ _ _ r k

variable (x0 : Vec Ideal S256x1024 .f32) (x1 : Vec Ideal S1x1024 .f32)
  (x2 : Vec Ideal S1024x512 .bf16) (x3 : Vec Ideal S1024x512 .bf16)

theorem out4_apply (r : Fin 256) (n : Fin 512) :
    out0_4 x0 x1 x2 x3 (ix2 r n)
      = dot (rms cnt (fun j => x0 (ix2 r j)) (fun j => x1 (ix2 0 j))) (fun k c => x2 (ix2 k c)) n := by
  unfold out0_4
  rw [View.canon_unit_zero z2, View.ld_unit_zero z2 (X := x0), View.ld_unit_zero z2 (X := x1), View.ld_unit_zero z2 (X := x2)]
  unfold k0_pay2
  rw [same]
  exact dense_apply (M := 256) (N := 512) _ rfl x0 x1 x2 _ (rows_apply x0 x1) r n

theorem out5_apply (r : Fin 256) (n : Fin 512) :
    out0_5 x0 x1 x2 x3 (ix2 r n)
      = dot (rms cnt (fun j => x0 (ix2 r j)) (fun j => x1 (ix2 0 j))) (fun k c => x3 (ix2 k c)) n := by
  unfold out0_5
  rw [View.canon_unit_zero z2, View.ld_unit_zero z2 (X := x0), View.ld_unit_zero z2 (X := x1), View.ld_unit_zero z2 (X := x3)]
  unfold k0_pay3
  rw [same]
  exact dense_apply (M := 256) (N := 512) _ rfl x0 x1 x3 _ (rows_apply x0 x1) r n

variable (m : (ℓ : Loc nD τ sig) → Buf (Elt Ideal) ℓ) (c : Dev nD)

abbrev aX : Vec Ideal S1024x1024 .f32 := m ((c : Thread nD τ).loc main_arg0)
abbrev aG : Vec Ideal S1024 .f32 := m ((c : Thread nD τ).loc main_arg1)
abbrev aK : Vec Ideal S1024x512 .f32 := m ((c : Thread nD τ).loc main_arg2)
abbrev aV : Vec Ideal S1024x512 .f32 := m ((c : Thread nD τ).loc main_arg3)

/-- Where each window's block sits at point `t`: the rows' at row block `t`; the gain and the weights whole. -/
theorem idx : ∀ t : Fin cfg0.N, win0_0.index t = ![t.val, 0] ∧ win0_1.index t = ![0, 0]
    ∧ win0_2.index t = ![0, 0] ∧ win0_3.index t = ![0, 0] ∧ win0_4.index t = ![t.val, 0] ∧ win0_5.index t = ![t.val, 0] :=
  (by decide +kernel : ∀ t : Fin grid0.N, _)

/-- Row `r` of point `t`'s block. -/
def pos (t : Fin cfg0.N) (r : Fin 256) : Fin 1024 :=
  ⟨t.val * 256 + r.val, by have := r.isLt; have h := t.isLt; have : cfg0.N = 4 := N_0; omega⟩

theorem b0 (t : Fin cfg0.N) (r : Fin 256) (j : Fin 1024) : iblk m c 0 t (ix2 r j) = aX m c (ix2 (pos t r) j) := by
  refine Eq.trans (congrArg (V m c main_arg0) (a₂ := ix2 (pos t r) j) ?_) (congrFun (V_main_arg0 m c) _)
  blk_ext [idx t, pos]

theorem b1 (t : Fin cfg0.N) (j : Fin 1024) : iblk m c 1 t (ix2 0 j) = aG m c (ix1 j) := by
  refine Eq.trans (congrArg (V m c main_v2) (a₂ := ix2 0 j) ?_) ?_
  · blk_ext [idx t]
  · have h : V m c main_v2 = shapeCast S1x1024 (aG m c) shapeCasts_S1024_S1x1024 := by
      show StableHlo.after hostOps0 _ (Proc.devRef .tc main_v2) = _
      after_results
      rfl
    rw [h]
    exact shapeCast_apply _ _ _ (ix1 j) (by rw [Shape.rowMajor_val_one, Shape.rowMajor_val_two]; show j.val = 0 * 1024 + j.val; omega)

theorem b2 (t : Fin cfg0.N) (k : Fin 1024) (j : Fin 512) : iblk m c 2 t (ix2 k j) = aK m c (ix2 k j) := by
  refine Eq.trans (congrArg (V m c main_v0) (a₂ := ix2 k j) ?_) (congrFun (?_ : V m c main_v0 = aK m c) _)
  · blk_ext [idx t]
  · show StableHlo.after hostOps0 _ (Proc.devRef .tc main_v0) = _
    after_results
    rfl

theorem b3 (t : Fin cfg0.N) (k : Fin 1024) (j : Fin 512) : iblk m c 3 t (ix2 k j) = aV m c (ix2 k j) := by
  refine Eq.trans (congrArg (V m c main_v1) (a₂ := ix2 k j) ?_) (congrFun (?_ : V m c main_v1 = aV m c) _)
  · blk_ext [idx t]
  · show StableHlo.after hostOps0 _ (Proc.devRef .tc main_v1) = _
    after_results
    rfl

theorem final4 : (dats m 0 c).arrAt 4 cfg0.N = result (aX m c) (aG m c) (aK m c) := by
  refine (dats m 0 c).arrAt_eq_of_covers 4 (result (aX m c) (aG m c) (aK m c)) (by decide +kernel) fun t hf y => ?_
  blk_simp
  rw [after0_4]
  have hy : y = ix2 (y 0) (y 1) := by blk_ext
  have hp : ∀ (r : Fin 256) (n : Fin 512), out0_4 (iblk m c 0 t) (iblk m c 1 t) (iblk m c 2 t) (iblk m c 3 t)
      (ix2 r n) = result (aX m c) (aG m c) (aK m c) (ix2 (pos t r) n) := fun r n => by
    refine (out4_apply _ _ _ _ r n).trans ?_
    simp only [b0, b1, b2]
    rfl
  refine (congrArg _ hy).trans ((hp (y 0) (y 1)).trans (congrArg (result (aX m c) (aG m c) (aK m c)) ?_))
  blk_ext [idx t, pos]

theorem final5 : (dats m 0 c).arrAt 5 cfg0.N = result (aX m c) (aG m c) (aV m c) := by
  refine (dats m 0 c).arrAt_eq_of_covers 5 (result (aX m c) (aG m c) (aV m c)) (by decide +kernel) fun t hf y => ?_
  blk_simp
  rw [after0_5]
  have hy : y = ix2 (y 0) (y 1) := by blk_ext
  have hp : ∀ (r : Fin 256) (n : Fin 512), out0_5 (iblk m c 0 t) (iblk m c 1 t) (iblk m c 2 t) (iblk m c 3 t)
      (ix2 r n) = result (aX m c) (aG m c) (aV m c) (ix2 (pos t r) n) := fun r n => by
    refine (out5_apply _ _ _ _ r n).trans ?_
    simp only [b0, b1, b3]
    rfl
  refine (congrArg _ hy).trans ((hp (y 0) (y 1)).trans (congrArg (result (aX m c) (aG m c) (aV m c)) ?_))
  blk_ext [idx t, pos]

end

section
open Cert.MemReferenceIdeal Cert.MemReferenceIdeal.Gen Cert.MemReferenceIdeal.Read

variable (x0 : (⟨S1024x1024, .f32⟩ : BufTy).Contents (Elt Ideal)) (x1 : (⟨S1024, .f32⟩ : BufTy).Contents (Elt Ideal))

/-- The reference's normalised rows. -/
theorem v12_at (s : Fin 1024) (k : Fin 1024) :
    val_main_v12 (F := Ideal) x0 x1 (ix2 s k) = rms cnt (fun j => x0 (ix2 s j)) (fun j => x1 (ix1 j)) k := by
  have e : ∀ j, idx_main_v1 (idx_main_v2 (idx_main_v8 (ix2 s k))) j = ix2 s j := fun j => funext fun a => by
    match a with | ⟨0, _⟩ => rfl | ⟨1, _⟩ => rfl
  have e' : idx_main_v10 (idx_main_v11 (ix2 s k)) = ix1 k := funext fun a => by match a with | ⟨0, _⟩ => rfl
  refine Eq.trans (b := x0 (ix2 s k) * Ideal.rsqrt (Ideal.div (Ideal.ofBits .f32 0x00000000#32 + ∑ j, x0 (ix2 s j) * x0 (ix2 s j)) cnt
    + Ideal.ofBits .f32 0x358637BD#32) * x1 (ix1 k)) ?_ ?_
  · simp only [val_main_v12_apply, val_main_v11_apply, val_main_v10_apply, val_main_v9_apply, val_main_v8_apply, val_main_v7_apply,
      val_main_v6_apply, val_main_v5_apply, val_main_v4_apply, val_main_v3_apply, val_main_v2_apply, val_main_v1_apply, val_main_v0_apply, e, e']
    rfl
  · rw [Ideal.ofBits_zero_f32, zero_add]; rfl

theorem ix2_eta {M N : ℕ} (i : (⟨2, ![M, N]⟩ : Shape).Idx) : ∃ s n, i = ix2 s n :=
  ⟨i 0, i 1, funext fun a => by match a with | ⟨0, _⟩ => rfl | ⟨1, _⟩ => rfl⟩

theorem v14_eq (x2 : (⟨S1024x512, .f32⟩ : BufTy).Contents (Elt Ideal)) :
    val_main_v14 (F := Ideal) x0 x1 x2 = result x0 x1 x2 := by
  funext i
  obtain ⟨s, n, rfl⟩ := ix2_eta i
  refine (val_main_v14_apply (F := Ideal) _ _ _ _).trans ((val_main_v13_apply _ _ _ _).trans ?_)
  unfold result dense dot
  refine Finset.sum_congr rfl fun k _ => ?_
  have e : lidx_main_v13 (ix2 s n) k = ix2 s k := funext fun a => by match a with | ⟨0, _⟩ => rfl | ⟨1, _⟩ => rfl
  have e' : ridx_main_v13 (ix2 s n) k = ix2 k n := funext fun a => by match a with | ⟨0, _⟩ => rfl | ⟨1, _⟩ => rfl
  rw [e, e', v12_at]

theorem v16_eq (x3 : (⟨S1024x512, .f32⟩ : BufTy).Contents (Elt Ideal)) :
    val_main_v16 (F := Ideal) x0 x1 x3 = result x0 x1 x3 := by
  funext i
  obtain ⟨s, n, rfl⟩ := ix2_eta i
  refine (val_main_v16_apply (F := Ideal) _ _ _ _).trans ((val_main_v15_apply _ _ _ _).trans ?_)
  unfold result dense dot
  refine Finset.sum_congr rfl fun k _ => ?_
  have e : lidx_main_v15 (ix2 s n) k = ix2 s k := funext fun a => by match a with | ⟨0, _⟩ => rfl | ⟨1, _⟩ => rfl
  have e' : ridx_main_v15 (ix2 s n) k = ix2 k n := funext fun a => by match a with | ⟨0, _⟩ => rfl | ⟨1, _⟩ => rfl
  rw [e, e', v12_at]

end

/-- The call's two results are the reference's, the arguments agreeing. -/
theorem algebraic : Cert.algebraic_MemIdeal_MemReferenceIdeal := by
  intro m ρ m' ρ' hpre hagree
  refine ⟨fun c => result (aX m c) (aG m c) (aK m c), fun c => result (aX m c) (aG m c) (aV m c), ?_, ?_⟩
  · refine (θ_run Cert.MemIdeal.defs _ _).mono (fun _ h c => ?_) (Cert.MemIdeal.Value.run_blocks (F := Ideal) m ρ)
    obtain ⟨e0, e1, e⟩ := h c
    exact ⟨e0.trans (final4 m c), e1.trans (final5 m c), e⟩
  · refine (θ_run Cert.MemReferenceIdeal.defs _ _).mono (fun _ h c => ?_) (Cert.MemReferenceIdeal.Value.run (F := Ideal) m' ρ')
    obtain ⟨h0, h1, h2, h3⟩ := hagree c
    obtain ⟨e0, e1, e⟩ := h c
    exact ⟨e0.trans ((Cert.MemReferenceIdeal.Read.val_main_v14_eq _ _ _).trans ((v14_eq _ _ _).trans (congr (congr (congrArg result h0) h1) h2))),
      e1.trans ((Cert.MemReferenceIdeal.Read.val_main_v16_eq _ _ _).trans ((v16_eq _ _ _).trans (congr (congr (congrArg result h0) h1) h3))), e⟩

end Cert.MemValues

end
-- ==== Proof.Tiles.lean ====
/-
  A block of 1024 rows kept as column slabs, read back by stride into the row groups of a regrouped array: what the slabs
  and the regrouped tiles hold, an entry at a time.
-/
module

public import proofs.«01_k».proof.Proof.Reads
public import proofs.«01_k».proof.Proof.Gen.ViewsIdeal.Frame.Runs
public import Idealize.ShloMosaic.Lib.Pipeline.Value

@[expose] public section

noncomputable section

namespace Cert.Tiles

open Idealize.ShloMosaic Idealize.ShloMosaic.ValueIdx Cert.ViewsIdeal

variable (Y : Vec Ideal S1024x512 .f32)

/-- The rows' four column slabs. -/
def slab : Vec Ideal S4x1024x128 .f32 := fun p =>
  Y (ix2 (p 1) ⟨(p 0).val * 128 + (p 2).val, by
    have h0 : (p 0).val < 4 := (p 0).isLt; have h2 : (p 2).val < 128 := (p 2).isLt; omega⟩)

/-- Every fourth row of each slab, by remainder and slab. -/
def staged : Vec Ideal S16x256x128 .f32 := fun p =>
  Y (ix2 ⟨(p 0).val / 4 + 4 * (p 1).val, by
      have h0 : (p 0).val < 16 := (p 0).isLt; have h1 : (p 1).val < 256 := (p 1).isLt; omega⟩
    ⟨(p 0).val % 4 * 128 + (p 2).val, by have h2 : (p 2).val < 128 := (p 2).isLt; omega⟩)

/-- The rows four to a line. -/
def by4 : Vec Ideal S256x2048 .bf16 := fun y =>
  Y (ix2 ⟨(y 1).val / 512 + 4 * (y 0).val, by
      have h0 : (y 0).val < 256 := (y 0).isLt; have h1 : (y 1).val < 2048 := (y 1).isLt; omega⟩
    ⟨(y 1).val % 512, by omega⟩)

/-- The rows sixteen to a line. -/
def by16 : Vec Ideal S64x8192 .bf16 := fun y =>
  Y (ix2 ⟨(y 1).val / 512 + 16 * (y 0).val, by
      have h0 : (y 0).val < 64 := (y 0).isLt; have h1 : (y 1).val < 8192 := (y 1).isLt; omega⟩
    ⟨(y 1).val % 512, by omega⟩)

/-- A slab stored from a column slice. -/
theorem slab_piece (t o : ℕ) (ho : o = t * 128) (hs : S1024x512.Slices ![0, o] S1024x128) (hc : S1024x128.ShapeCasts S1x1024x128)
    (inb : ∀ a, (![t, 0, 0] : Fin 3 → ℕ) a + S1x1024x128.size a ≤ S4x1024x128.size a) (x : S1x1024x128.Idx) :
    shapeCast S1x1024x128 (extractStridedSlice S1024x128 ![0, o] Y hs) hc x
      = slab Y ((Rect.unit (s := S4x1024x128) ![t, 0, 0] S1x1024x128.size inb).emb x) := by
  have h0 : (x 0).val = 0 := by have : (x 0).val < 1 := (x 0).isLt; omega
  refine (shapeCast_apply _ hc x (ix2 (x 1) (x 2)) (by
    rw [Shape.rowMajor_val_two, Shape.rowMajor_val_three]; show (x 1).val * 128 + (x 2).val = ((x 0).val * 1024 + (x 1).val) * 128 + (x 2).val; omega)).trans ?_
  refine (extractStridedSlice_apply _ Y hs _ (ix2 (x 1) ⟨o + (x 2).val, by
    have h2 : (x 2).val < 128 := (x 2).isLt; have := inb 0; change t + 1 ≤ 4 at this; omega⟩) (by
    intro a
    match a with
    | ⟨0, _⟩ => show (x 1).val = 0 + (x 1).val; omega
    | ⟨1, _⟩ => show o + (x 2).val = o + (x 2).val; rfl)).trans ?_
  refine congrArg Y (funext fun a => Fin.ext ?_)
  match a with
  | ⟨0, _⟩ => show (x 1).val = 0 + 1 * (x 1).val; omega
  | ⟨1, _⟩ => show o + (x 2).val = (t + 1 * (x 0).val) * 128 + (0 + 1 * (x 2).val); rw [ho, h0]; omega

variable {sig : RefSig} {κ : Kind} {sp : Space}

/-- A strided read of a slab. -/
theorem read4 (v : View sig κ sp S4x1024x128 .f32) (L : List (View.Piece (Elt Ideal) S4x1024x128 .f32))
    (h : ∀ p, v.read (Elt Ideal) (v.writes (Elt Ideal) v.junk L) p = slab Y p) (t r : ℕ) (ht : t < 4) (hr : r < 4)
    (inb : ∀ a, S1x256x128.size a = 0 ∨ (![t, r, 0] : Fin 3 → ℕ) a + (![1, 4, 1] : Fin 3 → ℕ) a * (S1x256x128.size a - 1) < S4x1024x128.size a)
    (hc : S1x256x128.ShapeCasts S256x128) (i : Fin 256) (j : Fin 128) :
    shapeCast S256x128 (v.readCov L ⟨![t, r, 0], S1x256x128.size, ![1, 4, 1], inb⟩) hc (ix2 i j)
      = Y (ix2 ⟨r + 4 * i.val, by omega⟩ ⟨t * 128 + j.val, by omega⟩) := by
  rw [shapeCast_apply _ _ _ (ix3 0 i j) (by
    rw [Shape.rowMajor_val_two, Shape.rowMajor_val_three]; show (0 * 256 + i.val) * 128 + j.val = i.val * 128 + j.val; omega)]
  refine (h _).trans (congrArg Y (funext fun a => Fin.ext ?_))
  match a with
  | ⟨0, _⟩ => show r + 4 * i.val = r + 4 * i.val; rfl
  | ⟨1, _⟩ => show (t + 1 * 0) * 128 + (0 + 1 * j.val) = t * 128 + j.val; omega

theorem eta2 {M N : ℕ} (x : (⟨2, ![M, N]⟩ : Shape).Idx) : x = ix2 (x 0) (x 1) :=
  funext fun a => by match a with | ⟨0, _⟩ => rfl | ⟨1, _⟩ => rfl

/-- A tile of the four-to-a-line array. -/
theorem by4_piece (v : View sig κ sp S4x1024x128 .f32) (L : List (View.Piece (Elt Ideal) S4x1024x128 .f32))
    (h : ∀ p, v.read (Elt Ideal) (v.writes (Elt Ideal) v.junk L) p = slab Y p) (t r o : ℕ) (ht : t < 4) (hr : r < 4) (ho : o = r * 512 + t * 128)
    (inb : ∀ a, S1x256x128.size a = 0 ∨ (![t, r, 0] : Fin 3 → ℕ) a + (![1, 4, 1] : Fin 3 → ℕ) a * (S1x256x128.size a - 1) < S4x1024x128.size a)
    (hc : S1x256x128.ShapeCasts S256x128) (hb : FTy.bits .bf16 < FTy.bits .f32)
    (inb' : ∀ a, (![0, o] : Fin 2 → ℕ) a + S256x128.size a ≤ S256x2048.size a) (x : S256x128.Idx) :
    truncf (F := Ideal) .bf16 (shapeCast S256x128 (v.readCov L ⟨![t, r, 0], S1x256x128.size, ![1, 4, 1], inb⟩) hc : FVec Ideal S256x128 .f32) hb x
      = by4 Y ((Rect.unit (s := S256x2048) ![0, o] S256x128.size inb').emb x) := by
  have hx : (x 1).val < 128 := (x 1).isLt
  refine (congrArg (shapeCast S256x128 (v.readCov L ⟨![t, r, 0], S1x256x128.size, ![1, 4, 1], inb⟩) hc) (eta2 x)).trans
    ((read4 Y v L h t r ht hr inb hc (x 0) (x 1)).trans (congrArg Y (funext fun a => Fin.ext ?_)))
  match a with
  | ⟨0, _⟩ => show r + 4 * (x 0).val = (o + 1 * (x 1).val) / 512 + 4 * (0 + 1 * (x 0).val); omega
  | ⟨1, _⟩ => show t * 128 + (x 1).val = (o + 1 * (x 1).val) % 512; omega

/-- A tile kept for the next regrouping. -/
theorem staged_piece (v : View sig κ sp S4x1024x128 .f32) (L : List (View.Piece (Elt Ideal) S4x1024x128 .f32))
    (h : ∀ p, v.read (Elt Ideal) (v.writes (Elt Ideal) v.junk L) p = slab Y p) (t r q : ℕ) (ht : t < 4) (hr : r < 4) (hq : q = r * 4 + t)
    (inb : ∀ a, S1x256x128.size a = 0 ∨ (![t, r, 0] : Fin 3 → ℕ) a + (![1, 4, 1] : Fin 3 → ℕ) a * (S1x256x128.size a - 1) < S4x1024x128.size a)
    (hc : S1x256x128.ShapeCasts S256x128) (hc' : S256x128.ShapeCasts S1x256x128)
    (inb' : ∀ a, (![q, 0, 0] : Fin 3 → ℕ) a + S1x256x128.size a ≤ S16x256x128.size a) (x : S1x256x128.Idx) :
    shapeCast S1x256x128 (shapeCast S256x128 (v.readCov L ⟨![t, r, 0], S1x256x128.size, ![1, 4, 1], inb⟩) hc) hc' x
      = staged Y ((Rect.unit (s := S16x256x128) ![q, 0, 0] S1x256x128.size inb').emb x) := by
  have h0 : (x 0).val = 0 := by have : (x 0).val < 1 := (x 0).isLt; omega
  refine (shapeCast_apply _ hc' x (ix2 (x 1) (x 2)) (by
    rw [Shape.rowMajor_val_two, Shape.rowMajor_val_three]; show (x 1).val * 128 + (x 2).val = ((x 0).val * 256 + (x 1).val) * 128 + (x 2).val; omega)).trans ?_
  refine (read4 Y v L h t r ht hr inb hc (x 1) (x 2)).trans (congrArg Y (funext fun a => Fin.ext ?_))
  match a with
  | ⟨0, _⟩ => show r + 4 * (x 1).val = (q + 1 * (x 0).val) / 4 + 4 * (0 + 1 * (x 1).val); omega
  | ⟨1, _⟩ => show t * 128 + (x 2).val = (q + 1 * (x 0).val) % 4 * 128 + (0 + 1 * (x 2).val); omega

/-- A tile of the sixteen-to-a-line array. -/
theorem by16_piece (v : View sig κ sp S16x256x128 .f32) (L : List (View.Piece (Elt Ideal) S16x256x128 .f32))
    (h : ∀ p, v.read (Elt Ideal) (v.writes (Elt Ideal) v.junk L) p = staged Y p) (t r q s o : ℕ) (ht : t < 4) (hr : r < 16)
    (hq : q = r % 4 * 4 + t) (hs : s = r / 4) (ho : o = r * 512 + t * 128)
    (inb : ∀ a, S1x64x128.size a = 0 ∨ (![q, s, 0] : Fin 3 → ℕ) a + (![1, 4, 1] : Fin 3 → ℕ) a * (S1x64x128.size a - 1) < S16x256x128.size a)
    (hc : S1x64x128.ShapeCasts S64x128) (hb : FTy.bits .bf16 < FTy.bits .f32)
    (inb' : ∀ a, (![0, o] : Fin 2 → ℕ) a + S64x128.size a ≤ S64x8192.size a) (x : S64x128.Idx) :
    truncf (F := Ideal) .bf16 (shapeCast S64x128 (v.readCov L ⟨![q, s, 0], S1x64x128.size, ![1, 4, 1], inb⟩) hc : FVec Ideal S64x128 .f32) hb x
      = by16 Y ((Rect.unit (s := S64x8192) ![0, o] S64x128.size inb').emb x) := by
  have hx : (x 1).val < 128 := (x 1).isLt
  refine (shapeCast_apply (v.readCov L ⟨![q, s, 0], S1x64x128.size, ![1, 4, 1], inb⟩) hc x (ix3 0 (x 0) (x 1)) (by
    rw [Shape.rowMajor_val_two, Shape.rowMajor_val_three]; show (0 * 64 + (x 0).val) * 128 + (x 1).val = (x 0).val * 128 + (x 1).val; omega)).trans ?_
  refine (h _).trans (congrArg Y (funext fun a => Fin.ext ?_))
  match a with
  | ⟨0, _⟩ => show (q + 1 * 0) / 4 + 4 * (s + 4 * (x 0).val) = (o + 1 * (x 1).val) / 512 + 16 * (0 + 1 * (x 0).val); omega
  | ⟨1, _⟩ => show (q + 1 * 0) % 4 * 128 + (0 + 1 * (x 1).val) = (o + 1 * (x 1).val) % 512; omega

/-- Stores that agree with one function and cover the shape, whatever was stored before them. -/
theorem read_front {s : Shape} {e : EltTy} (v : View sig κ sp s e) (f : v.ty.Contents (Elt Ideal)) (G : s.Idx → Elt Ideal e)
    (L L' : List (View.Piece (Elt Ideal) s e)) (hG : ∀ p ∈ L, ∀ x : p.1.shape.Idx, p.2 x = G (p.1.emb x))
    (hL : ∀ y, ∃ p ∈ L, y ∈ p.1.set) (y : s.Idx) : v.read (Elt Ideal) (v.writes (Elt Ideal) f (L ++ L')) y = G y := by
  rw [View.writes_append]
  exact View.read_writes_apply_of_pieces v _ G L hG y (hL y)

end Cert.Tiles

end
-- ==== Proof.Fronts.lean ====
/-
  Stores that fill a buffer, listed last first, with anything stored before them: what the buffer then reads.
-/
module

public import proofs.«01_k».proof.Proof.Tiles

@[expose] public section

noncomputable section

namespace Cert.Tiles

open Idealize.ShloMosaic Idealize.ShloMosaic.ValueIdx Cert.ViewsIdeal

variable {sig : RefSig} {κ : Kind} {sp : Space} {s : Shape} {e : EltTy}

/-- 4 stores. -/
theorem front4 (v : View sig κ sp s e) (f : v.ty.Contents (Elt Ideal)) (G : s.Idx → Elt Ideal e)
    (a0 a1 a2 a3 : View.Piece (Elt Ideal) s e) (L : List (View.Piece (Elt Ideal) s e))
    (hL : ∀ y, ∃ p ∈ [a0, a1, a2, a3], y ∈ p.1.set)
    (h0 : ∀ x : a0.1.shape.Idx, a0.2 x = G (a0.1.emb x))
    (h1 : ∀ x : a1.1.shape.Idx, a1.2 x = G (a1.1.emb x))
    (h2 : ∀ x : a2.1.shape.Idx, a2.2 x = G (a2.1.emb x))
    (h3 : ∀ x : a3.1.shape.Idx, a3.2 x = G (a3.1.emb x))
    (y : s.Idx) : v.read (Elt Ideal) (v.writes (Elt Ideal) f (a0 :: a1 :: a2 :: a3 :: L)) y = G y :=
  read_front v f G [a0, a1, a2, a3] L
    (List.forall_mem_cons.2 ⟨h0, List.forall_mem_cons.2 ⟨h1, List.forall_mem_cons.2 ⟨h2, List.forall_mem_cons.2 ⟨h3,
      fun p hp => absurd hp List.not_mem_nil⟩⟩⟩⟩) hL y

/-- 16 stores. -/
theorem front16 (v : View sig κ sp s e) (f : v.ty.Contents (Elt Ideal)) (G : s.Idx → Elt Ideal e)
    (a0 a1 a2 a3 a4 a5 a6 a7 a8 a9 a10 a11 a12 a13 a14 a15 : View.Piece (Elt Ideal) s e) (L : List (View.Piece (Elt Ideal) s e))
    (hL : ∀ y, ∃ p ∈ [a0, a1, a2, a3, a4, a5, a6, a7, a8, a9, a10, a11, a12, a13, a14, a15], y ∈ p.1.set)
    (h0 : ∀ x : a0.1.shape.Idx, a0.2 x = G (a0.1.emb x))
    (h1 : ∀ x : a1.1.shape.Idx, a1.2 x = G (a1.1.emb x))
    (h2 : ∀ x : a2.1.shape.Idx, a2.2 x = G (a2.1.emb x))
    (h3 : ∀ x : a3.1.shape.Idx, a3.2 x = G (a3.1.emb x))
    (h4 : ∀ x : a4.1.shape.Idx, a4.2 x = G (a4.1.emb x))
    (h5 : ∀ x : a5.1.shape.Idx, a5.2 x = G (a5.1.emb x))
    (h6 : ∀ x : a6.1.shape.Idx, a6.2 x = G (a6.1.emb x))
    (h7 : ∀ x : a7.1.shape.Idx, a7.2 x = G (a7.1.emb x))
    (h8 : ∀ x : a8.1.shape.Idx, a8.2 x = G (a8.1.emb x))
    (h9 : ∀ x : a9.1.shape.Idx, a9.2 x = G (a9.1.emb x))
    (h10 : ∀ x : a10.1.shape.Idx, a10.2 x = G (a10.1.emb x))
    (h11 : ∀ x : a11.1.shape.Idx, a11.2 x = G (a11.1.emb x))
    (h12 : ∀ x : a12.1.shape.Idx, a12.2 x = G (a12.1.emb x))
    (h13 : ∀ x : a13.1.shape.Idx, a13.2 x = G (a13.1.emb x))
    (h14 : ∀ x : a14.1.shape.Idx, a14.2 x = G (a14.1.emb x))
    (h15 : ∀ x : a15.1.shape.Idx, a15.2 x = G (a15.1.emb x))
    (y : s.Idx) : v.read (Elt Ideal) (v.writes (Elt Ideal) f (a0 :: a1 :: a2 :: a3 :: a4 :: a5 :: a6 :: a7 :: a8 :: a9 :: a10 :: a11 :: a12 :: a13 :: a14 :: a15 :: L)) y = G y :=
  read_front v f G [a0, a1, a2, a3, a4, a5, a6, a7, a8, a9, a10, a11, a12, a13, a14, a15] L
    (List.forall_mem_cons.2 ⟨h0, List.forall_mem_cons.2 ⟨h1, List.forall_mem_cons.2 ⟨h2, List.forall_mem_cons.2 ⟨h3, List.forall_mem_cons.2 ⟨h4, List.forall_mem_cons.2 ⟨h5, List.forall_mem_cons.2 ⟨h6, List.forall_mem_cons.2 ⟨h7, List.forall_mem_cons.2 ⟨h8, List.forall_mem_cons.2 ⟨h9, List.forall_mem_cons.2 ⟨h10, List.forall_mem_cons.2 ⟨h11, List.forall_mem_cons.2 ⟨h12, List.forall_mem_cons.2 ⟨h13, List.forall_mem_cons.2 ⟨h14, List.forall_mem_cons.2 ⟨h15,
      fun p hp => absurd hp List.not_mem_nil⟩⟩⟩⟩⟩⟩⟩⟩⟩⟩⟩⟩⟩⟩⟩⟩) hL y

/-- The rows as they are, at the width of the store. -/
def plain (Y : Vec Ideal S1024x512 .f32) : Vec Ideal S1024x512 .bf16 := fun i => Y i

/-- A store of the whole block. -/
theorem whole_piece (Y : Vec Ideal S1024x512 .f32) (hb : FTy.bits .bf16 < FTy.bits .f32)
    (inb : ∀ a, (![0, 0] : Fin 2 → ℕ) a + S1024x512.size a ≤ S1024x512.size a) (x : S1024x512.Idx) :
    truncf (F := Ideal) .bf16 (Y : FVec Ideal S1024x512 .f32) hb x = plain Y ((Rect.unit (s := S1024x512) ![0, 0] S1024x512.size inb).emb x) := by
  refine congrArg Y (funext fun a => Fin.ext ?_)
  match a with
  | ⟨0, _⟩ => show (x 0).val = 0 + 1 * (x 0).val; omega
  | ⟨1, _⟩ => show (x 1).val = 0 + 1 * (x 1).val; omega

end Cert.Tiles

end
-- ==== Proof.View1.lean ====
/-
  What the body leaves in the arrays of view 1: its rows, four to a line, and sixteen to a line.
-/
module

public import proofs.«01_k».proof.Proof.Fronts
public import proofs.«01_k».proof.Proof.Gen.ViewsIdeal.Frame

@[expose] public section

set_option maxRecDepth 65536

noncomputable section

namespace Cert.View1

open Idealize.ShloMosaic Idealize.ShloMosaic.TcCoe Idealize.ShloMosaic.Tactic Cert.ViewsIdeal Cert.ViewsIdeal.Gen Cert.Tiles

/-- The slabs hold the rows' columns. -/
theorem slabs (c : Dev nD) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg21 : Memref sig .tc .vmem S4x1024x128 .f32) (x0 : Vec Ideal S1024x1024 .f32) (x1 : Vec Ideal S1x1024 .f32) (x2 : Vec Ideal S1024x512 .bf16) (p : S4x1024x128.Idx) :
    arg21.view.read (Elt Ideal) (arg21.view.writes (Elt Ideal) arg21.view.junk (kernelRun0_A.sl.HS0_4 (F := Ideal) c arg1 harg1 arg2 harg2 arg3 harg3 x0 x1 x2)) p = slab (kernelRun0_A.sl.r_1 (F := Ideal) c arg1 harg1 arg2 harg2 arg3 harg3 x0 x1 x2) p := by
  unfold kernelRun0_A.sl.HS0_4
  refine front4 _ _ _ _ _ _ _ _ ?_ ?_ ?_ ?_ ?_ p
  · exact View.cover_of_tiledL _ S1x1024x128.size (by sl_kernel_rfl)
  · exact fun x => slab_piece (kernelRun0_A.sl.r_1 (F := Ideal) c arg1 harg1 arg2 harg2 arg3 harg3 x0 x1 x2) 3 384 rfl slices_S1024x512_o0_384_S1024x128 shapeCasts_S1024x128_S1x1024x128 inb_S4x1024x128_S1x1024x128_3_0_0 x
  · exact fun x => slab_piece (kernelRun0_A.sl.r_1 (F := Ideal) c arg1 harg1 arg2 harg2 arg3 harg3 x0 x1 x2) 2 256 rfl slices_S1024x512_o0_256_S1024x128 shapeCasts_S1024x128_S1x1024x128 inb_S4x1024x128_S1x1024x128_2_0_0 x
  · exact fun x => slab_piece (kernelRun0_A.sl.r_1 (F := Ideal) c arg1 harg1 arg2 harg2 arg3 harg3 x0 x1 x2) 1 128 rfl slices_S1024x512_o0_128_S1024x128 shapeCasts_S1024x128_S1x1024x128 inb_S4x1024x128_S1x1024x128_1_0_0 x
  · exact fun x => slab_piece (kernelRun0_A.sl.r_1 (F := Ideal) c arg1 harg1 arg2 harg2 arg3 harg3 x0 x1 x2) 0 0 rfl slices_S1024x512_o0_0_S1024x128 shapeCasts_S1024x128_S1x1024x128 inb_S4x1024x128_S1x1024x128_0_0_0 x

set_option maxHeartbeats 4000000 in
/-- The kept tiles hold every fourth row. -/
theorem kept (c : Dev nD) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg21 : Memref sig .tc .vmem S4x1024x128 .f32) (arg22 : Memref sig .tc .vmem S16x256x128 .f32) (x0 : Vec Ideal S1024x1024 .f32) (x1 : Vec Ideal S1x1024 .f32) (x2 : Vec Ideal S1024x512 .bf16) (p : S16x256x128.Idx) :
    arg22.view.read (Elt Ideal) (arg22.view.writes (Elt Ideal) arg22.view.junk (kernelRun0_A.sl.HS1_16 (F := Ideal) c arg1 harg1 arg2 harg2 arg3 harg3 arg21 x0 x1 x2)) p = staged (kernelRun0_A.sl.r_1 (F := Ideal) c arg1 harg1 arg2 harg2 arg3 harg3 x0 x1 x2) p := by
  have hs := slabs c arg1 harg1 arg2 harg2 arg3 harg3 arg21 x0 x1 x2
  unfold kernelRun0_A.sl.HS1_16
  refine front16 _ _ _ _ _ _ _ _ _ _ _ _ _ _ _ _ _ _ _ _ ?_ ?_ ?_ ?_ ?_ ?_ ?_ ?_ ?_ ?_ ?_ ?_ ?_ ?_ ?_ ?_ ?_ p
  · exact View.cover_of_tiledL _ S1x256x128.size (by sl_kernel_rfl)
  · exact fun x => staged_piece _ _ _ hs 3 3 15 (by decide) (by decide) rfl _ shapeCasts_S1x256x128_S256x128 shapeCasts_S256x128_S1x256x128 inb_S16x256x128_S1x256x128_15_0_0 x
  · exact fun x => staged_piece _ _ _ hs 2 3 14 (by decide) (by decide) rfl _ shapeCasts_S1x256x128_S256x128 shapeCasts_S256x128_S1x256x128 inb_S16x256x128_S1x256x128_14_0_0 x
  · exact fun x => staged_piece _ _ _ hs 1 3 13 (by decide) (by decide) rfl _ shapeCasts_S1x256x128_S256x128 shapeCasts_S256x128_S1x256x128 inb_S16x256x128_S1x256x128_13_0_0 x
  · exact fun x => staged_piece _ _ _ hs 0 3 12 (by decide) (by decide) rfl _ shapeCasts_S1x256x128_S256x128 shapeCasts_S256x128_S1x256x128 inb_S16x256x128_S1x256x128_12_0_0 x
  · exact fun x => staged_piece _ _ _ hs 3 2 11 (by decide) (by decide) rfl _ shapeCasts_S1x256x128_S256x128 shapeCasts_S256x128_S1x256x128 inb_S16x256x128_S1x256x128_11_0_0 x
  · exact fun x => staged_piece _ _ _ hs 2 2 10 (by decide) (by decide) rfl _ shapeCasts_S1x256x128_S256x128 shapeCasts_S256x128_S1x256x128 inb_S16x256x128_S1x256x128_10_0_0 x
  · exact fun x => staged_piece _ _ _ hs 1 2 9 (by decide) (by decide) rfl _ shapeCasts_S1x256x128_S256x128 shapeCasts_S256x128_S1x256x128 inb_S16x256x128_S1x256x128_9_0_0 x
  · exact fun x => staged_piece _ _ _ hs 0 2 8 (by decide) (by decide) rfl _ shapeCasts_S1x256x128_S256x128 shapeCasts_S256x128_S1x256x128 inb_S16x256x128_S1x256x128_8_0_0 x
  · exact fun x => staged_piece _ _ _ hs 3 1 7 (by decide) (by decide) rfl _ shapeCasts_S1x256x128_S256x128 shapeCasts_S256x128_S1x256x128 inb_S16x256x128_S1x256x128_7_0_0 x
  · exact fun x => staged_piece _ _ _ hs 2 1 6 (by decide) (by decide) rfl _ shapeCasts_S1x256x128_S256x128 shapeCasts_S256x128_S1x256x128 inb_S16x256x128_S1x256x128_6_0_0 x
  · exact fun x => staged_piece _ _ _ hs 1 1 5 (by decide) (by decide) rfl _ shapeCasts_S1x256x128_S256x128 shapeCasts_S256x128_S1x256x128 inb_S16x256x128_S1x256x128_5_0_0 x
  · exact fun x => staged_piece _ _ _ hs 0 1 4 (by decide) (by decide) rfl _ shapeCasts_S1x256x128_S256x128 shapeCasts_S256x128_S1x256x128 inb_S16x256x128_S1x256x128_4_0_0 x
  · exact fun x => staged_piece _ _ _ hs 3 0 3 (by decide) (by decide) rfl _ shapeCasts_S1x256x128_S256x128 shapeCasts_S256x128_S1x256x128 inb_S16x256x128_S1x256x128_3_0_0 x
  · exact fun x => staged_piece _ _ _ hs 2 0 2 (by decide) (by decide) rfl _ shapeCasts_S1x256x128_S256x128 shapeCasts_S256x128_S1x256x128 inb_S16x256x128_S1x256x128_2_0_0 x
  · exact fun x => staged_piece _ _ _ hs 1 0 1 (by decide) (by decide) rfl _ shapeCasts_S1x256x128_S256x128 shapeCasts_S256x128_S1x256x128 inb_S16x256x128_S1x256x128_1_0_0 x
  · exact fun x => staged_piece _ _ _ hs 0 0 0 (by decide) (by decide) rfl _ shapeCasts_S1x256x128_S256x128 shapeCasts_S256x128_S1x256x128 inb_S16x256x128_S1x256x128_0_0_0 x

set_option maxHeartbeats 4000000 in
/-- The rows as they are. -/
theorem rows (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = plain (kernelRun0_A.sl.r_1 (F := Ideal) c arg1 harg1 arg2 harg2 arg3 harg3 x0 x1 x2) := by
  funext y
  unfold out0_A_8
  refine View.read_writes_apply_of_pieces VO0_8 _ (plain (kernelRun0_A.sl.r_1 (F := Ideal) c arg1 harg1 arg2 harg2 arg3 harg3 x0 x1 x2)) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  refine List.forall_mem_cons.2 ⟨fun x => whole_piece (kernelRun0_A.sl.r_1 (F := Ideal) c arg1 harg1 arg2 harg2 arg3 harg3 x0 x1 x2) _ inb_S1024x512_S1024x512_0_0 x, ?_⟩
  exact fun p hp => absurd hp List.not_mem_nil

set_option maxHeartbeats 4000000 in
/-- Four to a line. -/
theorem fours (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = by4 (kernelRun0_A.sl.r_1 (F := Ideal) c arg1 harg1 arg2 harg2 arg3 harg3 x0 x1 x2) := by
  funext y
  unfold out0_A_9
  refine View.read_writes_apply_of_pieces VO0_9 _ (by4 (kernelRun0_A.sl.r_1 (F := Ideal) c arg1 harg1 arg2 harg2 arg3 harg3 x0 x1 x2)) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  have hs := slabs c arg1 harg1 arg2 harg2 arg3 harg3 arg21 x0 x1 x2
  refine List.forall_mem_cons.2 ⟨fun x => by4_piece _ _ _ hs 3 3 1920 (by decide) (by decide) rfl _ _ _ inb_S256x2048_S256x128_0_1920 x, ?_⟩
  refine List.forall_mem_cons.2 ⟨fun x => by4_piece _ _ _ hs 2 3 1792 (by decide) (by decide) rfl _ _ _ inb_S256x2048_S256x128_0_1792 x, ?_⟩
  refine List.forall_mem_cons.2 ⟨fun x => by4_piece _ _ _ hs 1 3 1664 (by decide) (by decide) rfl _ _ _ inb_S256x2048_S256x128_0_1664 x, ?_⟩
  refine List.forall_mem_cons.2 ⟨fun x => by4_piece _ _ _ hs 0 3 1536 (by decide) (by decide) rfl _ _ _ inb_S256x2048_S256x128_0_1536 x, ?_⟩
  refine List.forall_mem_cons.2 ⟨fun x => by4_piece _ _ _ hs 3 2 1408 (by decide) (by decide) rfl _ _ _ inb_S256x2048_S256x128_0_1408 x, ?_⟩
  refine List.forall_mem_cons.2 ⟨fun x => by4_piece _ _ _ hs 2 2 1280 (by decide) (by decide) rfl _ _ _ inb_S256x2048_S256x128_0_1280 x, ?_⟩
  refine List.forall_mem_cons.2 ⟨fun x => by4_piece _ _ _ hs 1 2 1152 (by decide) (by decide) rfl _ _ _ inb_S256x2048_S256x128_0_1152 x, ?_⟩
  refine List.forall_mem_cons.2 ⟨fun x => by4_piece _ _ _ hs 0 2 1024 (by decide) (by decide) rfl _ _ _ inb_S256x2048_S256x128_0_1024 x, ?_⟩
  refine List.forall_mem_cons.2 ⟨fun x => by4_piece _ _ _ hs 3 1 896 (by decide) (by decide) rfl _ _ _ inb_S256x2048_S256x128_0_896 x, ?_⟩
  refine List.forall_mem_cons.2 ⟨fun x => by4_piece _ _ _ hs 2 1 768 (by decide) (by decide) rfl _ _ _ inb_S256x2048_S256x128_0_768 x, ?_⟩
  refine List.forall_mem_cons.2 ⟨fun x => by4_piece _ _ _ hs 1 1 640 (by decide) (by decide) rfl _ _ _ inb_S256x2048_S256x128_0_640 x, ?_⟩
  refine List.forall_mem_cons.2 ⟨fun x => by4_piece _ _ _ hs 0 1 512 (by decide) (by decide) rfl _ _ _ inb_S256x2048_S256x128_0_512 x, ?_⟩
  refine List.forall_mem_cons.2 ⟨fun x => by4_piece _ _ _ hs 3 0 384 (by decide) (by decide) rfl _ _ _ inb_S256x2048_S256x128_0_384 x, ?_⟩
  refine List.forall_mem_cons.2 ⟨fun x => by4_piece _ _ _ hs 2 0 256 (by decide) (by decide) rfl _ _ _ inb_S256x2048_S256x128_0_256 x, ?_⟩
  refine List.forall_mem_cons.2 ⟨fun x => by4_piece _ _ _ hs 1 0 128 (by decide) (by decide) rfl _ _ _ inb_S256x2048_S256x128_0_128 x, ?_⟩
  refine List.forall_mem_cons.2 ⟨fun x => by4_piece _ _ _ hs 0 0 0 (by decide) (by decide) rfl _ _ _ inb_S256x2048_S256x128_0_0 x, ?_⟩
  exact fun p hp => absurd hp List.not_mem_nil

set_option maxHeartbeats 4000000 in
/-- Sixteen to a line. -/
theorem sixteens (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = by16 (kernelRun0_A.sl.r_1 (F := Ideal) c arg1 harg1 arg2 harg2 arg3 harg3 x0 x1 x2) := by
  funext y
  unfold out0_A_10
  refine View.read_writes_apply_of_pieces VO0_10 _ (by16 (kernelRun0_A.sl.r_1 (F := Ideal) c arg1 harg1 arg2 harg2 arg3 harg3 x0 x1 x2)) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  have hk := kept c arg1 harg1 arg2 harg2 arg3 harg3 arg21 arg22 x0 x1 x2
  refine List.forall_mem_cons.2 ⟨fun x => by16_piece _ _ _ hk 3 15 15 3 8064 (by decide) (by decide) rfl rfl rfl _ _ _ inb_S64x8192_S64x128_0_8064 x, ?_⟩
  refine List.forall_mem_cons.2 ⟨fun x => by16_piece _ _ _ hk 2 15 14 3 7936 (by decide) (by decide) rfl rfl rfl _ _ _ inb_S64x8192_S64x128_0_7936 x, ?_⟩
  refine List.forall_mem_cons.2 ⟨fun x => by16_piece _ _ _ hk 1 15 13 3 7808 (by decide) (by decide) rfl rfl rfl _ _ _ inb_S64x8192_S64x128_0_7808 x, ?_⟩
  refine List.forall_mem_cons.2 ⟨fun x => by16_piece _ _ _ hk 0 15 12 3 7680 (by decide) (by decide) rfl rfl rfl _ _ _ inb_S64x8192_S64x128_0_7680 x, ?_⟩
  refine List.forall_mem_cons.2 ⟨fun x => by16_piece _ _ _ hk 3 14 11 3 7552 (by decide) (by decide) rfl rfl rfl _ _ _ inb_S64x8192_S64x128_0_7552 x, ?_⟩
  refine List.forall_mem_cons.2 ⟨fun x => by16_piece _ _ _ hk 2 14 10 3 7424 (by decide) (by decide) rfl rfl rfl _ _ _ inb_S64x8192_S64x128_0_7424 x, ?_⟩
  refine List.forall_mem_cons.2 ⟨fun x => by16_piece _ _ _ hk 1 14 9 3 7296 (by decide) (by decide) rfl rfl rfl _ _ _ inb_S64x8192_S64x128_0_7296 x, ?_⟩
  refine List.forall_mem_cons.2 ⟨fun x => by16_piece _ _ _ hk 0 14 8 3 7168 (by decide) (by decide) rfl rfl rfl _ _ _ inb_S64x8192_S64x128_0_7168 x, ?_⟩
  refine List.forall_mem_cons.2 ⟨fun x => by16_piece _ _ _ hk 3 13 7 3 7040 (by decide) (by decide) rfl rfl rfl _ _ _ inb_S64x8192_S64x128_0_7040 x, ?_⟩
  refine List.forall_mem_cons.2 ⟨fun x => by16_piece _ _ _ hk 2 13 6 3 6912 (by decide) (by decide) rfl rfl rfl _ _ _ inb_S64x8192_S64x128_0_6912 x, ?_⟩
  refine List.forall_mem_cons.2 ⟨fun x => by16_piece _ _ _ hk 1 13 5 3 6784 (by decide) (by decide) rfl rfl rfl _ _ _ inb_S64x8192_S64x128_0_6784 x, ?_⟩
  refine List.forall_mem_cons.2 ⟨fun x => by16_piece _ _ _ hk 0 13 4 3 6656 (by decide) (by decide) rfl rfl rfl _ _ _ inb_S64x8192_S64x128_0_6656 x, ?_⟩
  refine List.forall_mem_cons.2 ⟨fun x => by16_piece _ _ _ hk 3 12 3 3 6528 (by decide) (by decide) rfl rfl rfl _ _ _ inb_S64x8192_S64x128_0_6528 x, ?_⟩
  refine List.forall_mem_cons.2 ⟨fun x => by16_piece _ _ _ hk 2 12 2 3 6400 (by decide) (by decide) rfl rfl rfl _ _ _ inb_S64x8192_S64x128_0_6400 x, ?_⟩
  refine List.forall_mem_cons.2 ⟨fun x => by16_piece _ _ _ hk 1 12 1 3 6272 (by decide) (by decide) rfl rfl rfl _ _ _ inb_S64x8192_S64x128_0_6272 x, ?_⟩
  refine List.forall_mem_cons.2 ⟨fun x => by16_piece _ _ _ hk 0 12 0 3 6144 (by decide) (by decide) rfl rfl rfl _ _ _ inb_S64x8192_S64x128_0_6144 x, ?_⟩
  refine List.forall_mem_cons.2 ⟨fun x => by16_piece _ _ _ hk 3 11 15 2 6016 (by decide) (by decide) rfl rfl rfl _ _ _ inb_S64x8192_S64x128_0_6016 x, ?_⟩
  refine List.forall_mem_cons.2 ⟨fun x => by16_piece _ _ _ hk 2 11 14 2 5888 (by decide) (by decide) rfl rfl rfl _ _ _ inb_S64x8192_S64x128_0_5888 x, ?_⟩
  refine List.forall_mem_cons.2 ⟨fun x => by16_piece _ _ _ hk 1 11 13 2 5760 (by decide) (by decide) rfl rfl rfl _ _ _ inb_S64x8192_S64x128_0_5760 x, ?_⟩
  refine List.forall_mem_cons.2 ⟨fun x => by16_piece _ _ _ hk 0 11 12 2 5632 (by decide) (by decide) rfl rfl rfl _ _ _ inb_S64x8192_S64x128_0_5632 x, ?_⟩
  refine List.forall_mem_cons.2 ⟨fun x => by16_piece _ _ _ hk 3 10 11 2 5504 (by decide) (by decide) rfl rfl rfl _ _ _ inb_S64x8192_S64x128_0_5504 x, ?_⟩
  refine List.forall_mem_cons.2 ⟨fun x => by16_piece _ _ _ hk 2 10 10 2 5376 (by decide) (by decide) rfl rfl rfl _ _ _ inb_S64x8192_S64x128_0_5376 x, ?_⟩
  refine List.forall_mem_cons.2 ⟨fun x => by16_piece _ _ _ hk 1 10 9 2 5248 (by decide) (by decide) rfl rfl rfl _ _ _ inb_S64x8192_S64x128_0_5248 x, ?_⟩
  refine List.forall_mem_cons.2 ⟨fun x => by16_piece _ _ _ hk 0 10 8 2 5120 (by decide) (by decide) rfl rfl rfl _ _ _ inb_S64x8192_S64x128_0_5120 x, ?_⟩
  refine List.forall_mem_cons.2 ⟨fun x => by16_piece _ _ _ hk 3 9 7 2 4992 (by decide) (by decide) rfl rfl rfl _ _ _ inb_S64x8192_S64x128_0_4992 x, ?_⟩
  refine List.forall_mem_cons.2 ⟨fun x => by16_piece _ _ _ hk 2 9 6 2 4864 (by decide) (by decide) rfl rfl rfl _ _ _ inb_S64x8192_S64x128_0_4864 x, ?_⟩
  refine List.forall_mem_cons.2 ⟨fun x => by16_piece _ _ _ hk 1 9 5 2 4736 (by decide) (by decide) rfl rfl rfl _ _ _ inb_S64x8192_S64x128_0_4736 x, ?_⟩
  refine List.forall_mem_cons.2 ⟨fun x => by16_piece _ _ _ hk 0 9 4 2 4608 (by decide) (by decide) rfl rfl rfl _ _ _ inb_S64x8192_S64x128_0_4608 x, ?_⟩
  refine List.forall_mem_cons.2 ⟨fun x => by16_piece _ _ _ hk 3 8 3 2 4480 (by decide) (by decide) rfl rfl rfl _ _ _ inb_S64x8192_S64x128_0_4480 x, ?_⟩
  refine List.forall_mem_cons.2 ⟨fun x => by16_piece _ _ _ hk 2 8 2 2 4352 (by decide) (by decide) rfl rfl rfl _ _ _ inb_S64x8192_S64x128_0_4352 x, ?_⟩
  refine List.forall_mem_cons.2 ⟨fun x => by16_piece _ _ _ hk 1 8 1 2 4224 (by decide) (by decide) rfl rfl rfl _ _ _ inb_S64x8192_S64x128_0_4224 x, ?_⟩
  refine List.forall_mem_cons.2 ⟨fun x => by16_piece _ _ _ hk 0 8 0 2 4096 (by decide) (by decide) rfl rfl rfl _ _ _ inb_S64x8192_S64x128_0_4096 x, ?_⟩
  refine List.forall_mem_cons.2 ⟨fun x => by16_piece _ _ _ hk 3 7 15 1 3968 (by decide) (by decide) rfl rfl rfl _ _ _ inb_S64x8192_S64x128_0_3968 x, ?_⟩
  refine List.forall_mem_cons.2 ⟨fun x => by16_piece _ _ _ hk 2 7 14 1 3840 (by decide) (by decide) rfl rfl rfl _ _ _ inb_S64x8192_S64x128_0_3840 x, ?_⟩
  refine List.forall_mem_cons.2 ⟨fun x => by16_piece _ _ _ hk 1 7 13 1 3712 (by decide) (by decide) rfl rfl rfl _ _ _ inb_S64x8192_S64x128_0_3712 x, ?_⟩
  refine List.forall_mem_cons.2 ⟨fun x => by16_piece _ _ _ hk 0 7 12 1 3584 (by decide) (by decide) rfl rfl rfl _ _ _ inb_S64x8192_S64x128_0_3584 x, ?_⟩
  refine List.forall_mem_cons.2 ⟨fun x => by16_piece _ _ _ hk 3 6 11 1 3456 (by decide) (by decide) rfl rfl rfl _ _ _ inb_S64x8192_S64x128_0_3456 x, ?_⟩
  refine List.forall_mem_cons.2 ⟨fun x => by16_piece _ _ _ hk 2 6 10 1 3328 (by decide) (by decide) rfl rfl rfl _ _ _ inb_S64x8192_S64x128_0_3328 x, ?_⟩
  refine List.forall_mem_cons.2 ⟨fun x => by16_piece _ _ _ hk 1 6 9 1 3200 (by decide) (by decide) rfl rfl rfl _ _ _ inb_S64x8192_S64x128_0_3200 x, ?_⟩
  refine List.forall_mem_cons.2 ⟨fun x => by16_piece _ _ _ hk 0 6 8 1 3072 (by decide) (by decide) rfl rfl rfl _ _ _ inb_S64x8192_S64x128_0_3072 x, ?_⟩
  refine List.forall_mem_cons.2 ⟨fun x => by16_piece _ _ _ hk 3 5 7 1 2944 (by decide) (by decide) rfl rfl rfl _ _ _ inb_S64x8192_S64x128_0_2944 x, ?_⟩
  refine List.forall_mem_cons.2 ⟨fun x => by16_piece _ _ _ hk 2 5 6 1 2816 (by decide) (by decide) rfl rfl rfl _ _ _ inb_S64x8192_S64x128_0_2816 x, ?_⟩
  refine List.forall_mem_cons.2 ⟨fun x => by16_piece _ _ _ hk 1 5 5 1 2688 (by decide) (by decide) rfl rfl rfl _ _ _ inb_S64x8192_S64x128_0_2688 x, ?_⟩
  refine List.forall_mem_cons.2 ⟨fun x => by16_piece _ _ _ hk 0 5 4 1 2560 (by decide) (by decide) rfl rfl rfl _ _ _ inb_S64x8192_S64x128_0_2560 x, ?_⟩
  refine List.forall_mem_cons.2 ⟨fun x => by16_piece _ _ _ hk 3 4 3 1 2432 (by decide) (by decide) rfl rfl rfl _ _ _ inb_S64x8192_S64x128_0_2432 x, ?_⟩
  refine List.forall_mem_cons.2 ⟨fun x => by16_piece _ _ _ hk 2 4 2 1 2304 (by decide) (by decide) rfl rfl rfl _ _ _ inb_S64x8192_S64x128_0_2304 x, ?_⟩
  refine List.forall_mem_cons.2 ⟨fun x => by16_piece _ _ _ hk 1 4 1 1 2176 (by decide) (by decide) rfl rfl rfl _ _ _ inb_S64x8192_S64x128_0_2176 x, ?_⟩
  refine List.forall_mem_cons.2 ⟨fun x => by16_piece _ _ _ hk 0 4 0 1 2048 (by decide) (by decide) rfl rfl rfl _ _ _ inb_S64x8192_S64x128_0_2048 x, ?_⟩
  refine List.forall_mem_cons.2 ⟨fun x => by16_piece _ _ _ hk 3 3 15 0 1920 (by decide) (by decide) rfl rfl rfl _ _ _ inb_S64x8192_S64x128_0_1920 x, ?_⟩
  refine List.forall_mem_cons.2 ⟨fun x => by16_piece _ _ _ hk 2 3 14 0 1792 (by decide) (by decide) rfl rfl rfl _ _ _ inb_S64x8192_S64x128_0_1792 x, ?_⟩
  refine List.forall_mem_cons.2 ⟨fun x => by16_piece _ _ _ hk 1 3 13 0 1664 (by decide) (by decide) rfl rfl rfl _ _ _ inb_S64x8192_S64x128_0_1664 x, ?_⟩
  refine List.forall_mem_cons.2 ⟨fun x => by16_piece _ _ _ hk 0 3 12 0 1536 (by decide) (by decide) rfl rfl rfl _ _ _ inb_S64x8192_S64x128_0_1536 x, ?_⟩
  refine List.forall_mem_cons.2 ⟨fun x => by16_piece _ _ _ hk 3 2 11 0 1408 (by decide) (by decide) rfl rfl rfl _ _ _ inb_S64x8192_S64x128_0_1408 x, ?_⟩
  refine List.forall_mem_cons.2 ⟨fun x => by16_piece _ _ _ hk 2 2 10 0 1280 (by decide) (by decide) rfl rfl rfl _ _ _ inb_S64x8192_S64x128_0_1280 x, ?_⟩
  refine List.forall_mem_cons.2 ⟨fun x => by16_piece _ _ _ hk 1 2 9 0 1152 (by decide) (by decide) rfl rfl rfl _ _ _ inb_S64x8192_S64x128_0_1152 x, ?_⟩
  refine List.forall_mem_cons.2 ⟨fun x => by16_piece _ _ _ hk 0 2 8 0 1024 (by decide) (by decide) rfl rfl rfl _ _ _ inb_S64x8192_S64x128_0_1024 x, ?_⟩
  refine List.forall_mem_cons.2 ⟨fun x => by16_piece _ _ _ hk 3 1 7 0 896 (by decide) (by decide) rfl rfl rfl _ _ _ inb_S64x8192_S64x128_0_896 x, ?_⟩
  refine List.forall_mem_cons.2 ⟨fun x => by16_piece _ _ _ hk 2 1 6 0 768 (by decide) (by decide) rfl rfl rfl _ _ _ inb_S64x8192_S64x128_0_768 x, ?_⟩
  refine List.forall_mem_cons.2 ⟨fun x => by16_piece _ _ _ hk 1 1 5 0 640 (by decide) (by decide) rfl rfl rfl _ _ _ inb_S64x8192_S64x128_0_640 x, ?_⟩
  refine List.forall_mem_cons.2 ⟨fun x => by16_piece _ _ _ hk 0 1 4 0 512 (by decide) (by decide) rfl rfl rfl _ _ _ inb_S64x8192_S64x128_0_512 x, ?_⟩
  refine List.forall_mem_cons.2 ⟨fun x => by16_piece _ _ _ hk 3 0 3 0 384 (by decide) (by decide) rfl rfl rfl _ _ _ inb_S64x8192_S64x128_0_384 x, ?_⟩
  refine List.forall_mem_cons.2 ⟨fun x => by16_piece _ _ _ hk 2 0 2 0 256 (by decide) (by decide) rfl rfl rfl _ _ _ inb_S64x8192_S64x128_0_256 x, ?_⟩
  refine List.forall_mem_cons.2 ⟨fun x => by16_piece _ _ _ hk 1 0 1 0 128 (by decide) (by decide) rfl rfl rfl _ _ _ inb_S64x8192_S64x128_0_128 x, ?_⟩
  refine List.forall_mem_cons.2 ⟨fun x => by16_piece _ _ _ hk 0 0 0 0 0 (by decide) (by decide) rfl rfl rfl _ _ _ inb_S64x8192_S64x128_0_0 x, ?_⟩
  exact fun p hp => absurd hp List.not_mem_nil

end Cert.View1

end
-- ==== Proof.View2.lean ====
/-
  What the body leaves in the arrays of view 2: its rows, four to a line, and sixteen to a line.
-/
module

public import proofs.«01_k».proof.Proof.Fronts
public import proofs.«01_k».proof.Proof.Gen.ViewsIdeal.Frame

@[expose] public section

set_option maxRecDepth 65536

noncomputable section

namespace Cert.View2

open Idealize.ShloMosaic Idealize.ShloMosaic.TcCoe Idealize.ShloMosaic.Tactic Cert.ViewsIdeal Cert.ViewsIdeal.Gen Cert.Tiles

/-- The slabs hold the rows' columns. -/
theorem slabs (c : Dev nD) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg21 : Memref sig .tc .vmem S4x1024x128 .f32) (x0 : Vec Ideal S1024x1024 .f32) (x1 : Vec Ideal S1x1024 .f32) (x2 : Vec Ideal S1024x512 .bf16) (x3 : Vec Ideal S1024x512 .bf16) (p : S4x1024x128.Idx) :
    arg21.view.read (Elt Ideal) (arg21.view.writes (Elt Ideal) arg21.view.junk (kernelRun0_A.sl.HS0_8 (F := Ideal) c arg1 harg1 arg2 harg2 arg3 harg3 arg4 harg4 x0 x1 x2 x3)) p = slab (kernelRun0_A.sl.r_17 (F := Ideal) c arg1 harg1 arg2 harg2 arg4 harg4 x0 x1 x3) p := by
  unfold kernelRun0_A.sl.HS0_8
  refine front4 _ _ _ _ _ _ _ _ ?_ ?_ ?_ ?_ ?_ p
  · exact View.cover_of_tiledL _ S1x1024x128.size (by sl_kernel_rfl)
  · exact fun x => slab_piece (kernelRun0_A.sl.r_17 (F := Ideal) c arg1 harg1 arg2 harg2 arg4 harg4 x0 x1 x3) 3 384 rfl slices_S1024x512_o0_384_S1024x128 shapeCasts_S1024x128_S1x1024x128 inb_S4x1024x128_S1x1024x128_3_0_0 x
  · exact fun x => slab_piece (kernelRun0_A.sl.r_17 (F := Ideal) c arg1 harg1 arg2 harg2 arg4 harg4 x0 x1 x3) 2 256 rfl slices_S1024x512_o0_256_S1024x128 shapeCasts_S1024x128_S1x1024x128 inb_S4x1024x128_S1x1024x128_2_0_0 x
  · exact fun x => slab_piece (kernelRun0_A.sl.r_17 (F := Ideal) c arg1 harg1 arg2 harg2 arg4 harg4 x0 x1 x3) 1 128 rfl slices_S1024x512_o0_128_S1024x128 shapeCasts_S1024x128_S1x1024x128 inb_S4x1024x128_S1x1024x128_1_0_0 x
  · exact fun x => slab_piece (kernelRun0_A.sl.r_17 (F := Ideal) c arg1 harg1 arg2 harg2 arg4 harg4 x0 x1 x3) 0 0 rfl slices_S1024x512_o0_0_S1024x128 shapeCasts_S1024x128_S1x1024x128 inb_S4x1024x128_S1x1024x128_0_0_0 x

set_option maxHeartbeats 4000000 in
/-- The kept tiles hold every fourth row. -/
theorem kept (c : Dev nD) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg21 : Memref sig .tc .vmem S4x1024x128 .f32) (arg22 : Memref sig .tc .vmem S16x256x128 .f32) (x0 : Vec Ideal S1024x1024 .f32) (x1 : Vec Ideal S1x1024 .f32) (x2 : Vec Ideal S1024x512 .bf16) (x3 : Vec Ideal S1024x512 .bf16) (p : S16x256x128.Idx) :
    arg22.view.read (Elt Ideal) (arg22.view.writes (Elt Ideal) arg22.view.junk (kernelRun0_A.sl.HS1_32 (F := Ideal) c arg1 harg1 arg2 harg2 arg3 harg3 arg4 harg4 arg21 x0 x1 x2 x3)) p = staged (kernelRun0_A.sl.r_17 (F := Ideal) c arg1 harg1 arg2 harg2 arg4 harg4 x0 x1 x3) p := by
  have hs := slabs c arg1 harg1 arg2 harg2 arg3 harg3 arg4 harg4 arg21 x0 x1 x2 x3
  unfold kernelRun0_A.sl.HS1_32
  refine front16 _ _ _ _ _ _ _ _ _ _ _ _ _ _ _ _ _ _ _ _ ?_ ?_ ?_ ?_ ?_ ?_ ?_ ?_ ?_ ?_ ?_ ?_ ?_ ?_ ?_ ?_ ?_ p
  · exact View.cover_of_tiledL _ S1x256x128.size (by sl_kernel_rfl)
  · exact fun x => staged_piece _ _ _ hs 3 3 15 (by decide) (by decide) rfl _ shapeCasts_S1x256x128_S256x128 shapeCasts_S256x128_S1x256x128 inb_S16x256x128_S1x256x128_15_0_0 x
  · exact fun x => staged_piece _ _ _ hs 2 3 14 (by decide) (by decide) rfl _ shapeCasts_S1x256x128_S256x128 shapeCasts_S256x128_S1x256x128 inb_S16x256x128_S1x256x128_14_0_0 x
  · exact fun x => staged_piece _ _ _ hs 1 3 13 (by decide) (by decide) rfl _ shapeCasts_S1x256x128_S256x128 shapeCasts_S256x128_S1x256x128 inb_S16x256x128_S1x256x128_13_0_0 x
  · exact fun x => staged_piece _ _ _ hs 0 3 12 (by decide) (by decide) rfl _ shapeCasts_S1x256x128_S256x128 shapeCasts_S256x128_S1x256x128 inb_S16x256x128_S1x256x128_12_0_0 x
  · exact fun x => staged_piece _ _ _ hs 3 2 11 (by decide) (by decide) rfl _ shapeCasts_S1x256x128_S256x128 shapeCasts_S256x128_S1x256x128 inb_S16x256x128_S1x256x128_11_0_0 x
  · exact fun x => staged_piece _ _ _ hs 2 2 10 (by decide) (by decide) rfl _ shapeCasts_S1x256x128_S256x128 shapeCasts_S256x128_S1x256x128 inb_S16x256x128_S1x256x128_10_0_0 x
  · exact fun x => staged_piece _ _ _ hs 1 2 9 (by decide) (by decide) rfl _ shapeCasts_S1x256x128_S256x128 shapeCasts_S256x128_S1x256x128 inb_S16x256x128_S1x256x128_9_0_0 x
  · exact fun x => staged_piece _ _ _ hs 0 2 8 (by decide) (by decide) rfl _ shapeCasts_S1x256x128_S256x128 shapeCasts_S256x128_S1x256x128 inb_S16x256x128_S1x256x128_8_0_0 x
  · exact fun x => staged_piece _ _ _ hs 3 1 7 (by decide) (by decide) rfl _ shapeCasts_S1x256x128_S256x128 shapeCasts_S256x128_S1x256x128 inb_S16x256x128_S1x256x128_7_0_0 x
  · exact fun x => staged_piece _ _ _ hs 2 1 6 (by decide) (by decide) rfl _ shapeCasts_S1x256x128_S256x128 shapeCasts_S256x128_S1x256x128 inb_S16x256x128_S1x256x128_6_0_0 x
  · exact fun x => staged_piece _ _ _ hs 1 1 5 (by decide) (by decide) rfl _ shapeCasts_S1x256x128_S256x128 shapeCasts_S256x128_S1x256x128 inb_S16x256x128_S1x256x128_5_0_0 x
  · exact fun x => staged_piece _ _ _ hs 0 1 4 (by decide) (by decide) rfl _ shapeCasts_S1x256x128_S256x128 shapeCasts_S256x128_S1x256x128 inb_S16x256x128_S1x256x128_4_0_0 x
  · exact fun x => staged_piece _ _ _ hs 3 0 3 (by decide) (by decide) rfl _ shapeCasts_S1x256x128_S256x128 shapeCasts_S256x128_S1x256x128 inb_S16x256x128_S1x256x128_3_0_0 x
  · exact fun x => staged_piece _ _ _ hs 2 0 2 (by decide) (by decide) rfl _ shapeCasts_S1x256x128_S256x128 shapeCasts_S256x128_S1x256x128 inb_S16x256x128_S1x256x128_2_0_0 x
  · exact fun x => staged_piece _ _ _ hs 1 0 1 (by decide) (by decide) rfl _ shapeCasts_S1x256x128_S256x128 shapeCasts_S256x128_S1x256x128 inb_S16x256x128_S1x256x128_1_0_0 x
  · exact fun x => staged_piece _ _ _ hs 0 0 0 (by decide) (by decide) rfl _ shapeCasts_S1x256x128_S256x128 shapeCasts_S256x128_S1x256x128 inb_S16x256x128_S1x256x128_0_0_0 x

set_option maxHeartbeats 4000000 in
/-- The rows as they are. -/
theorem rows (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = plain (kernelRun0_A.sl.r_17 (F := Ideal) c arg1 harg1 arg2 harg2 arg4 harg4 x0 x1 x3) := by
  funext y
  unfold out0_A_11
  refine View.read_writes_apply_of_pieces VO0_11 _ (plain (kernelRun0_A.sl.r_17 (F := Ideal) c arg1 harg1 arg2 harg2 arg4 harg4 x0 x1 x3)) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  refine List.forall_mem_cons.2 ⟨fun x => whole_piece (kernelRun0_A.sl.r_17 (F := Ideal) c arg1 harg1 arg2 harg2 arg4 harg4 x0 x1 x3) _ inb_S1024x512_S1024x512_0_0 x, ?_⟩
  exact fun p hp => absurd hp List.not_mem_nil

set_option maxHeartbeats 4000000 in
/-- Four to a line. -/
theorem fours (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = by4 (kernelRun0_A.sl.r_17 (F := Ideal) c arg1 harg1 arg2 harg2 arg4 harg4 x0 x1 x3) := by
  funext y
  unfold out0_A_12
  refine View.read_writes_apply_of_pieces VO0_12 _ (by4 (kernelRun0_A.sl.r_17 (F := Ideal) c arg1 harg1 arg2 harg2 arg4 harg4 x0 x1 x3)) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  have hs := slabs c arg1 harg1 arg2 harg2 arg3 harg3 arg4 harg4 arg21 x0 x1 x2 x3
  refine List.forall_mem_cons.2 ⟨fun x => by4_piece _ _ _ hs 3 3 1920 (by decide) (by decide) rfl _ _ _ inb_S256x2048_S256x128_0_1920 x, ?_⟩
  refine List.forall_mem_cons.2 ⟨fun x => by4_piece _ _ _ hs 2 3 1792 (by decide) (by decide) rfl _ _ _ inb_S256x2048_S256x128_0_1792 x, ?_⟩
  refine List.forall_mem_cons.2 ⟨fun x => by4_piece _ _ _ hs 1 3 1664 (by decide) (by decide) rfl _ _ _ inb_S256x2048_S256x128_0_1664 x, ?_⟩
  refine List.forall_mem_cons.2 ⟨fun x => by4_piece _ _ _ hs 0 3 1536 (by decide) (by decide) rfl _ _ _ inb_S256x2048_S256x128_0_1536 x, ?_⟩
  refine List.forall_mem_cons.2 ⟨fun x => by4_piece _ _ _ hs 3 2 1408 (by decide) (by decide) rfl _ _ _ inb_S256x2048_S256x128_0_1408 x, ?_⟩
  refine List.forall_mem_cons.2 ⟨fun x => by4_piece _ _ _ hs 2 2 1280 (by decide) (by decide) rfl _ _ _ inb_S256x2048_S256x128_0_1280 x, ?_⟩
  refine List.forall_mem_cons.2 ⟨fun x => by4_piece _ _ _ hs 1 2 1152 (by decide) (by decide) rfl _ _ _ inb_S256x2048_S256x128_0_1152 x, ?_⟩
  refine List.forall_mem_cons.2 ⟨fun x => by4_piece _ _ _ hs 0 2 1024 (by decide) (by decide) rfl _ _ _ inb_S256x2048_S256x128_0_1024 x, ?_⟩
  refine List.forall_mem_cons.2 ⟨fun x => by4_piece _ _ _ hs 3 1 896 (by decide) (by decide) rfl _ _ _ inb_S256x2048_S256x128_0_896 x, ?_⟩
  refine List.forall_mem_cons.2 ⟨fun x => by4_piece _ _ _ hs 2 1 768 (by decide) (by decide) rfl _ _ _ inb_S256x2048_S256x128_0_768 x, ?_⟩
  refine List.forall_mem_cons.2 ⟨fun x => by4_piece _ _ _ hs 1 1 640 (by decide) (by decide) rfl _ _ _ inb_S256x2048_S256x128_0_640 x, ?_⟩
  refine List.forall_mem_cons.2 ⟨fun x => by4_piece _ _ _ hs 0 1 512 (by decide) (by decide) rfl _ _ _ inb_S256x2048_S256x128_0_512 x, ?_⟩
  refine List.forall_mem_cons.2 ⟨fun x => by4_piece _ _ _ hs 3 0 384 (by decide) (by decide) rfl _ _ _ inb_S256x2048_S256x128_0_384 x, ?_⟩
  refine List.forall_mem_cons.2 ⟨fun x => by4_piece _ _ _ hs 2 0 256 (by decide) (by decide) rfl _ _ _ inb_S256x2048_S256x128_0_256 x, ?_⟩
  refine List.forall_mem_cons.2 ⟨fun x => by4_piece _ _ _ hs 1 0 128 (by decide) (by decide) rfl _ _ _ inb_S256x2048_S256x128_0_128 x, ?_⟩
  refine List.forall_mem_cons.2 ⟨fun x => by4_piece _ _ _ hs 0 0 0 (by decide) (by decide) rfl _ _ _ inb_S256x2048_S256x128_0_0 x, ?_⟩
  exact fun p hp => absurd hp List.not_mem_nil

set_option maxHeartbeats 4000000 in
/-- Sixteen to a line. -/
theorem sixteens (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = by16 (kernelRun0_A.sl.r_17 (F := Ideal) c arg1 harg1 arg2 harg2 arg4 harg4 x0 x1 x3) := by
  funext y
  unfold out0_A_13
  refine View.read_writes_apply_of_pieces VO0_13 _ (by16 (kernelRun0_A.sl.r_17 (F := Ideal) c arg1 harg1 arg2 harg2 arg4 harg4 x0 x1 x3)) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  have hk := kept c arg1 harg1 arg2 harg2 arg3 harg3 arg4 harg4 arg21 arg22 x0 x1 x2 x3
  refine List.forall_mem_cons.2 ⟨fun x => by16_piece _ _ _ hk 3 15 15 3 8064 (by decide) (by decide) rfl rfl rfl _ _ _ inb_S64x8192_S64x128_0_8064 x, ?_⟩
  refine List.forall_mem_cons.2 ⟨fun x => by16_piece _ _ _ hk 2 15 14 3 7936 (by decide) (by decide) rfl rfl rfl _ _ _ inb_S64x8192_S64x128_0_7936 x, ?_⟩
  refine List.forall_mem_cons.2 ⟨fun x => by16_piece _ _ _ hk 1 15 13 3 7808 (by decide) (by decide) rfl rfl rfl _ _ _ inb_S64x8192_S64x128_0_7808 x, ?_⟩
  refine List.forall_mem_cons.2 ⟨fun x => by16_piece _ _ _ hk 0 15 12 3 7680 (by decide) (by decide) rfl rfl rfl _ _ _ inb_S64x8192_S64x128_0_7680 x, ?_⟩
  refine List.forall_mem_cons.2 ⟨fun x => by16_piece _ _ _ hk 3 14 11 3 7552 (by decide) (by decide) rfl rfl rfl _ _ _ inb_S64x8192_S64x128_0_7552 x, ?_⟩
  refine List.forall_mem_cons.2 ⟨fun x => by16_piece _ _ _ hk 2 14 10 3 7424 (by decide) (by decide) rfl rfl rfl _ _ _ inb_S64x8192_S64x128_0_7424 x, ?_⟩
  refine List.forall_mem_cons.2 ⟨fun x => by16_piece _ _ _ hk 1 14 9 3 7296 (by decide) (by decide) rfl rfl rfl _ _ _ inb_S64x8192_S64x128_0_7296 x, ?_⟩
  refine List.forall_mem_cons.2 ⟨fun x => by16_piece _ _ _ hk 0 14 8 3 7168 (by decide) (by decide) rfl rfl rfl _ _ _ inb_S64x8192_S64x128_0_7168 x, ?_⟩
  refine List.forall_mem_cons.2 ⟨fun x => by16_piece _ _ _ hk 3 13 7 3 7040 (by decide) (by decide) rfl rfl rfl _ _ _ inb_S64x8192_S64x128_0_7040 x, ?_⟩
  refine List.forall_mem_cons.2 ⟨fun x => by16_piece _ _ _ hk 2 13 6 3 6912 (by decide) (by decide) rfl rfl rfl _ _ _ inb_S64x8192_S64x128_0_6912 x, ?_⟩
  refine List.forall_mem_cons.2 ⟨fun x => by16_piece _ _ _ hk 1 13 5 3 6784 (by decide) (by decide) rfl rfl rfl _ _ _ inb_S64x8192_S64x128_0_6784 x, ?_⟩
  refine List.forall_mem_cons.2 ⟨fun x => by16_piece _ _ _ hk 0 13 4 3 6656 (by decide) (by decide) rfl rfl rfl _ _ _ inb_S64x8192_S64x128_0_6656 x, ?_⟩
  refine List.forall_mem_cons.2 ⟨fun x => by16_piece _ _ _ hk 3 12 3 3 6528 (by decide) (by decide) rfl rfl rfl _ _ _ inb_S64x8192_S64x128_0_6528 x, ?_⟩
  refine List.forall_mem_cons.2 ⟨fun x => by16_piece _ _ _ hk 2 12 2 3 6400 (by decide) (by decide) rfl rfl rfl _ _ _ inb_S64x8192_S64x128_0_6400 x, ?_⟩
  refine List.forall_mem_cons.2 ⟨fun x => by16_piece _ _ _ hk 1 12 1 3 6272 (by decide) (by decide) rfl rfl rfl _ _ _ inb_S64x8192_S64x128_0_6272 x, ?_⟩
  refine List.forall_mem_cons.2 ⟨fun x => by16_piece _ _ _ hk 0 12 0 3 6144 (by decide) (by decide) rfl rfl rfl _ _ _ inb_S64x8192_S64x128_0_6144 x, ?_⟩
  refine List.forall_mem_cons.2 ⟨fun x => by16_piece _ _ _ hk 3 11 15 2 6016 (by decide) (by decide) rfl rfl rfl _ _ _ inb_S64x8192_S64x128_0_6016 x, ?_⟩
  refine List.forall_mem_cons.2 ⟨fun x => by16_piece _ _ _ hk 2 11 14 2 5888 (by decide) (by decide) rfl rfl rfl _ _ _ inb_S64x8192_S64x128_0_5888 x, ?_⟩
  refine List.forall_mem_cons.2 ⟨fun x => by16_piece _ _ _ hk 1 11 13 2 5760 (by decide) (by decide) rfl rfl rfl _ _ _ inb_S64x8192_S64x128_0_5760 x, ?_⟩
  refine List.forall_mem_cons.2 ⟨fun x => by16_piece _ _ _ hk 0 11 12 2 5632 (by decide) (by decide) rfl rfl rfl _ _ _ inb_S64x8192_S64x128_0_5632 x, ?_⟩
  refine List.forall_mem_cons.2 ⟨fun x => by16_piece _ _ _ hk 3 10 11 2 5504 (by decide) (by decide) rfl rfl rfl _ _ _ inb_S64x8192_S64x128_0_5504 x, ?_⟩
  refine List.forall_mem_cons.2 ⟨fun x => by16_piece _ _ _ hk 2 10 10 2 5376 (by decide) (by decide) rfl rfl rfl _ _ _ inb_S64x8192_S64x128_0_5376 x, ?_⟩
  refine List.forall_mem_cons.2 ⟨fun x => by16_piece _ _ _ hk 1 10 9 2 5248 (by decide) (by decide) rfl rfl rfl _ _ _ inb_S64x8192_S64x128_0_5248 x, ?_⟩
  refine List.forall_mem_cons.2 ⟨fun x => by16_piece _ _ _ hk 0 10 8 2 5120 (by decide) (by decide) rfl rfl rfl _ _ _ inb_S64x8192_S64x128_0_5120 x, ?_⟩
  refine List.forall_mem_cons.2 ⟨fun x => by16_piece _ _ _ hk 3 9 7 2 4992 (by decide) (by decide) rfl rfl rfl _ _ _ inb_S64x8192_S64x128_0_4992 x, ?_⟩
  refine List.forall_mem_cons.2 ⟨fun x => by16_piece _ _ _ hk 2 9 6 2 4864 (by decide) (by decide) rfl rfl rfl _ _ _ inb_S64x8192_S64x128_0_4864 x, ?_⟩
  refine List.forall_mem_cons.2 ⟨fun x => by16_piece _ _ _ hk 1 9 5 2 4736 (by decide) (by decide) rfl rfl rfl _ _ _ inb_S64x8192_S64x128_0_4736 x, ?_⟩
  refine List.forall_mem_cons.2 ⟨fun x => by16_piece _ _ _ hk 0 9 4 2 4608 (by decide) (by decide) rfl rfl rfl _ _ _ inb_S64x8192_S64x128_0_4608 x, ?_⟩
  refine List.forall_mem_cons.2 ⟨fun x => by16_piece _ _ _ hk 3 8 3 2 4480 (by decide) (by decide) rfl rfl rfl _ _ _ inb_S64x8192_S64x128_0_4480 x, ?_⟩
  refine List.forall_mem_cons.2 ⟨fun x => by16_piece _ _ _ hk 2 8 2 2 4352 (by decide) (by decide) rfl rfl rfl _ _ _ inb_S64x8192_S64x128_0_4352 x, ?_⟩
  refine List.forall_mem_cons.2 ⟨fun x => by16_piece _ _ _ hk 1 8 1 2 4224 (by decide) (by decide) rfl rfl rfl _ _ _ inb_S64x8192_S64x128_0_4224 x, ?_⟩
  refine List.forall_mem_cons.2 ⟨fun x => by16_piece _ _ _ hk 0 8 0 2 4096 (by decide) (by decide) rfl rfl rfl _ _ _ inb_S64x8192_S64x128_0_4096 x, ?_⟩
  refine List.forall_mem_cons.2 ⟨fun x => by16_piece _ _ _ hk 3 7 15 1 3968 (by decide) (by decide) rfl rfl rfl _ _ _ inb_S64x8192_S64x128_0_3968 x, ?_⟩
  refine List.forall_mem_cons.2 ⟨fun x => by16_piece _ _ _ hk 2 7 14 1 3840 (by decide) (by decide) rfl rfl rfl _ _ _ inb_S64x8192_S64x128_0_3840 x, ?_⟩
  refine List.forall_mem_cons.2 ⟨fun x => by16_piece _ _ _ hk 1 7 13 1 3712 (by decide) (by decide) rfl rfl rfl _ _ _ inb_S64x8192_S64x128_0_3712 x, ?_⟩
  refine List.forall_mem_cons.2 ⟨fun x => by16_piece _ _ _ hk 0 7 12 1 3584 (by decide) (by decide) rfl rfl rfl _ _ _ inb_S64x8192_S64x128_0_3584 x, ?_⟩
  refine List.forall_mem_cons.2 ⟨fun x => by16_piece _ _ _ hk 3 6 11 1 3456 (by decide) (by decide) rfl rfl rfl _ _ _ inb_S64x8192_S64x128_0_3456 x, ?_⟩
  refine List.forall_mem_cons.2 ⟨fun x => by16_piece _ _ _ hk 2 6 10 1 3328 (by decide) (by decide) rfl rfl rfl _ _ _ inb_S64x8192_S64x128_0_3328 x, ?_⟩
  refine List.forall_mem_cons.2 ⟨fun x => by16_piece _ _ _ hk 1 6 9 1 3200 (by decide) (by decide) rfl rfl rfl _ _ _ inb_S64x8192_S64x128_0_3200 x, ?_⟩
  refine List.forall_mem_cons.2 ⟨fun x => by16_piece _ _ _ hk 0 6 8 1 3072 (by decide) (by decide) rfl rfl rfl _ _ _ inb_S64x8192_S64x128_0_3072 x, ?_⟩
  refine List.forall_mem_cons.2 ⟨fun x => by16_piece _ _ _ hk 3 5 7 1 2944 (by decide) (by decide) rfl rfl rfl _ _ _ inb_S64x8192_S64x128_0_2944 x, ?_⟩
  refine List.forall_mem_cons.2 ⟨fun x => by16_piece _ _ _ hk 2 5 6 1 2816 (by decide) (by decide) rfl rfl rfl _ _ _ inb_S64x8192_S64x128_0_2816 x, ?_⟩
  refine List.forall_mem_cons.2 ⟨fun x => by16_piece _ _ _ hk 1 5 5 1 2688 (by decide) (by decide) rfl rfl rfl _ _ _ inb_S64x8192_S64x128_0_2688 x, ?_⟩
  refine List.forall_mem_cons.2 ⟨fun x => by16_piece _ _ _ hk 0 5 4 1 2560 (by decide) (by decide) rfl rfl rfl _ _ _ inb_S64x8192_S64x128_0_2560 x, ?_⟩
  refine List.forall_mem_cons.2 ⟨fun x => by16_piece _ _ _ hk 3 4 3 1 2432 (by decide) (by decide) rfl rfl rfl _ _ _ inb_S64x8192_S64x128_0_2432 x, ?_⟩
  refine List.forall_mem_cons.2 ⟨fun x => by16_piece _ _ _ hk 2 4 2 1 2304 (by decide) (by decide) rfl rfl rfl _ _ _ inb_S64x8192_S64x128_0_2304 x, ?_⟩
  refine List.forall_mem_cons.2 ⟨fun x => by16_piece _ _ _ hk 1 4 1 1 2176 (by decide) (by decide) rfl rfl rfl _ _ _ inb_S64x8192_S64x128_0_2176 x, ?_⟩
  refine List.forall_mem_cons.2 ⟨fun x => by16_piece _ _ _ hk 0 4 0 1 2048 (by decide) (by decide) rfl rfl rfl _ _ _ inb_S64x8192_S64x128_0_2048 x, ?_⟩
  refine List.forall_mem_cons.2 ⟨fun x => by16_piece _ _ _ hk 3 3 15 0 1920 (by decide) (by decide) rfl rfl rfl _ _ _ inb_S64x8192_S64x128_0_1920 x, ?_⟩
  refine List.forall_mem_cons.2 ⟨fun x => by16_piece _ _ _ hk 2 3 14 0 1792 (by decide) (by decide) rfl rfl rfl _ _ _ inb_S64x8192_S64x128_0_1792 x, ?_⟩
  refine List.forall_mem_cons.2 ⟨fun x => by16_piece _ _ _ hk 1 3 13 0 1664 (by decide) (by decide) rfl rfl rfl _ _ _ inb_S64x8192_S64x128_0_1664 x, ?_⟩
  refine List.forall_mem_cons.2 ⟨fun x => by16_piece _ _ _ hk 0 3 12 0 1536 (by decide) (by decide) rfl rfl rfl _ _ _ inb_S64x8192_S64x128_0_1536 x, ?_⟩
  refine List.forall_mem_cons.2 ⟨fun x => by16_piece _ _ _ hk 3 2 11 0 1408 (by decide) (by decide) rfl rfl rfl _ _ _ inb_S64x8192_S64x128_0_1408 x, ?_⟩
  refine List.forall_mem_cons.2 ⟨fun x => by16_piece _ _ _ hk 2 2 10 0 1280 (by decide) (by decide) rfl rfl rfl _ _ _ inb_S64x8192_S64x128_0_1280 x, ?_⟩
  refine List.forall_mem_cons.2 ⟨fun x => by16_piece _ _ _ hk 1 2 9 0 1152 (by decide) (by decide) rfl rfl rfl _ _ _ inb_S64x8192_S64x128_0_1152 x, ?_⟩
  refine List.forall_mem_cons.2 ⟨fun x => by16_piece _ _ _ hk 0 2 8 0 1024 (by decide) (by decide) rfl rfl rfl _ _ _ inb_S64x8192_S64x128_0_1024 x, ?_⟩
  refine List.forall_mem_cons.2 ⟨fun x => by16_piece _ _ _ hk 3 1 7 0 896 (by decide) (by decide) rfl rfl rfl _ _ _ inb_S64x8192_S64x128_0_896 x, ?_⟩
  refine List.forall_mem_cons.2 ⟨fun x => by16_piece _ _ _ hk 2 1 6 0 768 (by decide) (by decide) rfl rfl rfl _ _ _ inb_S64x8192_S64x128_0_768 x, ?_⟩
  refine List.forall_mem_cons.2 ⟨fun x => by16_piece _ _ _ hk 1 1 5 0 640 (by decide) (by decide) rfl rfl rfl _ _ _ inb_S64x8192_S64x128_0_640 x, ?_⟩
  refine List.forall_mem_cons.2 ⟨fun x => by16_piece _ _ _ hk 0 1 4 0 512 (by decide) (by decide) rfl rfl rfl _ _ _ inb_S64x8192_S64x128_0_512 x, ?_⟩
  refine List.forall_mem_cons.2 ⟨fun x => by16_piece _ _ _ hk 3 0 3 0 384 (by decide) (by decide) rfl rfl rfl _ _ _ inb_S64x8192_S64x128_0_384 x, ?_⟩
  refine List.forall_mem_cons.2 ⟨fun x => by16_piece _ _ _ hk 2 0 2 0 256 (by decide) (by decide) rfl rfl rfl _ _ _ inb_S64x8192_S64x128_0_256 x, ?_⟩
  refine List.forall_mem_cons.2 ⟨fun x => by16_piece _ _ _ hk 1 0 1 0 128 (by decide) (by decide) rfl rfl rfl _ _ _ inb_S64x8192_S64x128_0_128 x, ?_⟩
  refine List.forall_mem_cons.2 ⟨fun x => by16_piece _ _ _ hk 0 0 0 0 0 (by decide) (by decide) rfl rfl rfl _ _ _ inb_S64x8192_S64x128_0_0 x, ?_⟩
  exact fun p hp => absurd hp List.not_mem_nil

end Cert.View2

end
-- ==== Proof.View3.lean ====
/-
  What the body leaves in the arrays of view 3: its rows, four to a line, and sixteen to a line.
-/
module

public import proofs.«01_k».proof.Proof.Fronts
public import proofs.«01_k».proof.Proof.Gen.ViewsIdeal.Frame

@[expose] public section

set_option maxRecDepth 65536

noncomputable section

namespace Cert.View3

open Idealize.ShloMosaic Idealize.ShloMosaic.TcCoe Idealize.ShloMosaic.Tactic Cert.ViewsIdeal Cert.ViewsIdeal.Gen Cert.Tiles

/-- The slabs hold the rows' columns. -/
theorem slabs (c : Dev nD) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg21 : Memref sig .tc .vmem S4x1024x128 .f32) (x0 : Vec Ideal S1024x1024 .f32) (x1 : Vec Ideal S1x1024 .f32) (x2 : Vec Ideal S1024x512 .bf16) (x3 : Vec Ideal S1024x512 .bf16) (x4 : Vec Ideal S1024x512 .bf16) (p : S4x1024x128.Idx) :
    arg21.view.read (Elt Ideal) (arg21.view.writes (Elt Ideal) arg21.view.junk (kernelRun0_A.sl.HS0_12 (F := Ideal) c arg1 harg1 arg2 harg2 arg3 harg3 arg4 harg4 arg5 harg5 x0 x1 x2 x3 x4)) p = slab (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) p := by
  unfold kernelRun0_A.sl.HS0_12
  refine front4 _ _ _ _ _ _ _ _ ?_ ?_ ?_ ?_ ?_ p
  · exact View.cover_of_tiledL _ S1x1024x128.size (by sl_kernel_rfl)
  · exact fun x => slab_piece (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) 3 384 rfl slices_S1024x512_o0_384_S1024x128 shapeCasts_S1024x128_S1x1024x128 inb_S4x1024x128_S1x1024x128_3_0_0 x
  · exact fun x => slab_piece (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) 2 256 rfl slices_S1024x512_o0_256_S1024x128 shapeCasts_S1024x128_S1x1024x128 inb_S4x1024x128_S1x1024x128_2_0_0 x
  · exact fun x => slab_piece (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) 1 128 rfl slices_S1024x512_o0_128_S1024x128 shapeCasts_S1024x128_S1x1024x128 inb_S4x1024x128_S1x1024x128_1_0_0 x
  · exact fun x => slab_piece (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) 0 0 rfl slices_S1024x512_o0_0_S1024x128 shapeCasts_S1024x128_S1x1024x128 inb_S4x1024x128_S1x1024x128_0_0_0 x

set_option maxHeartbeats 4000000 in
/-- The kept tiles hold every fourth row. -/
theorem kept (c : Dev nD) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg21 : Memref sig .tc .vmem S4x1024x128 .f32) (arg22 : Memref sig .tc .vmem S16x256x128 .f32) (x0 : Vec Ideal S1024x1024 .f32) (x1 : Vec Ideal S1x1024 .f32) (x2 : Vec Ideal S1024x512 .bf16) (x3 : Vec Ideal S1024x512 .bf16) (x4 : Vec Ideal S1024x512 .bf16) (p : S16x256x128.Idx) :
    arg22.view.read (Elt Ideal) (arg22.view.writes (Elt Ideal) arg22.view.junk (kernelRun0_A.sl.HS1_48 (F := Ideal) c arg1 harg1 arg2 harg2 arg3 harg3 arg4 harg4 arg5 harg5 arg21 x0 x1 x2 x3 x4)) p = staged (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) p := by
  have hs := slabs c arg1 harg1 arg2 harg2 arg3 harg3 arg4 harg4 arg5 harg5 arg21 x0 x1 x2 x3 x4
  unfold kernelRun0_A.sl.HS1_48 kernelRun0_A.sl.HS1_35
  refine front16 _ _ _ _ _ _ _ _ _ _ _ _ _ _ _ _ _ _ _ _ ?_ ?_ ?_ ?_ ?_ ?_ ?_ ?_ ?_ ?_ ?_ ?_ ?_ ?_ ?_ ?_ ?_ p
  · exact View.cover_of_tiledL _ S1x256x128.size (by sl_kernel_rfl)
  · exact fun x => staged_piece _ _ _ hs 3 3 15 (by decide) (by decide) rfl _ shapeCasts_S1x256x128_S256x128 shapeCasts_S256x128_S1x256x128 inb_S16x256x128_S1x256x128_15_0_0 x
  · exact fun x => staged_piece _ _ _ hs 2 3 14 (by decide) (by decide) rfl _ shapeCasts_S1x256x128_S256x128 shapeCasts_S256x128_S1x256x128 inb_S16x256x128_S1x256x128_14_0_0 x
  · exact fun x => staged_piece _ _ _ hs 1 3 13 (by decide) (by decide) rfl _ shapeCasts_S1x256x128_S256x128 shapeCasts_S256x128_S1x256x128 inb_S16x256x128_S1x256x128_13_0_0 x
  · exact fun x => staged_piece _ _ _ hs 0 3 12 (by decide) (by decide) rfl _ shapeCasts_S1x256x128_S256x128 shapeCasts_S256x128_S1x256x128 inb_S16x256x128_S1x256x128_12_0_0 x
  · exact fun x => staged_piece _ _ _ hs 3 2 11 (by decide) (by decide) rfl _ shapeCasts_S1x256x128_S256x128 shapeCasts_S256x128_S1x256x128 inb_S16x256x128_S1x256x128_11_0_0 x
  · exact fun x => staged_piece _ _ _ hs 2 2 10 (by decide) (by decide) rfl _ shapeCasts_S1x256x128_S256x128 shapeCasts_S256x128_S1x256x128 inb_S16x256x128_S1x256x128_10_0_0 x
  · exact fun x => staged_piece _ _ _ hs 1 2 9 (by decide) (by decide) rfl _ shapeCasts_S1x256x128_S256x128 shapeCasts_S256x128_S1x256x128 inb_S16x256x128_S1x256x128_9_0_0 x
  · exact fun x => staged_piece _ _ _ hs 0 2 8 (by decide) (by decide) rfl _ shapeCasts_S1x256x128_S256x128 shapeCasts_S256x128_S1x256x128 inb_S16x256x128_S1x256x128_8_0_0 x
  · exact fun x => staged_piece _ _ _ hs 3 1 7 (by decide) (by decide) rfl _ shapeCasts_S1x256x128_S256x128 shapeCasts_S256x128_S1x256x128 inb_S16x256x128_S1x256x128_7_0_0 x
  · exact fun x => staged_piece _ _ _ hs 2 1 6 (by decide) (by decide) rfl _ shapeCasts_S1x256x128_S256x128 shapeCasts_S256x128_S1x256x128 inb_S16x256x128_S1x256x128_6_0_0 x
  · exact fun x => staged_piece _ _ _ hs 1 1 5 (by decide) (by decide) rfl _ shapeCasts_S1x256x128_S256x128 shapeCasts_S256x128_S1x256x128 inb_S16x256x128_S1x256x128_5_0_0 x
  · exact fun x => staged_piece _ _ _ hs 0 1 4 (by decide) (by decide) rfl _ shapeCasts_S1x256x128_S256x128 shapeCasts_S256x128_S1x256x128 inb_S16x256x128_S1x256x128_4_0_0 x
  · exact fun x => staged_piece _ _ _ hs 3 0 3 (by decide) (by decide) rfl _ shapeCasts_S1x256x128_S256x128 shapeCasts_S256x128_S1x256x128 inb_S16x256x128_S1x256x128_3_0_0 x
  · exact fun x => staged_piece _ _ _ hs 2 0 2 (by decide) (by decide) rfl _ shapeCasts_S1x256x128_S256x128 shapeCasts_S256x128_S1x256x128 inb_S16x256x128_S1x256x128_2_0_0 x
  · exact fun x => staged_piece _ _ _ hs 1 0 1 (by decide) (by decide) rfl _ shapeCasts_S1x256x128_S256x128 shapeCasts_S256x128_S1x256x128 inb_S16x256x128_S1x256x128_1_0_0 x
  · exact fun x => staged_piece _ _ _ hs 0 0 0 (by decide) (by decide) rfl _ shapeCasts_S1x256x128_S256x128 shapeCasts_S256x128_S1x256x128 inb_S16x256x128_S1x256x128_0_0_0 x

set_option maxHeartbeats 4000000 in
/-- The rows as they are. -/
theorem rows (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = plain (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) := by
  funext y
  unfold out0_A_14
  refine View.read_writes_apply_of_pieces VO0_14 _ (plain (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4)))) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  refine List.forall_mem_cons.2 ⟨fun x => whole_piece (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) _ inb_S1024x512_S1024x512_0_0 x, ?_⟩
  exact fun p hp => absurd hp List.not_mem_nil

set_option maxHeartbeats 4000000 in
/-- Four to a line. -/
theorem fours (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = by4 (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) := by
  funext y
  unfold out0_A_15
  refine View.read_writes_apply_of_pieces VO0_15 _ (by4 (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4)))) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  have hs := slabs c arg1 harg1 arg2 harg2 arg3 harg3 arg4 harg4 arg5 harg5 arg21 x0 x1 x2 x3 x4
  refine List.forall_mem_cons.2 ⟨fun x => by4_piece _ _ _ hs 3 3 1920 (by decide) (by decide) rfl _ _ _ inb_S256x2048_S256x128_0_1920 x, ?_⟩
  refine List.forall_mem_cons.2 ⟨fun x => by4_piece _ _ _ hs 2 3 1792 (by decide) (by decide) rfl _ _ _ inb_S256x2048_S256x128_0_1792 x, ?_⟩
  refine List.forall_mem_cons.2 ⟨fun x => by4_piece _ _ _ hs 1 3 1664 (by decide) (by decide) rfl _ _ _ inb_S256x2048_S256x128_0_1664 x, ?_⟩
  refine List.forall_mem_cons.2 ⟨fun x => by4_piece _ _ _ hs 0 3 1536 (by decide) (by decide) rfl _ _ _ inb_S256x2048_S256x128_0_1536 x, ?_⟩
  refine List.forall_mem_cons.2 ⟨fun x => by4_piece _ _ _ hs 3 2 1408 (by decide) (by decide) rfl _ _ _ inb_S256x2048_S256x128_0_1408 x, ?_⟩
  refine List.forall_mem_cons.2 ⟨fun x => by4_piece _ _ _ hs 2 2 1280 (by decide) (by decide) rfl _ _ _ inb_S256x2048_S256x128_0_1280 x, ?_⟩
  refine List.forall_mem_cons.2 ⟨fun x => by4_piece _ _ _ hs 1 2 1152 (by decide) (by decide) rfl _ _ _ inb_S256x2048_S256x128_0_1152 x, ?_⟩
  refine List.forall_mem_cons.2 ⟨fun x => by4_piece _ _ _ hs 0 2 1024 (by decide) (by decide) rfl _ _ _ inb_S256x2048_S256x128_0_1024 x, ?_⟩
  refine List.forall_mem_cons.2 ⟨fun x => by4_piece _ _ _ hs 3 1 896 (by decide) (by decide) rfl _ _ _ inb_S256x2048_S256x128_0_896 x, ?_⟩
  refine List.forall_mem_cons.2 ⟨fun x => by4_piece _ _ _ hs 2 1 768 (by decide) (by decide) rfl _ _ _ inb_S256x2048_S256x128_0_768 x, ?_⟩
  refine List.forall_mem_cons.2 ⟨fun x => by4_piece _ _ _ hs 1 1 640 (by decide) (by decide) rfl _ _ _ inb_S256x2048_S256x128_0_640 x, ?_⟩
  refine List.forall_mem_cons.2 ⟨fun x => by4_piece _ _ _ hs 0 1 512 (by decide) (by decide) rfl _ _ _ inb_S256x2048_S256x128_0_512 x, ?_⟩
  refine List.forall_mem_cons.2 ⟨fun x => by4_piece _ _ _ hs 3 0 384 (by decide) (by decide) rfl _ _ _ inb_S256x2048_S256x128_0_384 x, ?_⟩
  refine List.forall_mem_cons.2 ⟨fun x => by4_piece _ _ _ hs 2 0 256 (by decide) (by decide) rfl _ _ _ inb_S256x2048_S256x128_0_256 x, ?_⟩
  refine List.forall_mem_cons.2 ⟨fun x => by4_piece _ _ _ hs 1 0 128 (by decide) (by decide) rfl _ _ _ inb_S256x2048_S256x128_0_128 x, ?_⟩
  refine List.forall_mem_cons.2 ⟨fun x => by4_piece _ _ _ hs 0 0 0 (by decide) (by decide) rfl _ _ _ inb_S256x2048_S256x128_0_0 x, ?_⟩
  exact fun p hp => absurd hp List.not_mem_nil

set_option maxHeartbeats 4000000 in
/-- Sixteen to a line. -/
theorem sixteens (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = by16 (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4))) := by
  funext y
  unfold out0_A_16
  refine View.read_writes_apply_of_pieces VO0_16 _ (by16 (k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4)))) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  have hk := kept c arg1 harg1 arg2 harg2 arg3 harg3 arg4 harg4 arg5 harg5 arg21 arg22 x0 x1 x2 x3 x4
  refine List.forall_mem_cons.2 ⟨fun x => by16_piece _ _ _ hk 3 15 15 3 8064 (by decide) (by decide) rfl rfl rfl _ _ _ inb_S64x8192_S64x128_0_8064 x, ?_⟩
  refine List.forall_mem_cons.2 ⟨fun x => by16_piece _ _ _ hk 2 15 14 3 7936 (by decide) (by decide) rfl rfl rfl _ _ _ inb_S64x8192_S64x128_0_7936 x, ?_⟩
  refine List.forall_mem_cons.2 ⟨fun x => by16_piece _ _ _ hk 1 15 13 3 7808 (by decide) (by decide) rfl rfl rfl _ _ _ inb_S64x8192_S64x128_0_7808 x, ?_⟩
  refine List.forall_mem_cons.2 ⟨fun x => by16_piece _ _ _ hk 0 15 12 3 7680 (by decide) (by decide) rfl rfl rfl _ _ _ inb_S64x8192_S64x128_0_7680 x, ?_⟩
  refine List.forall_mem_cons.2 ⟨fun x => by16_piece _ _ _ hk 3 14 11 3 7552 (by decide) (by decide) rfl rfl rfl _ _ _ inb_S64x8192_S64x128_0_7552 x, ?_⟩
  refine List.forall_mem_cons.2 ⟨fun x => by16_piece _ _ _ hk 2 14 10 3 7424 (by decide) (by decide) rfl rfl rfl _ _ _ inb_S64x8192_S64x128_0_7424 x, ?_⟩
  refine List.forall_mem_cons.2 ⟨fun x => by16_piece _ _ _ hk 1 14 9 3 7296 (by decide) (by decide) rfl rfl rfl _ _ _ inb_S64x8192_S64x128_0_7296 x, ?_⟩
  refine List.forall_mem_cons.2 ⟨fun x => by16_piece _ _ _ hk 0 14 8 3 7168 (by decide) (by decide) rfl rfl rfl _ _ _ inb_S64x8192_S64x128_0_7168 x, ?_⟩
  refine List.forall_mem_cons.2 ⟨fun x => by16_piece _ _ _ hk 3 13 7 3 7040 (by decide) (by decide) rfl rfl rfl _ _ _ inb_S64x8192_S64x128_0_7040 x, ?_⟩
  refine List.forall_mem_cons.2 ⟨fun x => by16_piece _ _ _ hk 2 13 6 3 6912 (by decide) (by decide) rfl rfl rfl _ _ _ inb_S64x8192_S64x128_0_6912 x, ?_⟩
  refine List.forall_mem_cons.2 ⟨fun x => by16_piece _ _ _ hk 1 13 5 3 6784 (by decide) (by decide) rfl rfl rfl _ _ _ inb_S64x8192_S64x128_0_6784 x, ?_⟩
  refine List.forall_mem_cons.2 ⟨fun x => by16_piece _ _ _ hk 0 13 4 3 6656 (by decide) (by decide) rfl rfl rfl _ _ _ inb_S64x8192_S64x128_0_6656 x, ?_⟩
  refine List.forall_mem_cons.2 ⟨fun x => by16_piece _ _ _ hk 3 12 3 3 6528 (by decide) (by decide) rfl rfl rfl _ _ _ inb_S64x8192_S64x128_0_6528 x, ?_⟩
  refine List.forall_mem_cons.2 ⟨fun x => by16_piece _ _ _ hk 2 12 2 3 6400 (by decide) (by decide) rfl rfl rfl _ _ _ inb_S64x8192_S64x128_0_6400 x, ?_⟩
  refine List.forall_mem_cons.2 ⟨fun x => by16_piece _ _ _ hk 1 12 1 3 6272 (by decide) (by decide) rfl rfl rfl _ _ _ inb_S64x8192_S64x128_0_6272 x, ?_⟩
  refine List.forall_mem_cons.2 ⟨fun x => by16_piece _ _ _ hk 0 12 0 3 6144 (by decide) (by decide) rfl rfl rfl _ _ _ inb_S64x8192_S64x128_0_6144 x, ?_⟩
  refine List.forall_mem_cons.2 ⟨fun x => by16_piece _ _ _ hk 3 11 15 2 6016 (by decide) (by decide) rfl rfl rfl _ _ _ inb_S64x8192_S64x128_0_6016 x, ?_⟩
  refine List.forall_mem_cons.2 ⟨fun x => by16_piece _ _ _ hk 2 11 14 2 5888 (by decide) (by decide) rfl rfl rfl _ _ _ inb_S64x8192_S64x128_0_5888 x, ?_⟩
  refine List.forall_mem_cons.2 ⟨fun x => by16_piece _ _ _ hk 1 11 13 2 5760 (by decide) (by decide) rfl rfl rfl _ _ _ inb_S64x8192_S64x128_0_5760 x, ?_⟩
  refine List.forall_mem_cons.2 ⟨fun x => by16_piece _ _ _ hk 0 11 12 2 5632 (by decide) (by decide) rfl rfl rfl _ _ _ inb_S64x8192_S64x128_0_5632 x, ?_⟩
  refine List.forall_mem_cons.2 ⟨fun x => by16_piece _ _ _ hk 3 10 11 2 5504 (by decide) (by decide) rfl rfl rfl _ _ _ inb_S64x8192_S64x128_0_5504 x, ?_⟩
  refine List.forall_mem_cons.2 ⟨fun x => by16_piece _ _ _ hk 2 10 10 2 5376 (by decide) (by decide) rfl rfl rfl _ _ _ inb_S64x8192_S64x128_0_5376 x, ?_⟩
  refine List.forall_mem_cons.2 ⟨fun x => by16_piece _ _ _ hk 1 10 9 2 5248 (by decide) (by decide) rfl rfl rfl _ _ _ inb_S64x8192_S64x128_0_5248 x, ?_⟩
  refine List.forall_mem_cons.2 ⟨fun x => by16_piece _ _ _ hk 0 10 8 2 5120 (by decide) (by decide) rfl rfl rfl _ _ _ inb_S64x8192_S64x128_0_5120 x, ?_⟩
  refine List.forall_mem_cons.2 ⟨fun x => by16_piece _ _ _ hk 3 9 7 2 4992 (by decide) (by decide) rfl rfl rfl _ _ _ inb_S64x8192_S64x128_0_4992 x, ?_⟩
  refine List.forall_mem_cons.2 ⟨fun x => by16_piece _ _ _ hk 2 9 6 2 4864 (by decide) (by decide) rfl rfl rfl _ _ _ inb_S64x8192_S64x128_0_4864 x, ?_⟩
  refine List.forall_mem_cons.2 ⟨fun x => by16_piece _ _ _ hk 1 9 5 2 4736 (by decide) (by decide) rfl rfl rfl _ _ _ inb_S64x8192_S64x128_0_4736 x, ?_⟩
  refine List.forall_mem_cons.2 ⟨fun x => by16_piece _ _ _ hk 0 9 4 2 4608 (by decide) (by decide) rfl rfl rfl _ _ _ inb_S64x8192_S64x128_0_4608 x, ?_⟩
  refine List.forall_mem_cons.2 ⟨fun x => by16_piece _ _ _ hk 3 8 3 2 4480 (by decide) (by decide) rfl rfl rfl _ _ _ inb_S64x8192_S64x128_0_4480 x, ?_⟩
  refine List.forall_mem_cons.2 ⟨fun x => by16_piece _ _ _ hk 2 8 2 2 4352 (by decide) (by decide) rfl rfl rfl _ _ _ inb_S64x8192_S64x128_0_4352 x, ?_⟩
  refine List.forall_mem_cons.2 ⟨fun x => by16_piece _ _ _ hk 1 8 1 2 4224 (by decide) (by decide) rfl rfl rfl _ _ _ inb_S64x8192_S64x128_0_4224 x, ?_⟩
  refine List.forall_mem_cons.2 ⟨fun x => by16_piece _ _ _ hk 0 8 0 2 4096 (by decide) (by decide) rfl rfl rfl _ _ _ inb_S64x8192_S64x128_0_4096 x, ?_⟩
  refine List.forall_mem_cons.2 ⟨fun x => by16_piece _ _ _ hk 3 7 15 1 3968 (by decide) (by decide) rfl rfl rfl _ _ _ inb_S64x8192_S64x128_0_3968 x, ?_⟩
  refine List.forall_mem_cons.2 ⟨fun x => by16_piece _ _ _ hk 2 7 14 1 3840 (by decide) (by decide) rfl rfl rfl _ _ _ inb_S64x8192_S64x128_0_3840 x, ?_⟩
  refine List.forall_mem_cons.2 ⟨fun x => by16_piece _ _ _ hk 1 7 13 1 3712 (by decide) (by decide) rfl rfl rfl _ _ _ inb_S64x8192_S64x128_0_3712 x, ?_⟩
  refine List.forall_mem_cons.2 ⟨fun x => by16_piece _ _ _ hk 0 7 12 1 3584 (by decide) (by decide) rfl rfl rfl _ _ _ inb_S64x8192_S64x128_0_3584 x, ?_⟩
  refine List.forall_mem_cons.2 ⟨fun x => by16_piece _ _ _ hk 3 6 11 1 3456 (by decide) (by decide) rfl rfl rfl _ _ _ inb_S64x8192_S64x128_0_3456 x, ?_⟩
  refine List.forall_mem_cons.2 ⟨fun x => by16_piece _ _ _ hk 2 6 10 1 3328 (by decide) (by decide) rfl rfl rfl _ _ _ inb_S64x8192_S64x128_0_3328 x, ?_⟩
  refine List.forall_mem_cons.2 ⟨fun x => by16_piece _ _ _ hk 1 6 9 1 3200 (by decide) (by decide) rfl rfl rfl _ _ _ inb_S64x8192_S64x128_0_3200 x, ?_⟩
  refine List.forall_mem_cons.2 ⟨fun x => by16_piece _ _ _ hk 0 6 8 1 3072 (by decide) (by decide) rfl rfl rfl _ _ _ inb_S64x8192_S64x128_0_3072 x, ?_⟩
  refine List.forall_mem_cons.2 ⟨fun x => by16_piece _ _ _ hk 3 5 7 1 2944 (by decide) (by decide) rfl rfl rfl _ _ _ inb_S64x8192_S64x128_0_2944 x, ?_⟩
  refine List.forall_mem_cons.2 ⟨fun x => by16_piece _ _ _ hk 2 5 6 1 2816 (by decide) (by decide) rfl rfl rfl _ _ _ inb_S64x8192_S64x128_0_2816 x, ?_⟩
  refine List.forall_mem_cons.2 ⟨fun x => by16_piece _ _ _ hk 1 5 5 1 2688 (by decide) (by decide) rfl rfl rfl _ _ _ inb_S64x8192_S64x128_0_2688 x, ?_⟩
  refine List.forall_mem_cons.2 ⟨fun x => by16_piece _ _ _ hk 0 5 4 1 2560 (by decide) (by decide) rfl rfl rfl _ _ _ inb_S64x8192_S64x128_0_2560 x, ?_⟩
  refine List.forall_mem_cons.2 ⟨fun x => by16_piece _ _ _ hk 3 4 3 1 2432 (by decide) (by decide) rfl rfl rfl _ _ _ inb_S64x8192_S64x128_0_2432 x, ?_⟩
  refine List.forall_mem_cons.2 ⟨fun x => by16_piece _ _ _ hk 2 4 2 1 2304 (by decide) (by decide) rfl rfl rfl _ _ _ inb_S64x8192_S64x128_0_2304 x, ?_⟩
  refine List.forall_mem_cons.2 ⟨fun x => by16_piece _ _ _ hk 1 4 1 1 2176 (by decide) (by decide) rfl rfl rfl _ _ _ inb_S64x8192_S64x128_0_2176 x, ?_⟩
  refine List.forall_mem_cons.2 ⟨fun x => by16_piece _ _ _ hk 0 4 0 1 2048 (by decide) (by decide) rfl rfl rfl _ _ _ inb_S64x8192_S64x128_0_2048 x, ?_⟩
  refine List.forall_mem_cons.2 ⟨fun x => by16_piece _ _ _ hk 3 3 15 0 1920 (by decide) (by decide) rfl rfl rfl _ _ _ inb_S64x8192_S64x128_0_1920 x, ?_⟩
  refine List.forall_mem_cons.2 ⟨fun x => by16_piece _ _ _ hk 2 3 14 0 1792 (by decide) (by decide) rfl rfl rfl _ _ _ inb_S64x8192_S64x128_0_1792 x, ?_⟩
  refine List.forall_mem_cons.2 ⟨fun x => by16_piece _ _ _ hk 1 3 13 0 1664 (by decide) (by decide) rfl rfl rfl _ _ _ inb_S64x8192_S64x128_0_1664 x, ?_⟩
  refine List.forall_mem_cons.2 ⟨fun x => by16_piece _ _ _ hk 0 3 12 0 1536 (by decide) (by decide) rfl rfl rfl _ _ _ inb_S64x8192_S64x128_0_1536 x, ?_⟩
  refine List.forall_mem_cons.2 ⟨fun x => by16_piece _ _ _ hk 3 2 11 0 1408 (by decide) (by decide) rfl rfl rfl _ _ _ inb_S64x8192_S64x128_0_1408 x, ?_⟩
  refine List.forall_mem_cons.2 ⟨fun x => by16_piece _ _ _ hk 2 2 10 0 1280 (by decide) (by decide) rfl rfl rfl _ _ _ inb_S64x8192_S64x128_0_1280 x, ?_⟩
  refine List.forall_mem_cons.2 ⟨fun x => by16_piece _ _ _ hk 1 2 9 0 1152 (by decide) (by decide) rfl rfl rfl _ _ _ inb_S64x8192_S64x128_0_1152 x, ?_⟩
  refine List.forall_mem_cons.2 ⟨fun x => by16_piece _ _ _ hk 0 2 8 0 1024 (by decide) (by decide) rfl rfl rfl _ _ _ inb_S64x8192_S64x128_0_1024 x, ?_⟩
  refine List.forall_mem_cons.2 ⟨fun x => by16_piece _ _ _ hk 3 1 7 0 896 (by decide) (by decide) rfl rfl rfl _ _ _ inb_S64x8192_S64x128_0_896 x, ?_⟩
  refine List.forall_mem_cons.2 ⟨fun x => by16_piece _ _ _ hk 2 1 6 0 768 (by decide) (by decide) rfl rfl rfl _ _ _ inb_S64x8192_S64x128_0_768 x, ?_⟩
  refine List.forall_mem_cons.2 ⟨fun x => by16_piece _ _ _ hk 1 1 5 0 640 (by decide) (by decide) rfl rfl rfl _ _ _ inb_S64x8192_S64x128_0_640 x, ?_⟩
  refine List.forall_mem_cons.2 ⟨fun x => by16_piece _ _ _ hk 0 1 4 0 512 (by decide) (by decide) rfl rfl rfl _ _ _ inb_S64x8192_S64x128_0_512 x, ?_⟩
  refine List.forall_mem_cons.2 ⟨fun x => by16_piece _ _ _ hk 3 0 3 0 384 (by decide) (by decide) rfl rfl rfl _ _ _ inb_S64x8192_S64x128_0_384 x, ?_⟩
  refine List.forall_mem_cons.2 ⟨fun x => by16_piece _ _ _ hk 2 0 2 0 256 (by decide) (by decide) rfl rfl rfl _ _ _ inb_S64x8192_S64x128_0_256 x, ?_⟩
  refine List.forall_mem_cons.2 ⟨fun x => by16_piece _ _ _ hk 1 0 1 0 128 (by decide) (by decide) rfl rfl rfl _ _ _ inb_S64x8192_S64x128_0_128 x, ?_⟩
  refine List.forall_mem_cons.2 ⟨fun x => by16_piece _ _ _ hk 0 0 0 0 0 (by decide) (by decide) rfl rfl rfl _ _ _ inb_S64x8192_S64x128_0_0 x, ?_⟩
  exact fun p hp => absurd hp List.not_mem_nil

end Cert.View3

end
-- ==== Proof.ViewRows.lean ====
/-
  The three views' rows as products of the normalised rows, and the last three arrays the body fills.
-/
module

public import proofs.«01_k».proof.Proof.Dense
public import proofs.«01_k».proof.Proof.View1
public import proofs.«01_k».proof.Proof.View2
public import proofs.«01_k».proof.Proof.View3

@[expose] public section

set_option maxRecDepth 65536

noncomputable section

namespace Cert.ViewRows

open Idealize.ShloMosaic Idealize.ShloMosaic.ValueIdx Idealize.ShloMosaic.TcCoe Idealize.ShloMosaic.Tactic Cert.ViewsIdeal Cert.ViewsIdeal.Gen Cert.Tiles
  Cert.Layer Cert.Reads Cert.Dense

/-- The queries' scale. -/
abbrev scale : EReal := Ideal.ofBits .f32 0x3E000000#32

/-- The normalised rows' product with a weight, a function applied to each entry. -/
def rowsOf (act : EReal → EReal) (x0 : Vec Ideal S1024x1024 .f32) (x1 : Vec Ideal S1x1024 .f32) (w : Vec Ideal S1024x512 .bf16) :
    Vec Ideal S1024x512 .f32 := fun i =>
  act (dot (rms cnt (fun j => x0 (ix2 (i 0) j)) (fun j => x1 (ix2 0 j))) (fun k c => w (ix2 k c)) (i 1))

theorem z2 : (![0, 0] : Fin 2 → Nat) = fun _ => 0 := funext fun a => by fin_cases a <;> rfl

/-- Reading a whole buffer gives what it holds. -/
theorem whole_read {S : Shape} {e : EltTy} (hs : S.rank = 2) (arg : Memref sig .tc .vmem S e) (h : arg.IsWhole) (x : Vec Ideal S e)
    (off : Fin S.rank → ℕ) (ho : off = fun _ => 0) (inb : ∀ a, off a + S.size a ≤ S.size a) :
    View.readAt (Elt Ideal) arg.view (Rect.unit off S.size inb).toLoadRect (h.unread x) = x := by
  refine (View.readAt_eq_ld arg.view (h.unread x) (Rect.unit off S.size inb)).trans ?_
  rw [h.read_unread]
  exact View.ld_unit_zero ho inb x

/-- The body's normalised rows. -/
theorem normed (x0 : Vec Ideal S1024x1024 .f32) (x1 : Vec Ideal S1x1024 .f32) (r k : Fin 1024) :
    k0_pay4 x0 x1 (ix2 r k) = rms cnt (fun j => x0 (ix2 r j)) (fun j => x1 (ix2 0 j)) k := by
  unfold k0_pay4
  rw [same]
  exact rms_apply (M := 1024) (N := 1024) _ _ _ _ _ _ _ _ _ r k

theorem split (i : S1024x512.Idx) : i = ix2 (i 0) (i 1) :=
  funext fun a => by match a with | ⟨0, _⟩ => rfl | ⟨1, _⟩ => rfl

theorem pay5 (x0 : Vec Ideal S1024x1024 .f32) (x1 : Vec Ideal S1x1024 .f32) (w : Vec Ideal S1024x512 .bf16) :
    k0_pay5 x0 x1 w = rowsOf (· * scale) x0 x1 w := by
  funext i
  rw [split i]
  unfold k0_pay5
  rw [same]
  exact congrArg (· * scale) (dense_apply (M := 1024) (N := 512) _ rfl x0 x1 w _ (normed x0 x1) (i 0) (i 1))

theorem pay124 (x0 : Vec Ideal S1024x1024 .f32) (x1 : Vec Ideal S1x1024 .f32) (w : Vec Ideal S1024x512 .bf16) :
    k0_pay124 (k0_pay4 x0 x1) w = rowsOf id x0 x1 w := by
  funext i
  rw [split i]
  unfold k0_pay124
  rw [same]
  exact (dense_apply (M := 1024) (N := 512) _ rfl x0 x1 w _ (normed x0 x1) (i 0) (i 1))

theorem pay242 (x0 : Vec Ideal S1024x1024 .f32) (x1 : Vec Ideal S1x1024 .f32) (w : Vec Ideal S1024x512 .bf16) :
    k0_pay242 (k0_pay4 x0 x1) w = rowsOf id x0 x1 w := by
  funext i
  rw [split i]
  unfold k0_pay242
  rw [same]
  exact (dense_apply (M := 1024) (N := 512) _ rfl x0 x1 w _ (normed x0 x1) (i 0) (i 1))

theorem pay1 (x0 : Vec Ideal S1024x1024 .f32) (x1 : Vec Ideal S1x1024 .f32) (w : Vec Ideal S1024x512 .bf16) :
    k0_pay1 (k0_pay4 x0 x1) w = rowsOf (· * scale) x0 x1 w := by
  funext i
  rw [split i]
  unfold k0_pay1
  rw [same]
  exact congrArg (· * scale) (dense_apply (M := 1024) (N := 512) _ rfl x0 x1 w _ (normed x0 x1) (i 0) (i 1))

theorem pay2 (x0 : Vec Ideal S1024x1024 .f32) (x1 : Vec Ideal S1x1024 .f32) (w : Vec Ideal S1024x512 .bf16) :
    k0_pay2 (k0_pay4 x0 x1) w = rowsOf id x0 x1 w := by
  funext i
  rw [split i]
  unfold k0_pay2
  rw [same]
  exact (dense_apply (M := 1024) (N := 512) _ rfl x0 x1 w _ (normed x0 x1) (i 0) (i 1))

theorem pay3 (x0 : Vec Ideal S1024x1024 .f32) (x1 : Vec Ideal S1x1024 .f32) (w : Vec Ideal S1024x512 .bf16) :
    k0_pay3 (k0_pay4 x0 x1) w = rowsOf id x0 x1 w := by
  funext i
  rw [split i]
  unfold k0_pay3
  rw [same]
  exact (dense_apply (M := 1024) (N := 512) _ rfl x0 x1 w _ (normed x0 x1) (i 0) (i 1))

theorem kept_rows (c : Dev nD) (arg1 : Memref sig .tc .vmem S1024x1024 .f32) (harg1 : arg1.IsWhole) (arg2 : Memref sig .tc .vmem S1x1024 .f32) (harg2 : arg2.IsWhole) (x0 : Vec Ideal S1024x1024 .f32) (x1 : Vec Ideal S1x1024 .f32) :
    kernelRun0_A.sl.r (F := Ideal) c arg1 harg1 arg2 harg2 x0 x1 = k0_pay4 x0 x1 := by
  unfold kernelRun0_A.sl.r
  exact congr (congrArg k0_pay4 (whole_read rfl arg1 harg1 x0 _ z2 inb_S1024x1024_S1024x1024_0_0)) (whole_read rfl arg2 harg2 x1 _ z2 inb_S1x1024_S1x1024_0_0)

theorem view1 (c : Dev nD) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (x0 : Vec Ideal S1024x1024 .f32) (x1 : Vec Ideal S1x1024 .f32) (x2 : Vec Ideal S1024x512 .bf16) :
    kernelRun0_A.sl.r_1 (F := Ideal) c arg1 harg1 arg2 harg2 arg3 harg3 x0 x1 x2 = rowsOf (· * scale) x0 x1 x2 := by
  unfold kernelRun0_A.sl.r_1
  exact (congr (congr (congrArg k0_pay5 (whole_read rfl arg1 harg1 x0 _ z2 inb_S1024x1024_S1024x1024_0_0)) (whole_read rfl arg2 harg2 x1 _ z2 inb_S1x1024_S1x1024_0_0)) (whole_read rfl arg3 harg3 x2 _ z2 inb_S1024x512_S1024x512_0_0)).trans (pay5 x0 x1 x2)

theorem view2 (c : Dev nD) (arg1 : Memref sig .tc .vmem S1024x1024 .f32) (harg1 : arg1.IsWhole) (arg2 : Memref sig .tc .vmem S1x1024 .f32) (harg2 : arg2.IsWhole) (arg4 : Memref sig .tc .vmem S1024x512 .bf16) (harg4 : arg4.IsWhole) (x0 : Vec Ideal S1024x1024 .f32) (x1 : Vec Ideal S1x1024 .f32) (x3 : Vec Ideal S1024x512 .bf16) :
    kernelRun0_A.sl.r_17 (F := Ideal) c arg1 harg1 arg2 harg2 arg4 harg4 x0 x1 x3 = rowsOf id x0 x1 x3 := by
  unfold kernelRun0_A.sl.r_17
  exact (congr (congrArg k0_pay124 (kept_rows c arg1 harg1 arg2 harg2 x0 x1)) (whole_read rfl arg4 harg4 x3 _ z2 inb_S1024x512_S1024x512_0_0)).trans (pay124 x0 x1 x3)

theorem view3 (c : Dev nD) (arg1 : Memref sig .tc .vmem S1024x1024 .f32) (harg1 : arg1.IsWhole) (arg2 : Memref sig .tc .vmem S1x1024 .f32) (harg2 : arg2.IsWhole) (arg5 : Memref sig .tc .vmem S1024x512 .bf16) (harg5 : arg5.IsWhole) (x0 : Vec Ideal S1024x1024 .f32) (x1 : Vec Ideal S1x1024 .f32) (x4 : Vec Ideal S1024x512 .bf16) :
    k0_pay242 (kernelRun0_A.sl.r (F := Ideal) c arg1 harg1 arg2 harg2 x0 x1) (View.readAt (Elt Ideal) arg5.view (Rect.unit (s := S1024x512) ![0, 0] S1024x512.size inb_S1024x512_S1024x512_0_0).toLoadRect (harg5.unread x4)) = rowsOf id x0 x1 x4 :=
  (congr (congrArg k0_pay242 (kept_rows c arg1 harg1 arg2 harg2 x0 x1)) (whole_read rfl arg5 harg5 x4 _ z2 inb_S1024x512_S1024x512_0_0)).trans (pay242 x0 x1 x4)

set_option maxHeartbeats 1000000 in
theorem out17 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = plain (rowsOf (· * scale) x0 x1 x5) := by
  funext y
  unfold out0_A_17
  refine View.read_writes_apply_of_pieces VO0_17 _ (plain (rowsOf (· * scale) x0 x1 x5)) _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  refine List.forall_mem_cons.2 ⟨fun x => ?_, fun p hp => absurd hp List.not_mem_nil⟩
  refine (congrFun ((congr (congrArg k0_pay1 (kept_rows c arg1 harg1 arg2 harg2 x0 x1)) (whole_read rfl arg6 harg6 x5 _ z2 inb_S1024x512_S1024x512_0_0)).trans (pay1 x0 x1 x5)) x).trans ?_
  exact (whole_piece ((rowsOf (· * scale) x0 x1 x5)) bitsLt_bf16_f32 inb_S1024x512_S1024x512_0_0 x)

set_option maxHeartbeats 1000000 in
theorem out18 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = plain (rowsOf id x0 x1 x6) := by
  funext y
  unfold out0_A_18
  refine View.read_writes_apply_of_pieces VO0_18 _ (plain (rowsOf id x0 x1 x6)) _ ?_ y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  refine List.forall_mem_cons.2 ⟨fun x => ?_, fun p hp => absurd hp List.not_mem_nil⟩
  refine (congrFun ((congr (congrArg k0_pay2 (kept_rows c arg1 harg1 arg2 harg2 x0 x1)) (whole_read rfl arg7 harg7 x6 _ z2 inb_S1024x512_S1024x512_0_0)).trans (pay2 x0 x1 x6)) x).trans ?_
  exact (whole_piece ((rowsOf id x0 x1 x6)) bitsLt_bf16_f32 inb_S1024x512_S1024x512_0_0 x)

set_option maxHeartbeats 1000000 in
theorem out19 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x2048 .bf16) (harg10 : arg10.IsWhole) (arg11 : Memref sig .tc .vmem S64x8192 .bf16) (harg11 : arg11.IsWhole) (arg12 : Memref sig .tc .vmem S1024x512 .bf16) (harg12 : arg12.IsWhole) (arg13 : Memref sig .tc .vmem S256x2048 .bf16) (harg13 : arg13.IsWhole) (arg14 : Memref sig .tc .vmem S64x8192 .bf16) (harg14 : arg14.IsWhole) (arg15 : Memref sig .tc .vmem S1024x512 .bf16) (harg15 : arg15.IsWhole) (arg16 : Memref sig .tc .vmem S256x2048 .bf16) (harg16 : arg16.IsWhole) (arg17 : Memref sig .tc .vmem S64x8192 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (arg21 : Memref sig .tc .vmem S4x1024x128 .f32) (harg21 : arg21.IsWhole) (arg22 : Memref sig .tc .vmem S16x256x128 .f32) (harg22 : arg22.IsWhole)
    (x0 : Vec Ideal S1024x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1024x512 .bf16) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 = plain (rowsOf id x0 x1 x7) := by
  funext y
  unfold out0_A_19
  refine View.read_writes_apply_of_pieces VO0_19 _ (plain (rowsOf id x0 x1 x7)) _ ?_ y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 y)
  unfold kernelRun0_A
  dsimp only
  refine List.forall_mem_cons.2 ⟨fun x => ?_, fun p hp => absurd hp List.not_mem_nil⟩
  refine (congrFun ((congr (congrArg k0_pay3 (kept_rows c arg1 harg1 arg2 harg2 x0 x1)) (whole_read rfl arg8 harg8 x7 _ z2 inb_S1024x512_S1024x512_0_0)).trans (pay3 x0 x1 x7)) x).trans ?_
  exact (whole_piece ((rowsOf id x0 x1 x7)) bitsLt_bf16_f32 inb_S1024x512_S1024x512_0_0 x)

end Cert.ViewRows

end
-- ==== Proof.ViewBlocks.lean ====
/-
  The projections in the views the mixers read: the call's blocks, and a block's place in each array.
-/
module

public import proofs.«01_k».proof.Proof.ViewRows
public import proofs.«01_k».proof.Proof.Gen.ViewsIdeal.Value
public import Idealize.ShloMosaic.Lib.Pipeline.ValueKit.Geometry
public import Idealize.ShloMosaic.Lib.Pipeline.ValueKit.Acc

@[expose] public section

noncomputable section

open scoped BigOperators

namespace Cert.ViewsValues

open Idealize.ShloMosaic Idealize.ShloMosaic.ValueIdx Idealize.ShloMosaic.TcCoe Idealize.SL.Sem Cert.Layer Cert.Reads Cert.Dense
  Cert.ViewRows Cert.Tiles

section
variable (act : EReal → EReal) (x : (⟨2, ![16384, 1024]⟩ : Shape).Idx → EReal)
    (g : (⟨1, ![1024]⟩ : Shape).Idx → EReal) (w : (⟨2, ![1024, 512]⟩ : Shape).Idx → EReal)

/-- A projection's array, with a function applied to each entry. -/
def result : (⟨2, ![16384, 512]⟩ : Shape).Idx → EReal := fun i => act (dense x g w (i 0) (i 1))

/-- It, four rows to a line. -/
def result4 : (⟨2, ![4096, 2048]⟩ : Shape).Idx → EReal := fun i =>
  act (dense x g w ⟨(i 0).val * 4 + (i 1).val / 512, by
    have h0 : (i 0).val < 4096 := (i 0).isLt; have h1 : (i 1).val < 2048 := (i 1).isLt; omega⟩ ⟨(i 1).val % 512, by omega⟩)

/-- It, sixteen rows to a line. -/
def result16 : (⟨2, ![1024, 8192]⟩ : Shape).Idx → EReal := fun i =>
  act (dense x g w ⟨(i 0).val * 16 + (i 1).val / 512, by
    have h0 : (i 0).val < 1024 := (i 0).isLt; have h1 : (i 1).val < 8192 := (i 1).isLt; omega⟩ ⟨(i 1).val % 512, by omega⟩)

end

section
open Cert.ViewsIdeal Cert.ViewsIdeal.Gen

variable (m : (ℓ : Loc nD τ sig) → Buf (Elt Ideal) ℓ) (c : Dev nD)

abbrev aX : Vec Ideal S16384x1024 .f32 := m ((c : Thread nD τ).loc main_arg0)
abbrev aG : Vec Ideal S1024 .f32 := m ((c : Thread nD τ).loc main_arg1)

abbrev a2 : Vec Ideal S1024x512 .f32 := m ((c : Thread nD τ).loc main_arg2)
abbrev a3 : Vec Ideal S1024x512 .f32 := m ((c : Thread nD τ).loc main_arg3)
abbrev a4 : Vec Ideal S1024x512 .f32 := m ((c : Thread nD τ).loc main_arg4)
abbrev a5 : Vec Ideal S1024x512 .f32 := m ((c : Thread nD τ).loc main_arg5)
abbrev a6 : Vec Ideal S1024x512 .f32 := m ((c : Thread nD τ).loc main_arg6)
abbrev a7 : Vec Ideal S1024x512 .f32 := m ((c : Thread nD τ).loc main_arg7)

set_option maxRecDepth 65536 in
/-- Where each window's block sits at point `t`: the rows' and the results' at block `t`; the gain and the weights whole. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

/-- Row `r` of point `t`'s block. -/
def pos (t : Fin cfg0.N) (r : Fin 1024) : Fin 16384 :=
  ⟨t.val * 1024 + r.val, by have := r.isLt; have h := t.isLt; have : cfg0.N = 16 := N_0; omega⟩

/-- Line `r` of point `t`'s block of lines of four. -/
def pos4 (t : Fin cfg0.N) (r : Fin 256) : Fin 4096 :=
  ⟨t.val * 256 + r.val, by have := r.isLt; have h := t.isLt; have : cfg0.N = 16 := N_0; omega⟩

/-- Line `r` of point `t`'s block of lines of sixteen. -/
def pos16 (t : Fin cfg0.N) (r : Fin 64) : Fin 1024 :=
  ⟨t.val * 64 + r.val, by have := r.isLt; have h := t.isLt; have : cfg0.N = 16 := N_0; omega⟩

theorem b0 (t : Fin cfg0.N) (r : Fin 1024) (j : Fin 1024) : iblk m c 0 t (ix2 r j) = aX m c (ix2 (pos t r) j) := by
  refine Eq.trans (congrArg (V m c main_arg0) (a₂ := ix2 (pos t r) j) ?_) (congrFun (V_main_arg0 m c) _)
  blk_ext [idx t, pos]

theorem b1 (t : Fin cfg0.N) (j : Fin 1024) : iblk m c 1 t (ix2 0 j) = aG m c (ix1 j) := by
  refine Eq.trans (congrArg (V m c main_v6) (a₂ := ix2 0 j) ?_) ?_
  · blk_ext [idx t]
  · have h : V m c main_v6 = shapeCast S1x1024 (aG m c) shapeCasts_S1024_S1x1024 := by
      show StableHlo.after hostOps0 _ (Proc.devRef .tc main_v6) = _
      after_results
      rfl
    rw [h]
    exact shapeCast_apply _ _ _ (ix1 j) (by rw [Shape.rowMajor_val_one, Shape.rowMajor_val_two]; show j.val = 0 * 1024 + j.val; omega)

theorem b2 (t : Fin cfg0.N) (k : Fin 1024) (j : Fin 512) : iblk m c 2 t (ix2 k j) = a2 m c (ix2 k j) := by
  refine Eq.trans (congrArg (V m c main_v0) (a₂ := ix2 k j) ?_) (congrFun (?_ : V m c main_v0 = a2 m c) _)
  · blk_ext [idx t]
  · show StableHlo.after hostOps0 _ (Proc.devRef .tc main_v0) = _
    after_results
    rfl

theorem b3 (t : Fin cfg0.N) (k : Fin 1024) (j : Fin 512) : iblk m c 3 t (ix2 k j) = a3 m c (ix2 k j) := by
  refine Eq.trans (congrArg (V m c main_v1) (a₂ := ix2 k j) ?_) (congrFun (?_ : V m c main_v1 = a3 m c) _)
  · blk_ext [idx t]
  · show StableHlo.after hostOps0 _ (Proc.devRef .tc main_v1) = _
    after_results
    rfl

theorem b4 (t : Fin cfg0.N) (k : Fin 1024) (j : Fin 512) : iblk m c 4 t (ix2 k j) = a4 m c (ix2 k j) := by
  refine Eq.trans (congrArg (V m c main_v2) (a₂ := ix2 k j) ?_) (congrFun (?_ : V m c main_v2 = a4 m c) _)
  · blk_ext [idx t]
  · show StableHlo.after hostOps0 _ (Proc.devRef .tc main_v2) = _
    after_results
    rfl

theorem b5 (t : Fin cfg0.N) (k : Fin 1024) (j : Fin 512) : iblk m c 5 t (ix2 k j) = a5 m c (ix2 k j) := by
  refine Eq.trans (congrArg (V m c main_v3) (a₂ := ix2 k j) ?_) (congrFun (?_ : V m c main_v3 = a5 m c) _)
  · blk_ext [idx t]
  · show StableHlo.after hostOps0 _ (Proc.devRef .tc main_v3) = _
    after_results
    rfl

theorem b6 (t : Fin cfg0.N) (k : Fin 1024) (j : Fin 512) : iblk m c 6 t (ix2 k j) = a6 m c (ix2 k j) := by
  refine Eq.trans (congrArg (V m c main_v4) (a₂ := ix2 k j) ?_) (congrFun (?_ : V m c main_v4 = a6 m c) _)
  · blk_ext [idx t]
  · show StableHlo.after hostOps0 _ (Proc.devRef .tc main_v4) = _
    after_results
    rfl

theorem b7 (t : Fin cfg0.N) (k : Fin 1024) (j : Fin 512) : iblk m c 7 t (ix2 k j) = a7 m c (ix2 k j) := by
  refine Eq.trans (congrArg (V m c main_v5) (a₂ := ix2 k j) ?_) (congrFun (?_ : V m c main_v5 = a7 m c) _)
  · blk_ext [idx t]
  · show StableHlo.after hostOps0 _ (Proc.devRef .tc main_v5) = _
    after_results
    rfl

/-- The block's rows of a projection. -/
def rowsAt (act : EReal → EReal) (w : (⟨2, ![1024, 512]⟩ : Shape).Idx → EReal) (t : Fin cfg0.N) : Vec Ideal S1024x512 .f32 := fun i =>
  act (dense (aX m c) (aG m c) w (pos t (i 0)) (i 1))

theorem rowsAt_of (act : EReal → EReal) (t : Fin cfg0.N) (X0 : Vec Ideal S1024x1024 .f32) (X1 : Vec Ideal S1x1024 .f32)
    (Xw : Vec Ideal S1024x512 .bf16) (w : (⟨2, ![1024, 512]⟩ : Shape).Idx → EReal)
    (h0 : ∀ (r : Fin 1024) (j : Fin 1024), X0 (ix2 r j) = aX m c (ix2 (pos t r) j)) (h1 : ∀ j : Fin 1024, X1 (ix2 0 j) = aG m c (ix1 j))
    (hw : ∀ (k : Fin 1024) (j : Fin 512), Xw (ix2 k j) = w (ix2 k j)) :
    rowsOf act X0 X1 Xw = rowsAt m c act w t := by
  funext i
  refine congrArg act ?_
  refine congrFun (congr (congrArg dot ?_) (funext fun k => funext fun j => hw k j)) (i 1)
  exact congr (congrArg (rms cnt) (funext fun j => h0 (i 0) j)) (funext fun j => h1 j)

theorem rowsAt2 (act : EReal → EReal) (t : Fin cfg0.N) :
    rowsOf act (iblk m c 0 t) (iblk m c 1 t) (iblk m c 2 t) = rowsAt m c act (a2 m c) t :=
  rowsAt_of m c act t _ _ _ _ (b0 m c t) (b1 m c t) (b2 m c t)

theorem rowsAt3 (act : EReal → EReal) (t : Fin cfg0.N) :
    rowsOf act (iblk m c 0 t) (iblk m c 1 t) (iblk m c 3 t) = rowsAt m c act (a3 m c) t :=
  rowsAt_of m c act t _ _ _ _ (b0 m c t) (b1 m c t) (b3 m c t)

theorem rowsAt4 (act : EReal → EReal) (t : Fin cfg0.N) :
    rowsOf act (iblk m c 0 t) (iblk m c 1 t) (iblk m c 4 t) = rowsAt m c act (a4 m c) t :=
  rowsAt_of m c act t _ _ _ _ (b0 m c t) (b1 m c t) (b4 m c t)

theorem rowsAt5 (act : EReal → EReal) (t : Fin cfg0.N) :
    rowsOf act (iblk m c 0 t) (iblk m c 1 t) (iblk m c 5 t) = rowsAt m c act (a5 m c) t :=
  rowsAt_of m c act t _ _ _ _ (b0 m c t) (b1 m c t) (b5 m c t)

theorem rowsAt6 (act : EReal → EReal) (t : Fin cfg0.N) :
    rowsOf act (iblk m c 0 t) (iblk m c 1 t) (iblk m c 6 t) = rowsAt m c act (a6 m c) t :=
  rowsAt_of m c act t _ _ _ _ (b0 m c t) (b1 m c t) (b6 m c t)

theorem rowsAt7 (act : EReal → EReal) (t : Fin cfg0.N) :
    rowsOf act (iblk m c 0 t) (iblk m c 1 t) (iblk m c 7 t) = rowsAt m c act (a7 m c) t :=
  rowsAt_of m c act t _ _ _ _ (b0 m c t) (b1 m c t) (b7 m c t)

theorem at1 (act : EReal → EReal) (w : (⟨2, ![1024, 512]⟩ : Shape).Idx → EReal) (t : Fin cfg0.N) (r : Fin 1024) (n : Fin 512) :
    plain (rowsAt m c act w t) (ix2 r n) = result act (aX m c) (aG m c) w (ix2 (pos t r) n) := rfl

theorem at4 (act : EReal → EReal) (w : (⟨2, ![1024, 512]⟩ : Shape).Idx → EReal) (t : Fin cfg0.N) (r : Fin 256) (n : Fin 2048) :
    by4 (rowsAt m c act w t) (ix2 r n) = result4 act (aX m c) (aG m c) w (ix2 (pos4 t r) n) := by
  refine congrArg (fun s => act (dense (aX m c) (aG m c) w s ⟨n.val % 512, by omega⟩)) (Fin.ext ?_)
  show t.val * 1024 + (n.val / 512 + 4 * r.val) = (t.val * 256 + r.val) * 4 + n.val / 512
  omega

theorem at16 (act : EReal → EReal) (w : (⟨2, ![1024, 512]⟩ : Shape).Idx → EReal) (t : Fin cfg0.N) (r : Fin 64) (n : Fin 8192) :
    by16 (rowsAt m c act w t) (ix2 r n) = result16 act (aX m c) (aG m c) w (ix2 (pos16 t r) n) := by
  refine congrArg (fun s => act (dense (aX m c) (aG m c) w s ⟨n.val % 512, by omega⟩)) (Fin.ext ?_)
  show t.val * 1024 + (n.val / 512 + 16 * r.val) = (t.val * 64 + r.val) * 16 + n.val / 512
  omega

end

end Cert.ViewsValues

end
-- ==== Proof.ViewsValues.lean ====
/-
  The projections in the views the mixers read: the idealized call's twelve result arrays after its run, the reference's
  at an index, and their equality.
-/
module

public import proofs.«01_k».proof.Proof.ViewBlocks
public import proofs.«01_k».proof.Proof.Gen.ViewsReferenceIdeal.Run
public import proofs.«01_k».proof.Proof.Gen.ViewsReferenceIdeal.Read
public import Idealize.ShloMosaic.Lib.Pipeline.ValueKit.Geometry
public import Idealize.ShloMosaic.Lib.Pipeline.ValueKit.Acc
public import proofs.«01_k».proof.Defs

@[expose] public section

noncomputable section

open scoped BigOperators

namespace Cert.ViewsValues

open Idealize.ShloMosaic Idealize.ShloMosaic.ValueIdx Idealize.ShloMosaic.TcCoe Idealize.SL.Sem Cert.Layer Cert.Reads Cert.Dense
  Cert.ViewRows Cert.Tiles

section
open Cert.ViewsIdeal Cert.ViewsIdeal.Gen

variable (m : (ℓ : Loc nD τ sig) → Buf (Elt Ideal) ℓ) (c : Dev nD)

set_option maxHeartbeats 1000000 in
theorem left8 (t : Fin cfg0.N) : (outsAt0 m c t).1 = plain (rowsAt m c (· * scale) (a2 m c) t) := by
  refine Eq.trans (by simp only [outsAt0]) (((Cert.View1.rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => plain Y) (view1 c (ms0_0 t) (hs0_0 t) (ms0_1 t) (hs0_1 t) (ms0_2 t) (hs0_2 t) (iblk m c 0 t) (iblk m c 1 t) (iblk m c 2 t)))).trans (congrArg (fun Y => plain Y) (rowsAt2 m c (· * scale) t)))

theorem final8 : (dats m 0 c).arrAt 8 cfg0.N = result (· * scale) (aX m c) (aG m c) (a2 m c) := by
  refine (dats m 0 c).arrAt_eq_of_covers 8 (result (· * scale) (aX m c) (aG m c) (a2 m c)) (by decide +kernel) fun t hf y => ?_
  blk_simp
  rw [after0_8, left8]
  have hy : y = ix2 (y 0) (y 1) := by blk_ext
  refine (congrArg _ hy).trans ((at1 m c (· * scale) _ t (y 0) (y 1)).trans (congrArg (result (· * scale) (aX m c) (aG m c) (a2 m c)) ?_))
  blk_ext [idx t, pos]

set_option maxHeartbeats 1000000 in
theorem left9 (t : Fin cfg0.N) : (outsAt0 m c t).2.1 = by4 (rowsAt m c (· * scale) (a2 m c) t) := by
  refine Eq.trans (by simp only [outsAt0]) (((Cert.View1.fours c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => by4 Y) (view1 c (ms0_0 t) (hs0_0 t) (ms0_1 t) (hs0_1 t) (ms0_2 t) (hs0_2 t) (iblk m c 0 t) (iblk m c 1 t) (iblk m c 2 t)))).trans (congrArg (fun Y => by4 Y) (rowsAt2 m c (· * scale) t)))

theorem final9 : (dats m 0 c).arrAt 9 cfg0.N = result4 (· * scale) (aX m c) (aG m c) (a2 m c) := by
  refine (dats m 0 c).arrAt_eq_of_covers 9 (result4 (· * scale) (aX m c) (aG m c) (a2 m c)) (by decide +kernel) fun t hf y => ?_
  blk_simp
  rw [after0_9, left9]
  have hy : y = ix2 (y 0) (y 1) := by blk_ext
  refine (congrArg _ hy).trans ((at4 m c (· * scale) _ t (y 0) (y 1)).trans (congrArg (result4 (· * scale) (aX m c) (aG m c) (a2 m c)) ?_))
  blk_ext [idx t, pos4]

set_option maxHeartbeats 1000000 in
theorem left10 (t : Fin cfg0.N) : (outsAt0 m c t).2.2.1 = by16 (rowsAt m c (· * scale) (a2 m c) t) := by
  refine Eq.trans (by simp only [outsAt0]) (((Cert.View1.sixteens c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => by16 Y) (view1 c (ms0_0 t) (hs0_0 t) (ms0_1 t) (hs0_1 t) (ms0_2 t) (hs0_2 t) (iblk m c 0 t) (iblk m c 1 t) (iblk m c 2 t)))).trans (congrArg (fun Y => by16 Y) (rowsAt2 m c (· * scale) t)))

theorem final10 : (dats m 0 c).arrAt 10 cfg0.N = result16 (· * scale) (aX m c) (aG m c) (a2 m c) := by
  refine (dats m 0 c).arrAt_eq_of_covers 10 (result16 (· * scale) (aX m c) (aG m c) (a2 m c)) (by decide +kernel) fun t hf y => ?_
  blk_simp
  rw [after0_10, left10]
  have hy : y = ix2 (y 0) (y 1) := by blk_ext
  refine (congrArg _ hy).trans ((at16 m c (· * scale) _ t (y 0) (y 1)).trans (congrArg (result16 (· * scale) (aX m c) (aG m c) (a2 m c)) ?_))
  blk_ext [idx t, pos16]

set_option maxHeartbeats 1000000 in
theorem left11 (t : Fin cfg0.N) : (outsAt0 m c t).2.2.2.1 = plain (rowsAt m c id (a3 m c) t) := by
  refine Eq.trans (by simp only [outsAt0]) (((Cert.View2.rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => plain Y) (view2 c (ms0_0 t) (hs0_0 t) (ms0_1 t) (hs0_1 t) (ms0_3 t) (hs0_3 t) (iblk m c 0 t) (iblk m c 1 t) (iblk m c 3 t)))).trans (congrArg (fun Y => plain Y) (rowsAt3 m c id t)))

theorem final11 : (dats m 0 c).arrAt 11 cfg0.N = result id (aX m c) (aG m c) (a3 m c) := by
  refine (dats m 0 c).arrAt_eq_of_covers 11 (result id (aX m c) (aG m c) (a3 m c)) (by decide +kernel) fun t hf y => ?_
  blk_simp
  rw [after0_11, left11]
  have hy : y = ix2 (y 0) (y 1) := by blk_ext
  refine (congrArg _ hy).trans ((at1 m c id _ t (y 0) (y 1)).trans (congrArg (result id (aX m c) (aG m c) (a3 m c)) ?_))
  blk_ext [idx t, pos]

set_option maxHeartbeats 1000000 in
theorem left12 (t : Fin cfg0.N) : (outsAt0 m c t).2.2.2.2.1 = by4 (rowsAt m c id (a3 m c) t) := by
  refine Eq.trans (by simp only [outsAt0]) (((Cert.View2.fours c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => by4 Y) (view2 c (ms0_0 t) (hs0_0 t) (ms0_1 t) (hs0_1 t) (ms0_3 t) (hs0_3 t) (iblk m c 0 t) (iblk m c 1 t) (iblk m c 3 t)))).trans (congrArg (fun Y => by4 Y) (rowsAt3 m c id t)))

theorem final12 : (dats m 0 c).arrAt 12 cfg0.N = result4 id (aX m c) (aG m c) (a3 m c) := by
  refine (dats m 0 c).arrAt_eq_of_covers 12 (result4 id (aX m c) (aG m c) (a3 m c)) (by decide +kernel) fun t hf y => ?_
  blk_simp
  rw [after0_12, left12]
  have hy : y = ix2 (y 0) (y 1) := by blk_ext
  refine (congrArg _ hy).trans ((at4 m c id _ t (y 0) (y 1)).trans (congrArg (result4 id (aX m c) (aG m c) (a3 m c)) ?_))
  blk_ext [idx t, pos4]

set_option maxHeartbeats 1000000 in
theorem left13 (t : Fin cfg0.N) : (outsAt0 m c t).2.2.2.2.2.1 = by16 (rowsAt m c id (a3 m c) t) := by
  refine Eq.trans (by simp only [outsAt0]) (((Cert.View2.sixteens c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => by16 Y) (view2 c (ms0_0 t) (hs0_0 t) (ms0_1 t) (hs0_1 t) (ms0_3 t) (hs0_3 t) (iblk m c 0 t) (iblk m c 1 t) (iblk m c 3 t)))).trans (congrArg (fun Y => by16 Y) (rowsAt3 m c id t)))

theorem final13 : (dats m 0 c).arrAt 13 cfg0.N = result16 id (aX m c) (aG m c) (a3 m c) := by
  refine (dats m 0 c).arrAt_eq_of_covers 13 (result16 id (aX m c) (aG m c) (a3 m c)) (by decide +kernel) fun t hf y => ?_
  blk_simp
  rw [after0_13, left13]
  have hy : y = ix2 (y 0) (y 1) := by blk_ext
  refine (congrArg _ hy).trans ((at16 m c id _ t (y 0) (y 1)).trans (congrArg (result16 id (aX m c) (aG m c) (a3 m c)) ?_))
  blk_ext [idx t, pos16]

set_option maxHeartbeats 1000000 in
theorem left14 (t : Fin cfg0.N) : (outsAt0 m c t).2.2.2.2.2.2.1 = plain (rowsAt m c id (a4 m c) t) := by
  refine Eq.trans (by simp only [outsAt0]) (((Cert.View3.rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => plain Y) (view3 c (ms0_0 t) (hs0_0 t) (ms0_1 t) (hs0_1 t) (ms0_4 t) (hs0_4 t) (iblk m c 0 t) (iblk m c 1 t) (iblk m c 4 t)))).trans (congrArg (fun Y => plain Y) (rowsAt4 m c id t)))

theorem final14 : (dats m 0 c).arrAt 14 cfg0.N = result id (aX m c) (aG m c) (a4 m c) := by
  refine (dats m 0 c).arrAt_eq_of_covers 14 (result id (aX m c) (aG m c) (a4 m c)) (by decide +kernel) fun t hf y => ?_
  blk_simp
  rw [after0_14, left14]
  have hy : y = ix2 (y 0) (y 1) := by blk_ext
  refine (congrArg _ hy).trans ((at1 m c id _ t (y 0) (y 1)).trans (congrArg (result id (aX m c) (aG m c) (a4 m c)) ?_))
  blk_ext [idx t, pos]

set_option maxHeartbeats 1000000 in
theorem left15 (t : Fin cfg0.N) : (outsAt0 m c t).2.2.2.2.2.2.2.1 = by4 (rowsAt m c id (a4 m c) t) := by
  refine Eq.trans (by simp only [outsAt0]) (((Cert.View3.fours c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => by4 Y) (view3 c (ms0_0 t) (hs0_0 t) (ms0_1 t) (hs0_1 t) (ms0_4 t) (hs0_4 t) (iblk m c 0 t) (iblk m c 1 t) (iblk m c 4 t)))).trans (congrArg (fun Y => by4 Y) (rowsAt4 m c id t)))

theorem final15 : (dats m 0 c).arrAt 15 cfg0.N = result4 id (aX m c) (aG m c) (a4 m c) := by
  refine (dats m 0 c).arrAt_eq_of_covers 15 (result4 id (aX m c) (aG m c) (a4 m c)) (by decide +kernel) fun t hf y => ?_
  blk_simp
  rw [after0_15, left15]
  have hy : y = ix2 (y 0) (y 1) := by blk_ext
  refine (congrArg _ hy).trans ((at4 m c id _ t (y 0) (y 1)).trans (congrArg (result4 id (aX m c) (aG m c) (a4 m c)) ?_))
  blk_ext [idx t, pos4]

set_option maxHeartbeats 1000000 in
theorem left16 (t : Fin cfg0.N) : (outsAt0 m c t).2.2.2.2.2.2.2.2.1 = by16 (rowsAt m c id (a4 m c) t) := by
  refine Eq.trans (by simp only [outsAt0]) (((Cert.View3.sixteens c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => by16 Y) (view3 c (ms0_0 t) (hs0_0 t) (ms0_1 t) (hs0_1 t) (ms0_4 t) (hs0_4 t) (iblk m c 0 t) (iblk m c 1 t) (iblk m c 4 t)))).trans (congrArg (fun Y => by16 Y) (rowsAt4 m c id t)))

theorem final16 : (dats m 0 c).arrAt 16 cfg0.N = result16 id (aX m c) (aG m c) (a4 m c) := by
  refine (dats m 0 c).arrAt_eq_of_covers 16 (result16 id (aX m c) (aG m c) (a4 m c)) (by decide +kernel) fun t hf y => ?_
  blk_simp
  rw [after0_16, left16]
  have hy : y = ix2 (y 0) (y 1) := by blk_ext
  refine (congrArg _ hy).trans ((at16 m c id _ t (y 0) (y 1)).trans (congrArg (result16 id (aX m c) (aG m c) (a4 m c)) ?_))
  blk_ext [idx t, pos16]

set_option maxHeartbeats 1000000 in
theorem left17 (t : Fin cfg0.N) : (outsAt0 m c t).2.2.2.2.2.2.2.2.2.1 = plain (rowsAt m c (· * scale) (a5 m c) t) := by
  refine Eq.trans (by simp only [outsAt0]) ((out17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => plain Y) (rowsAt5 m c (· * scale) t)))

theorem final17 : (dats m 0 c).arrAt 17 cfg0.N = result (· * scale) (aX m c) (aG m c) (a5 m c) := by
  refine (dats m 0 c).arrAt_eq_of_covers 17 (result (· * scale) (aX m c) (aG m c) (a5 m c)) (by decide +kernel) fun t hf y => ?_
  blk_simp
  rw [after0_17, left17]
  have hy : y = ix2 (y 0) (y 1) := by blk_ext
  refine (congrArg _ hy).trans ((at1 m c (· * scale) _ t (y 0) (y 1)).trans (congrArg (result (· * scale) (aX m c) (aG m c) (a5 m c)) ?_))
  blk_ext [idx t, pos]

set_option maxHeartbeats 1000000 in
theorem left18 (t : Fin cfg0.N) : (outsAt0 m c t).2.2.2.2.2.2.2.2.2.2.1 = plain (rowsAt m c id (a6 m c) t) := by
  refine Eq.trans (by simp only [outsAt0]) ((out18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => plain Y) (rowsAt6 m c id t)))

theorem final18 : (dats m 0 c).arrAt 18 cfg0.N = result id (aX m c) (aG m c) (a6 m c) := by
  refine (dats m 0 c).arrAt_eq_of_covers 18 (result id (aX m c) (aG m c) (a6 m c)) (by decide +kernel) fun t hf y => ?_
  blk_simp
  rw [after0_18, left18]
  have hy : y = ix2 (y 0) (y 1) := by blk_ext
  refine (congrArg _ hy).trans ((at1 m c id _ t (y 0) (y 1)).trans (congrArg (result id (aX m c) (aG m c) (a6 m c)) ?_))
  blk_ext [idx t, pos]

set_option maxHeartbeats 1000000 in
theorem left19 (t : Fin cfg0.N) : (outsAt0 m c t).2.2.2.2.2.2.2.2.2.2.2 = plain (rowsAt m c id (a7 m c) t) := by
  refine Eq.trans (by simp only [outsAt0]) ((out19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).trans (congrArg (fun Y => plain Y) (rowsAt7 m c id t)))

theorem final19 : (dats m 0 c).arrAt 19 cfg0.N = result id (aX m c) (aG m c) (a7 m c) := by
  refine (dats m 0 c).arrAt_eq_of_covers 19 (result id (aX m c) (aG m c) (a7 m c)) (by decide +kernel) fun t hf y => ?_
  blk_simp
  rw [after0_19, left19]
  have hy : y = ix2 (y 0) (y 1) := by blk_ext
  refine (congrArg _ hy).trans ((at1 m c id _ t (y 0) (y 1)).trans (congrArg (result id (aX m c) (aG m c) (a7 m c)) ?_))
  blk_ext [idx t, pos]

end

section
open Cert.ViewsReferenceIdeal Cert.ViewsReferenceIdeal.Gen Cert.ViewsReferenceIdeal.Read

variable (x0 : (⟨S16384x1024, .f32⟩ : BufTy).Contents (Elt Ideal)) (x1 : (⟨S1024, .f32⟩ : BufTy).Contents (Elt Ideal))

/-- The reference's normalised rows. -/
theorem v12_at (s : Fin 16384) (k : Fin 1024) :
    val_main_v12 (F := Ideal) x0 x1 (ix2 s k) = rms cnt (fun j => x0 (ix2 s j)) (fun j => x1 (ix1 j)) k := by
  have e : ∀ j, idx_main_v1 (idx_main_v2 (idx_main_v8 (ix2 s k))) j = ix2 s j := fun j => funext fun a => by
    match a with | ⟨0, _⟩ => rfl | ⟨1, _⟩ => rfl
  have e' : idx_main_v10 (idx_main_v11 (ix2 s k)) = ix1 k := funext fun a => by match a with | ⟨0, _⟩ => rfl
  refine Eq.trans (b := x0 (ix2 s k) * Ideal.rsqrt (Ideal.div (Ideal.ofBits .f32 0x00000000#32 + ∑ j, x0 (ix2 s j) * x0 (ix2 s j)) cnt
    + Ideal.ofBits .f32 0x358637BD#32) * x1 (ix1 k)) ?_ ?_
  · simp only [val_main_v12_apply, val_main_v11_apply, val_main_v10_apply, val_main_v9_apply, val_main_v8_apply, val_main_v7_apply,
      val_main_v6_apply, val_main_v5_apply, val_main_v4_apply, val_main_v3_apply, val_main_v2_apply, val_main_v1_apply, val_main_v0_apply, e, e']
    rfl
  · rw [Ideal.ofBits_zero_f32, zero_add]; rfl

theorem ix2_eta {M N : ℕ} (i : (⟨2, ![M, N]⟩ : Shape).Idx) : ∃ s n, i = ix2 s n :=
  ⟨i 0, i 1, funext fun a => by match a with | ⟨0, _⟩ => rfl | ⟨1, _⟩ => rfl⟩

theorem d13_eq (w : (⟨S1024x512, .f32⟩ : BufTy).Contents (Elt Ideal)) : val_main_v13 (F := Ideal) x0 x1 w = result id x0 x1 w := by
  funext i
  obtain ⟨s, n, rfl⟩ := ix2_eta i
  refine (val_main_v13_apply _ _ _ _).trans ?_
  unfold result dense dot
  refine Finset.sum_congr rfl fun k _ => ?_
  have e : lidx_main_v13 (ix2 s n) k = ix2 s k := funext fun a => by match a with | ⟨0, _⟩ => rfl | ⟨1, _⟩ => rfl
  have e' : ridx_main_v13 (ix2 s n) k = ix2 k n := funext fun a => by match a with | ⟨0, _⟩ => rfl | ⟨1, _⟩ => rfl
  rw [e, e', v12_at]

theorem d16_eq (w : (⟨S1024x512, .f32⟩ : BufTy).Contents (Elt Ideal)) : val_main_v16 (F := Ideal) x0 x1 w = result id x0 x1 w := by
  funext i
  obtain ⟨s, n, rfl⟩ := ix2_eta i
  refine (val_main_v16_apply _ _ _ _).trans ?_
  unfold result dense dot
  refine Finset.sum_congr rfl fun k _ => ?_
  have e : lidx_main_v16 (ix2 s n) k = ix2 s k := funext fun a => by match a with | ⟨0, _⟩ => rfl | ⟨1, _⟩ => rfl
  have e' : ridx_main_v16 (ix2 s n) k = ix2 k n := funext fun a => by match a with | ⟨0, _⟩ => rfl | ⟨1, _⟩ => rfl
  rw [e, e', v12_at]

theorem d17_eq (w : (⟨S1024x512, .f32⟩ : BufTy).Contents (Elt Ideal)) : val_main_v17 (F := Ideal) x0 x1 w = result id x0 x1 w := by
  funext i
  obtain ⟨s, n, rfl⟩ := ix2_eta i
  refine (val_main_v17_apply _ _ _ _).trans ?_
  unfold result dense dot
  refine Finset.sum_congr rfl fun k _ => ?_
  have e : lidx_main_v17 (ix2 s n) k = ix2 s k := funext fun a => by match a with | ⟨0, _⟩ => rfl | ⟨1, _⟩ => rfl
  have e' : ridx_main_v17 (ix2 s n) k = ix2 k n := funext fun a => by match a with | ⟨0, _⟩ => rfl | ⟨1, _⟩ => rfl
  rw [e, e', v12_at]

theorem d18_eq (w : (⟨S1024x512, .f32⟩ : BufTy).Contents (Elt Ideal)) : val_main_v18 (F := Ideal) x0 x1 w = result id x0 x1 w := by
  funext i
  obtain ⟨s, n, rfl⟩ := ix2_eta i
  refine (val_main_v18_apply _ _ _ _).trans ?_
  unfold result dense dot
  refine Finset.sum_congr rfl fun k _ => ?_
  have e : lidx_main_v18 (ix2 s n) k = ix2 s k := funext fun a => by match a with | ⟨0, _⟩ => rfl | ⟨1, _⟩ => rfl
  have e' : ridx_main_v18 (ix2 s n) k = ix2 k n := funext fun a => by match a with | ⟨0, _⟩ => rfl | ⟨1, _⟩ => rfl
  rw [e, e', v12_at]

theorem d21_eq (w : (⟨S1024x512, .f32⟩ : BufTy).Contents (Elt Ideal)) : val_main_v21 (F := Ideal) x0 x1 w = result id x0 x1 w := by
  funext i
  obtain ⟨s, n, rfl⟩ := ix2_eta i
  refine (val_main_v21_apply _ _ _ _).trans ?_
  unfold result dense dot
  refine Finset.sum_congr rfl fun k _ => ?_
  have e : lidx_main_v21 (ix2 s n) k = ix2 s k := funext fun a => by match a with | ⟨0, _⟩ => rfl | ⟨1, _⟩ => rfl
  have e' : ridx_main_v21 (ix2 s n) k = ix2 k n := funext fun a => by match a with | ⟨0, _⟩ => rfl | ⟨1, _⟩ => rfl
  rw [e, e', v12_at]

theorem d22_eq (w : (⟨S1024x512, .f32⟩ : BufTy).Contents (Elt Ideal)) : val_main_v22 (F := Ideal) x0 x1 w = result id x0 x1 w := by
  funext i
  obtain ⟨s, n, rfl⟩ := ix2_eta i
  refine (val_main_v22_apply _ _ _ _).trans ?_
  unfold result dense dot
  refine Finset.sum_congr rfl fun k _ => ?_
  have e : lidx_main_v22 (ix2 s n) k = ix2 s k := funext fun a => by match a with | ⟨0, _⟩ => rfl | ⟨1, _⟩ => rfl
  have e' : ridx_main_v22 (ix2 s n) k = ix2 k n := funext fun a => by match a with | ⟨0, _⟩ => rfl | ⟨1, _⟩ => rfl
  rw [e, e', v12_at]

theorem d15_eq (w : (⟨S1024x512, .f32⟩ : BufTy).Contents (Elt Ideal)) : val_main_v15 (F := Ideal) x0 x1 w = result (· * scale) x0 x1 w := by
  funext i
  refine (val_main_v15_apply (F := Ideal) _ _ _ _).trans ?_
  rw [val_main_v14_apply, d13_eq]
  rfl

theorem d20_eq (w : (⟨S1024x512, .f32⟩ : BufTy).Contents (Elt Ideal)) : val_main_v20 (F := Ideal) x0 x1 w = result (· * scale) x0 x1 w := by
  funext i
  refine (val_main_v20_apply (F := Ideal) _ _ _ _).trans ?_
  rw [val_main_v19_apply, d18_eq]
  rfl

/-- Four rows to a line, from the row-major order. -/
theorem to4 (act : EReal → EReal) (w : (⟨S1024x512, .f32⟩ : BufTy).Contents (Elt Ideal)) (i : S4096x2048.Idx) (j : S16384x512.Idx)
    (h0 : (j 0).val = ((i 0).val * 2048 + (i 1).val) / 512) (h1 : (j 1).val = ((i 0).val * 2048 + (i 1).val) % 512) :
    result act x0 x1 w j = result4 act x0 x1 w i := by
  unfold result result4
  refine congrArg act (congr (congrArg (dense x0 x1 w) (Fin.ext ?_)) (Fin.ext ?_))
  · show (j 0).val = (i 0).val * 4 + (i 1).val / 512; omega
  · show (j 1).val = (i 1).val % 512; omega

/-- Sixteen rows to a line, from the row-major order. -/
theorem to16 (act : EReal → EReal) (w : (⟨S1024x512, .f32⟩ : BufTy).Contents (Elt Ideal)) (i : S1024x8192.Idx) (j : S16384x512.Idx)
    (h0 : (j 0).val = ((i 0).val * 8192 + (i 1).val) / 512) (h1 : (j 1).val = ((i 0).val * 8192 + (i 1).val) % 512) :
    result act x0 x1 w j = result16 act x0 x1 w i := by
  unfold result result16
  refine congrArg act (congr (congrArg (dense x0 x1 w) (Fin.ext ?_)) (Fin.ext ?_))
  · show (j 0).val = (i 0).val * 16 + (i 1).val / 512; omega
  · show (j 1).val = (i 1).val % 512; omega

theorem r23_eq (w : (⟨S1024x512, .f32⟩ : BufTy).Contents (Elt Ideal)) : val_main_v23 (F := Ideal) x0 x1 w = result (· * scale) x0 x1 w := d15_eq x0 x1 w

theorem r25_eq (w : (⟨S1024x512, .f32⟩ : BufTy).Contents (Elt Ideal)) : val_main_v25 (F := Ideal) x0 x1 w = result4 (· * scale) x0 x1 w := by
  funext i
  refine (val_main_v24_apply (F := Ideal) _ _ _ i).trans ?_
  refine Eq.trans ?_ (to4 x0 x1 (· * scale) w i (idx_main_v24 i) rfl rfl)
  rw [← d15_eq]

theorem r27_eq (w : (⟨S1024x512, .f32⟩ : BufTy).Contents (Elt Ideal)) : val_main_v27 (F := Ideal) x0 x1 w = result16 (· * scale) x0 x1 w := by
  funext i
  refine (val_main_v26_apply (F := Ideal) _ _ _ i).trans ?_
  refine Eq.trans ?_ (to16 x0 x1 (· * scale) w i (idx_main_v26 i) rfl rfl)
  rw [← d15_eq]

theorem r28_eq (w : (⟨S1024x512, .f32⟩ : BufTy).Contents (Elt Ideal)) : val_main_v28 (F := Ideal) x0 x1 w = result id x0 x1 w := d16_eq x0 x1 w

theorem r30_eq (w : (⟨S1024x512, .f32⟩ : BufTy).Contents (Elt Ideal)) : val_main_v30 (F := Ideal) x0 x1 w = result4 id x0 x1 w := by
  funext i
  refine (val_main_v29_apply (F := Ideal) _ _ _ i).trans ?_
  refine Eq.trans ?_ (to4 x0 x1 id w i (idx_main_v29 i) rfl rfl)
  rw [← d16_eq]

theorem r32_eq (w : (⟨S1024x512, .f32⟩ : BufTy).Contents (Elt Ideal)) : val_main_v32 (F := Ideal) x0 x1 w = result16 id x0 x1 w := by
  funext i
  refine (val_main_v31_apply (F := Ideal) _ _ _ i).trans ?_
  refine Eq.trans ?_ (to16 x0 x1 id w i (idx_main_v31 i) rfl rfl)
  rw [← d16_eq]

theorem r33_eq (w : (⟨S1024x512, .f32⟩ : BufTy).Contents (Elt Ideal)) : val_main_v33 (F := Ideal) x0 x1 w = result id x0 x1 w := d17_eq x0 x1 w

theorem r35_eq (w : (⟨S1024x512, .f32⟩ : BufTy).Contents (Elt Ideal)) : val_main_v35 (F := Ideal) x0 x1 w = result4 id x0 x1 w := by
  funext i
  refine (val_main_v34_apply (F := Ideal) _ _ _ i).trans ?_
  refine Eq.trans ?_ (to4 x0 x1 id w i (idx_main_v34 i) rfl rfl)
  rw [← d17_eq]

theorem r37_eq (w : (⟨S1024x512, .f32⟩ : BufTy).Contents (Elt Ideal)) : val_main_v37 (F := Ideal) x0 x1 w = result16 id x0 x1 w := by
  funext i
  refine (val_main_v36_apply (F := Ideal) _ _ _ i).trans ?_
  refine Eq.trans ?_ (to16 x0 x1 id w i (idx_main_v36 i) rfl rfl)
  rw [← d17_eq]

theorem r38_eq (w : (⟨S1024x512, .f32⟩ : BufTy).Contents (Elt Ideal)) : val_main_v38 (F := Ideal) x0 x1 w = result (· * scale) x0 x1 w := d20_eq x0 x1 w

theorem r39_eq (w : (⟨S1024x512, .f32⟩ : BufTy).Contents (Elt Ideal)) : val_main_v39 (F := Ideal) x0 x1 w = result id x0 x1 w := d21_eq x0 x1 w

theorem r40_eq (w : (⟨S1024x512, .f32⟩ : BufTy).Contents (Elt Ideal)) : val_main_v40 (F := Ideal) x0 x1 w = result id x0 x1 w := d22_eq x0 x1 w

end

/-- The call's twelve results are the reference's, the arguments agreeing. -/
theorem algebraic : Cert.algebraic_ViewsIdeal_ViewsReferenceIdeal := by
  intro m ρ m' ρ' hpre hagree
  refine ⟨fun c => result (· * scale) (aX m c) (aG m c) (a2 m c),
    fun c => result4 (· * scale) (aX m c) (aG m c) (a2 m c),
    fun c => result16 (· * scale) (aX m c) (aG m c) (a2 m c),
    fun c => result id (aX m c) (aG m c) (a3 m c),
    fun c => result4 id (aX m c) (aG m c) (a3 m c),
    fun c => result16 id (aX m c) (aG m c) (a3 m c),
    fun c => result id (aX m c) (aG m c) (a4 m c),
    fun c => result4 id (aX m c) (aG m c) (a4 m c),
    fun c => result16 id (aX m c) (aG m c) (a4 m c),
    fun c => result (· * scale) (aX m c) (aG m c) (a5 m c),
    fun c => result id (aX m c) (aG m c) (a6 m c),
    fun c => result id (aX m c) (aG m c) (a7 m c), ?_, ?_⟩
  · refine (θ_run Cert.ViewsIdeal.defs _ _).mono (fun _ h c => ?_) (Cert.ViewsIdeal.Value.run_blocks (F := Ideal) m ρ)
    obtain ⟨e0, e1, e2, e3, e4, e5, e6, e7, e8, e9, e10, e11, e⟩ := h c
    exact ⟨e0.trans (final8 m c), e1.trans (final9 m c), e2.trans (final10 m c), e3.trans (final11 m c), e4.trans (final12 m c), e5.trans (final13 m c), e6.trans (final14 m c), e7.trans (final15 m c), e8.trans (final16 m c), e9.trans (final17 m c), e10.trans (final18 m c), e11.trans (final19 m c), e⟩
  · refine (θ_run Cert.ViewsReferenceIdeal.defs _ _).mono (fun _ h c => ?_) (Cert.ViewsReferenceIdeal.Value.run (F := Ideal) m' ρ')
    obtain ⟨h0, h1, h2, h3, h4, h5, h6, h7⟩ := hagree c
    obtain ⟨e0, e1, e2, e3, e4, e5, e6, e7, e8, e9, e10, e11, e⟩ := h c
    exact ⟨e0.trans ((Cert.ViewsReferenceIdeal.Read.val_main_v23_eq _ _ _).trans ((r23_eq _ _ _).trans (congr (congr (congrArg (result (· * scale)) h0) h1) h2))),
      e1.trans ((Cert.ViewsReferenceIdeal.Read.val_main_v25_eq _ _ _).trans ((r25_eq _ _ _).trans (congr (congr (congrArg (result4 (· * scale)) h0) h1) h2))),
      e2.trans ((Cert.ViewsReferenceIdeal.Read.val_main_v27_eq _ _ _).trans ((r27_eq _ _ _).trans (congr (congr (congrArg (result16 (· * scale)) h0) h1) h2))),
      e3.trans ((Cert.ViewsReferenceIdeal.Read.val_main_v28_eq _ _ _).trans ((r28_eq _ _ _).trans (congr (congr (congrArg (result id) h0) h1) h3))),
      e4.trans ((Cert.ViewsReferenceIdeal.Read.val_main_v30_eq _ _ _).trans ((r30_eq _ _ _).trans (congr (congr (congrArg (result4 id) h0) h1) h3))),
      e5.trans ((Cert.ViewsReferenceIdeal.Read.val_main_v32_eq _ _ _).trans ((r32_eq _ _ _).trans (congr (congr (congrArg (result16 id) h0) h1) h3))),
      e6.trans ((Cert.ViewsReferenceIdeal.Read.val_main_v33_eq _ _ _).trans ((r33_eq _ _ _).trans (congr (congr (congrArg (result id) h0) h1) h4))),
      e7.trans ((Cert.ViewsReferenceIdeal.Read.val_main_v35_eq _ _ _).trans ((r35_eq _ _ _).trans (congr (congr (congrArg (result4 id) h0) h1) h4))),
      e8.trans ((Cert.ViewsReferenceIdeal.Read.val_main_v37_eq _ _ _).trans ((r37_eq _ _ _).trans (congr (congr (congrArg (result16 id) h0) h1) h4))),
      e9.trans ((Cert.ViewsReferenceIdeal.Read.val_main_v38_eq _ _ _).trans ((r38_eq _ _ _).trans (congr (congr (congrArg (result (· * scale)) h0) h1) h5))),
      e10.trans ((Cert.ViewsReferenceIdeal.Read.val_main_v39_eq _ _ _).trans ((r39_eq _ _ _).trans (congr (congr (congrArg (result id) h0) h1) h6))),
      e11.trans ((Cert.ViewsReferenceIdeal.Read.val_main_v40_eq _ _ _).trans ((r40_eq _ _ _).trans (congr (congr (congrArg (result id) h0) h1) h7))), e⟩

end Cert.ViewsValues

end
-- ==== Proof.lean ====
/-
  The claims, put together: the frames are the generated ones and, for the attention, AttnFrame.lean's and BitsFrame.lean's, the
  references' from their generated runs, and the values' claims are Finite.lean's, Gates.lean's, Proj.lean's and AttnValues.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.GatesReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Pre_finite_proj
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffReferenceIdeal
public import proofs.«01_k».proof.Proof.Gen.DiffReferenceIdeal.Run
public import proofs.«01_k».proof.Proof.Gen.DiffReferenceIdeal.Read
public import proofs.«01_k».proof.Proof.Gen.Pre_finite_diff
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemIdeal.Value
public import proofs.«01_k».proof.Proof.Gen.MemReferenceIdeal
public import proofs.«01_k».proof.Proof.Gen.MemReferenceIdeal.Run
public import proofs.«01_k».proof.Proof.Gen.MemReferenceIdeal.Read
public import proofs.«01_k».proof.Proof.Gen.Views
public import proofs.«01_k».proof.Proof.Gen.Views.Skeleton
public import proofs.«01_k».proof.Proof.Gen.Views.Launch
public import proofs.«01_k».proof.Proof.Gen.Views.Points
public import proofs.«01_k».proof.Proof.Gen.Views.Frame
public import proofs.«01_k».proof.Proof.Gen.ViewsIdeal
public import proofs.«01_k».proof.Proof.Gen.ViewsIdeal.Skeleton
public import proofs.«01_k».proof.Proof.Gen.ViewsIdeal.Launch
public import proofs.«01_k».proof.Proof.Gen.ViewsIdeal.Points
public import proofs.«01_k».proof.Proof.Gen.ViewsIdeal.Frame
public import proofs.«01_k».proof.Proof.Gen.ViewsIdeal.Value
public import proofs.«01_k».proof.Proof.Gen.ViewsReferenceIdeal
public import proofs.«01_k».proof.Proof.Gen.ViewsReferenceIdeal.Run
public import proofs.«01_k».proof.Proof.Gen.ViewsReferenceIdeal.Read
public import proofs.«01_k».proof.Proof.Finite
public import proofs.«01_k».proof.Proof.Gates
public import proofs.«01_k».proof.Proof.Proj
public import proofs.«01_k».proof.Proof.BitsFrame
public import proofs.«01_k».proof.Proof.AttnValues
public import proofs.«01_k».proof.Proof.MemValues
public import proofs.«01_k».proof.Proof.ViewsValues
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- ReferenceIdeal's program has no semaphore, so its run is its frame. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- GatesReferenceIdeal's program has no semaphore, so its run is its frame. -/
theorem frame_gates : Cert.quiescent_GatesReferenceIdeal := fun m ρ _ =>
  (θ_run Cert.GatesReferenceIdeal.defs _ _).mono (fun r h => ⟨fun c => (h c).2, sem_eq_zero_of_no_sems (by decide) r.2⟩)
    (Cert.GatesReferenceIdeal.Value.run (F := Ideal) m ρ)

/-- ProjReferenceIdeal's program has no semaphore, so its run is its frame. -/
theorem frame_proj : Cert.quiescent_ProjReferenceIdeal := fun m ρ _ =>
  (θ_run Cert.ProjReferenceIdeal.defs _ _).mono (fun r h => ⟨fun c => (h c).2.2.2.2.2.2.2, sem_eq_zero_of_no_sems (by decide) r.2⟩)
    (Cert.ProjReferenceIdeal.Value.run (F := Ideal) m ρ)

/-- DiffReferenceIdeal's program has no semaphore, so its run is its frame. -/
theorem frame_diff : Cert.quiescent_DiffReferenceIdeal := fun m ρ _ =>
  (θ_run Cert.DiffReferenceIdeal.defs _ _).mono (fun r h => ⟨fun c => (h c).2, sem_eq_zero_of_no_sems (by decide) r.2⟩)
    (Cert.DiffReferenceIdeal.Value.run (F := Ideal) m ρ)

/-- MemReferenceIdeal's program has no semaphore, so its run is its frame. -/
theorem frame_mem : Cert.quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)

/-- ViewsReferenceIdeal's program has no semaphore, so its run is its frame. -/
theorem frame_views : Cert.quiescent_ViewsReferenceIdeal := fun m ρ _ =>
  (θ_run Cert.ViewsReferenceIdeal.defs _ _).mono (fun r h => ⟨fun c => (h c).2.2.2.2.2.2.2.2.2.2.2.2, sem_eq_zero_of_no_sems (by decide) r.2⟩)
    (Cert.ViewsReferenceIdeal.Value.run (F := Ideal) m ρ)

/-- The two named constants of the attention: the mask and the base-two logarithm of e. -/
theorem preserves_diff : Cert.preserves_Diff_DiffIdeal :=
  ⟨IdealRules.named_const.statement Cert.DiffIdeal.κ "mask" .f32 0xF149F2CA#32 ⊥ rfl,
    IdealRules.named_const.statement Cert.DiffIdeal.κ "log2e" .f32 0x3FB8AA3B#32 (((Real.log 2)⁻¹ : ℝ) : EReal) rfl⟩

theorem claim : Cert.Claim := ⟨Cert.Kernel.Gen.facts, Cert.KernelIdeal.Gen.facts, Cert.ReferenceIdeal.Gen.facts, Cert.Gates.Gen.facts, Cert.GatesIdeal.Gen.facts, Cert.GatesReferenceIdeal.Gen.facts, Cert.Proj.Gen.facts, Cert.ProjIdeal.Gen.facts, Cert.ProjReferenceIdeal.Gen.facts, Cert.Diff.Gen.facts, Cert.DiffIdeal.Gen.facts, Cert.DiffReferenceIdeal.Gen.facts, Cert.Mem.Gen.facts, Cert.MemIdeal.Gen.facts, Cert.MemReferenceIdeal.Gen.facts, Cert.Views.Gen.facts, Cert.ViewsIdeal.Gen.facts, Cert.ViewsReferenceIdeal.Gen.facts, Cert.Pre_finite.Gen.facts, Cert.Pre_finite_proj.Gen.facts, Cert.Pre_finite_diff.Gen.facts,
  fun m ρ _ => Cert.Kernel.Gen.frame m ρ,
  fun m ρ _ => Cert.KernelIdeal.Gen.frame m ρ,
  fun m ρ _ => Cert.KernelIdeal.Gen.frame m ρ,
  frame_ri,
  fun m ρ _ => frame_ri m ρ trivial,
  fun m ρ _ => Cert.Gates.Gen.frame m ρ,
  fun m ρ _ => Cert.GatesIdeal.Gen.frame m ρ,
  frame_gates,
  fun m ρ _ => Cert.Proj.Gen.frame m ρ,
  fun m ρ _ => Cert.ProjIdeal.Gen.frame m ρ,
  fun m ρ _ => Cert.ProjIdeal.Gen.frame m ρ,
  frame_proj,
  fun m ρ _ => frame_proj m ρ trivial,
  fun m ρ _ => Cert.AttnBits.frame m ρ,
  fun m ρ _ => Cert.AttnRun.frame m ρ,
  fun m ρ _ => Cert.AttnRun.frame m ρ,
  frame_diff,
  fun m ρ _ => frame_diff m ρ trivial,
  fun m ρ _ => Cert.Mem.Gen.frame m ρ,
  fun m ρ _ => Cert.MemIdeal.Gen.frame m ρ,
  frame_mem,
  fun m ρ _ => Cert.Views.Gen.frame m ρ,
  fun m ρ _ => Cert.ViewsIdeal.Gen.frame m ρ,
  frame_views,
  trivial,
  Cert.Finite.algebraic,
  trivial,
  Cert.GateValues.algebraic,
  trivial,
  Cert.ProjValues.algebraic,
  preserves_diff,
  Cert.AttnValues.algebraic,
  trivial,
  Cert.MemValues.algebraic,
  trivial,
  Cert.ViewsValues.algebraic⟩

end Cert.Proof

end
